-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "inv_sqrt_d" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v17_6)) (v7 : (c : Dev Cert.Kernel2Ideal.nD) → Buf (Elt Ideal) ((c.tc : Thread Cert.Kernel2Ideal.nD Cert.Kernel2Ideal.τ).loc Cert.Kernel2Ideal.main_v17_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v17_6) = v6 c
          ∧ r.2.mem ((c.tc : Thread Cert.Kernel2Ideal.nD Cert.Kernel2Ideal.τ).loc Cert.Kernel2Ideal.main_v17_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v159) = v0 c
          ∧ r.2.mem ((c.tc : Thread Cert.Reference2Ideal.nD Cert.Reference2Ideal.τ).loc Cert.Reference2Ideal.main_v162) = v1 c
          ∧ r.2.mem ((c.tc : Thread Cert.Reference2Ideal.nD Cert.Reference2Ideal.τ).loc Cert.Reference2Ideal.main_v165) = v2 c
          ∧ r.2.mem ((c.tc : Thread Cert.Reference2Ideal.nD Cert.Reference2Ideal.τ).loc Cert.Reference2Ideal.main_v167) = v3 c
          ∧ r.2.mem ((c.tc : Thread Cert.Reference2Ideal.nD Cert.Reference2Ideal.τ).loc Cert.Reference2Ideal.main_v169) = v4 c
          ∧ r.2.mem ((c.tc : Thread Cert.Reference2Ideal.nD Cert.Reference2Ideal.τ).loc Cert.Reference2Ideal.main_v171) = v5 c
          ∧ r.2.mem ((c.tc : Thread Cert.Reference2Ideal.nD Cert.Reference2Ideal.τ).loc Cert.Reference2Ideal.main_v172) = v6 c
          ∧ r.2.mem ((c.tc : Thread Cert.Reference2Ideal.nD Cert.Reference2Ideal.τ).loc Cert.Reference2Ideal.main_v174) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def algebraic_Kernel2Ideal_Reference4Ideal_pre_finite [hKernel2Ideal : Cert.Kernel2Ideal.Facts] [hReference4Ideal : Cert.Reference4Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel2Ideal_finite m →
    (∀ c : Dev Cert.Kernel2Ideal.nD,
      m' ((c.tc : Thread Cert.Reference4Ideal.nD Cert.Reference4Ideal.τ).loc Cert.Reference4Ideal.main_arg0) = m ((c.tc : Thread Cert.Kernel2Ideal.nD Cert.Kernel2Ideal.τ).loc Cert.Kernel2Ideal.main_arg0)
      ∧ m' ((c.tc : Thread Cert.Reference4Ideal.nD Cert.Reference4Ideal.τ).loc Cert.Reference4Ideal.main_arg1) = m ((c.tc : Thread Cert.Kernel2Ideal.nD Cert.Kernel2Ideal.τ).loc Cert.Kernel2Ideal.main_arg1)
      ∧ m' ((c.tc : Thread Cert.Reference4Ideal.nD Cert.Reference4Ideal.τ).loc Cert.Reference4Ideal.main_arg2) = m ((c.tc : Thread Cert.Kernel2Ideal.nD Cert.Kernel2Ideal.τ).loc Cert.Kernel2Ideal.main_arg2)
      ∧ m' ((c.tc : Thread Cert.Reference4Ideal.nD Cert.Reference4Ideal.τ).loc Cert.Reference4Ideal.main_arg3) = m ((c.tc : Thread Cert.Kernel2Ideal.nD Cert.Kernel2Ideal.τ).loc Cert.Kernel2Ideal.main_arg3)
      ∧ m' ((c.tc : Thread Cert.Reference4Ideal.nD Cert.Reference4Ideal.τ).loc Cert.Reference4Ideal.main_arg4) = m ((c.tc : Thread Cert.Kernel2Ideal.nD Cert.Kernel2Ideal.τ).loc Cert.Kernel2Ideal.main_arg4)
      ∧ m' ((c.tc : Thread Cert.Reference4Ideal.nD Cert.Reference4Ideal.τ).loc Cert.Reference4Ideal.main_arg5) = m ((c.tc : Thread Cert.Kernel2Ideal.nD Cert.Kernel2Ideal.τ).loc Cert.Kernel2Ideal.main_arg5)
      ∧ m' ((c.tc : Thread Cert.Reference4Ideal.nD Cert.Reference4Ideal.τ).loc Cert.Reference4Ideal.main_arg6) = m ((c.tc : Thread Cert.Kernel2Ideal.nD Cert.Kernel2Ideal.τ).loc Cert.Kernel2Ideal.main_arg6)
      ∧ m' ((c.tc : Thread Cert.Reference4Ideal.nD Cert.Reference4Ideal.τ).loc Cert.Reference4Ideal.main_arg7) = m ((c.tc : Thread Cert.Kernel2Ideal.nD Cert.Kernel2Ideal.τ).loc Cert.Kernel2Ideal.main_arg7)
      ∧ m' ((c.tc : Thread Cert.Reference4Ideal.nD Cert.Reference4Ideal.τ).loc Cert.Reference4Ideal.main_arg8) = m ((c.tc : Thread Cert.Kernel2Ideal.nD Cert.Kernel2Ideal.τ).loc Cert.Kernel2Ideal.main_arg8)
      ∧ m' ((c.tc : Thread Cert.Reference4Ideal.nD Cert.Reference4Ideal.τ).loc Cert.Reference4Ideal.main_arg9) = m ((c.tc : Thread Cert.Kernel2Ideal.nD Cert.Kernel2Ideal.τ).loc Cert.Kernel2Ideal.main_arg9)
      ∧ m' ((c.tc : Thread Cert.Reference4Ideal.nD Cert.Reference4Ideal.τ).loc Cert.Reference4Ideal.main_arg10) = m ((c.tc : Thread Cert.Kernel2Ideal.nD Cert.Kernel2Ideal.τ).loc Cert.Kernel2Ideal.main_arg10)
      ∧ m' ((c.tc : Thread Cert.Reference4Ideal.nD Cert.Reference4Ideal.τ).loc Cert.Reference4Ideal.main_arg11) = m ((c.tc : Thread Cert.Kernel2Ideal.nD Cert.Kernel2Ideal.τ).loc Cert.Kernel2Ideal.main_arg11)
      ∧ m' ((c.tc : Thread Cert.Reference4Ideal.nD Cert.Reference4Ideal.τ).loc Cert.Reference4Ideal.main_arg12) = m ((c.tc : Thread Cert.Kernel2Ideal.nD Cert.Kernel2Ideal.τ).loc Cert.Kernel2Ideal.main_arg12)
      ∧ m' ((c.tc : Thread Cert.Reference4Ideal.nD Cert.Reference4Ideal.τ).loc Cert.Reference4Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v17_6)) (v7 : (c : Dev Cert.Kernel2Ideal.nD) → Buf (Elt Ideal) ((c.tc : Thread Cert.Kernel2Ideal.nD Cert.Kernel2Ideal.τ).loc Cert.Kernel2Ideal.main_v17_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v17_6) = v6 c
          ∧ r.2.mem ((c.tc : Thread Cert.Kernel2Ideal.nD Cert.Kernel2Ideal.τ).loc Cert.Kernel2Ideal.main_v17_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v164) = v1 c
          ∧ r.2.mem ((c.tc : Thread Cert.Reference4Ideal.nD Cert.Reference4Ideal.τ).loc Cert.Reference4Ideal.main_v167) = v2 c
          ∧ r.2.mem ((c.tc : Thread Cert.Reference4Ideal.nD Cert.Reference4Ideal.τ).loc Cert.Reference4Ideal.main_v169) = v3 c
          ∧ r.2.mem ((c.tc : Thread Cert.Reference4Ideal.nD Cert.Reference4Ideal.τ).loc Cert.Reference4Ideal.main_v171) = v4 c
          ∧ r.2.mem ((c.tc : Thread Cert.Reference4Ideal.nD Cert.Reference4Ideal.τ).loc Cert.Reference4Ideal.main_v173) = v5 c
          ∧ r.2.mem ((c.tc : Thread Cert.Reference4Ideal.nD Cert.Reference4Ideal.τ).loc Cert.Reference4Ideal.main_v174) = v6 c
          ∧ r.2.mem ((c.tc : Thread Cert.Reference4Ideal.nD Cert.Reference4Ideal.τ).loc Cert.Reference4Ideal.main_v176) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ algebraic_Kernel2Ideal_Reference4Ideal_pre_finite (hKernel2Ideal := hKernel2Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x2048x1024 : Shape := ⟨3, ![8, 2048, 1024]⟩
abbrev S1x1024 : Shape := ⟨2, ![1, 1024]⟩
abbrev S1024x3328 : Shape := ⟨2, ![1024, 3328]⟩
abbrev S1024x128 : Shape := ⟨2, ![1024, 128]⟩
abbrev S1024x512 : Shape := ⟨2, ![1024, 512]⟩
abbrev S1024x3072 : Shape := ⟨2, ![1024, 3072]⟩
abbrev S1x3x512 : Shape := ⟨3, ![1, 3, 512]⟩
abbrev S1x512x1024 : Shape := ⟨3, ![1, 512, 1024]⟩
abbrev S1x64 : Shape := ⟨2, ![1, 64]⟩
abbrev S8x512x256 : Shape := ⟨3, ![8, 512, 256]⟩
abbrev S8x256x512 : Shape := ⟨3, ![8, 256, 512]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S8x512x256 : S_.BroadcastsInDim S8x512x256 (![] : Fin 0 → Fin S8x512x256.rank)
  reducesTo_S8x512x256_S_d0_1_2 : S8x512x256.ReducesTo [0, 1, 2] S_

variable [Facts]

def fn {F : FTy → Type} [FloatOps F] (main_arg0 : FVec F S8x2048x1024 .f32) (main_arg1 : FVec F S1x1024 .f32) (main_arg2 : FVec F S1024x3328 .bf16) (main_arg3 : FVec F S1024x128 .bf16) (main_arg4 : FVec F S1024x512 .bf16) (main_arg5 : FVec F S1024x3072 .bf16) (main_arg6 : FVec F S1x3x512 .f32) (main_arg7 : FVec F S1x512x1024 .f32) (main_arg8 : FVec F S1x64 .f32) (main_arg9 : FVec F S1x64 .f32) (main_arg10 : FVec F S8x512x256 .bf16) (main_arg11 : FVec F S8x256x512 .bf16) (main_arg12 : FVec F S1x128 .f32) (main_arg13 : FVec F S1x512x1024 .f32) : IVec S_ 1 :=
  let main_v0 : FVec F S1x128 .f32 := Host.absf main_arg12
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S8x512x256 .bf16 := Host.absf main_arg10
  let main_cst_0 : FVec F S_ .bf16 := constant S_ .bf16 0x7F80#16
  let main_v5 : FVec F S8x512x256 .bf16 := broadcastInDim S8x512x256 ![] bcast_S_S8x512x256 main_cst_0
  let main_v6 : IVec S8x512x256 1 := cmpf .olt main_v4 main_v5
  let main_c_1 : IVec S_ 1 := constantI S_ 1 1#1
  let main_v7 : IVec S_ 1 := (fun x v => Host.reduce IntOp.andi x v reducesTo_S8x512x256_S_d0_1_2 h_S_) main_v6 main_c_1
  let main_v8 : IVec S_ 1 := andi main_v3 main_v7
  main_v8
-- ==== Kernel.lean ====
abbrev S8x2048x1024 : Shape := ⟨3, ![8, 2048, 1024]⟩
abbrev S8x512x2048 : Shape := ⟨3, ![8, 512, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x512x512 : Shape := ⟨3, ![1, 512, 512]⟩
abbrev S8x5632 : Shape := ⟨2, ![8, 5632]⟩
abbrev S16x520x128 : Shape := ⟨3, ![16, 520, 128]⟩
abbrev S512x2816 : Shape := ⟨2, ![512, 2816]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S8x128 : Shape := ⟨2, ![8, 128]⟩
abbrev S1x8x128 : Shape := ⟨3, ![1, 8, 128]⟩
abbrev S512x128 : Shape := ⟨2, ![512, 128]⟩
abbrev S1x512x128 : Shape := ⟨3, ![1, 512, 128]⟩
abbrev S1x128 : Shape := ⟨2, ![1, 128]⟩

abbrev nBuf : Space → Nat
  | .hbm => 22
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x512x2048, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S512x1024, .f32⟩
  | .hbm, ⟨11, _⟩ => ⟨S512x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x5632, .f32⟩
  | .hbm, ⟨17, _⟩ => ⟨S1024x5632, .bf16⟩
  | .hbm, ⟨18, _⟩ => ⟨S3x5632, .f32⟩
  | .hbm, ⟨19, _⟩ => ⟨S2816x1024, .f32⟩
  | .hbm, ⟨20, _⟩ => ⟨S2816x1024, .bf16⟩
  | .hbm, ⟨21, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x512, .bf16⟩
  | .local _ .vmem, ⟨7, _⟩ => ⟨S1x512x512, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S3x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S8x5632, .f32⟩
  | .local _ .vmem, ⟨17, _⟩ => ⟨S16x520x128, .f32⟩
  | .local _ .vmem, ⟨18, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x1024 : Shape := ⟨3, ![8, 2048, 1024]⟩
abbrev S8x512x2048 : Shape := ⟨3, ![8, 512, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S3x5632 : Shape := ⟨2, ![3, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩
abbrev S2816x1024 : Shape := ⟨2, ![2816, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x2048x1024, .bf16⟩
  | .hbm, ⟨3, _⟩ => ⟨S8x512x2048, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S8x512x2048, .f32⟩
  | .hbm, ⟨11, _⟩ => ⟨S8x2048x512, .f32⟩
  | .hbm, ⟨12, _⟩ => ⟨S512x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1024x1024, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S1024x5632, .f32⟩
  | .hbm, ⟨39, _⟩ => ⟨S8x2048x5632, .f32⟩
  | .hbm, ⟨40, _⟩ => ⟨S3x5632, .f32⟩
  | .hbm, ⟨41, _⟩ => ⟨S_, .i32⟩
  | .hbm, ⟨42, _⟩ => ⟨S_, .f32⟩
  | .hbm, ⟨43, _⟩ => ⟨S8x2050x5632, .f32⟩
  | .hbm, ⟨44, _⟩ => ⟨S1x5632, .f32⟩
  | .hbm, ⟨45, _⟩ => ⟨S5632, .f32⟩
  | .hbm, ⟨46, _⟩ => ⟨S8x2048x5632, .f32⟩
  | .hbm, ⟨47, _⟩ => ⟨S1x1x5632, .f32⟩
  | .hbm, ⟨48, _⟩ => ⟨S8x2048x5632, .f32⟩
  | .hbm, ⟨49, _⟩ => ⟨S8x2048x5632, .f32⟩
  | .hbm, ⟨50, _⟩ => ⟨S1x5632, .f32⟩
  | .hbm, ⟨51, _⟩ => ⟨S5632, .f32⟩
  | .hbm, ⟨52, _⟩ => ⟨S8x2048x5632, .f32⟩
  | .hbm, ⟨53, _⟩ => ⟨S1x1x5632, .f32⟩
  | .hbm, ⟨54, _⟩ => ⟨S8x2048x5632, .f32⟩
  | .hbm, ⟨55, _⟩ => ⟨S8x2048x5632, .f32⟩
  | .hbm, ⟨56, _⟩ => ⟨S8x2048x5632, .f32⟩
  | .hbm, ⟨57, _⟩ => ⟨S1x5632, .f32⟩
  | .hbm, ⟨58, _⟩ => ⟨S5632, .f32⟩
  | .hbm, ⟨59, _⟩ => ⟨S8x2048x5632, .f32⟩
  | .hbm, ⟨60, _⟩ => ⟨S1x1x5632, .f32⟩
  | .hbm, ⟨61, _⟩ => ⟨S8x2048x5632, .f32⟩
  | .hbm, ⟨62, _⟩ => ⟨S8x2048x5632, .f32⟩
  | .hbm, ⟨63, _⟩ => ⟨S8x2048x5632, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S_, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S8x2048x2816, .f32⟩
  | .hbm, ⟨75, _⟩ => ⟨S8x2048x2816, .f32⟩
  | .hbm, ⟨76, _⟩ => ⟨S2816x1024, .f32⟩
  | .hbm, ⟨77, _⟩ => ⟨S8x2048x1024, .f32⟩
  | .hbm, ⟨78, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1024x3328 : Shape := ⟨2, ![1024, 3328]⟩
abbrev S1024x128 : Shape := ⟨2, ![1024, 128]⟩
abbrev S1024x512 : Shape := ⟨2, ![1024, 512]⟩
abbrev S1024x3072 : Shape := ⟨2, ![1024, 3072]⟩
abbrev S1x3x512 : Shape := ⟨3, ![1, 3, 512]⟩
abbrev S1x512x1024 : Shape := ⟨3, ![1, 512, 1024]⟩
abbrev S1x64 : Shape := ⟨2, ![1, 64]⟩
abbrev S8x512x256 : Shape := ⟨3, ![8, 512, 256]⟩
abbrev S8x256x512 : Shape := ⟨3, ![8, 256, 512]⟩
abbrev S1x128 : Shape := ⟨2, ![1, 128]⟩
abbrev S64 : Shape := ⟨1, ![64]⟩
abbrev S_ : Shape := ⟨0, ![]⟩
abbrev S64x1 : Shape := ⟨2, ![64, 1]⟩
abbrev S64x512 : Shape := ⟨2, ![64, 512]⟩
abbrev S1024 : Shape := ⟨1, ![1024]⟩
abbrev S3x512 : Shape := ⟨2, ![3, 512]⟩
abbrev S512x1024 : Shape := ⟨2, ![512, 1024]⟩
abbrev S128 : Shape := ⟨1, ![128]⟩
abbrev S8x1024x2048 : Shape := ⟨3, ![8, 1024, 2048]⟩
abbrev S8x512x2048 : Shape := ⟨3, ![8, 512, 2048]⟩
abbrev S8x256x2048 : Shape := ⟨3, ![8, 256, 2048]⟩
abbrev S8x2048x128 : Shape := ⟨3, ![8, 2048, 128]⟩
abbrev S8x8x2048 : Shape := ⟨3, ![8, 8, 2048]⟩
abbrev S1x512x256 : Shape := ⟨3, ![1, 512, 256]⟩
abbrev S1x256x512 : Shape := ⟨3, ![1, 256, 512]⟩
abbrev S1x1024x512 : Shape := ⟨3, ![1, 1024, 512]⟩
abbrev S1x512x512 : Shape := ⟨3, ![1, 512, 512]⟩
abbrev S1x512x128 : Shape := ⟨3, ![1, 512, 128]⟩
abbrev S1x8x512 : Shape := ⟨3, ![1, 8, 512]⟩
abbrev S8x512 : Shape := ⟨2, ![8, 512]⟩
abbrev S4x520x128 : Shape := ⟨3, ![4, 520, 128]⟩
abbrev S512 : Shape := ⟨1, ![512]⟩
abbrev S512x1 : Shape := ⟨2, ![512, 1]⟩
abbrev S512x512 : Shape := ⟨2, ![512, 512]⟩
abbrev S8x128 : Shape := ⟨2, ![8, 128]⟩
abbrev S1x8x128 : Shape := ⟨3, ![1, 8, 128]⟩
abbrev S512x128 : Shape := ⟨2, ![512, 128]⟩
abbrev S56x512 : Shape := ⟨2, ![56, 512]⟩
abbrev S1x512 : Shape := ⟨2, ![1, 512]⟩
abbrev S128x512 : Shape := ⟨2, ![128, 512]⟩
abbrev S1x128x512 : Shape := ⟨3, ![1, 128, 512]⟩
abbrev S1024x256 : Shape := ⟨2, ![1024, 256]⟩
abbrev S512x256 : Shape := ⟨2, ![512, 256]⟩
abbrev S256x512 : Shape := ⟨2, ![256, 512]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S1024x1024 : Shape := ⟨2, ![1024, 1024]⟩

abbrev nBuf : Space → Nat
  | .hbm => 42
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x3328, .bf16⟩
  | .hbm, ⟨3, _⟩ => ⟨S1024x128, .bf16⟩
  | .hbm, ⟨4, _⟩ => ⟨S1024x512, .bf16⟩
  | .hbm, ⟨5, _⟩ => ⟨S1024x3072, .bf16⟩
  | .hbm, ⟨6, _⟩ => ⟨S1x3x512, .f32⟩
  | .hbm, ⟨7, _⟩ => ⟨S1x512x1024, .f32⟩
  | .hbm, ⟨8, _⟩ => ⟨S1x64, .f32⟩
  | .hbm, ⟨9, _⟩ => ⟨S1x64, .f32⟩
  | .hbm, ⟨10, _⟩ => ⟨S8x512x256, .bf16⟩
  | .hbm, ⟨11, _⟩ => ⟨S8x256x512, .bf16⟩
  | .hbm, ⟨12, _⟩ => ⟨S1x128, .f32⟩
  | .hbm, ⟨13, _⟩ => ⟨S1x512x1024, .f32⟩
  | .hbm, ⟨14, _⟩ => ⟨S64, .f32⟩
  | .hbm, ⟨15, _⟩ => ⟨S1x64, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x512, .f32⟩
  | .hbm, ⟨25, _⟩ => ⟨S1024, .f32⟩
  | .hbm, ⟨26, _⟩ => ⟨S1x1024, .f32⟩
  | .hbm, ⟨27, _⟩ => ⟨S3x512, .f32⟩
  | .hbm, ⟨28, _⟩ => ⟨S512x1024, .f32⟩
  | .hbm, ⟨29, _⟩ => ⟨S512x1024, .bf16⟩
  | .hbm, ⟨30, _⟩ => ⟨S128, .f32⟩
  | .hbm, ⟨31, _⟩ => ⟨S1x128, .f32⟩
  | .hbm, ⟨32, _⟩ => ⟨S512x1024, .f32⟩
  | .hbm, ⟨33, _⟩ => ⟨S512x1024, .bf16⟩
  | .hbm, ⟨34, _⟩ => ⟨S8x2048x1024, .bf16⟩
  | .hbm, ⟨35, _⟩ => ⟨S8x2048x1024, .bf16⟩
  | .hbm, ⟨36, _⟩ => ⟨S8x1024x2048, .bf16⟩
  | .hbm, ⟨37, _⟩ => ⟨S8x2048x1024, .bf16⟩
  | .hbm, ⟨38, _⟩ => ⟨S8x512x2048, .bf16⟩
  | .hbm, ⟨39, _⟩ => ⟨S8x256x2048, .bf16⟩
  | .hbm, ⟨40, _⟩ => ⟨S8x2048x128, .bf16⟩
  | .hbm, ⟨41, _⟩ => ⟨S8x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3328, .bf16⟩
  | .local _ .vmem, ⟨4, _⟩ => ⟨S1024x128, .bf16⟩
  | .local _ .vmem, ⟨5, _⟩ => ⟨S1024x512, .bf16⟩
  | .local _ .vmem, ⟨6, _⟩ => ⟨S1024x3072, .bf16⟩
  | .local _ .vmem, ⟨7, _⟩ => ⟨S3x512, .f32⟩
  | .local _ .vmem, ⟨8, _⟩ => ⟨S512x1024, .bf16⟩
  | .local _ .vmem, ⟨9, _⟩ => ⟨S1x128, .f32⟩
  | .local _ .vmem, ⟨10, _⟩ => ⟨S64x512, .f32⟩
  | .local _ .vmem, ⟨11, _⟩ => ⟨S1x512x256, .bf16⟩
  | .local _ .vmem, ⟨12, _⟩ => ⟨S1x512x256, .bf16⟩
  | .local _ .vmem, ⟨13, _⟩ => ⟨S1x256x512, .bf16⟩
  | .local _ .vmem, ⟨14, _⟩ => ⟨S1x256x512, .bf16⟩
  | .local _ .vmem, ⟨15, _⟩ => ⟨S1x128, .f32⟩
  | .local _ .vmem, ⟨16, _⟩ => ⟨S512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x512, .bf16⟩
  | .local _ .vmem, ⟨26, _⟩ => ⟨S1x512x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x512x128, .bf16⟩
  | .local _ .vmem, ⟨30, _⟩ => ⟨S1x512x128, .bf16⟩
  | .local _ .vmem, ⟨31, _⟩ => ⟨S1x8x512, .f32⟩
  | .local _ .vmem, ⟨32, _⟩ => ⟨S1x8x512, .f32⟩
  | .local _ .vmem, ⟨33, _⟩ => ⟨S8x512, .f32⟩
  | .local _ .vmem, ⟨34, _⟩ => ⟨S4x520x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v17_3 : Ref sig .tc := ⟨.hbm, 37, rfl⟩
abbrev main_v17_4 : Ref sig .tc := ⟨.hbm, 38, rfl⟩
abbrev main_v17_5 : Ref sig .tc := ⟨.hbm, 39, rfl⟩
abbrev main_v17_6 : Ref sig .tc := ⟨.hbm, 40, rfl⟩
abbrev main_v17_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel2Ideal.lean ====
variable {F : FTy → Type} [FloatOps F] [Named F]
def κ : String → Option EReal := fun
  | "inv_sqrt_d" => some (((Real.sqrt 128)⁻¹ : ℝ) : EReal)
  | _ => none
-- ==== Reference2Ideal.lean ====
abbrev S8x2048x1024 : Shape := ⟨3, ![8, 2048, 1024]⟩
abbrev S1x1024 : Shape := ⟨2, ![1, 1024]⟩
abbrev S1024x3328 : Shape := ⟨2, ![1024, 3328]⟩
abbrev S1024x128 : Shape := ⟨2, ![1024, 128]⟩
abbrev S1024x512 : Shape := ⟨2, ![1024, 512]⟩
abbrev S1024x3072 : Shape := ⟨2, ![1024, 3072]⟩
abbrev S1x3x512 : Shape := ⟨3, ![1, 3, 512]⟩
abbrev S1x512x1024 : Shape := ⟨3, ![1, 512, 1024]⟩
abbrev S1x64 : Shape := ⟨2, ![1, 64]⟩
abbrev S8x512x256 : Shape := ⟨3, ![8, 512, 256]⟩
abbrev S8x256x512 : Shape := ⟨3, ![8, 256, 512]⟩
abbrev S1x128 : Shape := ⟨2, ![1, 128]⟩
abbrev S8x6 : Shape := ⟨2, ![8, 6]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3328 : Shape := ⟨3, ![8, 2048, 3328]⟩
abbrev S8x2048x512 : Shape := ⟨3, ![8, 2048, 512]⟩
abbrev S8x2048x256 : Shape := ⟨3, ![8, 2048, 256]⟩
abbrev S3x512 : Shape := ⟨2, ![3, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S2048 : Shape := ⟨1, ![2048]⟩
abbrev S2048x1 : Shape := ⟨2, ![2048, 1]⟩
abbrev S2048x6 : Shape := ⟨2, ![2048, 6]⟩
abbrev S8x2048x8x58 : Shape := ⟨4, ![8, 2048, 8, 58]⟩
abbrev S8x2048x8x6 : Shape := ⟨4, ![8, 2048, 8, 6]⟩
abbrev S8x2048x8x128 : Shape := ⟨4, ![8, 2048, 8, 128]⟩
abbrev S2048x1x6 : Shape := ⟨3, ![2048, 1, 6]⟩
abbrev S8x2048x4x128 : Shape := ⟨4, ![8, 2048, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x4x128x256 : Shape := ⟨4, ![8, 4, 128, 256]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x2048x128 : Shape := ⟨4, ![8, 4, 2048, 128]⟩
abbrev S8x2048x3072 : Shape := ⟨3, ![8, 2048, 3072]⟩
abbrev S8x2048x3x1024 : Shape := ⟨4, ![8, 2048, 3, 1024]⟩
abbrev S8x2048x1x1024 : Shape := ⟨4, ![8, 2048, 1, 1024]⟩
abbrev S8x2048x128 : Shape := ⟨3, ![8, 2048, 128]⟩
abbrev S8x1024x2048 : Shape := ⟨3, ![8, 1024, 2048]⟩
abbrev S8x512x2048 : Shape := ⟨3, ![8, 512, 2048]⟩
abbrev S8x256x2048 : Shape := ⟨3, ![8, 256, 2048]⟩
abbrev S8x8x2048 : Shape := ⟨3, ![8, 8, 2048]⟩

abbrev nBuf : Space → Nat
  | .hbm => 213
  | .vmem => 0
  | .smem => 0
  | _ => 0

abbrev hbmTy0_0 (i : Nat) : BufTy := match i % 128 with
  | 0 => ⟨S8x2048x1024, .f32⟩
  | 1 => ⟨S1x1024, .f32⟩
  | 2 => ⟨S1024x3328, .bf16⟩
  | 3 => ⟨S1024x128, .bf16⟩
  | 4 => ⟨S1024x512, .bf16⟩
  | 5 => ⟨S1024x3072, .bf16⟩
  | 6 => ⟨S1x3x512, .f32⟩
  | 7 => ⟨S1x512x1024, .f32⟩
  | 8 => ⟨S1x64, .f32⟩
  | 9 => ⟨S1x64, .f32⟩
  | 10 => ⟨S8x512x256, .bf16⟩
  | 11 => ⟨S8x256x512, .bf16⟩
  | 12 => ⟨S1x128, .f32⟩
  | 13 => ⟨S1x512x1024, .f32⟩
  | 14 => ⟨S8x6, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S1024x3328, .f32⟩
  | 33 => ⟨S8x2048x3328, .f32⟩
  | 34 => ⟨S8x2048x512, .f32⟩
  | 35 => ⟨S8x2048x512, .f32⟩
  | 36 => ⟨S8x2048x512, .f32⟩
  | 37 => ⟨S8x2048x512, .f32⟩
  | 38 => ⟨S8x2048x512, .f32⟩
  | 39 => ⟨S8x2048x512, .f32⟩
  | 40 => ⟨S8x2048x256, .f32⟩
  | 41 => ⟨S8x2048x512, .f32⟩
  | 42 => ⟨S3x512, .f32⟩
  | 43 => ⟨S_, .i32⟩
  | 44 => ⟨S_, .f32⟩
  | 45 => ⟨S8x2050x512, .f32⟩
  | 46 => ⟨S1x512, .f32⟩
  | 47 => ⟨S512, .f32⟩
  | 48 => ⟨S8x2048x512, .f32⟩
  | 49 => ⟨S1x1x512, .f32⟩
  | 50 => ⟨S8x2048x512, .f32⟩
  | 51 => ⟨S8x2048x512, .f32⟩
  | 52 => ⟨S1x512, .f32⟩
  | 53 => ⟨S512, .f32⟩
  | 54 => ⟨S8x2048x512, .f32⟩
  | 55 => ⟨S1x1x512, .f32⟩
  | 56 => ⟨S8x2048x512, .f32⟩
  | 57 => ⟨S8x2048x512, .f32⟩
  | 58 => ⟨S8x2048x512, .f32⟩
  | 59 => ⟨S1x512, .f32⟩
  | 60 => ⟨S512, .f32⟩
  | 61 => ⟨S8x2048x512, .f32⟩
  | 62 => ⟨S1x1x512, .f32⟩
  | 63 => ⟨S8x2048x512, .f32⟩
  | 64 => ⟨S8x2048x512, .f32⟩
  | 65 => ⟨S8x2048x512, .f32⟩
  | 66 => ⟨S8x2048x512, .f32⟩
  | 67 => ⟨S512x1024, .f32⟩
  | 68 => ⟨S8x2048x1024, .f32⟩
  | 69 => ⟨S8x2048x8x64, .f32⟩
  | 70 => ⟨S64, .f32⟩
  | 71 => ⟨S8x2048x8x64, .f32⟩
  | 72 => ⟨S_, .f32⟩
  | 73 => ⟨S8x2048x8, .f32⟩
  | 74 => ⟨S8x2048x8x1, .f32⟩
  | 75 => ⟨S_, .f32⟩
  | 76 => ⟨S8x2048x8x1, .f32⟩
  | 77 => ⟨S8x2048x8x1, .f32⟩
  | 78 => ⟨S_, .f32⟩
  | 79 => ⟨S8x2048x8x1, .f32⟩
  | 80 => ⟨S8x2048x8x1, .f32⟩
  | 81 => ⟨S8x2048x8x1, .f32⟩
  | 82 => ⟨S8x2048x8x64, .f32⟩
  | 83 => ⟨S8x2048x8x64, .f32⟩
  | 84 => ⟨S1x1x1x64, .f32⟩
  | 85 => ⟨S8x2048x8x64, .f32⟩
  | 86 => ⟨S8x2048x8x64, .f32⟩
  | 87 => ⟨S_, .f32⟩
  | 88 => ⟨S8x2048x8x64, .f32⟩
  | 89 => ⟨S8x2048x8x64, .f32⟩
  | 90 => ⟨S8x2048x8x64, .f32⟩
  | 91 => ⟨S64, .f32⟩
  | 92 => ⟨S8x2048x8x64, .f32⟩
  | 93 => ⟨S_, .f32⟩
  | 94 => ⟨S8x2048x8, .f32⟩
  | 95 => ⟨S8x2048x8x1, .f32⟩
  | 96 => ⟨S_, .f32⟩
  | 97 => ⟨S8x2048x8x1, .f32⟩
  | 98 => ⟨S8x2048x8x1, .f32⟩
  | 99 => ⟨S_, .f32⟩
  | 100 => ⟨S8x2048x8x1, .f32⟩
  | 101 => ⟨S8x2048x8x1, .f32⟩
  | 102 => ⟨S8x2048x8x1, .f32⟩
  | 103 => ⟨S8x2048x8x64, .f32⟩
  | 104 => ⟨S8x2048x8x64, .f32⟩
  | 105 => ⟨S1x1x1x64, .f32⟩
  | 106 => ⟨S8x2048x8x64, .f32⟩
  | 107 => ⟨S8x2048x8x64, .f32⟩
  | 108 => ⟨S2048, .i32⟩
  | 109 => ⟨S2048, .f32⟩
  | 110 => ⟨S_, .f32⟩
  | 111 => ⟨S2048, .f32⟩
  | 112 => ⟨S2048, .f32⟩
  | 113 => ⟨S2048, .f32⟩
  | 114 => ⟨S_, .f32⟩
  | 115 => ⟨S2048, .f32⟩
  | 116 => ⟨S2048, .f32⟩
  | 117 => ⟨S2048, .f32⟩
  | 118 => ⟨S2048x1, .f32⟩
  | 119 => ⟨S2048x1, .f32⟩
  | 120 => ⟨S2048x1, .f32⟩
  | 121 => ⟨S2048x1, .f32⟩
  | 122 => ⟨S2048x1, .f32⟩
  | 123 => ⟨S2048x1, .f32⟩
  | 124 => ⟨S2048x6, .f32⟩
  | 125 => ⟨S_, .f32⟩
  | 126 => ⟨S8x2048x8x58, .f32⟩
  | 127 => ⟨S8x2048x8x6, .f32⟩
  | _ => ⟨S8x2048x1024, .f32⟩

abbrev hbmTy0_1 (i : Nat) : BufTy := match i % 128 with
  | 0 => ⟨S8x2048x8x128, .f32⟩
  | 1 => ⟨S2048x1x6, .f32⟩
  | 2 => ⟨S8x2048x8x6, .f32⟩
  | 3 => ⟨S8x2048x8x128, .f32⟩
  | 4 => ⟨S1024x512, .f32⟩
  | 5 => ⟨S8x2048x512, .f32⟩
  | 6 => ⟨S8x2048x4x128, .f32⟩
  | 7 => ⟨S128, .f32⟩
  | 8 => ⟨S8x2048x4x128, .f32⟩
  | 9 => ⟨S_, .f32⟩
  | 10 => ⟨S8x2048x4, .f32⟩
  | 11 => ⟨S8x2048x4x1, .f32⟩
  | 12 => ⟨S_, .f32⟩
  | 13 => ⟨S8x2048x4x1, .f32⟩
  | 14 => ⟨S8x2048x4x1, .f32⟩
  | 15 => ⟨S_, .f32⟩
  | 16 => ⟨S8x2048x4x1, .f32⟩
  | 17 => ⟨S8x2048x4x1, .f32⟩
  | 18 => ⟨S8x2048x4x1, .f32⟩
  | 19 => ⟨S8x2048x4x128, .f32⟩
  | 20 => ⟨S8x2048x4x128, .f32⟩
  | 21 => ⟨S1x1x1x128, .f32⟩
  | 22 => ⟨S8x2048x4x128, .f32⟩
  | 23 => ⟨S8x2048x4x128, .f32⟩
  | 24 => ⟨S8x512x256, .f32⟩
  | 25 => ⟨S8x4x128x256, .f32⟩
  | 26 => ⟨S8x256x512, .f32⟩
  | 27 => ⟨S8x256x4x128, .f32⟩
  | 28 => ⟨S8x4x2048x256, .f32⟩
  | 29 => ⟨S_, .f32⟩
  | 30 => ⟨S_, .f32⟩
  | 31 => ⟨S8x4x2048x256, .f32⟩
  | 32 => ⟨S8x4x2048x256, .f32⟩
  | 33 => ⟨S_, .f32⟩
  | 34 => ⟨S8x4x2048, .f32⟩
  | 35 => ⟨S8x4x2048x1, .f32⟩
  | 36 => ⟨S8x4x2048x256, .f32⟩
  | 37 => ⟨S8x4x2048x256, .f32⟩
  | 38 => ⟨S8x4x2048x256, .f32⟩
  | 39 => ⟨S8x4x2048x128, .f32⟩
  | 40 => ⟨S_, .f32⟩
  | 41 => ⟨S8x4x2048, .f32⟩
  | 42 => ⟨S8x4x2048x1, .f32⟩
  | 43 => ⟨S8x4x2048x128, .f32⟩
  | 44 => ⟨S8x4x2048x128, .f32⟩
  | 45 => ⟨S8x2048x4x128, .f32⟩
  | 46 => ⟨S8x2048x512, .f32⟩
  | 47 => ⟨S512x1024, .f32⟩
  | 48 => ⟨S8x2048x1024, .f32⟩
  | 49 => ⟨S1024x3072, .f32⟩
  | 50 => ⟨S8x2048x3072, .f32⟩
  | 51 => ⟨S8x2048x3072, .f32⟩
  | 52 => ⟨S8x2048x3072, .f32⟩
  | 53 => ⟨S_, .f32⟩
  | 54 => ⟨S8x2048x3072, .f32⟩
  | 55 => ⟨S8x2048x3072, .f32⟩
  | 56 => ⟨S_, .f32⟩
  | 57 => ⟨S8x2048x3072, .f32⟩
  | 58 => ⟨S8x2048x3072, .f32⟩
  | 59 => ⟨S8x2048x3x1024, .f32⟩
  | 60 => ⟨S8x2048x1x1024, .f32⟩
  | 61 => ⟨S8x2048x1024, .f32⟩
  | 62 => ⟨S8x2048x1024, .f32⟩
  | 63 => ⟨S8x2048x1x1024, .f32⟩
  | 64 => ⟨S8x2048x1024, .f32⟩
  | 65 => ⟨S8x2048x1024, .f32⟩
  | 66 => ⟨S8x2048x1024, .f32⟩
  | 67 => ⟨S1024x128, .f32⟩
  | 68 => ⟨S8x2048x128, .f32⟩
  | 69 => ⟨S8x2048x1024, .bf16⟩
  | 70 => ⟨S8x2048x1x1024, .f32⟩
  | 71 => ⟨S8x2048x1024, .f32⟩
  | 72 => ⟨S8x2048x1024, .bf16⟩
  | 73 => ⟨S8x2048x1024, .f32⟩
  | 74 => ⟨S8x1024x2048, .f32⟩
  | 75 => ⟨S8x1024x2048, .bf16⟩
  | 76 => ⟨S8x2048x1024, .f32⟩
  | 77 => ⟨S8x2048x1024, .bf16⟩
  | 78 => ⟨S8x512x2048, .f32⟩
  | 79 => ⟨S8x512x2048, .bf16⟩
  | 80 => ⟨S8x256x2048, .f32⟩
  | 81 => ⟨S8x256x2048, .bf16⟩
  | 82 => ⟨S8x2048x128, .bf16⟩
  | 83 => ⟨S8x2048x8, .f32⟩
  | 84 => ⟨S8x8x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_12 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_13 : Ref sig .tc := ⟨.hbm, 137, rfl⟩
abbrev main_v107 : Ref sig .tc := ⟨.hbm, 138, rfl⟩
abbrev main_v108 : Ref sig .tc := ⟨.hbm, 139, rfl⟩
abbrev main_cst_14 : Ref sig .tc := ⟨.hbm, 140, rfl⟩
abbrev main_v109 : Ref sig .tc := ⟨.hbm, 141, rfl⟩
abbrev main_v110 : Ref sig .tc := ⟨.hbm, 142, rfl⟩
abbrev main_cst_15 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_16 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_18 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_19 : Ref sig .tc := ⟨.hbm, 181, rfl⟩
abbrev main_v145 : Ref sig .tc := ⟨.hbm, 182, rfl⟩
abbrev main_v146 : Ref sig .tc := ⟨.hbm, 183, rfl⟩
abbrev main_cst_20 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩

abbrev nD : Nat := 1
abbrev τ : Topo := Topo.v7x

variable {F : FTy → Type} [FloatOps F]
-- ==== Kernel3.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S1024x1024 : Shape := ⟨2, ![1024, 1024]⟩
abbrev S128 : Shape := ⟨1, ![128]⟩
abbrev S8x512x256 : Shape := ⟨3, ![8, 512, 256]⟩
abbrev S8x256x512 : Shape := ⟨3, ![8, 256, 512]⟩
abbrev S1x256x1024 : Shape := ⟨3, ![1, 256, 1024]⟩
abbrev S1x512x256 : Shape := ⟨3, ![1, 512, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S512x256 : Shape := ⟨2, ![512, 256]⟩

abbrev nBuf : Space → Nat
  | .hbm => 12
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S128, .f32⟩
  | .hbm, ⟨9, _⟩ => ⟨S1x128, .f32⟩
  | .hbm, ⟨10, _⟩ => ⟨S8x512x256, .bf16⟩
  | .hbm, ⟨11, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S1x512x256, .bf16⟩
  | .local _ .vmem, ⟨6, _⟩ => ⟨S1x512x256, .bf16⟩
  | .local _ .vmem, ⟨7, _⟩ => ⟨S1x256x512, .bf16⟩
  | .local _ .vmem, ⟨8, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S128 : Shape := ⟨1, ![128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S8x512x256 : Shape := ⟨3, ![8, 512, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S8x256x512, .f32⟩
  | .hbm, ⟨24, _⟩ => ⟨S8x256x512, .f32⟩
  | .hbm, ⟨25, _⟩ => ⟨S8x256x4x128, .f32⟩
  | .hbm, ⟨26, _⟩ => ⟨S128, .f32⟩
  | .hbm, ⟨27, _⟩ => ⟨S8x256x4x128, .f32⟩
  | .hbm, ⟨28, _⟩ => ⟨S_, .f32⟩
  | .hbm, ⟨29, _⟩ => ⟨S8x256x4, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S_, .f32⟩
  | .hbm, ⟨35, _⟩ => ⟨S8x256x4x1, .f32⟩
  | .hbm, ⟨36, _⟩ => ⟨S8x256x4x1, .f32⟩
  | .hbm, ⟨37, _⟩ => ⟨S8x256x4x1, .f32⟩
  | .hbm, ⟨38, _⟩ => ⟨S8x256x4x128, .f32⟩
  | .hbm, ⟨39, _⟩ => ⟨S8x256x4x128, .f32⟩
  | .hbm, ⟨40, _⟩ => ⟨S1x1x1x128, .f32⟩
  | .hbm, ⟨41, _⟩ => ⟨S8x256x4x128, .f32⟩
  | .hbm, ⟨42, _⟩ => ⟨S8x256x4x128, .f32⟩
  | .hbm, ⟨43, _⟩ => ⟨S8x256x512, .f32⟩
  | .hbm, ⟨44, _⟩ => ⟨S8x512x256, .f32⟩
  | .hbm, ⟨45, _⟩ => ⟨S8x512x256, .bf16⟩
  | .hbm, ⟨46, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Reference4Ideal.lean ====
abbrev S8x2048x1024 : Shape := ⟨3, ![8, 2048, 1024]⟩
abbrev S1x1024 : Shape := ⟨2, ![1, 1024]⟩
abbrev S1024x3328 : Shape := ⟨2, ![1024, 3328]⟩
abbrev S1024x128 : Shape := ⟨2, ![1024, 128]⟩
abbrev S1024x512 : Shape := ⟨2, ![1024, 512]⟩
abbrev S1024x3072 : Shape := ⟨2, ![1024, 3072]⟩
abbrev S1x3x512 : Shape := ⟨3, ![1, 3, 512]⟩
abbrev S1x512x1024 : Shape := ⟨3, ![1, 512, 1024]⟩
abbrev S1x64 : Shape := ⟨2, ![1, 64]⟩
abbrev S8x512x256 : Shape := ⟨3, ![8, 512, 256]⟩
abbrev S8x256x512 : Shape := ⟨3, ![8, 256, 512]⟩
abbrev S1x128 : Shape := ⟨2, ![1, 128]⟩
abbrev S8x6 : Shape := ⟨2, ![8, 6]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3328 : Shape := ⟨3, ![8, 2048, 3328]⟩
abbrev S8x2048x512 : Shape := ⟨3, ![8, 2048, 512]⟩
abbrev S8x2048x256 : Shape := ⟨3, ![8, 2048, 256]⟩
abbrev S3x512 : Shape := ⟨2, ![3, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S2048 : Shape := ⟨1, ![2048]⟩
abbrev S2048x1 : Shape := ⟨2, ![2048, 1]⟩
abbrev S2048x6 : Shape := ⟨2, ![2048, 6]⟩
abbrev S8x2048x8x58 : Shape := ⟨4, ![8, 2048, 8, 58]⟩
abbrev S8x2048x8x6 : Shape := ⟨4, ![8, 2048, 8, 6]⟩
abbrev S8x2048x8x128 : Shape := ⟨4, ![8, 2048, 8, 128]⟩
abbrev S2048x1x6 : Shape := ⟨3, ![2048, 1, 6]⟩
abbrev S8x2048x4x128 : Shape := ⟨4, ![8, 2048, 4, 128]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x4x128x256 : Shape := ⟨4, ![8, 4, 128, 256]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x2048x128 : Shape := ⟨4, ![8, 4, 2048, 128]⟩
abbrev S8x2048x3072 : Shape := ⟨3, ![8, 2048, 3072]⟩
abbrev S8x2048x3x1024 : Shape := ⟨4, ![8, 2048, 3, 1024]⟩
abbrev S8x2048x1x1024 : Shape := ⟨4, ![8, 2048, 1, 1024]⟩
abbrev S8x2048x128 : Shape := ⟨3, ![8, 2048, 128]⟩
abbrev S8x1024x2048 : Shape := ⟨3, ![8, 1024, 2048]⟩
abbrev S8x512x2048 : Shape := ⟨3, ![8, 512, 2048]⟩
abbrev S8x256x2048 : Shape := ⟨3, ![8, 256, 2048]⟩
abbrev S8x8x2048 : Shape := ⟨3, ![8, 8, 2048]⟩

abbrev nBuf : Space → Nat
  | .hbm => 216
  | .vmem => 0
  | .smem => 0
  | _ => 0

abbrev hbmTy0_0 (i : Nat) : BufTy := match i % 128 with
  | 0 => ⟨S8x2048x1024, .f32⟩
  | 1 => ⟨S1x1024, .f32⟩
  | 2 => ⟨S1024x3328, .bf16⟩
  | 3 => ⟨S1024x128, .bf16⟩
  | 4 => ⟨S1024x512, .bf16⟩
  | 5 => ⟨S1024x3072, .bf16⟩
  | 6 => ⟨S1x3x512, .f32⟩
  | 7 => ⟨S1x512x1024, .f32⟩
  | 8 => ⟨S1x64, .f32⟩
  | 9 => ⟨S1x64, .f32⟩
  | 10 => ⟨S8x512x256, .bf16⟩
  | 11 => ⟨S8x256x512, .bf16⟩
  | 12 => ⟨S1x128, .f32⟩
  | 13 => ⟨S1x512x1024, .f32⟩
  | 14 => ⟨S8x6, .f32⟩
  | 15 => ⟨S1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S1024x3328, .f32⟩
  | 33 => ⟨S8x2048x3328, .f32⟩
  | 34 => ⟨S8x2048x512, .f32⟩
  | 35 => ⟨S8x2048x512, .f32⟩
  | 36 => ⟨S8x2048x512, .f32⟩
  | 37 => ⟨S8x2048x512, .f32⟩
  | 38 => ⟨S8x2048x512, .f32⟩
  | 39 => ⟨S8x2048x512, .f32⟩
  | 40 => ⟨S8x2048x256, .f32⟩
  | 41 => ⟨S8x2048x512, .f32⟩
  | 42 => ⟨S3x512, .f32⟩
  | 43 => ⟨S_, .i32⟩
  | 44 => ⟨S_, .f32⟩
  | 45 => ⟨S8x2050x512, .f32⟩
  | 46 => ⟨S1x512, .f32⟩
  | 47 => ⟨S512, .f32⟩
  | 48 => ⟨S8x2048x512, .f32⟩
  | 49 => ⟨S1x1x512, .f32⟩
  | 50 => ⟨S8x2048x512, .f32⟩
  | 51 => ⟨S8x2048x512, .f32⟩
  | 52 => ⟨S1x512, .f32⟩
  | 53 => ⟨S512, .f32⟩
  | 54 => ⟨S8x2048x512, .f32⟩
  | 55 => ⟨S1x1x512, .f32⟩
  | 56 => ⟨S8x2048x512, .f32⟩
  | 57 => ⟨S8x2048x512, .f32⟩
  | 58 => ⟨S8x2048x512, .f32⟩
  | 59 => ⟨S1x512, .f32⟩
  | 60 => ⟨S512, .f32⟩
  | 61 => ⟨S8x2048x512, .f32⟩
  | 62 => ⟨S1x1x512, .f32⟩
  | 63 => ⟨S8x2048x512, .f32⟩
  | 64 => ⟨S8x2048x512, .f32⟩
  | 65 => ⟨S8x2048x512, .f32⟩
  | 66 => ⟨S8x2048x512, .f32⟩
  | 67 => ⟨S512x1024, .f32⟩
  | 68 => ⟨S8x2048x1024, .f32⟩
  | 69 => ⟨S8x2048x8x64, .f32⟩
  | 70 => ⟨S64, .f32⟩
  | 71 => ⟨S8x2048x8x64, .f32⟩
  | 72 => ⟨S_, .f32⟩
  | 73 => ⟨S8x2048x8, .f32⟩
  | 74 => ⟨S8x2048x8x1, .f32⟩
  | 75 => ⟨S_, .f32⟩
  | 76 => ⟨S8x2048x8x1, .f32⟩
  | 77 => ⟨S8x2048x8x1, .f32⟩
  | 78 => ⟨S_, .f32⟩
  | 79 => ⟨S8x2048x8x1, .f32⟩
  | 80 => ⟨S8x2048x8x1, .f32⟩
  | 81 => ⟨S8x2048x8x1, .f32⟩
  | 82 => ⟨S8x2048x8x64, .f32⟩
  | 83 => ⟨S8x2048x8x64, .f32⟩
  | 84 => ⟨S1x1x1x64, .f32⟩
  | 85 => ⟨S8x2048x8x64, .f32⟩
  | 86 => ⟨S8x2048x8x64, .f32⟩
  | 87 => ⟨S_, .f32⟩
  | 88 => ⟨S8x2048x8x64, .f32⟩
  | 89 => ⟨S8x2048x8x64, .f32⟩
  | 90 => ⟨S8x2048x8x64, .f32⟩
  | 91 => ⟨S64, .f32⟩
  | 92 => ⟨S8x2048x8x64, .f32⟩
  | 93 => ⟨S_, .f32⟩
  | 94 => ⟨S8x2048x8, .f32⟩
  | 95 => ⟨S8x2048x8x1, .f32⟩
  | 96 => ⟨S_, .f32⟩
  | 97 => ⟨S8x2048x8x1, .f32⟩
  | 98 => ⟨S8x2048x8x1, .f32⟩
  | 99 => ⟨S_, .f32⟩
  | 100 => ⟨S8x2048x8x1, .f32⟩
  | 101 => ⟨S8x2048x8x1, .f32⟩
  | 102 => ⟨S8x2048x8x1, .f32⟩
  | 103 => ⟨S8x2048x8x64, .f32⟩
  | 104 => ⟨S8x2048x8x64, .f32⟩
  | 105 => ⟨S1x1x1x64, .f32⟩
  | 106 => ⟨S8x2048x8x64, .f32⟩
  | 107 => ⟨S8x2048x8x64, .f32⟩
  | 108 => ⟨S2048, .i32⟩
  | 109 => ⟨S2048, .f32⟩
  | 110 => ⟨S_, .f32⟩
  | 111 => ⟨S2048, .f32⟩
  | 112 => ⟨S2048, .f32⟩
  | 113 => ⟨S2048, .f32⟩
  | 114 => ⟨S_, .f32⟩
  | 115 => ⟨S2048, .f32⟩
  | 116 => ⟨S2048, .f32⟩
  | 117 => ⟨S2048, .f32⟩
  | 118 => ⟨S2048x1, .f32⟩
  | 119 => ⟨S2048x1, .f32⟩
  | 120 => ⟨S2048x1, .f32⟩
  | 121 => ⟨S2048x1, .f32⟩
  | 122 => ⟨S2048x1, .f32⟩
  | 123 => ⟨S2048x1, .f32⟩
  | 124 => ⟨S2048x6, .f32⟩
  | 125 => ⟨S_, .f32⟩
  | 126 => ⟨S8x2048x8x58, .f32⟩
  | 127 => ⟨S8x2048x8x6, .f32⟩
  | _ => ⟨S8x2048x1024, .f32⟩

abbrev hbmTy0_1 (i : Nat) : BufTy := match i % 128 with
  | 0 => ⟨S8x2048x8x128, .f32⟩
  | 1 => ⟨S2048x1x6, .f32⟩
  | 2 => ⟨S8x2048x8x6, .f32⟩
  | 3 => ⟨S8x2048x8x128, .f32⟩
  | 4 => ⟨S1024x512, .f32⟩
  | 5 => ⟨S8x2048x512, .f32⟩
  | 6 => ⟨S8x2048x4x128, .f32⟩
  | 7 => ⟨S128, .f32⟩
  | 8 => ⟨S8x2048x4x128, .f32⟩
  | 9 => ⟨S_, .f32⟩
  | 10 => ⟨S8x2048x4, .f32⟩
  | 11 => ⟨S8x2048x4x1, .f32⟩
  | 12 => ⟨S_, .f32⟩
  | 13 => ⟨S8x2048x4x1, .f32⟩
  | 14 => ⟨S8x2048x4x1, .f32⟩
  | 15 => ⟨S_, .f32⟩
  | 16 => ⟨S8x2048x4x1, .f32⟩
  | 17 => ⟨S8x2048x4x1, .f32⟩
  | 18 => ⟨S8x2048x4x1, .f32⟩
  | 19 => ⟨S8x2048x4x128, .f32⟩
  | 20 => ⟨S8x2048x4x128, .f32⟩
  | 21 => ⟨S1x1x1x128, .f32⟩
  | 22 => ⟨S8x2048x4x128, .f32⟩
  | 23 => ⟨S8x2048x4x128, .f32⟩
  | 24 => ⟨S8x512x256, .f32⟩
  | 25 => ⟨S8x4x128x256, .f32⟩
  | 26 => ⟨S8x256x512, .f32⟩
  | 27 => ⟨S8x256x4x128, .f32⟩
  | 28 => ⟨S8x4x2048x256, .f32⟩
  | 29 => ⟨S_, .f32⟩
  | 30 => ⟨S_, .f32⟩
  | 31 => ⟨S8x4x2048x256, .f32⟩
  | 32 => ⟨S8x4x2048x256, .f32⟩
  | 33 => ⟨S_, .f32⟩
  | 34 => ⟨S8x4x2048, .f32⟩
  | 35 => ⟨S_, .f32⟩
  | 36 => ⟨S8x4x2048, .f32⟩
  | 37 => ⟨S8x4x2048, .f32⟩
  | 38 => ⟨S8x4x2048x1, .f32⟩
  | 39 => ⟨S8x4x2048x256, .f32⟩
  | 40 => ⟨S8x4x2048x256, .f32⟩
  | 41 => ⟨S8x4x2048x256, .f32⟩
  | 42 => ⟨S_, .f32⟩
  | 43 => ⟨S8x4x2048, .f32⟩
  | 44 => ⟨S8x4x2048x1, .f32⟩
  | 45 => ⟨S8x4x2048x256, .f32⟩
  | 46 => ⟨S8x4x2048x256, .f32⟩
  | 47 => ⟨S8x4x2048x128, .f32⟩
  | 48 => ⟨S8x2048x4x128, .f32⟩
  | 49 => ⟨S8x2048x512, .f32⟩
  | 50 => ⟨S512x1024, .f32⟩
  | 51 => ⟨S8x2048x1024, .f32⟩
  | 52 => ⟨S1024x3072, .f32⟩
  | 53 => ⟨S8x2048x3072, .f32⟩
  | 54 => ⟨S8x2048x3072, .f32⟩
  | 55 => ⟨S8x2048x3072, .f32⟩
  | 56 => ⟨S_, .f32⟩
  | 57 => ⟨S8x2048x3072, .f32⟩
  | 58 => ⟨S8x2048x3072, .f32⟩
  | 59 => ⟨S_, .f32⟩
  | 60 => ⟨S8x2048x3072, .f32⟩
  | 61 => ⟨S8x2048x3072, .f32⟩
  | 62 => ⟨S8x2048x3x1024, .f32⟩
  | 63 => ⟨S8x2048x1x1024, .f32⟩
  | 64 => ⟨S8x2048x1024, .f32⟩
  | 65 => ⟨S8x2048x1024, .f32⟩
  | 66 => ⟨S8x2048x1x1024, .f32⟩
  | 67 => ⟨S8x2048x1024, .f32⟩
  | 68 => ⟨S8x2048x1024, .f32⟩
  | 69 => ⟨S8x2048x1024, .f32⟩
  | 70 => ⟨S1024x128, .f32⟩
  | 71 => ⟨S8x2048x128, .f32⟩
  | 72 => ⟨S8x2048x1024, .bf16⟩
  | 73 => ⟨S8x2048x1x1024, .f32⟩
  | 74 => ⟨S8x2048x1024, .f32⟩
  | 75 => ⟨S8x2048x1024, .bf16⟩
  | 76 => ⟨S8x2048x1024, .f32⟩
  | 77 => ⟨S8x1024x2048, .f32⟩
  | 78 => ⟨S8x1024x2048, .bf16⟩
  | 79 => ⟨S8x2048x1024, .f32⟩
  | 80 => ⟨S8x2048x1024, .bf16⟩
  | 81 => ⟨S8x512x2048, .f32⟩
  | 82 => ⟨S8x512x2048, .bf16⟩
  | 83 => ⟨S8x256x2048, .f32⟩
  | 84 => ⟨S8x256x2048, .bf16⟩
  | 85 => ⟨S8x2048x128, .bf16⟩
  | 86 => ⟨S8x2048x8, .f32⟩
  | 87 => ⟨S8x8x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_3 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_6 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_11 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_12 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_13 : Ref sig .tc := ⟨.hbm, 137, rfl⟩
abbrev main_v107 : Ref sig .tc := ⟨.hbm, 138, rfl⟩
abbrev main_v108 : Ref sig .tc := ⟨.hbm, 139, rfl⟩
abbrev main_cst_14 : Ref sig .tc := ⟨.hbm, 140, rfl⟩
abbrev main_v109 : Ref sig .tc := ⟨.hbm, 141, rfl⟩
abbrev main_v110 : Ref sig .tc := ⟨.hbm, 142, rfl⟩
abbrev main_cst_15 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_16 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_cst_18 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_19 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_20 : Ref sig .tc := ⟨.hbm, 184, rfl⟩
abbrev main_v147 : Ref sig .tc := ⟨.hbm, 185, rfl⟩
abbrev main_v148 : Ref sig .tc := ⟨.hbm, 186, rfl⟩
abbrev main_cst_21 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩

abbrev nD : Nat := 1
abbrev τ : Topo := Topo.v7x

variable {F : FTy → Type} [FloatOps F]
-- ==== Kernel5.lean ====
abbrev S1x1024x6952 : Shape := ⟨3, ![1, 1024, 6952]⟩
abbrev S1x6952x1024 : Shape := ⟨3, ![1, 6952, 1024]⟩
abbrev S1024x3328 : Shape := ⟨2, ![1024, 3328]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x6952, .f32⟩
  | .hbm, ⟨1, _⟩ => ⟨S1x6952x1024, .f32⟩
  | .hbm, ⟨2, _⟩ => ⟨S1024x3328, .bf16⟩
  | .local _ .vmem, ⟨0, _⟩ => ⟨S1x256x1024, .f32⟩
  | .local _ .vmem, ⟨1, _⟩ => ⟨S1x256x1024, .f32⟩
  | .local _ .vmem, ⟨2, _⟩ => ⟨S1024x256, .bf16⟩
  | .local _ .vmem, ⟨3, _⟩ => ⟨S1024x256, .bf16⟩
  | _, _ => ⟨S1x1024x6952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def k0_mult1 (i : grid0.Coords) : BitVec 32 :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  v1
def cc0_transform_0 (i : grid0.Coords) : Fin 3 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S1x1024x6952 : Shape := ⟨3, ![1, 1024, 6952]⟩
abbrev S1x1024x3328 : Shape := ⟨3, ![1, 1024, 3328]⟩
abbrev S1024x3328 : Shape := ⟨2, ![1024, 3328]⟩

abbrev nBuf : Space → Nat
  | .hbm => 4
  | .vmem => 0
  | .smem => 0
  | _ => 0

abbrev bufTy : (tb : Table) → Fin (tcTables nBuf tb) → BufTy
  | .hbm, ⟨0, _⟩ => ⟨S1x1024x6952, .f32⟩
  | .hbm, ⟨1, _⟩ => ⟨S1x1024x3328, .f32⟩
  | .hbm, ⟨2, _⟩ => ⟨S1024x3328, .f32⟩
  | .hbm, ⟨3, _⟩ => ⟨S1024x3328, .bf16⟩
  | _, _ => ⟨S1x1024x6952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel6.lean ====
abbrev S1x1024x6952 : Shape := ⟨3, ![1, 1024, 6952]⟩
abbrev S1x6952x1024 : Shape := ⟨3, ![1, 6952, 1024]⟩
abbrev S1024x128 : Shape := ⟨2, ![1024, 128]⟩
abbrev S1x40x1024 : Shape := ⟨3, ![1, 40, 1024]⟩
abbrev S40x1024 : Shape := ⟨2, ![40, 1024]⟩
abbrev S88x1024 : Shape := ⟨2, ![88, 1024]⟩
abbrev S128x1024 : Shape := ⟨2, ![128, 1024]⟩

abbrev nBuf : Space → Nat
  | .hbm => 3
  | .vmem => 2
  | .smem => 0
  | _ => 0

abbrev bufTy : (tb : Table) → Fin (tcTables nBuf tb) → BufTy
  | .hbm, ⟨0, _⟩ => ⟨S1x1024x6952, .f32⟩
  | .hbm, ⟨1, _⟩ => ⟨S1x6952x1024, .f32⟩
  | .hbm, ⟨2, _⟩ => ⟨S1024x128, .bf16⟩
  | .local _ .vmem, ⟨0, _⟩ => ⟨S1x40x1024, .f32⟩
  | .local _ .vmem, ⟨1, _⟩ => ⟨S1024x128, .bf16⟩
  | _, _ => ⟨S1x1024x6952, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def k0_mult1 (i : grid0.Coords) : BitVec 32 :=
  let c3328_i32 : BitVec 32 := 3328#32
  let arg0 : BitVec 32 := BitVec.ofNat 32 (i 0).val
  let c40_i32 : BitVec 32 := 40#32
  let v0 : BitVec 32 := Scalar.muli arg0 c40_i32
  let v1 : BitVec 32 := Scalar.addi c3328_i32 v0
  v1
def cc0_transform_0 (i : grid0.Coords) : Fin 3 → Nat :=
  let arg0 : BitVec 32 := BitVec.ofNat 32 (i 0).val
  let c40_i32 : BitVec 32 := 40#32
  let v0 : BitVec 32 := Scalar.muli arg0 c40_i32
  let c3328_i32 : BitVec 32 := 3328#32
  let v1 : BitVec 32 := Scalar.addi c3328_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference6Ideal.lean ====
abbrev S1x1024x6952 : Shape := ⟨3, ![1, 1024, 6952]⟩
abbrev S1x1024x40 : Shape := ⟨3, ![1, 1024, 40]⟩
abbrev S1024x40 : Shape := ⟨2, ![1024, 40]⟩
abbrev S_ : Shape := ⟨0, ![]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S1x1024x6952, .f32⟩
  | .hbm, ⟨1, _⟩ => ⟨S1x1024x40, .f32⟩
  | .hbm, ⟨2, _⟩ => ⟨S1024x40, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | _, _ => ⟨S1x1024x6952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1x1024x6952 : Shape := ⟨3, ![1, 1024, 6952]⟩
abbrev S1x6952x1024 : Shape := ⟨3, ![1, 6952, 1024]⟩
abbrev S1024x512 : Shape := ⟨2, ![1024, 512]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x6952, .f32⟩
  | .hbm, ⟨1, _⟩ => ⟨S1x6952x1024, .f32⟩
  | .hbm, ⟨2, _⟩ => ⟨S1024x512, .bf16⟩
  | .local _ .vmem, ⟨0, _⟩ => ⟨S1x256x1024, .f32⟩
  | .local _ .vmem, ⟨1, _⟩ => ⟨S1x256x1024, .f32⟩
  | .local _ .vmem, ⟨2, _⟩ => ⟨S1024x256, .bf16⟩
  | .local _ .vmem, ⟨3, _⟩ => ⟨S1024x256, .bf16⟩
  | _, _ => ⟨S1x1024x6952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def k0_mult1 (i : grid0.Coords) : BitVec 32 :=
  let c3368_i32 : BitVec 32 := 3368#32
  let arg0 : BitVec 32 := BitVec.ofNat 32 (i 0).val
  let c256_i32 : BitVec 32 := 256#32
  let v0 : BitVec 32 := Scalar.muli arg0 c256_i32
  let v1 : BitVec 32 := Scalar.addi c3368_i32 v0
  v1
def cc0_transform_0 (i : grid0.Coords) : Fin 3 → Nat :=
  let arg0 : BitVec 32 := BitVec.ofNat 32 (i 0).val
  let c256_i32 : BitVec 32 := 256#32
  let v0 : BitVec 32 := Scalar.muli arg0 c256_i32
  let c3368_i32 : BitVec 32 := 3368#32
  let v1 : BitVec 32 := Scalar.addi c3368_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S1x1024x6952 : Shape := ⟨3, ![1, 1024, 6952]⟩
abbrev S1x1024x512 : Shape := ⟨3, ![1, 1024, 512]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S1x1024x6952, .f32⟩
  | .hbm, ⟨1, _⟩ => ⟨S1x1024x512, .f32⟩
  | .hbm, ⟨2, _⟩ => ⟨S1024x512, .f32⟩
  | .hbm, ⟨3, _⟩ => ⟨S1024x512, .bf16⟩
  | _, _ => ⟨S1x1024x6952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel8.lean ====
abbrev S1x1024x6952 : Shape := ⟨3, ![1, 1024, 6952]⟩
abbrev S1x6952x1024 : Shape := ⟨3, ![1, 6952, 1024]⟩
abbrev S1024x3072 : Shape := ⟨2, ![1024, 3072]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x6952, .f32⟩
  | .hbm, ⟨1, _⟩ => ⟨S1x6952x1024, .f32⟩
  | .hbm, ⟨2, _⟩ => ⟨S1024x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1024x256, .bf16⟩
  | .local _ .vmem, ⟨3, _⟩ => ⟨S1024x256, .bf16⟩
  | _, _ => ⟨S1x1024x6952, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def k0_mult1 (i : grid0.Coords) : BitVec 32 :=
  let c3880_i32 : BitVec 32 := 3880#32
  let arg0 : BitVec 32 := BitVec.ofNat 32 (i 0).val
  let c256_i32 : BitVec 32 := 256#32
  let v0 : BitVec 32 := Scalar.muli arg0 c256_i32
  let v1 : BitVec 32 := Scalar.addi c3880_i32 v0
  v1
def cc0_transform_0 (i : grid0.Coords) : Fin 3 → Nat :=
  let arg0 : BitVec 32 := BitVec.ofNat 32 (i 0).val
  let c256_i32 : BitVec 32 := 256#32
  let v0 : BitVec 32 := Scalar.muli arg0 c256_i32
  let c3880_i32 : BitVec 32 := 3880#32
  let v1 : BitVec 32 := Scalar.addi c3880_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S1x1024x6952 : Shape := ⟨3, ![1, 1024, 6952]⟩
abbrev S1x1024x3072 : Shape := ⟨3, ![1, 1024, 3072]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S1x1024x6952, .f32⟩
  | .hbm, ⟨1, _⟩ => ⟨S1x1024x3072, .f32⟩
  | .hbm, ⟨2, _⟩ => ⟨S1024x3072, .f32⟩
  | .hbm, ⟨3, _⟩ => ⟨S1024x3072, .bf16⟩
  | _, _ => ⟨S1x1024x6952, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Reads.lean ====
/-
  What each grid point's blocks read: the arrays, at the block's place.
-/
module

public import proofs.«01_k».proof.Proof.Gen.KernelIdeal.Value
public import Idealize.ShloMosaic.Lib.Pipeline.ValueKit
public import Idealize.ShloMosaic.Lib.Pipeline.ValueKit.Point
public import Idealize.ShloMosaic.Lib.Claim
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- Every window's block index at a grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, t.val % 4]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The sequence and the token that row `r` of point `t`'s block holds. -/
def seqOf (t : Fin cfg0.N) : Fin 8 := ⟨t.val / 4, by have := lt_of_lt_of_eq t.isLt (show cfg0.N = 32 from N_0); omega⟩
def tokOf (t : Fin cfg0.N) (r : Fin 512) : Fin 2048 := ⟨512 * (t.val % 4) + r.val, by omega⟩

theorem iblk0 (c : Dev nD) (t : Fin cfg0.N) (r : Fin 512) (d : Fin 1024) :
    (iblk m c 0 t : FVec Ideal S1x512x1024 .f32) (ix3 0 r d) = m ((c.tc : Thread nD τ).loc main_arg0) (ix3 (seqOf t) (tokOf t r) d) := by
  unfold seqOf tokOf
  blk_ext! [iblk, V, idx t]

theorem iblk1 (c : Dev nD) (t : Fin cfg0.N) (r : Fin 512) (d : Fin 1024) :
    (iblk m c 1 t : FVec Ideal S1x512x1024 .bf16) (ix3 0 r d) = m ((c.tc : Thread nD τ).loc main_arg1) (ix3 (seqOf t) (tokOf t r) d) := by
  unfold seqOf tokOf
  blk_ext! [iblk, V, idx t]

theorem iblk2 (c : Dev nD) (t : Fin cfg0.N) (r : Fin 512) (d : Fin 1024) :
    (iblk m c 2 t : FVec Ideal S1x512x1024 .bf16) (ix3 0 r d) = m ((c.tc : Thread nD τ).loc main_arg2) (ix3 (seqOf t) (tokOf t r) d) := by
  unfold seqOf tokOf
  blk_ext! [iblk, V, idx t]

theorem iblk3 (c : Dev nD) (t : Fin cfg0.N) (q : Fin 512) (r : Fin 512) :
    (iblk m c 3 t : FVec Ideal S1x512x512 .bf16) (ix3 0 q r) = m ((c.tc : Thread nD τ).loc main_arg3) (ix3 (seqOf t) q (tokOf t r)) := by
  unfold seqOf tokOf
  blk_ext! [iblk, V, idx t]

theorem iblk4 (c : Dev nD) (t : Fin cfg0.N) (p : Fin 512) (q : Fin 1024) :
    (iblk m c 4 t : FVec Ideal S512x1024 .bf16) (ix2 p q) = m ((c.tc : Thread nD τ).loc main_arg4) (ix3 0 p q) := by
  blk_ext! [iblk, idx t]

theorem iblk5 (c : Dev nD) (t : Fin cfg0.N) (p : Fin 1024) (q : Fin 1024) :
    (iblk m c 5 t : FVec Ideal S1024x1024 .bf16) (ix2 p q) = m ((c.tc : Thread nD τ).loc main_arg5) (ix3 0 p q) := by
  blk_ext! [iblk, idx t]

theorem iblk6 (c : Dev nD) (t : Fin cfg0.N) (p : Fin 1) (q : Fin 1024) :
    (iblk m c 6 t : FVec Ideal S1x1024 .f32) (ix2 p q) = m ((c.tc : Thread nD τ).loc main_arg6) (ix2 p q) := by
  blk_ext! [iblk, idx t]

theorem iblk7 (c : Dev nD) (t : Fin cfg0.N) (p : Fin 1024) (q : Fin 5632) :
    (iblk m c 7 t : FVec Ideal S1024x5632 .bf16) (ix2 p q) = m ((c.tc : Thread nD τ).loc main_arg7) (ix3 0 p q) := by
  blk_ext! [iblk, idx t]

theorem iblk8 (c : Dev nD) (t : Fin cfg0.N) (p : Fin 3) (q : Fin 5632) :
    (iblk m c 8 t : FVec Ideal S3x5632 .f32) (ix2 p q) = m ((c.tc : Thread nD τ).loc main_arg8) (ix3 0 p q) := by
  blk_ext! [iblk, idx t]

theorem iblk9 (c : Dev nD) (t : Fin cfg0.N) (p : Fin 2816) (q : Fin 1024) :
    (iblk m c 9 t : FVec Ideal S2816x1024 .bf16) (ix2 p q) = m ((c.tc : Thread nD τ).loc main_arg9) (ix3 0 p q) := by
  blk_ext! [iblk, idx t]

end Cert.KernelIdeal.Value
-- ==== Proof.FfnMath.lean ====
/-
  The feed-forward call, one token at a time: what a token's row becomes at the ideal values, in plain sums.
-/
module

public import Idealize.ShloMosaic.Lib.Pointwise

@[expose] public section

noncomputable section

namespace FfnMath

open Idealize.ShloMosaic

/-- The residual stream after the merge: `x + (part + g1 · (attention · w_b)) · w_o`. -/
def x1 (x p g : Fin 1024 → EReal) (a : Fin 512 → EReal) (wb : Fin 512 → Fin 1024 → EReal)
    (wo : Fin 1024 → Fin 1024 → EReal) (d : Fin 1024) : EReal :=
  x d + ∑ k : Fin 1024, (p k + g k * ∑ q : Fin 512, a q * wb q k) * wo k d

/-- Its normalised row. -/
def xn (y gw : Fin 1024 → EReal) (d : Fin 1024) : EReal :=
  y d * Ideal.rsqrt (Ideal.div (∑ k : Fin 1024, y k * y k) (Ideal.ofBits .f32 0x44800000#32)
    + Ideal.ofBits .f32 0x358637BD#32) * gw d

/-- The up projection of a normalised row. -/
def up (y : Fin 1024 → EReal) (w : Fin 1024 → Fin 5632 → EReal) (n : Fin 5632) : EReal :=
  ∑ k : Fin 1024, y k * w k n

/-- The short causal convolution over the token two back, the token one back and the token itself. -/
def cv (w : Fin 3 → Fin 5632 → EReal) (u2 u1 u0 : Fin 5632 → EReal) (n : Fin 5632) : EReal :=
  (w 0 n * u2 n + w 1 n * u1 n) + w 2 n * u0 n

/-- The gated hidden row: `silu` of the first half times the second half. -/
def hid (v : Fin 5632 → EReal) (n : Fin 2816) : EReal :=
  v ⟨n.val, by omega⟩ * Ideal.div 1 (1 + Ideal.exp (-v ⟨n.val, by omega⟩)) * v ⟨2816 + n.val, by omega⟩

/-- The down projection added to the residual stream. -/
def out (y : Fin 1024 → EReal) (h : Fin 2816 → EReal) (wd : Fin 2816 → Fin 1024 → EReal) (d : Fin 1024) : EReal :=
  y d + ∑ n : Fin 2816, h n * wd n d

/-! ## The whole arrays -/

variable (a0 a1 a2 : (⟨3, ![8, 2048, 1024]⟩ : Shape).Idx → EReal) (a3 : (⟨3, ![8, 512, 2048]⟩ : Shape).Idx → EReal)
  (a4 : (⟨3, ![1, 512, 1024]⟩ : Shape).Idx → EReal) (a5 : (⟨3, ![1, 1024, 1024]⟩ : Shape).Idx → EReal)
  (a6 : (⟨2, ![1, 1024]⟩ : Shape).Idx → EReal) (a7 : (⟨3, ![1, 1024, 5632]⟩ : Shape).Idx → EReal)
  (a8 : (⟨3, ![1, 3, 5632]⟩ : Shape).Idx → EReal) (a9 : (⟨3, ![1, 2816, 1024]⟩ : Shape).Idx → EReal)

/-- The residual stream at token `t` of sequence `b`. -/
def xRow (b : Fin 8) (t : Fin 2048) : Fin 1024 → EReal :=
  x1 (fun d => a0 (ix3 b t d)) (fun d => a1 (ix3 b t d)) (fun d => a2 (ix3 b t d)) (fun q => a3 (ix3 b q t))
    (fun q d => a4 (ix3 0 q d)) (fun k d => a5 (ix3 0 k d))

/-- The up projection at a token. -/
def uRow (b : Fin 8) (t : Fin 2048) : Fin 5632 → EReal :=
  up (xn (xRow a0 a1 a2 a3 a4 a5 b t) (fun d => a6 (ix2 0 d))) (fun k n => a7 (ix3 0 k n))

/-- The row `k` tokens back, zero before the first token. -/
def back (u : Fin 2048 → Fin 5632 → EReal) (k : Nat) (t : Fin 2048) (n : Fin 5632) : EReal :=
  if h : k ≤ t.val then u ⟨t.val - k, by omega⟩ n else 0

/-- The result at token `t` of sequence `b`, column `d`. -/
def token (b : Fin 8) (t : Fin 2048) (d : Fin 1024) : EReal :=
  out (xRow a0 a1 a2 a3 a4 a5 b t)
    (hid (cv (fun j n => a8 (ix3 0 j n)) (back (uRow a0 a1 a2 a3 a4 a5 a6 a7 b) 2 t)
      (back (uRow a0 a1 a2 a3 a4 a5 a6 a7 b) 1 t) (uRow a0 a1 a2 a3 a4 a5 a6 a7 b t)))
    (fun n d => a9 (ix3 0 n d)) d

end FfnMath
-- ==== Proof.Shift.lean ====
/-
  A convolution's row buffer: eight rows from before the block, then the block; reading it `d` rows early gives the
  block shifted down by `d` rows.
-/
module

public import Idealize.ShloMosaic.Lib.Pipeline.Value
public import Idealize.ShloMosaic.Lib.Pointwise

@[expose] public section

noncomputable section

namespace Shift

open Idealize.ShloMosaic

variable {sig : RefSig} {κ : Kind} {sp : Space} {e : EltTy} {Val : EltTy → Type} [∀ e, Nonempty (Val e)]

/-- The rows `a` shifted down by `d`, the first `d` rows taken from the end of the eight rows `b`. -/
def rowsDown {α : Type} {n L : Nat} (d : Nat) (hd : d ≤ 8) (a : (⟨3, ![1, n, L]⟩ : Shape).Idx → α)
    (b : (⟨3, ![1, 8, L]⟩ : Shape).Idx → α) : (⟨3, ![1, n, L]⟩ : Shape).Idx → α := fun y =>
  if h : (y 1).val < d then b (ix3 0 ⟨8 - d + (y 1).val, by omega⟩ (y 2))
  else a (ix3 0 ⟨(y 1).val - d, by have : (y 1).val < n := (y 1).isLt; omega⟩ (y 2))

/-- The buffer read from row `o = 8 - d` on, after the block was stored behind the eight rows. -/
theorem readCov_rowsDown {C R n L : Nat} (o d : Nat) (hod : o + d = 8)
    (v : View sig κ sp (⟨3, ![C, R, L]⟩ : Shape) e) (s : Nat)
    (a : (⟨3, ![1, n, L]⟩ : Shape).Idx → Val e) (b : (⟨3, ![1, 8, L]⟩ : Shape).Idx → Val e)
    (P : List (View.Piece Val (⟨3, ![C, R, L]⟩ : Shape) e))
    (i1 : ∀ x, (![s, 8, 0] : Fin 3 → Nat) x + (⟨3, ![1, n, L]⟩ : Shape).size x ≤ (⟨3, ![C, R, L]⟩ : Shape).size x)
    (i2 : ∀ x, (![s, 0, 0] : Fin 3 → Nat) x + (⟨3, ![1, 8, L]⟩ : Shape).size x ≤ (⟨3, ![C, R, L]⟩ : Shape).size x)
    (i3 : ∀ x, (![s, o, 0] : Fin 3 → Nat) x + (⟨3, ![1, n, L]⟩ : Shape).size x ≤ (⟨3, ![C, R, L]⟩ : Shape).size x) :
    v.readCov ((⟨Rect.unit (s := (⟨3, ![C, R, L]⟩ : Shape)) ![s, 8, 0] (⟨3, ![1, n, L]⟩ : Shape).size i1, a⟩ : View.Piece Val (⟨3, ![C, R, L]⟩ : Shape) e)
        :: (⟨Rect.unit (s := (⟨3, ![C, R, L]⟩ : Shape)) ![s, 0, 0] (⟨3, ![1, 8, L]⟩ : Shape).size i2, b⟩ : View.Piece Val (⟨3, ![C, R, L]⟩ : Shape) e) :: P)
      (Rect.unit (s := (⟨3, ![C, R, L]⟩ : Shape)) ![s, o, 0] (⟨3, ![1, n, L]⟩ : Shape).size i3).toLoadRect
      = rowsDown d (by omega) a b := by
  rw [View.readCov_eq_canon']
  funext y
  have hy0 : (y 0).val < 1 := (y 0).isLt
  have hy1 : (y 1).val < n := (y 1).isLt
  have hy2 : (y 2).val < L := (y 2).isLt
  unfold rowsDown
  by_cases h : (y 1).val < d
  · rw [dif_pos h, View.canon_cons_of_not_mem]
    · have := View.canon_cons_emb (Val := Val) (e := e)
        (Rect.unit (s := (⟨3, ![C, R, L]⟩ : Shape)) ![s, 0, 0] (⟨3, ![1, 8, L]⟩ : Shape).size i2) b P
        (ix3 0 ⟨8 - d + (y 1).val, by omega⟩ (y 2))
      refine Eq.trans (congrArg _ ?_) this
      funext x
      apply Fin.ext
      match x with
      | ⟨0, _⟩ => show s + 1 * (y 0).val = s + 1 * 0; omega
      | ⟨1, _⟩ => show o + 1 * (y 1).val = 0 + 1 * (8 - d + (y 1).val); omega
      | ⟨2, _⟩ => rfl
    · intro hm
      have := ((Rect.mem_set_unit (inb := i1)).mp hm (1 : Fin 3)).1
      have h8 : 8 ≤ o + 1 * (y 1).val := this
      omega
  · rw [dif_neg h]
    have := View.canon_cons_emb (Val := Val) (e := e)
      (Rect.unit (s := (⟨3, ![C, R, L]⟩ : Shape)) ![s, 8, 0] (⟨3, ![1, n, L]⟩ : Shape).size i1) a
      ((⟨Rect.unit (s := (⟨3, ![C, R, L]⟩ : Shape)) ![s, 0, 0] (⟨3, ![1, 8, L]⟩ : Shape).size i2, b⟩ : View.Piece Val (⟨3, ![C, R, L]⟩ : Shape) e) :: P)
      (ix3 0 ⟨(y 1).val - d, by omega⟩ (y 2))
    refine Eq.trans (congrArg _ ?_) this
    funext x
    apply Fin.ext
    match x with
    | ⟨0, _⟩ => show s + 1 * (y 0).val = s + 1 * 0; omega
    | ⟨1, _⟩ => show o + 1 * (y 1).val = 8 + 1 * ((y 1).val - d); omega
    | ⟨2, _⟩ => rfl

/-- What a list of stores leaves at an index some of the newer ones cover, when those all store parts of one function. -/
theorem canon_append_of_pieces {S : Shape} (G : S.Idx → Val e) :
    ∀ (L M : List (View.Piece Val S e)) (_ : ∀ p ∈ L, ∀ x : p.1.shape.Idx, p.2 x = G (p.1.emb x)) (y : S.Idx)
      (_ : ∃ p ∈ L, y ∈ p.1.set), View.canon (L ++ M) y = G y
  | [], _, _, _, hy => by obtain ⟨p, hp, _⟩ := hy; simp at hp
  | p :: L, M, hL, y, hy => by
    by_cases hm : y ∈ p.1.set
    · obtain ⟨x, rfl⟩ := p.1.exists_idx_of_mem hm
      exact (View.canon_cons_emb p.1 p.2 (L ++ M) x).trans (hL p (List.mem_cons_self ..) x)
    · refine (View.canon_cons_of_not_mem p (L ++ M) hm).trans ?_
      refine canon_append_of_pieces G L M (fun q hq => hL q (List.mem_cons_of_mem _ hq)) y ?_
      obtain ⟨q, hq, hy⟩ := hy
      rcases List.mem_cons.mp hq with rfl | h
      · exact absurd hy hm
      · exact ⟨q, h, hy⟩

end Shift
-- ==== Proof.Block.lean ====
/-
  What one block of the feed-forward call computes: its hidden rows, from the normalised rows, the weights and the
  last rows of the block before.
-/
module

public import proofs.«01_k».proof.Proof.Gen.KernelIdeal.Frame.RunA
public import proofs.«01_k».proof.Proof.Gen.KernelIdeal.Frame.RunB
public import proofs.«01_k».proof.Proof.FfnMath
public import proofs.«01_k».proof.Proof.Shift
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- Row `r` of the up projection of the block. -/
def upRow (xn : FVec Ideal S512x1024 .bf16) (w : FVec Ideal S1024x5632 .bf16) (r : Fin 512) (n : Fin 5632) : EReal :=
  FfnMath.up (fun k => xn (ix2 r k)) (fun k n => w (ix2 k n)) n

/-- The row `d` before row `r`: the block's own, or one of the eight rows carried from the block before. -/
def backRow (p : FVec Ideal S8x5632 .f32) (xn : FVec Ideal S512x1024 .bf16) (w : FVec Ideal S1024x5632 .bf16) (d : Nat)
    (hd : d ≤ 8) (r : Fin 512) (n : Fin 5632) : EReal :=
  if h : r.val < d then p (ix2 ⟨8 - d + r.val, by omega⟩ n) else upRow xn w ⟨r.val - d, by omega⟩ n

/-- The convolved row. -/
def cvRow (p : FVec Ideal S8x5632 .f32) (xn : FVec Ideal S512x1024 .bf16) (w : FVec Ideal S1024x5632 .bf16)
    (wc : FVec Ideal S3x5632 .f32) (r : Fin 512) : Fin 5632 → EReal :=
  FfnMath.cv (fun j n => wc (ix2 j n)) (backRow p xn w 2 (by decide) r) (backRow p xn w 1 (by decide) r) (upRow xn w r)

/-- The hidden block. -/
def hidBlk (p : FVec Ideal S8x5632 .f32) (xn : FVec Ideal S512x1024 .bf16) (w : FVec Ideal S1024x5632 .bf16)
    (wc : FVec Ideal S3x5632 .f32) : FVec Ideal S512x2816 .bf16 := fun i =>
  FfnMath.hid (cvRow p xn w wc (i 0)) (i 1)

/-- The convolution buffer read 1 row(s) early, as the block's run writes the read. -/
theorem readCov7 {Val : EltTy → Type} [∀ e, Nonempty (Val e)] (v : View sig .tc .vmem S16x520x128 .f32) (s : Nat)
    (a : S1x512x128.Idx → Val .f32) (b : S1x8x128.Idx → Val .f32) (P : List (View.Piece Val S16x520x128 .f32))
    (i1 : ∀ x, (![s, 8, 0] : Fin 3 → Nat) x + (![1, 512, 128] : Fin 3 → Nat) x ≤ S16x520x128.size x)
    (i2 : ∀ x, (![s, 0, 0] : Fin 3 → Nat) x + (![1, 8, 128] : Fin 3 → Nat) x ≤ S16x520x128.size x)
    (i3 : ∀ x, (![s, 7, 0] : Fin 3 → Nat) x + (![1, 512, 128] : Fin 3 → Nat) x ≤ S16x520x128.size x) :
    v.readCov (⟨Rect.unit (s := S16x520x128) ![s, 8, 0] ![1, 512, 128] i1, a⟩
        :: ⟨Rect.unit (s := S16x520x128) ![s, 0, 0] ![1, 8, 128] i2, b⟩ :: P)
      (Rect.unit (s := S16x520x128) ![s, 7, 0] ![1, 512, 128] i3).toLoadRect
      = Shift.rowsDown (n := 512) (L := 128) 1 (by decide) a b :=
  Shift.readCov_rowsDown 7 1 rfl v s a b P i1 i2 i3

/-- The convolution buffer read 2 row(s) early, as the block's run writes the read. -/
theorem readCov6 {Val : EltTy → Type} [∀ e, Nonempty (Val e)] (v : View sig .tc .vmem S16x520x128 .f32) (s : Nat)
    (a : S1x512x128.Idx → Val .f32) (b : S1x8x128.Idx → Val .f32) (P : List (View.Piece Val S16x520x128 .f32))
    (i1 : ∀ x, (![s, 8, 0] : Fin 3 → Nat) x + (![1, 512, 128] : Fin 3 → Nat) x ≤ S16x520x128.size x)
    (i2 : ∀ x, (![s, 0, 0] : Fin 3 → Nat) x + (![1, 8, 128] : Fin 3 → Nat) x ≤ S16x520x128.size x)
    (i3 : ∀ x, (![s, 6, 0] : Fin 3 → Nat) x + (![1, 512, 128] : Fin 3 → Nat) x ≤ S16x520x128.size x) :
    v.readCov (⟨Rect.unit (s := S16x520x128) ![s, 8, 0] ![1, 512, 128] i1, a⟩
        :: ⟨Rect.unit (s := S16x520x128) ![s, 0, 0] ![1, 8, 128] i2, b⟩ :: P)
      (Rect.unit (s := S16x520x128) ![s, 6, 0] ![1, 512, 128] i3).toLoadRect
      = Shift.rowsDown (n := 512) (L := 128) 2 (by decide) a b :=
  Shift.readCov_rowsDown 6 2 rfl v s a b P i1 i2 i3

/-- The last eight rows of the up projection, carried to the next block. -/
def haloBlk (xn : FVec Ideal S512x1024 .bf16) (w : FVec Ideal S1024x5632 .bf16) : FVec Ideal S8x5632 .f32 := fun i =>
  upRow xn w ⟨504 + (i 0).val, by have : (i 0).val < 8 := (i 0).isLt; omega⟩ (i 1)

/-- Row `r` of the residual stream of the block, after the merge. -/
def x1Row (x0 : FVec Ideal S1x512x1024 .f32) (x1 x2 : FVec Ideal S1x512x1024 .bf16) (x3 : FVec Ideal S1x512x512 .bf16)
    (x4 : FVec Ideal S512x1024 .bf16) (x5 : FVec Ideal S1024x1024 .bf16) (r : Fin 512) : Fin 1024 → EReal :=
  FfnMath.x1 (fun d => x0 (ix3 0 r d)) (fun d => x1 (ix3 0 r d)) (fun d => x2 (ix3 0 r d)) (fun q => x3 (ix3 0 q r))
    (fun q d => x4 (ix2 q d)) (fun k d => x5 (ix2 k d))

/-- The normalised block. -/
def xnBlk (x0 : FVec Ideal S1x512x1024 .f32) (x1 x2 : FVec Ideal S1x512x1024 .bf16) (x3 : FVec Ideal S1x512x512 .bf16)
    (x4 : FVec Ideal S512x1024 .bf16) (x5 : FVec Ideal S1024x1024 .bf16) (x6 : FVec Ideal S1x1024 .f32) :
    FVec Ideal S512x1024 .bf16 := fun i =>
  FfnMath.xn (x1Row x0 x1 x2 x3 x4 x5 (i 0)) (fun d => x6 (ix2 0 d)) (i 1)

/-- The result block. -/
def outBlk (p : FVec Ideal S8x5632 .f32) (x0 : FVec Ideal S1x512x1024 .f32) (x1 x2 : FVec Ideal S1x512x1024 .bf16)
    (x3 : FVec Ideal S1x512x512 .bf16) (x4 : FVec Ideal S512x1024 .bf16) (x5 : FVec Ideal S1024x1024 .bf16)
    (x6 : FVec Ideal S1x1024 .f32) (x7 : FVec Ideal S1024x5632 .bf16) (x8 : FVec Ideal S3x5632 .f32)
    (x9 : FVec Ideal S2816x1024 .bf16) : FVec Ideal S1x512x1024 .f32 := fun i =>
  FfnMath.out (x1Row x0 x1 x2 x3 x4 x5 (i 1)) (FfnMath.hid (cvRow p (xnBlk x0 x1 x2 x3 x4 x5 x6) x7 x8 (i 1)))
    (fun n d => x9 (ix2 n d)) (i 2)

theorem pay3_apply (v0 : FVec Ideal S1x512x512 .bf16) (v2 : FVec Ideal S512x1024 .bf16) (v5 v8 : FVec Ideal S1x512x1024 .bf16)
    (v14 : FVec Ideal S1x512x1024 .f32) (v16 : FVec Ideal S1024x1024 .bf16) (r : Fin 512) (d : Fin 1024) :
    k0_pay3 (F := Ideal) v0 v2 v5 v8 v14 v16 (ix2 r d) = x1Row v14 v5 v8 v0 v2 v16 r d := by
  unfold k0_pay3 x1Row FfnMath.x1
  pointwise

theorem pay4_eq (v0 : FVec Ideal S1x512x512 .bf16) (v2 : FVec Ideal S512x1024 .bf16) (v5 v8 : FVec Ideal S1x512x1024 .bf16)
    (v14 : FVec Ideal S1x512x1024 .f32) (v16 : FVec Ideal S1024x1024 .bf16) (v20 : FVec Ideal S1x1024 .f32) :
    k0_pay4 (F := Ideal) v0 v2 v5 v8 v14 v16 v20 = xnBlk v14 v5 v8 v0 v2 v16 v20 := by
  funext j
  idx_vars j
  show _ = FfnMath.xn (x1Row v14 v5 v8 v0 v2 v16 _) _ _
  unfold k0_pay4 FfnMath.xn
  have h := pay3_apply v0 v2 v5 v8 v14 v16
  generalize k0_pay3 (F := Ideal) v0 v2 v5 v8 v14 v16 = y at h ⊢
  pointwise
  simp only [h]

theorem pay2_apply (v19 : FVec Ideal S512x1024 .f32) (v : FVec Ideal S512x2816 .bf16) (w : FVec Ideal S2816x1024 .bf16)
    (b : Fin 1) (r : Fin 512) (d : Fin 1024) :
    k0_pay2 (F := Ideal) v19 v w (ix3 b r d)
      = FfnMath.out (fun d => v19 (ix2 r d)) (fun n => v (ix2 r n)) (fun n d => w (ix2 n d)) d := by
  unfold k0_pay2 FfnMath.out
  pointwise

/-- Stored column groups hold what the whole rows hold there. -/
theorem cols_emb {α : Type} {R C W : Nat} (o : Nat)
    (inb : ∀ a, (![0, o] : Fin 2 → Nat) a + (![R, W] : Fin 2 → Nat) a ≤ (⟨2, ![R, C]⟩ : Shape).size a)
    (f : (⟨2, ![R, W]⟩ : Shape).Idx → α) (G : (⟨2, ![R, C]⟩ : Shape).Idx → α)
    (h : ∀ (r : Fin R) (k : Fin W) (hk : o + k.val < C), f (ix2 r k) = G (ix2 r ⟨o + k.val, hk⟩))
    (x : (⟨2, ![R, W]⟩ : Shape).Idx) :
    f x = G ((Rect.unit (s := ⟨2, ![R, C]⟩) ![0, o] ![R, W] inb).emb x) := by
  have hx : (x 1).val < W := (x 1).isLt
  have hb : o + W ≤ C := inb (1 : Fin 2)
  have e1 : f x = f (ix2 (x 0) (x 1)) := congrArg f (by funext a; match a with | ⟨0, _⟩ => rfl | ⟨1, _⟩ => rfl)
  rw [e1, h (x 0) (x 1) (by omega)]
  refine congrArg G ?_
  funext a
  apply Fin.ext
  match a with
  | ⟨0, _⟩ => show (x 0).val = 0 + 1 * (x 0).val; omega
  | ⟨1, _⟩ => show o + (x 1).val = o + 1 * (x 1).val; omega

@[pointwise] theorem rowsDown_ix3 (d : Nat) (hd : d ≤ 8) (a : S1x512x128.Idx → Ideal .f32)
    (b : S1x8x128.Idx → Ideal .f32) (i : Fin 1) (r : Fin 512) (k : Fin 128) :
    Shift.rowsDown (n := 512) (L := 128) d hd a b (ix3 i r k)
      = if h : r.val < d then b (ix3 0 ⟨8 - d + r.val, by omega⟩ k) else a (ix3 0 ⟨r.val - d, by omega⟩ k) := rfl

/-- The carried rows read at a column block no newer piece touches. -/
theorem halo_skip {Val : EltTy → Type} [∀ e, Nonempty (Val e)] (v : View sig .tc .vmem S8x5632 .f32) (o o' : Nat)
    (h : o + 256 ≤ o' ∨ o' + 256 ≤ o) (a : S8x256.Idx → Val .f32) (L : List (View.Piece Val S8x5632 .f32))
    (i1 : ∀ x, (![0, o'] : Fin 2 → Nat) x + (![8, 256] : Fin 2 → Nat) x ≤ S8x5632.size x)
    (i2 : ∀ x, (![0, o] : Fin 2 → Nat) x + (![8, 256] : Fin 2 → Nat) x ≤ S8x5632.size x) :
    v.readCov (⟨Rect.unit (s := S8x5632) ![0, o'] ![8, 256] i1, a⟩ :: L)
      (Rect.unit (s := S8x5632) ![0, o] ![8, 256] i2).toLoadRect
      = v.readCov L (Rect.unit (s := S8x5632) ![0, o] ![8, 256] i2).toLoadRect := by
  rw [View.readCov_eq_canon', View.readCov_eq_canon']
  funext y
  refine View.canon_cons_of_not_mem _ _ fun hm => ?_
  have hy : (y 1).val < 256 := (y 1).isLt
  have := (Rect.mem_set_unit (inb := i1)).mp hm (1 : Fin 2)
  have h1 : o' ≤ o + 1 * (y 1).val := this.1
  have h2 : o + 1 * (y 1).val < o' + 256 := this.2
  omega

/-- The carried rows right after they were cleared. -/
theorem halo_zero (v : View sig .tc .vmem S8x5632 .f32) (o : Nat)
    (i1 : ∀ x, (![0, 0] : Fin 2 → Nat) x + (![8, 5632] : Fin 2 → Nat) x ≤ S8x5632.size x)
    (i2 : ∀ x, (![0, o] : Fin 2 → Nat) x + (![8, 256] : Fin 2 → Nat) x ≤ S8x5632.size x) :
    v.readCov (Val := Elt Ideal) [⟨Rect.unit (s := S8x5632) ![0, 0] ![8, 5632] i1, k0_pay5 (F := Ideal)⟩]
      (Rect.unit (s := S8x5632) ![0, o] ![8, 256] i2).toLoadRect = fun _ => (0 : EReal) := by
  rw [View.readCov_eq_canon']
  funext y
  have := View.canon_cons_emb (Val := Elt Ideal) (e := .f32) (Rect.unit (s := S8x5632) ![0, 0] ![8, 5632] i1)
    (k0_pay5 (F := Ideal)) [] ((Rect.unit (s := S8x5632) ![0, o] ![8, 256] i2).emb y)
  refine (Eq.trans (congrArg _ ?_) this).trans ?_
  · funext x
    apply Fin.ext
    match x with
    | ⟨0, _⟩ => show 0 + 1 * (y 0).val = 0 + 1 * (0 + 1 * (y 0).val); omega
    | ⟨1, _⟩ => show o + 1 * (y 1).val = 0 + 1 * (o + 1 * (y 1).val); omega
  · generalize (Rect.unit (s := S8x5632) ![0, o] ![8, 256] i2).emb y = j
    unfold k0_pay5
    pointwise

/-- A load of a whole buffer holding `X` reads the part of `X`. -/
@[pointwise] theorem readAt_unread {Val : EltTy → Type} {κ : Kind} {sp : Space} {s : Shape} {e : EltTy} (m : Memref sig κ sp s e)
    (h : m.IsWhole) (X : s.Idx → Val e) (r : Rect s) :
    View.readAt Val m.view r.toLoadRect (h.unread X) = View.ld X r := by
  rw [View.readAt_eq_ld, h.read_unread]

/-- A load of all of a two-axis buffer. -/
theorem readAt_whole2 {Val : EltTy → Type} {κ : Kind} {sp : Space} {A B : Nat} {e : EltTy}
    (m : Memref sig κ sp (⟨2, ![A, B]⟩ : Shape) e) (h : m.IsWhole) (X : (⟨2, ![A, B]⟩ : Shape).Idx → Val e)
    (inb : ∀ a, (![0, 0] : Fin 2 → Nat) a + (![A, B] : Fin 2 → Nat) a ≤ (⟨2, ![A, B]⟩ : Shape).size a) :
    View.readAt Val m.view (Rect.unit (s := ⟨2, ![A, B]⟩) ![0, 0] ![A, B] inb).toLoadRect (h.unread X) = X := by
  rw [readAt_unread]
  exact View.ld_unit_zero (S := ⟨2, ![A, B]⟩) (by funext a; match a with | ⟨0, _⟩ => rfl | ⟨1, _⟩ => rfl) inb X

/-- A load of all of a three-axis buffer. -/
theorem readAt_whole3 {Val : EltTy → Type} {κ : Kind} {sp : Space} {A B C : Nat} {e : EltTy}
    (m : Memref sig κ sp (⟨3, ![A, B, C]⟩ : Shape) e) (h : m.IsWhole) (X : (⟨3, ![A, B, C]⟩ : Shape).Idx → Val e)
    (inb : ∀ a, (![0, 0, 0] : Fin 3 → Nat) a + (![A, B, C] : Fin 3 → Nat) a ≤ (⟨3, ![A, B, C]⟩ : Shape).size a) :
    View.readAt Val m.view (Rect.unit (s := ⟨3, ![A, B, C]⟩) ![0, 0, 0] ![A, B, C] inb).toLoadRect (h.unread X) = X := by
  rw [readAt_unread]
  exact View.ld_unit_zero (S := ⟨3, ![A, B, C]⟩)
    (by funext a; match a with | ⟨0, _⟩ => rfl | ⟨1, _⟩ => rfl | ⟨2, _⟩ => rfl) inb X

end Cert.KernelIdeal.Value
-- ==== Proof.HidA0.lean ====
/-
  The hidden block in case A of the body, the first block of a sequence (nothing carried in): what each stored group of 256 columns holds
  (groups 0 to 3).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16)

set_option maxHeartbeats 4000000 in
/-- Columns 0 to 255 of the hidden block. -/
theorem pieceA_0 (r : Fin 512) (k : Fin 256) :
    (k0_pay26 (kernelRun0_A.sl.r_3 c arg2 harg2 arg3 harg3 arg4 harg4 arg5 harg5 arg6 harg6 arg7 harg7 arg8 harg8 arg9 harg9 x0 x1 x2 x3 x4 x5 x6 x7) (kernelRun0_A.sl.r_8 c arg2 harg2 arg3 harg3 arg4 harg4 arg5 harg5 arg6 harg6 arg7 harg7 arg8 harg8 arg9 harg9 arg10 harg10 arg13 arg14 x0 x1 x2 x3 x4 x5 x6 x7 x8) (kernelRun0_A.sl.r_10 c arg10 harg10 x8) (kernelRun0_A.sl.r_11 c arg2 harg2 arg3 harg3 arg4 harg4 arg5 harg5 arg6 harg6 arg7 harg7 arg8 harg8 arg9 harg9 arg10 harg10 arg13 arg14 x0 x1 x2 x3 x4 x5 x6 x7 x8) (kernelRun0_A.sl.v141 c arg2 harg2 arg3 harg3 arg4 harg4 arg5 harg5 arg6 harg6 arg7 harg7 arg8 harg8 arg9 harg9 arg13 arg14 x0 x1 x2 x3 x4 x5 x6 x7) (kernelRun0_A.sl.v143 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨0 + k.val, by omega⟩) := by
  have hr_2 : ∀ (r : Fin 512) (k : Fin 256), kernelRun0_A.sl.r_2 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨0 + k.val, by omega⟩ := by
    intro r k; unfold kernelRun0_A.sl.r_2 k0_pay6 upRow FfnMath.up; pointwise
  have hr_3 : ∀ (r : Fin 512) (k : Fin 256), kernelRun0_A.sl.r_3 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨2816 + k.val, by omega⟩ := by
    intro r k; unfold kernelRun0_A.sl.r_3 k0_pay7 upRow FfnMath.up; pointwise
  simp (disch := decide) only [kernelRun0_A.sl.HS0_1, kernelRun0_A.sl.HS0_2, kernelRun0_A.sl.HS1_2, kernelRun0_A.sl.HS1_4, kernelRun0_A.sl.HS1_6, kernelRun0_A.sl.HS1_8, kernelRun0_A.sl.r_10, kernelRun0_A.sl.r_11, kernelRun0_A.sl.r_12, kernelRun0_A.sl.r_6, kernelRun0_A.sl.r_7, kernelRun0_A.sl.r_8, kernelRun0_A.sl.v106, kernelRun0_A.sl.v117, kernelRun0_A.sl.v119, kernelRun0_A.sl.v141, kernelRun0_A.sl.v143, kernelRun0_A.sl.v50, kernelRun0_A.sl.v61, kernelRun0_A.sl.v63, kernelRun0_A.sl.v85, kernelRun0_A.sl.v87, readCov7, readCov6, halo_skip, halo_zero]
  generalize kernelRun0_A.sl.r_2 c arg2 harg2 arg3 harg3 arg4 harg4 arg5 harg5 arg6 harg6 arg7 harg7 arg8 harg8 arg9 harg9 x0 x1 x2 x3 x4 x5 x6 x7 = ur_2 at hr_2 ⊢
  generalize kernelRun0_A.sl.r_3 c arg2 harg2 arg3 harg3 arg4 harg4 arg5 harg5 arg6 harg6 arg7 harg7 arg8 harg8 arg9 harg9 x0 x1 x2 x3 x4 x5 x6 x7 = ur_3 at hr_3 ⊢
  generalize kernelRun0_A.sl.r_1 c arg2 harg2 arg3 harg3 arg4 harg4 arg5 harg5 arg6 harg6 arg7 harg7 arg8 harg8 x0 x1 x2 x3 x4 x5 x6 = xn at *
  unfold k0_pay26 k0_pay24 k0_pay23 k0_pay22 k0_pay21 k0_pay20 k0_pay19 k0_pay18 k0_pay16 k0_pay15 k0_pay14 k0_pay13 k0_pay12 k0_pay11 k0_pay10 k0_pay6
  pointwise
  have ec : (⟨2816 + k.val, by omega⟩ : Fin 5632) = ⟨2816 + k.val, by omega⟩ :=
    Fin.ext (by show 2816 + k.val = 2816 + k.val; omega)
  show _ = FfnMath.hid (cvRow (fun _ => (0 : EReal)) xn x7 x8 r) ⟨k.val, by omega⟩
  unfold FfnMath.hid cvRow FfnMath.cv backRow
  simp only [ec, Ideal.logistic, hr_2, hr_3, upRow, FfnMath.up, Nat.zero_add]
  by_cases hk : k.val < 128
  · simp only [hk, ↓reduceDIte]
  · have ek : 128 + (k.val - 128) = k.val := by omega
    simp only [hk, ↓reduceDIte, ek]

set_option maxHeartbeats 4000000 in
/-- Columns 256 to 511 of the hidden block. -/
theorem pieceA_1 (r : Fin 512) (k : Fin 256) :
    (k0_pay48 (kernelRun0_A.sl.r_24 c arg2 harg2 arg3 harg3 arg4 harg4 arg5 harg5 arg6 harg6 arg7 harg7 arg8 harg8 arg9 harg9 arg10 harg10 arg13 arg14 x0 x1 x2 x3 x4 x5 x6 x7 x8)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨256 + k.val, by omega⟩) := by
  have hr_4 : ∀ (r : Fin 512) (k : Fin 256), kernelRun0_A.sl.r_4 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨256 + k.val, by omega⟩ := by
    intro r k; unfold kernelRun0_A.sl.r_4 k0_pay8 upRow FfnMath.up; pointwise
  have hr_5 : ∀ (r : Fin 512) (k : Fin 256), kernelRun0_A.sl.r_5 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨3072 + k.val, by omega⟩ := by
    intro r k; unfold kernelRun0_A.sl.r_5 k0_pay9 upRow FfnMath.up; pointwise
  simp (disch := decide) only [kernelRun0_A.sl.HS0_1, kernelRun0_A.sl.HS0_2, kernelRun0_A.sl.HS0_3, kernelRun0_A.sl.HS0_4, kernelRun0_A.sl.HS1_10, kernelRun0_A.sl.HS1_12, kernelRun0_A.sl.HS1_14, kernelRun0_A.sl.HS1_16, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.v175, kernelRun0_A.sl.v186, kernelRun0_A.sl.v188, kernelRun0_A.sl.v210, kernelRun0_A.sl.v212, kernelRun0_A.sl.v231, kernelRun0_A.sl.v242, kernelRun0_A.sl.v244, kernelRun0_A.sl.v266, kernelRun0_A.sl.v268, readCov7, readCov6, halo_skip, halo_zero]
  generalize kernelRun0_A.sl.r_4 c arg2 harg2 arg3 harg3 arg4 harg4 arg5 harg5 arg6 harg6 arg7 harg7 arg8 harg8 arg9 harg9 x0 x1 x2 x3 x4 x5 x6 x7 = ur_4 at hr_4 ⊢
  generalize kernelRun0_A.sl.r_5 c arg2 harg2 arg3 harg3 arg4 harg4 arg5 harg5 arg6 harg6 arg7 harg7 arg8 harg8 arg9 harg9 x0 x1 x2 x3 x4 x5 x6 x7 = ur_5 at hr_5 ⊢
  generalize kernelRun0_A.sl.r_1 c arg2 harg2 arg3 harg3 arg4 harg4 arg5 harg5 arg6 harg6 arg7 harg7 arg8 harg8 x0 x1 x2 x3 x4 x5 x6 = xn at *
  unfold k0_pay48 k0_pay47 k0_pay45 k0_pay44 k0_pay43 k0_pay42 k0_pay41 k0_pay40 k0_pay39 k0_pay38 k0_pay36 k0_pay35 k0_pay34 k0_pay33 k0_pay32 k0_pay31 k0_pay30 k0_pay29
  pointwise
  have ec : (⟨2816 + (256 + k.val), by omega⟩ : Fin 5632) = ⟨3072 + k.val, by omega⟩ :=
    Fin.ext (by show 2816 + (256 + k.val) = 3072 + k.val; omega)
  show _ = FfnMath.hid (cvRow (fun _ => (0 : EReal)) xn x7 x8 r) ⟨256 + k.val, by omega⟩
  unfold FfnMath.hid cvRow FfnMath.cv backRow
  simp only [ec, Ideal.logistic, hr_4, hr_5]
  by_cases hk : k.val < 128
  · simp only [hk, ↓reduceDIte]
  · have ek : 128 + (k.val - 128) = k.val := by omega
    simp only [hk, ↓reduceDIte, ek]

set_option maxHeartbeats 4000000 in
/-- Columns 512 to 767 of the hidden block. -/
theorem pieceA_2 (r : Fin 512) (k : Fin 256) :
    (k0_pay71 (kernelRun0_A.sl.r_14 c arg2 harg2 arg3 harg3 arg4 harg4 arg5 harg5 arg6 harg6 arg7 harg7 arg8 harg8 arg9 harg9 x0 x1 x2 x3 x4 x5 x6 x7) (kernelRun0_A.sl.r_31 c arg2 harg2 arg3 harg3 arg4 harg4 arg5 harg5 arg6 harg6 arg7 harg7 arg8 harg8 arg9 harg9 arg10 harg10 arg13 arg14 x0 x1 x2 x3 x4 x5 x6 x7 x8) (kernelRun0_A.sl.r_32 c arg10 harg10 x8) (kernelRun0_A.sl.r_34 c arg2 harg2 arg3 harg3 arg4 harg4 arg5 harg5 arg6 harg6 arg7 harg7 arg8 harg8 arg9 harg9 arg10 harg10 arg13 arg14 x0 x1 x2 x3 x4 x5 x6 x7 x8) (kernelRun0_A.sl.r_35 c arg2 harg2 arg3 harg3 arg4 harg4 arg5 harg5 arg6 harg6 arg7 harg7 arg8 harg8 arg9 harg9 arg13 arg14 x0 x1 x2 x3 x4 x5 x6 x7) (kernelRun0_A.sl.r_36 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨512 + k.val, by omega⟩) := by
  have hr_13 : ∀ (r : Fin 512) (k : Fin 256), kernelRun0_A.sl.r_13 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨512 + k.val, by omega⟩ := by
    intro r k; unfold kernelRun0_A.sl.r_13 k0_pay27 upRow FfnMath.up; pointwise
  have hr_14 : ∀ (r : Fin 512) (k : Fin 256), kernelRun0_A.sl.r_14 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨3328 + k.val, by omega⟩ := by
    intro r k; unfold kernelRun0_A.sl.r_14 k0_pay28 upRow FfnMath.up; pointwise
  simp (disch := decide) only [kernelRun0_A.sl.HS0_1, kernelRun0_A.sl.HS0_2, kernelRun0_A.sl.HS0_3, kernelRun0_A.sl.HS0_4, kernelRun0_A.sl.HS0_5, kernelRun0_A.sl.HS0_6, kernelRun0_A.sl.HS1_18, kernelRun0_A.sl.HS1_20, kernelRun0_A.sl.HS1_22, kernelRun0_A.sl.HS1_24, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.v300, kernelRun0_A.sl.v311, kernelRun0_A.sl.v313, kernelRun0_A.sl.v335, kernelRun0_A.sl.v337, kernelRun0_A.sl.v356, kernelRun0_A.sl.v367, kernelRun0_A.sl.v369, kernelRun0_A.sl.v391, kernelRun0_A.sl.v393, readCov7, readCov6, halo_skip, halo_zero]
  generalize kernelRun0_A.sl.r_13 c arg2 harg2 arg3 harg3 arg4 harg4 arg5 harg5 arg6 harg6 arg7 harg7 arg8 harg8 arg9 harg9 x0 x1 x2 x3 x4 x5 x6 x7 = ur_13 at hr_13 ⊢
  generalize kernelRun0_A.sl.r_14 c arg2 harg2 arg3 harg3 arg4 harg4 arg5 harg5 arg6 harg6 arg7 harg7 arg8 harg8 arg9 harg9 x0 x1 x2 x3 x4 x5 x6 x7 = ur_14 at hr_14 ⊢
  generalize kernelRun0_A.sl.r_1 c arg2 harg2 arg3 harg3 arg4 harg4 arg5 harg5 arg6 harg6 arg7 harg7 arg8 harg8 x0 x1 x2 x3 x4 x5 x6 = xn at *
  unfold k0_pay71 k0_pay69 k0_pay68 k0_pay67 k0_pay66 k0_pay65 k0_pay64 k0_pay63 k0_pay62 k0_pay61 k0_pay59 k0_pay58 k0_pay57 k0_pay56 k0_pay55 k0_pay54 k0_pay53 k0_pay52 k0_pay51
  pointwise
  have ec : (⟨2816 + (512 + k.val), by omega⟩ : Fin 5632) = ⟨3328 + k.val, by omega⟩ :=
    Fin.ext (by show 2816 + (512 + k.val) = 3328 + k.val; omega)
  show _ = FfnMath.hid (cvRow (fun _ => (0 : EReal)) xn x7 x8 r) ⟨512 + k.val, by omega⟩
  unfold FfnMath.hid cvRow FfnMath.cv backRow
  simp only [ec, Ideal.logistic, hr_13, hr_14]
  by_cases hk : k.val < 128
  · simp only [hk, ↓reduceDIte]
  · have ek : 128 + (k.val - 128) = k.val := by omega
    simp only [hk, ↓reduceDIte, ek]

set_option maxHeartbeats 4000000 in
/-- Columns 768 to 1023 of the hidden block. -/
theorem pieceA_3 (r : Fin 512) (k : Fin 256) :
    (k0_pay92 (kernelRun0_A.sl.r_26 c arg2 harg2 arg3 harg3 arg4 harg4 arg5 harg5 arg6 harg6 arg7 harg7 arg8 harg8 arg9 harg9 x0 x1 x2 x3 x4 x5 x6 x7) (kernelRun0_A.sl.r_43 c arg2 harg2 arg3 harg3 arg4 harg4 arg5 harg5 arg6 harg6 arg7 harg7 arg8 harg8 arg9 harg9 arg10 harg10 arg13 arg14 x0 x1 x2 x3 x4 x5 x6 x7 x8) (kernelRun0_A.sl.r_44 c arg10 harg10 x8) (kernelRun0_A.sl.r_45 c arg2 harg2 arg3 harg3 arg4 harg4 arg5 harg5 arg6 harg6 arg7 harg7 arg8 harg8 arg9 harg9 arg10 harg10 arg13 arg14 x0 x1 x2 x3 x4 x5 x6 x7 x8) (kernelRun0_A.sl.v516 c arg2 harg2 arg3 harg3 arg4 harg4 arg5 harg5 arg6 harg6 arg7 harg7 arg8 harg8 arg9 harg9 arg13 arg14 x0 x1 x2 x3 x4 x5 x6 x7) (kernelRun0_A.sl.v518 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨768 + k.val, by omega⟩) := by
  have hr_25 : ∀ (r : Fin 512) (k : Fin 256), kernelRun0_A.sl.r_25 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨768 + k.val, by omega⟩ := by
    intro r k; unfold kernelRun0_A.sl.r_25 k0_pay49 upRow FfnMath.up; pointwise
  have hr_26 : ∀ (r : Fin 512) (k : Fin 256), kernelRun0_A.sl.r_26 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨3584 + k.val, by omega⟩ := by
    intro r k; unfold kernelRun0_A.sl.r_26 k0_pay50 upRow FfnMath.up; pointwise
  simp (disch := decide) only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS1_26, kernelRun0_A.sl.HS1_28, kernelRun0_A.sl.HS1_30, kernelRun0_A.sl.HS1_32, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.v425, kernelRun0_A.sl.v436, kernelRun0_A.sl.v438, kernelRun0_A.sl.v460, kernelRun0_A.sl.v462, kernelRun0_A.sl.v481, kernelRun0_A.sl.v492, kernelRun0_A.sl.v494, kernelRun0_A.sl.v516, kernelRun0_A.sl.v518, readCov7, readCov6, halo_skip, halo_zero]
  generalize kernelRun0_A.sl.r_25 c arg2 harg2 arg3 harg3 arg4 harg4 arg5 harg5 arg6 harg6 arg7 harg7 arg8 harg8 arg9 harg9 x0 x1 x2 x3 x4 x5 x6 x7 = ur_25 at hr_25 ⊢
  generalize kernelRun0_A.sl.r_26 c arg2 harg2 arg3 harg3 arg4 harg4 arg5 harg5 arg6 harg6 arg7 harg7 arg8 harg8 arg9 harg9 x0 x1 x2 x3 x4 x5 x6 x7 = ur_26 at hr_26 ⊢
  generalize kernelRun0_A.sl.r_1 c arg2 harg2 arg3 harg3 arg4 harg4 arg5 harg5 arg6 harg6 arg7 harg7 arg8 harg8 x0 x1 x2 x3 x4 x5 x6 = xn at *
  unfold k0_pay92 k0_pay90 k0_pay89 k0_pay88 k0_pay87 k0_pay86 k0_pay85 k0_pay84 k0_pay82 k0_pay81 k0_pay80 k0_pay79 k0_pay78 k0_pay77 k0_pay76 k0_pay75 k0_pay74
  pointwise
  have ec : (⟨2816 + (768 + k.val), by omega⟩ : Fin 5632) = ⟨3584 + k.val, by omega⟩ :=
    Fin.ext (by show 2816 + (768 + k.val) = 3584 + k.val; omega)
  show _ = FfnMath.hid (cvRow (fun _ => (0 : EReal)) xn x7 x8 r) ⟨768 + k.val, by omega⟩
  unfold FfnMath.hid cvRow FfnMath.cv backRow
  simp only [ec, Ideal.logistic, hr_25, hr_26]
  by_cases hk : k.val < 128
  · simp only [hk, ↓reduceDIte]
  · have ek : 128 + (k.val - 128) = k.val := by omega
    simp only [hk, ↓reduceDIte, ek]

end Cert.KernelIdeal.Value
-- ==== Proof.HidA1.lean ====
/-
  The hidden block in case A of the body, the first block of a sequence (nothing carried in): what each stored group of 256 columns holds
  (groups 4 to 7).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16)

set_option maxHeartbeats 4000000 in
/-- Columns 1024 to 1279 of the hidden block. -/
theorem pieceA_4 (r : Fin 512) (k : Fin 256) :
    (k0_pay112 (kernelRun0_A.sl.r_52 c arg2 harg2 arg3 harg3 arg4 harg4 arg5 harg5 arg6 harg6 arg7 harg7 arg8 harg8 arg9 harg9 arg10 harg10 arg13 arg14 x0 x1 x2 x3 x4 x5 x6 x7 x8) (kernelRun0_A.sl.r_54 c arg2 harg2 arg3 harg3 arg4 harg4 arg5 harg5 arg6 harg6 arg7 harg7 arg8 harg8 arg9 harg9 arg10 harg10 arg13 arg14 x0 x1 x2 x3 x4 x5 x6 x7 x8) (kernelRun0_A.sl.r_55 c arg2 harg2 arg3 harg3 arg4 harg4 arg5 harg5 arg6 harg6 arg7 harg7 arg8 harg8 arg9 harg9 arg10 harg10 arg13 arg14 x0 x1 x2 x3 x4 x5 x6 x7 x8)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨1024 + k.val, by omega⟩) := by
  have hr_37 : ∀ (r : Fin 512) (k : Fin 256), kernelRun0_A.sl.r_37 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨1024 + k.val, by omega⟩ := by
    intro r k; unfold kernelRun0_A.sl.r_37 k0_pay72 upRow FfnMath.up; pointwise
  have hr_38 : ∀ (r : Fin 512) (k : Fin 256), kernelRun0_A.sl.r_38 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨3840 + k.val, by omega⟩ := by
    intro r k; unfold kernelRun0_A.sl.r_38 k0_pay73 upRow FfnMath.up; pointwise
  simp (disch := decide) only [kernelRun0_A.sl.HS0_1, kernelRun0_A.sl.HS0_10, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_34, kernelRun0_A.sl.HS1_36, kernelRun0_A.sl.HS1_38, kernelRun0_A.sl.HS1_40, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.v550, kernelRun0_A.sl.v561, kernelRun0_A.sl.v563, kernelRun0_A.sl.v585, kernelRun0_A.sl.v587, kernelRun0_A.sl.v606, kernelRun0_A.sl.v617, kernelRun0_A.sl.v619, kernelRun0_A.sl.v641, kernelRun0_A.sl.v643, readCov7, readCov6, halo_skip, halo_zero]
  generalize kernelRun0_A.sl.r_37 c arg2 harg2 arg3 harg3 arg4 harg4 arg5 harg5 arg6 harg6 arg7 harg7 arg8 harg8 arg9 harg9 x0 x1 x2 x3 x4 x5 x6 x7 = ur_37 at hr_37 ⊢
  generalize kernelRun0_A.sl.r_38 c arg2 harg2 arg3 harg3 arg4 harg4 arg5 harg5 arg6 harg6 arg7 harg7 arg8 harg8 arg9 harg9 x0 x1 x2 x3 x4 x5 x6 x7 = ur_38 at hr_38 ⊢
  generalize kernelRun0_A.sl.r_1 c arg2 harg2 arg3 harg3 arg4 harg4 arg5 harg5 arg6 harg6 arg7 harg7 arg8 harg8 x0 x1 x2 x3 x4 x5 x6 = xn at *
  unfold k0_pay112 k0_pay110 k0_pay109 k0_pay108 k0_pay107 k0_pay106 k0_pay105 k0_pay104 k0_pay102 k0_pay101 k0_pay100 k0_pay99 k0_pay98 k0_pay97 k0_pay96 k0_pay95
  pointwise
  have ec : (⟨2816 + (1024 + k.val), by omega⟩ : Fin 5632) = ⟨3840 + k.val, by omega⟩ :=
    Fin.ext (by show 2816 + (1024 + k.val) = 3840 + k.val; omega)
  show _ = FfnMath.hid (cvRow (fun _ => (0 : EReal)) xn x7 x8 r) ⟨1024 + k.val, by omega⟩
  unfold FfnMath.hid cvRow FfnMath.cv backRow
  simp only [ec, Ideal.logistic, hr_37, hr_38]
  by_cases hk : k.val < 128
  · simp only [hk, ↓reduceDIte]
  · have ek : 128 + (k.val - 128) = k.val := by omega
    simp only [hk, ↓reduceDIte, ek]

set_option maxHeartbeats 4000000 in
/-- Columns 1280 to 1535 of the hidden block. -/
theorem pieceA_5 (r : Fin 512) (k : Fin 256) :
    (k0_pay131 (kernelRun0_A.sl.r_48 c arg2 harg2 arg3 harg3 arg4 harg4 arg5 harg5 arg6 harg6 arg7 harg7 arg8 harg8 arg9 harg9 x0 x1 x2 x3 x4 x5 x6 x7) (kernelRun0_A.sl.r_60 c arg2 harg2 arg3 harg3 arg4 harg4 arg5 harg5 arg6 harg6 arg7 harg7 arg8 harg8 arg9 harg9 arg10 harg10 arg13 arg14 x0 x1 x2 x3 x4 x5 x6 x7 x8) (kernelRun0_A.sl.r_62 c arg10 harg10 x8) (kernelRun0_A.sl.r_63 c arg2 harg2 arg3 harg3 arg4 harg4 arg5 harg5 arg6 harg6 arg7 harg7 arg8 harg8 arg9 harg9 arg10 harg10 arg13 arg14 x0 x1 x2 x3 x4 x5 x6 x7 x8) (kernelRun0_A.sl.v766 c arg2 harg2 arg3 harg3 arg4 harg4 arg5 harg5 arg6 harg6 arg7 harg7 arg8 harg8 arg9 harg9 arg13 arg14 x0 x1 x2 x3 x4 x5 x6 x7) (kernelRun0_A.sl.v768 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨1280 + k.val, by omega⟩) := by
  have hr_47 : ∀ (r : Fin 512) (k : Fin 256), kernelRun0_A.sl.r_47 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨1280 + k.val, by omega⟩ := by
    intro r k; unfold kernelRun0_A.sl.r_47 k0_pay93 upRow FfnMath.up; pointwise
  have hr_48 : ∀ (r : Fin 512) (k : Fin 256), kernelRun0_A.sl.r_48 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨4096 + k.val, by omega⟩ := by
    intro r k; unfold kernelRun0_A.sl.r_48 k0_pay94 upRow FfnMath.up; pointwise
  simp (disch := decide) only [kernelRun0_A.sl.HS0_1, kernelRun0_A.sl.HS0_10, kernelRun0_A.sl.HS0_11, kernelRun0_A.sl.HS0_12, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_42, kernelRun0_A.sl.HS1_44, kernelRun0_A.sl.HS1_46, kernelRun0_A.sl.HS1_48, kernelRun0_A.sl.r_58, kernelRun0_A.sl.r_59, kernelRun0_A.sl.r_60, kernelRun0_A.sl.r_62, kernelRun0_A.sl.r_63, kernelRun0_A.sl.r_64, kernelRun0_A.sl.v675, kernelRun0_A.sl.v686, kernelRun0_A.sl.v688, kernelRun0_A.sl.v710, kernelRun0_A.sl.v712, kernelRun0_A.sl.v731, kernelRun0_A.sl.v742, kernelRun0_A.sl.v744, kernelRun0_A.sl.v766, kernelRun0_A.sl.v768, readCov7, readCov6, halo_skip, halo_zero]
  generalize kernelRun0_A.sl.r_47 c arg2 harg2 arg3 harg3 arg4 harg4 arg5 harg5 arg6 harg6 arg7 harg7 arg8 harg8 arg9 harg9 x0 x1 x2 x3 x4 x5 x6 x7 = ur_47 at hr_47 ⊢
  generalize kernelRun0_A.sl.r_48 c arg2 harg2 arg3 harg3 arg4 harg4 arg5 harg5 arg6 harg6 arg7 harg7 arg8 harg8 arg9 harg9 x0 x1 x2 x3 x4 x5 x6 x7 = ur_48 at hr_48 ⊢
  generalize kernelRun0_A.sl.r_1 c arg2 harg2 arg3 harg3 arg4 harg4 arg5 harg5 arg6 harg6 arg7 harg7 arg8 harg8 x0 x1 x2 x3 x4 x5 x6 = xn at *
  unfold k0_pay131 k0_pay129 k0_pay128 k0_pay127 k0_pay126 k0_pay125 k0_pay124 k0_pay123 k0_pay121 k0_pay120 k0_pay119 k0_pay118 k0_pay117 k0_pay116 k0_pay115
  pointwise
  have ec : (⟨2816 + (1280 + k.val), by omega⟩ : Fin 5632) = ⟨4096 + k.val, by omega⟩ :=
    Fin.ext (by show 2816 + (1280 + k.val) = 4096 + k.val; omega)
  show _ = FfnMath.hid (cvRow (fun _ => (0 : EReal)) xn x7 x8 r) ⟨1280 + k.val, by omega⟩
  unfold FfnMath.hid cvRow FfnMath.cv backRow
  simp only [ec, Ideal.logistic, hr_47, hr_48]
  by_cases hk : k.val < 128
  · simp only [hk, ↓reduceDIte]
  · have ek : 128 + (k.val - 128) = k.val := by omega
    simp only [hk, ↓reduceDIte, ek]

set_option maxHeartbeats 4000000 in
/-- Columns 1536 to 1791 of the hidden block. -/
theorem pieceA_6 (r : Fin 512) (k : Fin 256) :
    (k0_pay153 (kernelRun0_A.sl.r_76 c arg2 harg2 arg3 harg3 arg4 harg4 arg5 harg5 arg6 harg6 arg7 harg7 arg8 harg8 arg9 harg9 arg10 harg10 arg13 arg14 x0 x1 x2 x3 x4 x5 x6 x7 x8)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨1536 + k.val, by omega⟩) := by
  have hr_56 : ∀ (r : Fin 512) (k : Fin 256), kernelRun0_A.sl.r_56 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨1536 + k.val, by omega⟩ := by
    intro r k; unfold kernelRun0_A.sl.r_56 k0_pay113 upRow FfnMath.up; pointwise
  have hr_57 : ∀ (r : Fin 512) (k : Fin 256), kernelRun0_A.sl.r_57 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨4352 + k.val, by omega⟩ := by
    intro r k; unfold kernelRun0_A.sl.r_57 k0_pay114 upRow FfnMath.up; pointwise
  simp (disch := decide) only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_50, kernelRun0_A.sl.HS1_52, kernelRun0_A.sl.HS1_54, kernelRun0_A.sl.HS1_56, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.v800, kernelRun0_A.sl.v811, kernelRun0_A.sl.v813, kernelRun0_A.sl.v835, kernelRun0_A.sl.v837, kernelRun0_A.sl.v856, kernelRun0_A.sl.v867, kernelRun0_A.sl.v869, kernelRun0_A.sl.v891, kernelRun0_A.sl.v893, readCov7, readCov6, halo_skip, halo_zero]
  generalize kernelRun0_A.sl.r_56 c arg2 harg2 arg3 harg3 arg4 harg4 arg5 harg5 arg6 harg6 arg7 harg7 arg8 harg8 arg9 harg9 x0 x1 x2 x3 x4 x5 x6 x7 = ur_56 at hr_56 ⊢
  generalize kernelRun0_A.sl.r_57 c arg2 harg2 arg3 harg3 arg4 harg4 arg5 harg5 arg6 harg6 arg7 harg7 arg8 harg8 arg9 harg9 x0 x1 x2 x3 x4 x5 x6 x7 = ur_57 at hr_57 ⊢
  generalize kernelRun0_A.sl.r_1 c arg2 harg2 arg3 harg3 arg4 harg4 arg5 harg5 arg6 harg6 arg7 harg7 arg8 harg8 x0 x1 x2 x3 x4 x5 x6 = xn at *
  unfold k0_pay153 k0_pay152 k0_pay150 k0_pay149 k0_pay148 k0_pay147 k0_pay146 k0_pay145 k0_pay144 k0_pay143 k0_pay141 k0_pay140 k0_pay139 k0_pay138 k0_pay137 k0_pay136 k0_pay135 k0_pay134
  pointwise
  have ec : (⟨2816 + (1536 + k.val), by omega⟩ : Fin 5632) = ⟨4352 + k.val, by omega⟩ :=
    Fin.ext (by show 2816 + (1536 + k.val) = 4352 + k.val; omega)
  show _ = FfnMath.hid (cvRow (fun _ => (0 : EReal)) xn x7 x8 r) ⟨1536 + k.val, by omega⟩
  unfold FfnMath.hid cvRow FfnMath.cv backRow
  simp only [ec, Ideal.logistic, hr_56, hr_57]
  by_cases hk : k.val < 128
  · simp only [hk, ↓reduceDIte]
  · have ek : 128 + (k.val - 128) = k.val := by omega
    simp only [hk, ↓reduceDIte, ek]

set_option maxHeartbeats 4000000 in
/-- Columns 1792 to 2047 of the hidden block. -/
theorem pieceA_7 (r : Fin 512) (k : Fin 256) :
    (k0_pay176 (kernelRun0_A.sl.r_66 c arg2 harg2 arg3 harg3 arg4 harg4 arg5 harg5 arg6 harg6 arg7 harg7 arg8 harg8 arg9 harg9 x0 x1 x2 x3 x4 x5 x6 x7) (kernelRun0_A.sl.r_83 c arg2 harg2 arg3 harg3 arg4 harg4 arg5 harg5 arg6 harg6 arg7 harg7 arg8 harg8 arg9 harg9 arg10 harg10 arg13 arg14 x0 x1 x2 x3 x4 x5 x6 x7 x8) (kernelRun0_A.sl.r_84 c arg10 harg10 x8) (kernelRun0_A.sl.r_86 c arg2 harg2 arg3 harg3 arg4 harg4 arg5 harg5 arg6 harg6 arg7 harg7 arg8 harg8 arg9 harg9 arg10 harg10 arg13 arg14 x0 x1 x2 x3 x4 x5 x6 x7 x8) (kernelRun0_A.sl.r_87 c arg2 harg2 arg3 harg3 arg4 harg4 arg5 harg5 arg6 harg6 arg7 harg7 arg8 harg8 arg9 harg9 arg13 arg14 x0 x1 x2 x3 x4 x5 x6 x7) (kernelRun0_A.sl.r_88 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨1792 + k.val, by omega⟩) := by
  have hr_65 : ∀ (r : Fin 512) (k : Fin 256), kernelRun0_A.sl.r_65 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨1792 + k.val, by omega⟩ := by
    intro r k; unfold kernelRun0_A.sl.r_65 k0_pay132 upRow FfnMath.up; pointwise
  have hr_66 : ∀ (r : Fin 512) (k : Fin 256), kernelRun0_A.sl.r_66 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨4608 + k.val, by omega⟩ := by
    intro r k; unfold kernelRun0_A.sl.r_66 k0_pay133 upRow FfnMath.up; pointwise
  simp (disch := decide) only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_58, kernelRun0_A.sl.HS1_60, kernelRun0_A.sl.HS1_62, kernelRun0_A.sl.HS1_64, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.v1016, kernelRun0_A.sl.v1018, kernelRun0_A.sl.v925, kernelRun0_A.sl.v936, kernelRun0_A.sl.v938, kernelRun0_A.sl.v960, kernelRun0_A.sl.v962, kernelRun0_A.sl.v981, kernelRun0_A.sl.v992, kernelRun0_A.sl.v994, readCov7, readCov6, halo_skip, halo_zero]
  generalize kernelRun0_A.sl.r_65 c arg2 harg2 arg3 harg3 arg4 harg4 arg5 harg5 arg6 harg6 arg7 harg7 arg8 harg8 arg9 harg9 x0 x1 x2 x3 x4 x5 x6 x7 = ur_65 at hr_65 ⊢
  generalize kernelRun0_A.sl.r_66 c arg2 harg2 arg3 harg3 arg4 harg4 arg5 harg5 arg6 harg6 arg7 harg7 arg8 harg8 arg9 harg9 x0 x1 x2 x3 x4 x5 x6 x7 = ur_66 at hr_66 ⊢
  generalize kernelRun0_A.sl.r_1 c arg2 harg2 arg3 harg3 arg4 harg4 arg5 harg5 arg6 harg6 arg7 harg7 arg8 harg8 x0 x1 x2 x3 x4 x5 x6 = xn at *
  unfold k0_pay176 k0_pay174 k0_pay173 k0_pay172 k0_pay171 k0_pay170 k0_pay169 k0_pay168 k0_pay167 k0_pay166 k0_pay164 k0_pay163 k0_pay162 k0_pay161 k0_pay160 k0_pay159 k0_pay158 k0_pay157 k0_pay156
  pointwise
  have ec : (⟨2816 + (1792 + k.val), by omega⟩ : Fin 5632) = ⟨4608 + k.val, by omega⟩ :=
    Fin.ext (by show 2816 + (1792 + k.val) = 4608 + k.val; omega)
  show _ = FfnMath.hid (cvRow (fun _ => (0 : EReal)) xn x7 x8 r) ⟨1792 + k.val, by omega⟩
  unfold FfnMath.hid cvRow FfnMath.cv backRow
  simp only [ec, Ideal.logistic, hr_65, hr_66]
  by_cases hk : k.val < 128
  · simp only [hk, ↓reduceDIte]
  · have ek : 128 + (k.val - 128) = k.val := by omega
    simp only [hk, ↓reduceDIte, ek]

end Cert.KernelIdeal.Value
-- ==== Proof.HidA2.lean ====
/-
  The hidden block in case A of the body, the first block of a sequence (nothing carried in): what each stored group of 256 columns holds
  (groups 8 to 10).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16)

set_option maxHeartbeats 4000000 in
/-- Columns 2048 to 2303 of the hidden block. -/
theorem pieceA_8 (r : Fin 512) (k : Fin 256) :
    (k0_pay197 (kernelRun0_A.sl.r_78 c arg2 harg2 arg3 harg3 arg4 harg4 arg5 harg5 arg6 harg6 arg7 harg7 arg8 harg8 arg9 harg9 x0 x1 x2 x3 x4 x5 x6 x7) (kernelRun0_A.sl.r_95 c arg2 harg2 arg3 harg3 arg4 harg4 arg5 harg5 arg6 harg6 arg7 harg7 arg8 harg8 arg9 harg9 arg10 harg10 arg13 arg14 x0 x1 x2 x3 x4 x5 x6 x7 x8) (kernelRun0_A.sl.r_96 c arg10 harg10 x8) (kernelRun0_A.sl.r_97 c arg2 harg2 arg3 harg3 arg4 harg4 arg5 harg5 arg6 harg6 arg7 harg7 arg8 harg8 arg9 harg9 arg10 harg10 arg13 arg14 x0 x1 x2 x3 x4 x5 x6 x7 x8) (kernelRun0_A.sl.v1141 c arg2 harg2 arg3 harg3 arg4 harg4 arg5 harg5 arg6 harg6 arg7 harg7 arg8 harg8 arg9 harg9 arg13 arg14 x0 x1 x2 x3 x4 x5 x6 x7) (kernelRun0_A.sl.v1143 c arg2 harg2 arg3 harg3 arg4 harg4 arg5 harg5 arg6 harg6 arg7 harg7 arg8 harg8 arg9 harg9 arg13 arg14 x0 x1 x2 x3 x4 x5 x6 x7)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨2048 + k.val, by omega⟩) := by
  have hr_77 : ∀ (r : Fin 512) (k : Fin 256), kernelRun0_A.sl.r_77 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨2048 + k.val, by omega⟩ := by
    intro r k; unfold kernelRun0_A.sl.r_77 k0_pay154 upRow FfnMath.up; pointwise
  have hr_78 : ∀ (r : Fin 512) (k : Fin 256), kernelRun0_A.sl.r_78 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨4864 + k.val, by omega⟩ := by
    intro r k; unfold kernelRun0_A.sl.r_78 k0_pay155 upRow FfnMath.up; pointwise
  simp (disch := decide) only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_66, kernelRun0_A.sl.HS1_68, kernelRun0_A.sl.HS1_70, kernelRun0_A.sl.HS1_72, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.v1050, kernelRun0_A.sl.v1061, kernelRun0_A.sl.v1063, kernelRun0_A.sl.v1085, kernelRun0_A.sl.v1087, kernelRun0_A.sl.v1106, kernelRun0_A.sl.v1117, kernelRun0_A.sl.v1119, kernelRun0_A.sl.v1141, kernelRun0_A.sl.v1143, readCov7, readCov6, halo_skip, halo_zero]
  generalize kernelRun0_A.sl.r_77 c arg2 harg2 arg3 harg3 arg4 harg4 arg5 harg5 arg6 harg6 arg7 harg7 arg8 harg8 arg9 harg9 x0 x1 x2 x3 x4 x5 x6 x7 = ur_77 at hr_77 ⊢
  generalize kernelRun0_A.sl.r_78 c arg2 harg2 arg3 harg3 arg4 harg4 arg5 harg5 arg6 harg6 arg7 harg7 arg8 harg8 arg9 harg9 x0 x1 x2 x3 x4 x5 x6 x7 = ur_78 at hr_78 ⊢
  generalize kernelRun0_A.sl.r_1 c arg2 harg2 arg3 harg3 arg4 harg4 arg5 harg5 arg6 harg6 arg7 harg7 arg8 harg8 x0 x1 x2 x3 x4 x5 x6 = xn at *
  unfold k0_pay197 k0_pay195 k0_pay194 k0_pay193 k0_pay192 k0_pay191 k0_pay190 k0_pay189 k0_pay187 k0_pay186 k0_pay185 k0_pay184 k0_pay183 k0_pay182 k0_pay181 k0_pay180 k0_pay179
  pointwise
  have ec : (⟨2816 + (2048 + k.val), by omega⟩ : Fin 5632) = ⟨4864 + k.val, by omega⟩ :=
    Fin.ext (by show 2816 + (2048 + k.val) = 4864 + k.val; omega)
  show _ = FfnMath.hid (cvRow (fun _ => (0 : EReal)) xn x7 x8 r) ⟨2048 + k.val, by omega⟩
  unfold FfnMath.hid cvRow FfnMath.cv backRow
  simp only [ec, Ideal.logistic, hr_77, hr_78]
  by_cases hk : k.val < 128
  · simp only [hk, ↓reduceDIte]
  · have ek : 128 + (k.val - 128) = k.val := by omega
    simp only [hk, ↓reduceDIte, ek]

set_option maxHeartbeats 4000000 in
/-- Columns 2304 to 2559 of the hidden block. -/
theorem pieceA_9 (r : Fin 512) (k : Fin 256) :
    (k0_pay217 (kernelRun0_A.sl.r_104 c arg2 harg2 arg3 harg3 arg4 harg4 arg5 harg5 arg6 harg6 arg7 harg7 arg8 harg8 arg9 harg9 arg10 harg10 arg13 arg14 x0 x1 x2 x3 x4 x5 x6 x7 x8) (kernelRun0_A.sl.r_106 c arg2 harg2 arg3 harg3 arg4 harg4 arg5 harg5 arg6 harg6 arg7 harg7 arg8 harg8 arg9 harg9 arg10 harg10 arg13 arg14 x0 x1 x2 x3 x4 x5 x6 x7 x8) (kernelRun0_A.sl.r_107 c arg2 harg2 arg3 harg3 arg4 harg4 arg5 harg5 arg6 harg6 arg7 harg7 arg8 harg8 arg9 harg9 arg10 harg10 arg13 arg14 x0 x1 x2 x3 x4 x5 x6 x7 x8)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨2304 + k.val, by omega⟩) := by
  have hr_89 : ∀ (r : Fin 512) (k : Fin 256), kernelRun0_A.sl.r_89 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨2304 + k.val, by omega⟩ := by
    intro r k; unfold kernelRun0_A.sl.r_89 k0_pay177 upRow FfnMath.up; pointwise
  have hr_90 : ∀ (r : Fin 512) (k : Fin 256), kernelRun0_A.sl.r_90 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨5120 + k.val, by omega⟩ := by
    intro r k; unfold kernelRun0_A.sl.r_90 k0_pay178 upRow FfnMath.up; pointwise
  simp (disch := decide) only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_2, kernelRun0_A.sl.HS0_20, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_74, kernelRun0_A.sl.HS1_76, kernelRun0_A.sl.HS1_78, kernelRun0_A.sl.HS1_80, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.v1175, kernelRun0_A.sl.v1186, kernelRun0_A.sl.v1188, kernelRun0_A.sl.v1210, kernelRun0_A.sl.v1212, kernelRun0_A.sl.v1231, kernelRun0_A.sl.v1242, kernelRun0_A.sl.v1244, kernelRun0_A.sl.v1266, kernelRun0_A.sl.v1268, readCov7, readCov6, halo_skip, halo_zero]
  generalize kernelRun0_A.sl.r_89 c arg2 harg2 arg3 harg3 arg4 harg4 arg5 harg5 arg6 harg6 arg7 harg7 arg8 harg8 arg9 harg9 x0 x1 x2 x3 x4 x5 x6 x7 = ur_89 at hr_89 ⊢
  generalize kernelRun0_A.sl.r_90 c arg2 harg2 arg3 harg3 arg4 harg4 arg5 harg5 arg6 harg6 arg7 harg7 arg8 harg8 arg9 harg9 x0 x1 x2 x3 x4 x5 x6 x7 = ur_90 at hr_90 ⊢
  generalize kernelRun0_A.sl.r_1 c arg2 harg2 arg3 harg3 arg4 harg4 arg5 harg5 arg6 harg6 arg7 harg7 arg8 harg8 x0 x1 x2 x3 x4 x5 x6 = xn at *
  unfold k0_pay217 k0_pay215 k0_pay214 k0_pay213 k0_pay212 k0_pay211 k0_pay210 k0_pay209 k0_pay207 k0_pay206 k0_pay205 k0_pay204 k0_pay203 k0_pay202 k0_pay201 k0_pay200
  pointwise
  have ec : (⟨2816 + (2304 + k.val), by omega⟩ : Fin 5632) = ⟨5120 + k.val, by omega⟩ :=
    Fin.ext (by show 2816 + (2304 + k.val) = 5120 + k.val; omega)
  show _ = FfnMath.hid (cvRow (fun _ => (0 : EReal)) xn x7 x8 r) ⟨2304 + k.val, by omega⟩
  unfold FfnMath.hid cvRow FfnMath.cv backRow
  simp only [ec, Ideal.logistic, hr_89, hr_90]
  by_cases hk : k.val < 128
  · simp only [hk, ↓reduceDIte]
  · have ek : 128 + (k.val - 128) = k.val := by omega
    simp only [hk, ↓reduceDIte, ek]

set_option maxHeartbeats 4000000 in
/-- Columns 2560 to 2815 of the hidden block. -/
theorem pieceA_10 (r : Fin 512) (k : Fin 256) :
    (k0_pay1 (kernelRun0_A.sl.r_118 c arg2 harg2 arg3 harg3 arg4 harg4 arg5 harg5 arg6 harg6 arg7 harg7 arg8 harg8 arg9 harg9 arg10 harg10 arg13 arg14 x0 x1 x2 x3 x4 x5 x6 x7 x8) (kernelRun0_A.sl.r_119 c arg2 harg2 arg3 harg3 arg4 harg4 arg5 harg5 arg6 harg6 arg7 harg7 arg8 harg8 arg9 harg9 arg10 harg10 arg13 arg14 x0 x1 x2 x3 x4 x5 x6 x7 x8)) (ix2 r k)
      = hidBlk (fun _ => (0 : EReal)) (kernelRun0_A.sl.r_1 c arg2 harg2 arg3 harg3 arg4 harg4 arg5 harg5 arg6 harg6 arg7 harg7 arg8 harg8 x0 x1 x2 x3 x4 x5 x6) x7 x8 (ix2 r ⟨2560 + k.val, by omega⟩) := by
  have hr_100 : ∀ (r : Fin 512) (k : Fin 256), kernelRun0_A.sl.r_100 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨5376 + k.val, by omega⟩ := by
    intro r k; unfold kernelRun0_A.sl.r_100 k0_pay199 upRow FfnMath.up; pointwise
  have hr_99 : ∀ (r : Fin 512) (k : Fin 256), kernelRun0_A.sl.r_99 c arg2 harg2 arg3 harg3 arg4 harg4 arg5 harg5 arg6 harg6 arg7 harg7 arg8 harg8 arg9 harg9 x0 x1 x2 x3 x4 x5 x6 x7 (ix2 r k)
      = upRow (kernelRun0_A.sl.r_1 c arg2 harg2 arg3 harg3 arg4 harg4 arg5 harg5 arg6 harg6 arg7 harg7 arg8 harg8 x0 x1 x2 x3 x4 x5 x6) x7 r ⟨2560 + k.val, by omega⟩ := by
    intro r k; unfold kernelRun0_A.sl.r_99 k0_pay198 upRow FfnMath.up; pointwise
  simp (disch := decide) only [kernelRun0_A.sl.HS0_1, kernelRun0_A.sl.HS0_10, kernelRun0_A.sl.HS0_11, kernelRun0_A.sl.HS0_12, kernelRun0_A.sl.HS0_13, kernelRun0_A.sl.HS0_14, kernelRun0_A.sl.HS0_15, kernelRun0_A.sl.HS0_16, kernelRun0_A.sl.HS0_17, kernelRun0_A.sl.HS0_18, kernelRun0_A.sl.HS0_19, kernelRun0_A.sl.HS0_2, kernelRun0_A.sl.HS0_20, kernelRun0_A.sl.HS0_21, kernelRun0_A.sl.HS0_22, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_82, kernelRun0_A.sl.HS1_84, kernelRun0_A.sl.HS1_86, kernelRun0_A.sl.HS1_88, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.v1294, kernelRun0_A.sl.v1305, kernelRun0_A.sl.v1307, kernelRun0_A.sl.v1329, kernelRun0_A.sl.v1331, kernelRun0_A.sl.v1350, kernelRun0_A.sl.v1361, kernelRun0_A.sl.v1363, kernelRun0_A.sl.v1385, kernelRun0_A.sl.v1387, readCov7, readCov6, halo_skip, halo_zero]
  generalize kernelRun0_A.sl.r_100 c arg2 harg2 arg3 harg3 arg4 harg4 arg5 harg5 arg6 harg6 arg7 harg7 arg8 harg8 arg9 harg9 x0 x1 x2 x3 x4 x5 x6 x7 = ur_100 at hr_100 ⊢
  generalize kernelRun0_A.sl.r_99 c arg2 harg2 arg3 harg3 arg4 harg4 arg5 harg5 arg6 harg6 arg7 harg7 arg8 harg8 arg9 harg9 x0 x1 x2 x3 x4 x5 x6 x7 = ur_99 at hr_99 ⊢
  generalize kernelRun0_A.sl.r_1 c arg2 harg2 arg3 harg3 arg4 harg4 arg5 harg5 arg6 harg6 arg7 harg7 arg8 harg8 x0 x1 x2 x3 x4 x5 x6 = xn at *
  unfold k0_pay239 k0_pay237 k0_pay236 k0_pay235 k0_pay234 k0_pay233 k0_pay232 k0_pay231 k0_pay230 k0_pay229 k0_pay228 k0_pay226 k0_pay225 k0_pay224 k0_pay223 k0_pay222 k0_pay221 k0_pay220 k0_pay219 k0_pay218 k0_pay1
  pointwise
  have ec : (⟨2816 + (2560 + k.val), by omega⟩ : Fin 5632) = ⟨5376 + k.val, by omega⟩ :=
    Fin.ext (by show 2816 + (2560 + k.val) = 5376 + k.val; omega)
  show _ = FfnMath.hid (cvRow (fun _ => (0 : EReal)) xn x7 x8 r) ⟨2560 + k.val, by omega⟩
  unfold FfnMath.hid cvRow FfnMath.cv backRow
  simp only [ec, Ideal.logistic, hr_100, hr_99]
  by_cases hk : k.val < 128
  · simp only [hk, ↓reduceDIte]
  · have ek : 128 + (k.val - 128) = k.val := by omega
    simp only [hk, ↓reduceDIte, ek]

end Cert.KernelIdeal.Value
-- ==== Proof.HaloA.lean ====
/-
  The rows carried out of a block in case A of the body: the last eight rows of the up projection, group by group.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16)

theorem haloA_5376 (r : Fin 8) (k : Fin 256) (hk : 5376 + k.val < 5632) :
    (k0_pay238 (kernelRun0_A.sl.r_100 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨5376 + k.val, hk⟩) := by
  simp only [kernelRun0_A.sl.r_100]
  show _ = upRow _ x7 ⟨504 + r.val, _⟩ ⟨5376 + k.val, hk⟩
  generalize kernelRun0_A.sl.r_1 c arg2 harg2 arg3 harg3 arg4 harg4 arg5 harg5 arg6 harg6 arg7 harg7 arg8 harg8 x0 x1 x2 x3 x4 x5 x6 = xn
  unfold k0_pay238 k0_pay199 upRow FfnMath.up
  pointwise

theorem haloA_2560 (r : Fin 8) (k : Fin 256) (hk : 2560 + k.val < 5632) :
    (k0_pay227 (kernelRun0_A.sl.r_99 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨2560 + k.val, hk⟩) := by
  simp only [kernelRun0_A.sl.r_99]
  show _ = upRow _ x7 ⟨504 + r.val, _⟩ ⟨2560 + k.val, hk⟩
  generalize kernelRun0_A.sl.r_1 c arg2 harg2 arg3 harg3 arg4 harg4 arg5 harg5 arg6 harg6 arg7 harg7 arg8 harg8 x0 x1 x2 x3 x4 x5 x6 = xn
  unfold k0_pay227 k0_pay198 upRow FfnMath.up
  pointwise

theorem haloA_5120 (r : Fin 8) (k : Fin 256) (hk : 5120 + k.val < 5632) :
    (k0_pay216 (kernelRun0_A.sl.r_90 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨5120 + k.val, hk⟩) := by
  simp only [kernelRun0_A.sl.r_90]
  show _ = upRow _ x7 ⟨504 + r.val, _⟩ ⟨5120 + k.val, hk⟩
  generalize kernelRun0_A.sl.r_1 c arg2 harg2 arg3 harg3 arg4 harg4 arg5 harg5 arg6 harg6 arg7 harg7 arg8 harg8 x0 x1 x2 x3 x4 x5 x6 = xn
  unfold k0_pay216 k0_pay178 upRow FfnMath.up
  pointwise

theorem haloA_2304 (r : Fin 8) (k : Fin 256) (hk : 2304 + k.val < 5632) :
    (k0_pay208 (kernelRun0_A.sl.r_89 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨2304 + k.val, hk⟩) := by
  simp only [kernelRun0_A.sl.r_89]
  show _ = upRow _ x7 ⟨504 + r.val, _⟩ ⟨2304 + k.val, hk⟩
  generalize kernelRun0_A.sl.r_1 c arg2 harg2 arg3 harg3 arg4 harg4 arg5 harg5 arg6 harg6 arg7 harg7 arg8 harg8 x0 x1 x2 x3 x4 x5 x6 = xn
  unfold k0_pay208 k0_pay177 upRow FfnMath.up
  pointwise

theorem haloA_4864 (r : Fin 8) (k : Fin 256) (hk : 4864 + k.val < 5632) :
    (k0_pay196 (kernelRun0_A.sl.r_78 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨4864 + k.val, hk⟩) := by
  simp only [kernelRun0_A.sl.r_78]
  show _ = upRow _ x7 ⟨504 + r.val, _⟩ ⟨4864 + k.val, hk⟩
  generalize kernelRun0_A.sl.r_1 c arg2 harg2 arg3 harg3 arg4 harg4 arg5 harg5 arg6 harg6 arg7 harg7 arg8 harg8 x0 x1 x2 x3 x4 x5 x6 = xn
  unfold k0_pay196 k0_pay155 upRow FfnMath.up
  pointwise

theorem haloA_2048 (r : Fin 8) (k : Fin 256) (hk : 2048 + k.val < 5632) :
    (k0_pay188 (kernelRun0_A.sl.r_77 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨2048 + k.val, hk⟩) := by
  simp only [kernelRun0_A.sl.r_77]
  show _ = upRow _ x7 ⟨504 + r.val, _⟩ ⟨2048 + k.val, hk⟩
  generalize kernelRun0_A.sl.r_1 c arg2 harg2 arg3 harg3 arg4 harg4 arg5 harg5 arg6 harg6 arg7 harg7 arg8 harg8 x0 x1 x2 x3 x4 x5 x6 = xn
  unfold k0_pay188 k0_pay154 upRow FfnMath.up
  pointwise

theorem haloA_4608 (r : Fin 8) (k : Fin 256) (hk : 4608 + k.val < 5632) :
    (k0_pay175 (kernelRun0_A.sl.r_66 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨4608 + k.val, hk⟩) := by
  simp only [kernelRun0_A.sl.r_66]
  show _ = upRow _ x7 ⟨504 + r.val, _⟩ ⟨4608 + k.val, hk⟩
  generalize kernelRun0_A.sl.r_1 c arg2 harg2 arg3 harg3 arg4 harg4 arg5 harg5 arg6 harg6 arg7 harg7 arg8 harg8 x0 x1 x2 x3 x4 x5 x6 = xn
  unfold k0_pay175 k0_pay133 upRow FfnMath.up
  pointwise

theorem haloA_1792 (r : Fin 8) (k : Fin 256) (hk : 1792 + k.val < 5632) :
    (k0_pay165 (kernelRun0_A.sl.r_65 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨1792 + k.val, hk⟩) := by
  simp only [kernelRun0_A.sl.r_65]
  show _ = upRow _ x7 ⟨504 + r.val, _⟩ ⟨1792 + k.val, hk⟩
  generalize kernelRun0_A.sl.r_1 c arg2 harg2 arg3 harg3 arg4 harg4 arg5 harg5 arg6 harg6 arg7 harg7 arg8 harg8 x0 x1 x2 x3 x4 x5 x6 = xn
  unfold k0_pay165 k0_pay132 upRow FfnMath.up
  pointwise

theorem haloA_4352 (r : Fin 8) (k : Fin 256) (hk : 4352 + k.val < 5632) :
    (k0_pay151 (kernelRun0_A.sl.r_57 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨4352 + k.val, hk⟩) := by
  simp only [kernelRun0_A.sl.r_57]
  show _ = upRow _ x7 ⟨504 + r.val, _⟩ ⟨4352 + k.val, hk⟩
  generalize kernelRun0_A.sl.r_1 c arg2 harg2 arg3 harg3 arg4 harg4 arg5 harg5 arg6 harg6 arg7 harg7 arg8 harg8 x0 x1 x2 x3 x4 x5 x6 = xn
  unfold k0_pay151 k0_pay114 upRow FfnMath.up
  pointwise

theorem haloA_1536 (r : Fin 8) (k : Fin 256) (hk : 1536 + k.val < 5632) :
    (k0_pay142 (kernelRun0_A.sl.r_56 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨1536 + k.val, hk⟩) := by
  simp only [kernelRun0_A.sl.r_56]
  show _ = upRow _ x7 ⟨504 + r.val, _⟩ ⟨1536 + k.val, hk⟩
  generalize kernelRun0_A.sl.r_1 c arg2 harg2 arg3 harg3 arg4 harg4 arg5 harg5 arg6 harg6 arg7 harg7 arg8 harg8 x0 x1 x2 x3 x4 x5 x6 = xn
  unfold k0_pay142 k0_pay113 upRow FfnMath.up
  pointwise

theorem haloA_4096 (r : Fin 8) (k : Fin 256) (hk : 4096 + k.val < 5632) :
    (k0_pay130 (kernelRun0_A.sl.r_48 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨4096 + k.val, hk⟩) := by
  simp only [kernelRun0_A.sl.r_48]
  show _ = upRow _ x7 ⟨504 + r.val, _⟩ ⟨4096 + k.val, hk⟩
  generalize kernelRun0_A.sl.r_1 c arg2 harg2 arg3 harg3 arg4 harg4 arg5 harg5 arg6 harg6 arg7 harg7 arg8 harg8 x0 x1 x2 x3 x4 x5 x6 = xn
  unfold k0_pay130 k0_pay94 upRow FfnMath.up
  pointwise

theorem haloA_1280 (r : Fin 8) (k : Fin 256) (hk : 1280 + k.val < 5632) :
    (kernelRun0_A.sl.r_61 c arg2 harg2 arg3 harg3 arg4 harg4 arg5 harg5 arg6 harg6 arg7 harg7 arg8 harg8 arg9 harg9 x0 x1 x2 x3 x4 x5 x6 x7) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨1280 + k.val, hk⟩) := by
  simp only [kernelRun0_A.sl.r_47, kernelRun0_A.sl.r_61]
  show _ = upRow _ x7 ⟨504 + r.val, _⟩ ⟨1280 + k.val, hk⟩
  generalize kernelRun0_A.sl.r_1 c arg2 harg2 arg3 harg3 arg4 harg4 arg5 harg5 arg6 harg6 arg7 harg7 arg8 harg8 x0 x1 x2 x3 x4 x5 x6 = xn
  unfold k0_pay122 k0_pay93 upRow FfnMath.up
  pointwise

theorem haloA_3840 (r : Fin 8) (k : Fin 256) (hk : 3840 + k.val < 5632) :
    (k0_pay111 (kernelRun0_A.sl.r_38 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨3840 + k.val, hk⟩) := by
  simp only [kernelRun0_A.sl.r_38]
  show _ = upRow _ x7 ⟨504 + r.val, _⟩ ⟨3840 + k.val, hk⟩
  generalize kernelRun0_A.sl.r_1 c arg2 harg2 arg3 harg3 arg4 harg4 arg5 harg5 arg6 harg6 arg7 harg7 arg8 harg8 x0 x1 x2 x3 x4 x5 x6 = xn
  unfold k0_pay111 k0_pay73 upRow FfnMath.up
  pointwise

theorem haloA_1024 (r : Fin 8) (k : Fin 256) (hk : 1024 + k.val < 5632) :
    (k0_pay103 (kernelRun0_A.sl.r_37 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨1024 + k.val, hk⟩) := by
  simp only [kernelRun0_A.sl.r_37]
  show _ = upRow _ x7 ⟨504 + r.val, _⟩ ⟨1024 + k.val, hk⟩
  generalize kernelRun0_A.sl.r_1 c arg2 harg2 arg3 harg3 arg4 harg4 arg5 harg5 arg6 harg6 arg7 harg7 arg8 harg8 x0 x1 x2 x3 x4 x5 x6 = xn
  unfold k0_pay103 k0_pay72 upRow FfnMath.up
  pointwise

theorem haloA_3584 (r : Fin 8) (k : Fin 256) (hk : 3584 + k.val < 5632) :
    (k0_pay91 (kernelRun0_A.sl.r_26 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨3584 + k.val, hk⟩) := by
  simp only [kernelRun0_A.sl.r_26]
  show _ = upRow _ x7 ⟨504 + r.val, _⟩ ⟨3584 + k.val, hk⟩
  generalize kernelRun0_A.sl.r_1 c arg2 harg2 arg3 harg3 arg4 harg4 arg5 harg5 arg6 harg6 arg7 harg7 arg8 harg8 x0 x1 x2 x3 x4 x5 x6 = xn
  unfold k0_pay91 k0_pay50 upRow FfnMath.up
  pointwise

theorem haloA_768 (r : Fin 8) (k : Fin 256) (hk : 768 + k.val < 5632) :
    (k0_pay83 (kernelRun0_A.sl.r_25 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨768 + k.val, hk⟩) := by
  simp only [kernelRun0_A.sl.r_25]
  show _ = upRow _ x7 ⟨504 + r.val, _⟩ ⟨768 + k.val, hk⟩
  generalize kernelRun0_A.sl.r_1 c arg2 harg2 arg3 harg3 arg4 harg4 arg5 harg5 arg6 harg6 arg7 harg7 arg8 harg8 x0 x1 x2 x3 x4 x5 x6 = xn
  unfold k0_pay83 k0_pay49 upRow FfnMath.up
  pointwise

theorem haloA_3328 (r : Fin 8) (k : Fin 256) (hk : 3328 + k.val < 5632) :
    (k0_pay70 (kernelRun0_A.sl.r_14 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨3328 + k.val, hk⟩) := by
  simp only [kernelRun0_A.sl.r_14]
  show _ = upRow _ x7 ⟨504 + r.val, _⟩ ⟨3328 + k.val, hk⟩
  generalize kernelRun0_A.sl.r_1 c arg2 harg2 arg3 harg3 arg4 harg4 arg5 harg5 arg6 harg6 arg7 harg7 arg8 harg8 x0 x1 x2 x3 x4 x5 x6 = xn
  unfold k0_pay70 k0_pay28 upRow FfnMath.up
  pointwise

theorem haloA_512 (r : Fin 8) (k : Fin 256) (hk : 512 + k.val < 5632) :
    (k0_pay60 (kernelRun0_A.sl.r_13 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨512 + k.val, hk⟩) := by
  simp only [kernelRun0_A.sl.r_13]
  show _ = upRow _ x7 ⟨504 + r.val, _⟩ ⟨512 + k.val, hk⟩
  generalize kernelRun0_A.sl.r_1 c arg2 harg2 arg3 harg3 arg4 harg4 arg5 harg5 arg6 harg6 arg7 harg7 arg8 harg8 x0 x1 x2 x3 x4 x5 x6 = xn
  unfold k0_pay60 k0_pay27 upRow FfnMath.up
  pointwise

theorem haloA_3072 (r : Fin 8) (k : Fin 256) (hk : 3072 + k.val < 5632) :
    (k0_pay46 (kernelRun0_A.sl.r_5 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨3072 + k.val, hk⟩) := by
  simp only [kernelRun0_A.sl.r_5]
  show _ = upRow _ x7 ⟨504 + r.val, _⟩ ⟨3072 + k.val, hk⟩
  generalize kernelRun0_A.sl.r_1 c arg2 harg2 arg3 harg3 arg4 harg4 arg5 harg5 arg6 harg6 arg7 harg7 arg8 harg8 x0 x1 x2 x3 x4 x5 x6 = xn
  unfold k0_pay46 k0_pay9 upRow FfnMath.up
  pointwise

theorem haloA_256 (r : Fin 8) (k : Fin 256) (hk : 256 + k.val < 5632) :
    (k0_pay37 (kernelRun0_A.sl.r_4 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨256 + k.val, hk⟩) := by
  simp only [kernelRun0_A.sl.r_4]
  show _ = upRow _ x7 ⟨504 + r.val, _⟩ ⟨256 + k.val, hk⟩
  generalize kernelRun0_A.sl.r_1 c arg2 harg2 arg3 harg3 arg4 harg4 arg5 harg5 arg6 harg6 arg7 harg7 arg8 harg8 x0 x1 x2 x3 x4 x5 x6 = xn
  unfold k0_pay37 k0_pay8 upRow FfnMath.up
  pointwise

theorem haloA_2816 (r : Fin 8) (k : Fin 256) (hk : 2816 + k.val < 5632) :
    (k0_pay25 (kernelRun0_A.sl.r_3 c arg2 harg2 arg3 harg3 arg4 harg4 arg5 harg5 arg6 harg6 arg7 harg7 arg8 harg8 arg9 harg9 x0 x1 x2 x3 x4 x5 x6 x7)) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨2816 + k.val, hk⟩) := by
  simp only [kernelRun0_A.sl.r_3]
  show _ = upRow _ x7 ⟨504 + r.val, _⟩ ⟨2816 + k.val, hk⟩
  generalize kernelRun0_A.sl.r_1 c arg2 harg2 arg3 harg3 arg4 harg4 arg5 harg5 arg6 harg6 arg7 harg7 arg8 harg8 x0 x1 x2 x3 x4 x5 x6 = xn
  unfold k0_pay25 k0_pay7 upRow FfnMath.up
  pointwise

theorem haloA_0 (r : Fin 8) (k : Fin 256) (hk : 0 + k.val < 5632) :
    (kernelRun0_A.sl.r_9 c arg2 harg2 arg3 harg3 arg4 harg4 arg5 harg5 arg6 harg6 arg7 harg7 arg8 harg8 arg9 harg9 x0 x1 x2 x3 x4 x5 x6 x7) (ix2 r k)
      = haloBlk (kernelRun0_A.sl.r_1 c arg2 harg2 arg3 harg3 arg4 harg4 arg5 harg5 arg6 harg6 arg7 harg7 arg8 harg8 x0 x1 x2 x3 x4 x5 x6) x7 (ix2 r ⟨0 + k.val, hk⟩) := by
  simp only [kernelRun0_A.sl.r_2, kernelRun0_A.sl.r_9]
  show _ = upRow _ x7 ⟨504 + r.val, _⟩ ⟨0 + k.val, hk⟩
  generalize kernelRun0_A.sl.r_1 c arg2 harg2 arg3 harg3 arg4 harg4 arg5 harg5 arg6 harg6 arg7 harg7 arg8 harg8 x0 x1 x2 x3 x4 x5 x6 = xn
  unfold k0_pay17 k0_pay6 upRow FfnMath.up
  pointwise

end Cert.KernelIdeal.Value
-- ==== Proof.BodyA.lean ====
/-
  What the body leaves in case A: the result block and the carried rows, as functions of the blocks it read.
-/
module

public import proofs.«01_k».proof.Proof.HidA0
public import proofs.«01_k».proof.Proof.HidA1
public import proofs.«01_k».proof.Proof.HidA2
public import proofs.«01_k».proof.Proof.HaloA
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (i : grid0.Coords) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole) (hc0 : cond0_0 i)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16)

theorem hidPiecesA : ∀ p ∈ kernelRun0_A.sl.HS2_11 c arg2 harg2 arg3 harg3 arg4 harg4 arg5 harg5 arg6 harg6 arg7 harg7 arg8 harg8 arg9 harg9 arg10 harg10 arg13 arg14 x0 x1 x2 x3 x4 x5 x6 x7 x8, ∀ x, p.2 x
    = hidBlk (fun _ => (0 : EReal)) (kernelRun0_A.sl.r_1 c arg2 harg2 arg3 harg3 arg4 harg4 arg5 harg5 arg6 harg6 arg7 harg7 arg8 harg8 x0 x1 x2 x3 x4 x5 x6) x7 x8 (p.1.emb x) := by
  intro p hp
  simp only [kernelRun0_A.sl.HS2_11, List.mem_cons, List.not_mem_nil, or_false] at hp
  rcases hp with rfl | rfl | rfl | rfl | rfl | rfl | rfl | rfl | rfl | rfl | rfl
  · exact fun x => cols_emb (R := 512) (C := 2816) (W := 256) 2560 inb_S512x2816_S512x256_0_2560 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_10 (r := r) (k := k) ..) x
  · exact fun x => cols_emb (R := 512) (C := 2816) (W := 256) 2304 inb_S512x2816_S512x256_0_2304 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_9 (r := r) (k := k) ..) x
  · exact fun x => cols_emb (R := 512) (C := 2816) (W := 256) 2048 inb_S512x2816_S512x256_0_2048 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_8 (r := r) (k := k) ..) x
  · exact fun x => cols_emb (R := 512) (C := 2816) (W := 256) 1792 inb_S512x2816_S512x256_0_1792 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_7 (r := r) (k := k) ..) x
  · exact fun x => cols_emb (R := 512) (C := 2816) (W := 256) 1536 inb_S512x2816_S512x256_0_1536 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_6 (r := r) (k := k) ..) x
  · exact fun x => cols_emb (R := 512) (C := 2816) (W := 256) 1280 inb_S512x2816_S512x256_0_1280 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_5 (r := r) (k := k) ..) x
  · exact fun x => cols_emb (R := 512) (C := 2816) (W := 256) 1024 inb_S512x2816_S512x256_0_1024 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_4 (r := r) (k := k) ..) x
  · exact fun x => cols_emb (R := 512) (C := 2816) (W := 256) 768 inb_S512x2816_S512x256_0_768 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_3 (r := r) (k := k) ..) x
  · exact fun x => cols_emb (R := 512) (C := 2816) (W := 256) 512 inb_S512x2816_S512x256_0_512 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_2 (r := r) (k := k) ..) x
  · exact fun x => cols_emb (R := 512) (C := 2816) (W := 256) 256 inb_S512x2816_S512x256_0_256 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_1 (r := r) (k := k) ..) x
  · exact fun x => cols_emb (R := 512) (C := 2816) (W := 256) 0 inb_S512x2816_S512x256_0_0 _ (hidBlk (fun _ => (0 : EReal)) (kernelRun0_A.sl.r_1 c arg2 harg2 arg3 harg3 arg4 harg4 arg5 harg5 arg6 harg6 arg7 harg7 arg8 harg8 x0 x1 x2 x3 x4 x5 x6) x7 x8)
      (fun r k hk => pieceA_0 (r := r) (k := k) ..) x

theorem hidReadA : kernelRun0_A.sl.v1413 c arg2 harg2 arg3 harg3 arg4 harg4 arg5 harg5 arg6 harg6 arg7 harg7 arg8 harg8 arg9 harg9 arg10 harg10 arg13 arg14 arg15 x0 x1 x2 x3 x4 x5 x6 x7 x8
    = hidBlk (fun _ => (0 : EReal)) (kernelRun0_A.sl.r_1 c arg2 harg2 arg3 harg3 arg4 harg4 arg5 harg5 arg6 harg6 arg7 harg7 arg8 harg8 x0 x1 x2 x3 x4 x5 x6) x7 x8 := by
  unfold kernelRun0_A.sl.v1413
  rw [View.readCov_eq_canon']
  funext y
  have ey : (Rect.unit (s := S512x2816) ![0, 0] ![512, 2816] inb_S512x2816_S512x2816_0_0).toLoadRect.idx y = y := by
    funext a
    apply Fin.ext
    match a with
    | ⟨0, _⟩ => show 0 + 1 * (y 0).val = (y 0).val; omega
    | ⟨1, _⟩ => show 0 + 1 * (y 1).val = (y 1).val; omega
  refine (congrArg _ ey).trans ?_
  exact View.canon_apply_of_pieces (S := S512x2816) (Val := Elt Ideal) (e := .bf16) (hidBlk (fun _ => (0 : EReal)) (kernelRun0_A.sl.r_1 c arg2 harg2 arg3 harg3 arg4 harg4 arg5 harg5 arg6 harg6 arg7 harg7 arg8 harg8 x0 x1 x2 x3 x4 x5 x6) x7 x8) _ (hidPiecesA c arg2 harg2 arg3 harg3 arg4 harg4 arg5 harg5 arg6 harg6 arg7 harg7 arg8 harg8 arg9 harg9 arg10 harg10 arg13 arg14 x0 x1 x2 x3 x4 x5 x6 x7 x8) y
    (View.cover_of_tiledL (s := S512x2816) _ S512x256.size (by sl_kernel_rfl) y)

theorem outA_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = outBlk (fun _ => (0 : EReal)) x0 x1 x2 x3 x4 x5 x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  refine (View.canon_unit_zero (S := S1x512x1024) (e := .f32) (by funext a; match a with | ⟨0, _⟩ => rfl | ⟨1, _⟩ => rfl | ⟨2, _⟩ => rfl) inb_S1x512x1024_S1x512x1024_0_0_0 _).trans ?_
  funext j
  idx_vars j
  rw [pay2_apply, hidReadA, kernelRun0_A.sl.r_1, pay4_eq, kernelRun0_A.sl.r]
  simp only [pay3_apply, readAt_whole2, readAt_whole3]
  rfl

theorem soutA_eq : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = haloBlk (xnBlk x0 x1 x2 x3 x4 x5 x6) x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  simp only [kernelRun0_A.sl.HS0_22, kernelRun0_A.sl.HS0_21, kernelRun0_A.sl.HS0_20, kernelRun0_A.sl.HS0_19, kernelRun0_A.sl.HS0_18, kernelRun0_A.sl.HS0_17, kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, kernelRun0_A.sl.HS0_9, kernelRun0_A.sl.HS0_8, kernelRun0_A.sl.HS0_7, kernelRun0_A.sl.HS0_6, kernelRun0_A.sl.HS0_5, kernelRun0_A.sl.HS0_4, kernelRun0_A.sl.HS0_3, kernelRun0_A.sl.HS0_2]
  funext y
  have hx : (kernelRun0_A.sl.r_1 c arg2 harg2 arg3 harg3 arg4 harg4 arg5 harg5 arg6 harg6 arg7 harg7 arg8 harg8 x0 x1 x2 x3 x4 x5 x6) = xnBlk x0 x1 x2 x3 x4 x5 x6 := by
    rw [kernelRun0_A.sl.r_1, pay4_eq]
    simp only [readAt_whole2, readAt_whole3]
  rw [← hx]
  refine Shift.canon_append_of_pieces (S := S8x5632) (Val := Elt Ideal) (e := .f32) (haloBlk (kernelRun0_A.sl.r_1 c arg2 harg2 arg3 harg3 arg4 harg4 arg5 harg5 arg6 harg6 arg7 harg7 arg8 harg8 x0 x1 x2 x3 x4 x5 x6) x7) [_, _, _, _, _, _, _, _, _, _, _, _, _, _, _, _, _, _, _, _, _, _] kernelRun0_A.sl.HS0_1 ?_ y (View.cover_of_tiledL (s := S8x5632) _ S8x256.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
  · exact fun x => cols_emb (R := 8) (C := 5632) (W := 256) 5376 inb_S8x5632_S8x256_0_5376 _ (haloBlk (kernelRun0_A.sl.r_1 c arg2 harg2 arg3 harg3 arg4 harg4 arg5 harg5 arg6 harg6 arg7 harg7 arg8 harg8 x0 x1 x2 x3 x4 x5 x6) x7)
      (fun r k hk => haloA_5376 (r := r) (k := k) (hk := hk) ..) x
  · exact fun x => cols_emb (R := 8) (C := 5632) (W := 256) 2560 inb_S8x5632_S8x256_0_2560 _ (haloBlk (kernelRun0_A.sl.r_1 c arg2 harg2 arg3 harg3 arg4 harg4 arg5 harg5 arg6 harg6 arg7 harg7 arg8 harg8 x0 x1 x2 x3 x4 x5 x6) x7)
      (fun r k hk => haloA_2560 (r := r) (k := k) (hk := hk) ..) x
  · exact fun x => cols_emb (R := 8) (C := 5632) (W := 256) 5120 inb_S8x5632_S8x256_0_5120 _ (haloBlk (kernelRun0_A.sl.r_1 c arg2 harg2 arg3 harg3 arg4 harg4 arg5 harg5 arg6 harg6 arg7 harg7 arg8 harg8 x0 x1 x2 x3 x4 x5 x6) x7)
      (fun r k hk => haloA_5120 (r := r) (k := k) (hk := hk) ..) x
  · exact fun x => cols_emb (R := 8) (C := 5632) (W := 256) 2304 inb_S8x5632_S8x256_0_2304 _ (haloBlk (kernelRun0_A.sl.r_1 c arg2 harg2 arg3 harg3 arg4 harg4 arg5 harg5 arg6 harg6 arg7 harg7 arg8 harg8 x0 x1 x2 x3 x4 x5 x6) x7)
      (fun r k hk => haloA_2304 (r := r) (k := k) (hk := hk) ..) x
  · exact fun x => cols_emb (R := 8) (C := 5632) (W := 256) 4864 inb_S8x5632_S8x256_0_4864 _ (haloBlk (kernelRun0_A.sl.r_1 c arg2 harg2 arg3 harg3 arg4 harg4 arg5 harg5 arg6 harg6 arg7 harg7 arg8 harg8 x0 x1 x2 x3 x4 x5 x6) x7)
      (fun r k hk => haloA_4864 (r := r) (k := k) (hk := hk) ..) x
  · exact fun x => cols_emb (R := 8) (C := 5632) (W := 256) 2048 inb_S8x5632_S8x256_0_2048 _ (haloBlk (kernelRun0_A.sl.r_1 c arg2 harg2 arg3 harg3 arg4 harg4 arg5 harg5 arg6 harg6 arg7 harg7 arg8 harg8 x0 x1 x2 x3 x4 x5 x6) x7)
      (fun r k hk => haloA_2048 (r := r) (k := k) (hk := hk) ..) x
  · exact fun x => cols_emb (R := 8) (C := 5632) (W := 256) 4608 inb_S8x5632_S8x256_0_4608 _ (haloBlk (kernelRun0_A.sl.r_1 c arg2 harg2 arg3 harg3 arg4 harg4 arg5 harg5 arg6 harg6 arg7 harg7 arg8 harg8 x0 x1 x2 x3 x4 x5 x6) x7)
      (fun r k hk => haloA_4608 (r := r) (k := k) (hk := hk) ..) x
  · exact fun x => cols_emb (R := 8) (C := 5632) (W := 256) 1792 inb_S8x5632_S8x256_0_1792 _ (haloBlk (kernelRun0_A.sl.r_1 c arg2 harg2 arg3 harg3 arg4 harg4 arg5 harg5 arg6 harg6 arg7 harg7 arg8 harg8 x0 x1 x2 x3 x4 x5 x6) x7)
      (fun r k hk => haloA_1792 (r := r) (k := k) (hk := hk) ..) x
  · exact fun x => cols_emb (R := 8) (C := 5632) (W := 256) 4352 inb_S8x5632_S8x256_0_4352 _ (haloBlk (kernelRun0_A.sl.r_1 c arg2 harg2 arg3 harg3 arg4 harg4 arg5 harg5 arg6 harg6 arg7 harg7 arg8 harg8 x0 x1 x2 x3 x4 x5 x6) x7)
      (fun r k hk => haloA_4352 (r := r) (k := k) (hk := hk) ..) x
  · exact fun x => cols_emb (R := 8) (C := 5632) (W := 256) 1536 inb_S8x5632_S8x256_0_1536 _ (haloBlk (kernelRun0_A.sl.r_1 c arg2 harg2 arg3 harg3 arg4 harg4 arg5 harg5 arg6 harg6 arg7 harg7 arg8 harg8 x0 x1 x2 x3 x4 x5 x6) x7)
      (fun r k hk => haloA_1536 (r := r) (k := k) (hk := hk) ..) x
  · exact fun x => cols_emb (R := 8) (C := 5632) (W := 256) 4096 inb_S8x5632_S8x256_0_4096 _ (haloBlk (kernelRun0_A.sl.r_1 c arg2 harg2 arg3 harg3 arg4 harg4 arg5 harg5 arg6 harg6 arg7 harg7 arg8 harg8 x0 x1 x2 x3 x4 x5 x6) x7)
      (fun r k hk => haloA_4096 (r := r) (k := k) (hk := hk) ..) x
  · exact fun x => cols_emb (R := 8) (C := 5632) (W := 256) 1280 inb_S8x5632_S8x256_0_1280 _ (haloBlk (kernelRun0_A.sl.r_1 c arg2 harg2 arg3 harg3 arg4 harg4 arg5 harg5 arg6 harg6 arg7 harg7 arg8 harg8 x0 x1 x2 x3 x4 x5 x6) x7)
      (fun r k hk => haloA_1280 (r := r) (k := k) (hk := hk) ..) x
  · exact fun x => cols_emb (R := 8) (C := 5632) (W := 256) 3840 inb_S8x5632_S8x256_0_3840 _ (haloBlk (kernelRun0_A.sl.r_1 c arg2 harg2 arg3 harg3 arg4 harg4 arg5 harg5 arg6 harg6 arg7 harg7 arg8 harg8 x0 x1 x2 x3 x4 x5 x6) x7)
      (fun r k hk => haloA_3840 (r := r) (k := k) (hk := hk) ..) x
  · exact fun x => cols_emb (R := 8) (C := 5632) (W := 256) 1024 inb_S8x5632_S8x256_0_1024 _ (haloBlk (kernelRun0_A.sl.r_1 c arg2 harg2 arg3 harg3 arg4 harg4 arg5 harg5 arg6 harg6 arg7 harg7 arg8 harg8 x0 x1 x2 x3 x4 x5 x6) x7)
      (fun r k hk => haloA_1024 (r := r) (k := k) (hk := hk) ..) x
  · exact fun x => cols_emb (R := 8) (C := 5632) (W := 256) 3584 inb_S8x5632_S8x256_0_3584 _ (haloBlk (kernelRun0_A.sl.r_1 c arg2 harg2 arg3 harg3 arg4 harg4 arg5 harg5 arg6 harg6 arg7 harg7 arg8 harg8 x0 x1 x2 x3 x4 x5 x6) x7)
      (fun r k hk => haloA_3584 (r := r) (k := k) (hk := hk) ..) x
  · exact fun x => cols_emb (R := 8) (C := 5632) (W := 256) 768 inb_S8x5632_S8x256_0_768 _ (haloBlk (kernelRun0_A.sl.r_1 c arg2 harg2 arg3 harg3 arg4 harg4 arg5 harg5 arg6 harg6 arg7 harg7 arg8 harg8 x0 x1 x2 x3 x4 x5 x6) x7)
      (fun r k hk => haloA_768 (r := r) (k := k) (hk := hk) ..) x
  · exact fun x => cols_emb (R := 8) (C := 5632) (W := 256) 3328 inb_S8x5632_S8x256_0_3328 _ (haloBlk (kernelRun0_A.sl.r_1 c arg2 harg2 arg3 harg3 arg4 harg4 arg5 harg5 arg6 harg6 arg7 harg7 arg8 harg8 x0 x1 x2 x3 x4 x5 x6) x7)
      (fun r k hk => haloA_3328 (r := r) (k := k) (hk := hk) ..) x
  · exact fun x => cols_emb (R := 8) (C := 5632) (W := 256) 512 inb_S8x5632_S8x256_0_512 _ (haloBlk (kernelRun0_A.sl.r_1 c arg2 harg2 arg3 harg3 arg4 harg4 arg5 harg5 arg6 harg6 arg7 harg7 arg8 harg8 x0 x1 x2 x3 x4 x5 x6) x7)
      (fun r k hk => haloA_512 (r := r) (k := k) (hk := hk) ..) x
  · exact fun x => cols_emb (R := 8) (C := 5632) (W := 256) 3072 inb_S8x5632_S8x256_0_3072 _ (haloBlk (kernelRun0_A.sl.r_1 c arg2 harg2 arg3 harg3 arg4 harg4 arg5 harg5 arg6 harg6 arg7 harg7 arg8 harg8 x0 x1 x2 x3 x4 x5 x6) x7)
      (fun r k hk => haloA_3072 (r := r) (k := k) (hk := hk) ..) x
  · exact fun x => cols_emb (R := 8) (C := 5632) (W := 256) 256 inb_S8x5632_S8x256_0_256 _ (haloBlk (kernelRun0_A.sl.r_1 c arg2 harg2 arg3 harg3 arg4 harg4 arg5 harg5 arg6 harg6 arg7 harg7 arg8 harg8 x0 x1 x2 x3 x4 x5 x6) x7)
      (fun r k hk => haloA_256 (r := r) (k := k) (hk := hk) ..) x
  · exact fun x => cols_emb (R := 8) (C := 5632) (W := 256) 2816 inb_S8x5632_S8x256_0_2816 _ (haloBlk (kernelRun0_A.sl.r_1 c arg2 harg2 arg3 harg3 arg4 harg4 arg5 harg5 arg6 harg6 arg7 harg7 arg8 harg8 x0 x1 x2 x3 x4 x5 x6) x7)
      (fun r k hk => haloA_2816 (r := r) (k := k) (hk := hk) ..) x
  · exact fun x => cols_emb (R := 8) (C := 5632) (W := 256) 0 inb_S8x5632_S8x256_0_0 _ (haloBlk (kernelRun0_A.sl.r_1 c arg2 harg2 arg3 harg3 arg4 harg4 arg5 harg5 arg6 harg6 arg7 harg7 arg8 harg8 x0 x1 x2 x3 x4 x5 x6) x7)
      (fun r k hk => haloA_0 (r := r) (k := k) (hk := hk) ..) x
end Cert.KernelIdeal.Value
-- ==== Proof.HidB0.lean ====
/-
  The hidden block in case B of the body, a block with carried rows: what each stored group of 256 columns holds
  (groups 0 to 3).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16) (xs0 : Vec Ideal S8x5632 .f32)

set_option maxHeartbeats 4000000 in
/-- Columns 0 to 255 of the hidden block. -/
theorem pieceB_0 (r : Fin 512) (k : Fin 256) :
    (k0_pay26 (kernelRun0_B.sl.r_3 c arg2 harg2 arg3 harg3 arg4 harg4 arg5 harg5 arg6 harg6 arg7 harg7 arg8 harg8 arg9 harg9 x0 x1 x2 x3 x4 x5 x6 x7) (kernelRun0_B.sl.r_9 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_11 c arg10 harg10 x8) (kernelRun0_B.sl.r_12 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.v141 c arg2 harg2 arg3 harg3 arg4 harg4 arg5 harg5 arg6 harg6 arg7 harg7 arg8 harg8 arg9 harg9 arg13 harg13 arg14 x0 x1 x2 x3 x4 x5 x6 x7 xs0) (kernelRun0_B.sl.v143 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨0 + k.val, by omega⟩) := by
  have hr_2 : ∀ (r : Fin 512) (k : Fin 256), kernelRun0_B.sl.r_2 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨0 + k.val, by omega⟩ := by
    intro r k; unfold kernelRun0_B.sl.r_2 k0_pay6 upRow FfnMath.up; pointwise
  have hr_3 : ∀ (r : Fin 512) (k : Fin 256), kernelRun0_B.sl.r_3 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨2816 + k.val, by omega⟩ := by
    intro r k; unfold kernelRun0_B.sl.r_3 k0_pay7 upRow FfnMath.up; pointwise
  simp only [kernelRun0_B.sl.HS1_2, kernelRun0_B.sl.HS1_4, kernelRun0_B.sl.HS1_6, kernelRun0_B.sl.HS1_8, kernelRun0_B.sl.r_11, kernelRun0_B.sl.r_12, kernelRun0_B.sl.r_13, kernelRun0_B.sl.r_6, kernelRun0_B.sl.r_7, kernelRun0_B.sl.r_8, kernelRun0_B.sl.r_9, kernelRun0_B.sl.v106, kernelRun0_B.sl.v117, kernelRun0_B.sl.v119, kernelRun0_B.sl.v141, kernelRun0_B.sl.v143, kernelRun0_B.sl.v61, kernelRun0_B.sl.v63, kernelRun0_B.sl.v85, kernelRun0_B.sl.v87, readCov7, readCov6]
  generalize kernelRun0_B.sl.r_2 c arg2 harg2 arg3 harg3 arg4 harg4 arg5 harg5 arg6 harg6 arg7 harg7 arg8 harg8 arg9 harg9 x0 x1 x2 x3 x4 x5 x6 x7 = ur_2 at hr_2 ⊢
  generalize kernelRun0_B.sl.r_3 c arg2 harg2 arg3 harg3 arg4 harg4 arg5 harg5 arg6 harg6 arg7 harg7 arg8 harg8 arg9 harg9 x0 x1 x2 x3 x4 x5 x6 x7 = ur_3 at hr_3 ⊢
  generalize kernelRun0_B.sl.r_1 c arg2 harg2 arg3 harg3 arg4 harg4 arg5 harg5 arg6 harg6 arg7 harg7 arg8 harg8 x0 x1 x2 x3 x4 x5 x6 = xn at *
  unfold k0_pay26 k0_pay24 k0_pay23 k0_pay22 k0_pay21 k0_pay20 k0_pay19 k0_pay18 k0_pay16 k0_pay15 k0_pay14 k0_pay13 k0_pay12 k0_pay11 k0_pay10 k0_pay6
  pointwise
  have ec : (⟨2816 + k.val, by omega⟩ : Fin 5632) = ⟨2816 + k.val, by omega⟩ :=
    Fin.ext (by show 2816 + k.val = 2816 + k.val; omega)
  show _ = FfnMath.hid (cvRow xs0 xn x7 x8 r) ⟨k.val, by omega⟩
  unfold FfnMath.hid cvRow FfnMath.cv backRow
  simp only [ec, Ideal.logistic, hr_2, hr_3, upRow, FfnMath.up, Nat.zero_add]
  by_cases hk : k.val < 128
  · simp only [hk, ↓reduceDIte]
  · have ek : 128 + (k.val - 128) = k.val := by omega
    simp only [hk, ↓reduceDIte, ek]

set_option maxHeartbeats 4000000 in
/-- Columns 256 to 511 of the hidden block. -/
theorem pieceB_1 (r : Fin 512) (k : Fin 256) :
    (k0_pay48 (kernelRun0_B.sl.r_25 c arg2 harg2 arg3 harg3 arg4 harg4 arg5 harg5 arg6 harg6 arg7 harg7 arg8 harg8 arg9 harg9 arg10 harg10 arg13 harg13 arg14 x0 x1 x2 x3 x4 x5 x6 x7 x8 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨256 + k.val, by omega⟩) := by
  have hr_4 : ∀ (r : Fin 512) (k : Fin 256), kernelRun0_B.sl.r_4 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨256 + k.val, by omega⟩ := by
    intro r k; unfold kernelRun0_B.sl.r_4 k0_pay8 upRow FfnMath.up; pointwise
  have hr_5 : ∀ (r : Fin 512) (k : Fin 256), kernelRun0_B.sl.r_5 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨3072 + k.val, by omega⟩ := by
    intro r k; unfold kernelRun0_B.sl.r_5 k0_pay9 upRow FfnMath.up; pointwise
  simp only [kernelRun0_B.sl.HS1_10, kernelRun0_B.sl.HS1_12, kernelRun0_B.sl.HS1_14, kernelRun0_B.sl.HS1_16, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.v175, kernelRun0_B.sl.v186, kernelRun0_B.sl.v188, kernelRun0_B.sl.v210, kernelRun0_B.sl.v212, kernelRun0_B.sl.v231, kernelRun0_B.sl.v242, kernelRun0_B.sl.v244, kernelRun0_B.sl.v266, kernelRun0_B.sl.v268, readCov7, readCov6]
  generalize kernelRun0_B.sl.r_4 c arg2 harg2 arg3 harg3 arg4 harg4 arg5 harg5 arg6 harg6 arg7 harg7 arg8 harg8 arg9 harg9 x0 x1 x2 x3 x4 x5 x6 x7 = ur_4 at hr_4 ⊢
  generalize kernelRun0_B.sl.r_5 c arg2 harg2 arg3 harg3 arg4 harg4 arg5 harg5 arg6 harg6 arg7 harg7 arg8 harg8 arg9 harg9 x0 x1 x2 x3 x4 x5 x6 x7 = ur_5 at hr_5 ⊢
  generalize kernelRun0_B.sl.r_1 c arg2 harg2 arg3 harg3 arg4 harg4 arg5 harg5 arg6 harg6 arg7 harg7 arg8 harg8 x0 x1 x2 x3 x4 x5 x6 = xn at *
  unfold k0_pay48 k0_pay47 k0_pay45 k0_pay44 k0_pay43 k0_pay42 k0_pay41 k0_pay40 k0_pay39 k0_pay38 k0_pay36 k0_pay35 k0_pay34 k0_pay33 k0_pay32 k0_pay31 k0_pay30 k0_pay29
  pointwise
  have ec : (⟨2816 + (256 + k.val), by omega⟩ : Fin 5632) = ⟨3072 + k.val, by omega⟩ :=
    Fin.ext (by show 2816 + (256 + k.val) = 3072 + k.val; omega)
  show _ = FfnMath.hid (cvRow xs0 xn x7 x8 r) ⟨256 + k.val, by omega⟩
  unfold FfnMath.hid cvRow FfnMath.cv backRow
  simp only [ec, Ideal.logistic, hr_4, hr_5]
  by_cases hk : k.val < 128
  · simp only [hk, ↓reduceDIte]
  · have ek : 128 + (k.val - 128) = k.val := by omega
    simp only [hk, ↓reduceDIte, ek]

set_option maxHeartbeats 4000000 in
/-- Columns 512 to 767 of the hidden block. -/
theorem pieceB_2 (r : Fin 512) (k : Fin 256) :
    (k0_pay71 (kernelRun0_B.sl.r_15 c arg2 harg2 arg3 harg3 arg4 harg4 arg5 harg5 arg6 harg6 arg7 harg7 arg8 harg8 arg9 harg9 x0 x1 x2 x3 x4 x5 x6 x7) (kernelRun0_B.sl.r_32 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_33 c arg10 harg10 x8) (kernelRun0_B.sl.r_35 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_36 c arg2 harg2 arg3 harg3 arg4 harg4 arg5 harg5 arg6 harg6 arg7 harg7 arg8 harg8 arg9 harg9 arg13 harg13 arg14 x0 x1 x2 x3 x4 x5 x6 x7 xs0) (kernelRun0_B.sl.r_37 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨512 + k.val, by omega⟩) := by
  have hr_14 : ∀ (r : Fin 512) (k : Fin 256), kernelRun0_B.sl.r_14 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨512 + k.val, by omega⟩ := by
    intro r k; unfold kernelRun0_B.sl.r_14 k0_pay27 upRow FfnMath.up; pointwise
  have hr_15 : ∀ (r : Fin 512) (k : Fin 256), kernelRun0_B.sl.r_15 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨3328 + k.val, by omega⟩ := by
    intro r k; unfold kernelRun0_B.sl.r_15 k0_pay28 upRow FfnMath.up; pointwise
  simp only [kernelRun0_B.sl.HS1_18, kernelRun0_B.sl.HS1_20, kernelRun0_B.sl.HS1_22, kernelRun0_B.sl.HS1_24, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.v300, kernelRun0_B.sl.v311, kernelRun0_B.sl.v313, kernelRun0_B.sl.v335, kernelRun0_B.sl.v337, kernelRun0_B.sl.v356, kernelRun0_B.sl.v367, kernelRun0_B.sl.v369, kernelRun0_B.sl.v391, kernelRun0_B.sl.v393, readCov7, readCov6]
  generalize kernelRun0_B.sl.r_14 c arg2 harg2 arg3 harg3 arg4 harg4 arg5 harg5 arg6 harg6 arg7 harg7 arg8 harg8 arg9 harg9 x0 x1 x2 x3 x4 x5 x6 x7 = ur_14 at hr_14 ⊢
  generalize kernelRun0_B.sl.r_15 c arg2 harg2 arg3 harg3 arg4 harg4 arg5 harg5 arg6 harg6 arg7 harg7 arg8 harg8 arg9 harg9 x0 x1 x2 x3 x4 x5 x6 x7 = ur_15 at hr_15 ⊢
  generalize kernelRun0_B.sl.r_1 c arg2 harg2 arg3 harg3 arg4 harg4 arg5 harg5 arg6 harg6 arg7 harg7 arg8 harg8 x0 x1 x2 x3 x4 x5 x6 = xn at *
  unfold k0_pay71 k0_pay69 k0_pay68 k0_pay67 k0_pay66 k0_pay65 k0_pay64 k0_pay63 k0_pay62 k0_pay61 k0_pay59 k0_pay58 k0_pay57 k0_pay56 k0_pay55 k0_pay54 k0_pay53 k0_pay52 k0_pay51
  pointwise
  have ec : (⟨2816 + (512 + k.val), by omega⟩ : Fin 5632) = ⟨3328 + k.val, by omega⟩ :=
    Fin.ext (by show 2816 + (512 + k.val) = 3328 + k.val; omega)
  show _ = FfnMath.hid (cvRow xs0 xn x7 x8 r) ⟨512 + k.val, by omega⟩
  unfold FfnMath.hid cvRow FfnMath.cv backRow
  simp only [ec, Ideal.logistic, hr_14, hr_15]
  by_cases hk : k.val < 128
  · simp only [hk, ↓reduceDIte]
  · have ek : 128 + (k.val - 128) = k.val := by omega
    simp only [hk, ↓reduceDIte, ek]

set_option maxHeartbeats 4000000 in
/-- Columns 768 to 1023 of the hidden block. -/
theorem pieceB_3 (r : Fin 512) (k : Fin 256) :
    (k0_pay92 (kernelRun0_B.sl.r_27 c arg2 harg2 arg3 harg3 arg4 harg4 arg5 harg5 arg6 harg6 arg7 harg7 arg8 harg8 arg9 harg9 x0 x1 x2 x3 x4 x5 x6 x7) (kernelRun0_B.sl.r_44 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_45 c arg10 harg10 x8) (kernelRun0_B.sl.r_46 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.v516 c arg2 harg2 arg3 harg3 arg4 harg4 arg5 harg5 arg6 harg6 arg7 harg7 arg8 harg8 arg9 harg9 arg13 harg13 arg14 x0 x1 x2 x3 x4 x5 x6 x7 xs0) (kernelRun0_B.sl.v518 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨768 + k.val, by omega⟩) := by
  have hr_26 : ∀ (r : Fin 512) (k : Fin 256), kernelRun0_B.sl.r_26 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨768 + k.val, by omega⟩ := by
    intro r k; unfold kernelRun0_B.sl.r_26 k0_pay49 upRow FfnMath.up; pointwise
  have hr_27 : ∀ (r : Fin 512) (k : Fin 256), kernelRun0_B.sl.r_27 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨3584 + k.val, by omega⟩ := by
    intro r k; unfold kernelRun0_B.sl.r_27 k0_pay50 upRow FfnMath.up; pointwise
  simp only [kernelRun0_B.sl.HS1_26, kernelRun0_B.sl.HS1_28, kernelRun0_B.sl.HS1_30, kernelRun0_B.sl.HS1_32, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.v425, kernelRun0_B.sl.v436, kernelRun0_B.sl.v438, kernelRun0_B.sl.v460, kernelRun0_B.sl.v462, kernelRun0_B.sl.v481, kernelRun0_B.sl.v492, kernelRun0_B.sl.v494, kernelRun0_B.sl.v516, kernelRun0_B.sl.v518, readCov7, readCov6]
  generalize kernelRun0_B.sl.r_26 c arg2 harg2 arg3 harg3 arg4 harg4 arg5 harg5 arg6 harg6 arg7 harg7 arg8 harg8 arg9 harg9 x0 x1 x2 x3 x4 x5 x6 x7 = ur_26 at hr_26 ⊢
  generalize kernelRun0_B.sl.r_27 c arg2 harg2 arg3 harg3 arg4 harg4 arg5 harg5 arg6 harg6 arg7 harg7 arg8 harg8 arg9 harg9 x0 x1 x2 x3 x4 x5 x6 x7 = ur_27 at hr_27 ⊢
  generalize kernelRun0_B.sl.r_1 c arg2 harg2 arg3 harg3 arg4 harg4 arg5 harg5 arg6 harg6 arg7 harg7 arg8 harg8 x0 x1 x2 x3 x4 x5 x6 = xn at *
  unfold k0_pay92 k0_pay90 k0_pay89 k0_pay88 k0_pay87 k0_pay86 k0_pay85 k0_pay84 k0_pay82 k0_pay81 k0_pay80 k0_pay79 k0_pay78 k0_pay77 k0_pay76 k0_pay75 k0_pay74
  pointwise
  have ec : (⟨2816 + (768 + k.val), by omega⟩ : Fin 5632) = ⟨3584 + k.val, by omega⟩ :=
    Fin.ext (by show 2816 + (768 + k.val) = 3584 + k.val; omega)
  show _ = FfnMath.hid (cvRow xs0 xn x7 x8 r) ⟨768 + k.val, by omega⟩
  unfold FfnMath.hid cvRow FfnMath.cv backRow
  simp only [ec, Ideal.logistic, hr_26, hr_27]
  by_cases hk : k.val < 128
  · simp only [hk, ↓reduceDIte]
  · have ek : 128 + (k.val - 128) = k.val := by omega
    simp only [hk, ↓reduceDIte, ek]

end Cert.KernelIdeal.Value
-- ==== Proof.HidB1.lean ====
/-
  The hidden block in case B of the body, a block with carried rows: what each stored group of 256 columns holds
  (groups 4 to 7).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16) (xs0 : Vec Ideal S8x5632 .f32)

set_option maxHeartbeats 4000000 in
/-- Columns 1024 to 1279 of the hidden block. -/
theorem pieceB_4 (r : Fin 512) (k : Fin 256) :
    (k0_pay112 (kernelRun0_B.sl.r_53 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_55 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_56 c arg2 harg2 arg3 harg3 arg4 harg4 arg5 harg5 arg6 harg6 arg7 harg7 arg8 harg8 arg9 harg9 arg10 harg10 arg13 harg13 arg14 x0 x1 x2 x3 x4 x5 x6 x7 x8 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨1024 + k.val, by omega⟩) := by
  have hr_38 : ∀ (r : Fin 512) (k : Fin 256), kernelRun0_B.sl.r_38 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨1024 + k.val, by omega⟩ := by
    intro r k; unfold kernelRun0_B.sl.r_38 k0_pay72 upRow FfnMath.up; pointwise
  have hr_39 : ∀ (r : Fin 512) (k : Fin 256), kernelRun0_B.sl.r_39 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨3840 + k.val, by omega⟩ := by
    intro r k; unfold kernelRun0_B.sl.r_39 k0_pay73 upRow FfnMath.up; pointwise
  simp only [kernelRun0_B.sl.HS1_34, kernelRun0_B.sl.HS1_36, kernelRun0_B.sl.HS1_38, kernelRun0_B.sl.HS1_40, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.v550, kernelRun0_B.sl.v561, kernelRun0_B.sl.v563, kernelRun0_B.sl.v585, kernelRun0_B.sl.v587, kernelRun0_B.sl.v606, kernelRun0_B.sl.v617, kernelRun0_B.sl.v619, kernelRun0_B.sl.v641, kernelRun0_B.sl.v643, readCov7, readCov6]
  generalize kernelRun0_B.sl.r_38 c arg2 harg2 arg3 harg3 arg4 harg4 arg5 harg5 arg6 harg6 arg7 harg7 arg8 harg8 arg9 harg9 x0 x1 x2 x3 x4 x5 x6 x7 = ur_38 at hr_38 ⊢
  generalize kernelRun0_B.sl.r_39 c arg2 harg2 arg3 harg3 arg4 harg4 arg5 harg5 arg6 harg6 arg7 harg7 arg8 harg8 arg9 harg9 x0 x1 x2 x3 x4 x5 x6 x7 = ur_39 at hr_39 ⊢
  generalize kernelRun0_B.sl.r_1 c arg2 harg2 arg3 harg3 arg4 harg4 arg5 harg5 arg6 harg6 arg7 harg7 arg8 harg8 x0 x1 x2 x3 x4 x5 x6 = xn at *
  unfold k0_pay112 k0_pay110 k0_pay109 k0_pay108 k0_pay107 k0_pay106 k0_pay105 k0_pay104 k0_pay102 k0_pay101 k0_pay100 k0_pay99 k0_pay98 k0_pay97 k0_pay96 k0_pay95
  pointwise
  have ec : (⟨2816 + (1024 + k.val), by omega⟩ : Fin 5632) = ⟨3840 + k.val, by omega⟩ :=
    Fin.ext (by show 2816 + (1024 + k.val) = 3840 + k.val; omega)
  show _ = FfnMath.hid (cvRow xs0 xn x7 x8 r) ⟨1024 + k.val, by omega⟩
  unfold FfnMath.hid cvRow FfnMath.cv backRow
  simp only [ec, Ideal.logistic, hr_38, hr_39]
  by_cases hk : k.val < 128
  · simp only [hk, ↓reduceDIte]
  · have ek : 128 + (k.val - 128) = k.val := by omega
    simp only [hk, ↓reduceDIte, ek]

set_option maxHeartbeats 4000000 in
/-- Columns 1280 to 1535 of the hidden block. -/
theorem pieceB_5 (r : Fin 512) (k : Fin 256) :
    (k0_pay131 (kernelRun0_B.sl.r_49 c arg2 harg2 arg3 harg3 arg4 harg4 arg5 harg5 arg6 harg6 arg7 harg7 arg8 harg8 arg9 harg9 x0 x1 x2 x3 x4 x5 x6 x7) (kernelRun0_B.sl.r_61 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_63 c arg10 harg10 x8) (kernelRun0_B.sl.r_64 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.v766 c arg2 harg2 arg3 harg3 arg4 harg4 arg5 harg5 arg6 harg6 arg7 harg7 arg8 harg8 arg9 harg9 arg13 harg13 arg14 x0 x1 x2 x3 x4 x5 x6 x7 xs0) (kernelRun0_B.sl.v768 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨1280 + k.val, by omega⟩) := by
  have hr_48 : ∀ (r : Fin 512) (k : Fin 256), kernelRun0_B.sl.r_48 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨1280 + k.val, by omega⟩ := by
    intro r k; unfold kernelRun0_B.sl.r_48 k0_pay93 upRow FfnMath.up; pointwise
  have hr_49 : ∀ (r : Fin 512) (k : Fin 256), kernelRun0_B.sl.r_49 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨4096 + k.val, by omega⟩ := by
    intro r k; unfold kernelRun0_B.sl.r_49 k0_pay94 upRow FfnMath.up; pointwise
  simp only [kernelRun0_B.sl.HS1_42, kernelRun0_B.sl.HS1_44, kernelRun0_B.sl.HS1_46, kernelRun0_B.sl.HS1_48, kernelRun0_B.sl.r_59, kernelRun0_B.sl.r_60, kernelRun0_B.sl.r_61, kernelRun0_B.sl.r_63, kernelRun0_B.sl.r_64, kernelRun0_B.sl.r_65, kernelRun0_B.sl.v675, kernelRun0_B.sl.v686, kernelRun0_B.sl.v688, kernelRun0_B.sl.v710, kernelRun0_B.sl.v712, kernelRun0_B.sl.v731, kernelRun0_B.sl.v742, kernelRun0_B.sl.v744, kernelRun0_B.sl.v766, kernelRun0_B.sl.v768, readCov7, readCov6]
  generalize kernelRun0_B.sl.r_48 c arg2 harg2 arg3 harg3 arg4 harg4 arg5 harg5 arg6 harg6 arg7 harg7 arg8 harg8 arg9 harg9 x0 x1 x2 x3 x4 x5 x6 x7 = ur_48 at hr_48 ⊢
  generalize kernelRun0_B.sl.r_49 c arg2 harg2 arg3 harg3 arg4 harg4 arg5 harg5 arg6 harg6 arg7 harg7 arg8 harg8 arg9 harg9 x0 x1 x2 x3 x4 x5 x6 x7 = ur_49 at hr_49 ⊢
  generalize kernelRun0_B.sl.r_1 c arg2 harg2 arg3 harg3 arg4 harg4 arg5 harg5 arg6 harg6 arg7 harg7 arg8 harg8 x0 x1 x2 x3 x4 x5 x6 = xn at *
  unfold k0_pay131 k0_pay129 k0_pay128 k0_pay127 k0_pay126 k0_pay125 k0_pay124 k0_pay123 k0_pay121 k0_pay120 k0_pay119 k0_pay118 k0_pay117 k0_pay116 k0_pay115
  pointwise
  have ec : (⟨2816 + (1280 + k.val), by omega⟩ : Fin 5632) = ⟨4096 + k.val, by omega⟩ :=
    Fin.ext (by show 2816 + (1280 + k.val) = 4096 + k.val; omega)
  show _ = FfnMath.hid (cvRow xs0 xn x7 x8 r) ⟨1280 + k.val, by omega⟩
  unfold FfnMath.hid cvRow FfnMath.cv backRow
  simp only [ec, Ideal.logistic, hr_48, hr_49]
  by_cases hk : k.val < 128
  · simp only [hk, ↓reduceDIte]
  · have ek : 128 + (k.val - 128) = k.val := by omega
    simp only [hk, ↓reduceDIte, ek]

set_option maxHeartbeats 4000000 in
/-- Columns 1536 to 1791 of the hidden block. -/
theorem pieceB_6 (r : Fin 512) (k : Fin 256) :
    (k0_pay153 (kernelRun0_B.sl.r_77 c arg2 harg2 arg3 harg3 arg4 harg4 arg5 harg5 arg6 harg6 arg7 harg7 arg8 harg8 arg9 harg9 arg10 harg10 arg13 harg13 arg14 x0 x1 x2 x3 x4 x5 x6 x7 x8 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨1536 + k.val, by omega⟩) := by
  have hr_57 : ∀ (r : Fin 512) (k : Fin 256), kernelRun0_B.sl.r_57 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨1536 + k.val, by omega⟩ := by
    intro r k; unfold kernelRun0_B.sl.r_57 k0_pay113 upRow FfnMath.up; pointwise
  have hr_58 : ∀ (r : Fin 512) (k : Fin 256), kernelRun0_B.sl.r_58 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨4352 + k.val, by omega⟩ := by
    intro r k; unfold kernelRun0_B.sl.r_58 k0_pay114 upRow FfnMath.up; pointwise
  simp only [kernelRun0_B.sl.HS1_50, kernelRun0_B.sl.HS1_52, kernelRun0_B.sl.HS1_54, kernelRun0_B.sl.HS1_56, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.v800, kernelRun0_B.sl.v811, kernelRun0_B.sl.v813, kernelRun0_B.sl.v835, kernelRun0_B.sl.v837, kernelRun0_B.sl.v856, kernelRun0_B.sl.v867, kernelRun0_B.sl.v869, kernelRun0_B.sl.v891, kernelRun0_B.sl.v893, readCov7, readCov6]
  generalize kernelRun0_B.sl.r_57 c arg2 harg2 arg3 harg3 arg4 harg4 arg5 harg5 arg6 harg6 arg7 harg7 arg8 harg8 arg9 harg9 x0 x1 x2 x3 x4 x5 x6 x7 = ur_57 at hr_57 ⊢
  generalize kernelRun0_B.sl.r_58 c arg2 harg2 arg3 harg3 arg4 harg4 arg5 harg5 arg6 harg6 arg7 harg7 arg8 harg8 arg9 harg9 x0 x1 x2 x3 x4 x5 x6 x7 = ur_58 at hr_58 ⊢
  generalize kernelRun0_B.sl.r_1 c arg2 harg2 arg3 harg3 arg4 harg4 arg5 harg5 arg6 harg6 arg7 harg7 arg8 harg8 x0 x1 x2 x3 x4 x5 x6 = xn at *
  unfold k0_pay153 k0_pay152 k0_pay150 k0_pay149 k0_pay148 k0_pay147 k0_pay146 k0_pay145 k0_pay144 k0_pay143 k0_pay141 k0_pay140 k0_pay139 k0_pay138 k0_pay137 k0_pay136 k0_pay135 k0_pay134
  pointwise
  have ec : (⟨2816 + (1536 + k.val), by omega⟩ : Fin 5632) = ⟨4352 + k.val, by omega⟩ :=
    Fin.ext (by show 2816 + (1536 + k.val) = 4352 + k.val; omega)
  show _ = FfnMath.hid (cvRow xs0 xn x7 x8 r) ⟨1536 + k.val, by omega⟩
  unfold FfnMath.hid cvRow FfnMath.cv backRow
  simp only [ec, Ideal.logistic, hr_57, hr_58]
  by_cases hk : k.val < 128
  · simp only [hk, ↓reduceDIte]
  · have ek : 128 + (k.val - 128) = k.val := by omega
    simp only [hk, ↓reduceDIte, ek]

set_option maxHeartbeats 4000000 in
/-- Columns 1792 to 2047 of the hidden block. -/
theorem pieceB_7 (r : Fin 512) (k : Fin 256) :
    (k0_pay176 (kernelRun0_B.sl.r_67 c arg2 harg2 arg3 harg3 arg4 harg4 arg5 harg5 arg6 harg6 arg7 harg7 arg8 harg8 arg9 harg9 x0 x1 x2 x3 x4 x5 x6 x7) (kernelRun0_B.sl.r_84 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_85 c arg10 harg10 x8) (kernelRun0_B.sl.r_87 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_88 c arg2 harg2 arg3 harg3 arg4 harg4 arg5 harg5 arg6 harg6 arg7 harg7 arg8 harg8 arg9 harg9 arg13 harg13 arg14 x0 x1 x2 x3 x4 x5 x6 x7 xs0) (kernelRun0_B.sl.r_89 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨1792 + k.val, by omega⟩) := by
  have hr_66 : ∀ (r : Fin 512) (k : Fin 256), kernelRun0_B.sl.r_66 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨1792 + k.val, by omega⟩ := by
    intro r k; unfold kernelRun0_B.sl.r_66 k0_pay132 upRow FfnMath.up; pointwise
  have hr_67 : ∀ (r : Fin 512) (k : Fin 256), kernelRun0_B.sl.r_67 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨4608 + k.val, by omega⟩ := by
    intro r k; unfold kernelRun0_B.sl.r_67 k0_pay133 upRow FfnMath.up; pointwise
  simp only [kernelRun0_B.sl.HS1_58, kernelRun0_B.sl.HS1_60, kernelRun0_B.sl.HS1_62, kernelRun0_B.sl.HS1_64, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.v1016, kernelRun0_B.sl.v1018, kernelRun0_B.sl.v925, kernelRun0_B.sl.v936, kernelRun0_B.sl.v938, kernelRun0_B.sl.v960, kernelRun0_B.sl.v962, kernelRun0_B.sl.v981, kernelRun0_B.sl.v992, kernelRun0_B.sl.v994, readCov7, readCov6]
  generalize kernelRun0_B.sl.r_66 c arg2 harg2 arg3 harg3 arg4 harg4 arg5 harg5 arg6 harg6 arg7 harg7 arg8 harg8 arg9 harg9 x0 x1 x2 x3 x4 x5 x6 x7 = ur_66 at hr_66 ⊢
  generalize kernelRun0_B.sl.r_67 c arg2 harg2 arg3 harg3 arg4 harg4 arg5 harg5 arg6 harg6 arg7 harg7 arg8 harg8 arg9 harg9 x0 x1 x2 x3 x4 x5 x6 x7 = ur_67 at hr_67 ⊢
  generalize kernelRun0_B.sl.r_1 c arg2 harg2 arg3 harg3 arg4 harg4 arg5 harg5 arg6 harg6 arg7 harg7 arg8 harg8 x0 x1 x2 x3 x4 x5 x6 = xn at *
  unfold k0_pay176 k0_pay174 k0_pay173 k0_pay172 k0_pay171 k0_pay170 k0_pay169 k0_pay168 k0_pay167 k0_pay166 k0_pay164 k0_pay163 k0_pay162 k0_pay161 k0_pay160 k0_pay159 k0_pay158 k0_pay157 k0_pay156
  pointwise
  have ec : (⟨2816 + (1792 + k.val), by omega⟩ : Fin 5632) = ⟨4608 + k.val, by omega⟩ :=
    Fin.ext (by show 2816 + (1792 + k.val) = 4608 + k.val; omega)
  show _ = FfnMath.hid (cvRow xs0 xn x7 x8 r) ⟨1792 + k.val, by omega⟩
  unfold FfnMath.hid cvRow FfnMath.cv backRow
  simp only [ec, Ideal.logistic, hr_66, hr_67]
  by_cases hk : k.val < 128
  · simp only [hk, ↓reduceDIte]
  · have ek : 128 + (k.val - 128) = k.val := by omega
    simp only [hk, ↓reduceDIte, ek]

end Cert.KernelIdeal.Value
-- ==== Proof.HidB2.lean ====
/-
  The hidden block in case B of the body, a block with carried rows: what each stored group of 256 columns holds
  (groups 8 to 10).
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16) (xs0 : Vec Ideal S8x5632 .f32)

set_option maxHeartbeats 4000000 in
/-- Columns 2048 to 2303 of the hidden block. -/
theorem pieceB_8 (r : Fin 512) (k : Fin 256) :
    (k0_pay197 (kernelRun0_B.sl.r_79 c arg2 harg2 arg3 harg3 arg4 harg4 arg5 harg5 arg6 harg6 arg7 harg7 arg8 harg8 arg9 harg9 x0 x1 x2 x3 x4 x5 x6 x7) (kernelRun0_B.sl.r_96 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_97 c arg10 harg10 x8) (kernelRun0_B.sl.r_98 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.v1141 c arg2 harg2 arg3 harg3 arg4 harg4 arg5 harg5 arg6 harg6 arg7 harg7 arg8 harg8 arg9 harg9 arg13 harg13 arg14 x0 x1 x2 x3 x4 x5 x6 x7 xs0) (kernelRun0_B.sl.v1143 c arg2 harg2 arg3 harg3 arg4 harg4 arg5 harg5 arg6 harg6 arg7 harg7 arg8 harg8 arg9 harg9 arg13 harg13 arg14 x0 x1 x2 x3 x4 x5 x6 x7 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨2048 + k.val, by omega⟩) := by
  have hr_78 : ∀ (r : Fin 512) (k : Fin 256), kernelRun0_B.sl.r_78 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨2048 + k.val, by omega⟩ := by
    intro r k; unfold kernelRun0_B.sl.r_78 k0_pay154 upRow FfnMath.up; pointwise
  have hr_79 : ∀ (r : Fin 512) (k : Fin 256), kernelRun0_B.sl.r_79 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨4864 + k.val, by omega⟩ := by
    intro r k; unfold kernelRun0_B.sl.r_79 k0_pay155 upRow FfnMath.up; pointwise
  simp only [kernelRun0_B.sl.HS1_66, kernelRun0_B.sl.HS1_68, kernelRun0_B.sl.HS1_70, kernelRun0_B.sl.HS1_72, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v1050, kernelRun0_B.sl.v1061, kernelRun0_B.sl.v1063, kernelRun0_B.sl.v1085, kernelRun0_B.sl.v1087, kernelRun0_B.sl.v1106, kernelRun0_B.sl.v1117, kernelRun0_B.sl.v1119, kernelRun0_B.sl.v1141, kernelRun0_B.sl.v1143, readCov7, readCov6]
  generalize kernelRun0_B.sl.r_78 c arg2 harg2 arg3 harg3 arg4 harg4 arg5 harg5 arg6 harg6 arg7 harg7 arg8 harg8 arg9 harg9 x0 x1 x2 x3 x4 x5 x6 x7 = ur_78 at hr_78 ⊢
  generalize kernelRun0_B.sl.r_79 c arg2 harg2 arg3 harg3 arg4 harg4 arg5 harg5 arg6 harg6 arg7 harg7 arg8 harg8 arg9 harg9 x0 x1 x2 x3 x4 x5 x6 x7 = ur_79 at hr_79 ⊢
  generalize kernelRun0_B.sl.r_1 c arg2 harg2 arg3 harg3 arg4 harg4 arg5 harg5 arg6 harg6 arg7 harg7 arg8 harg8 x0 x1 x2 x3 x4 x5 x6 = xn at *
  unfold k0_pay197 k0_pay195 k0_pay194 k0_pay193 k0_pay192 k0_pay191 k0_pay190 k0_pay189 k0_pay187 k0_pay186 k0_pay185 k0_pay184 k0_pay183 k0_pay182 k0_pay181 k0_pay180 k0_pay179
  pointwise
  have ec : (⟨2816 + (2048 + k.val), by omega⟩ : Fin 5632) = ⟨4864 + k.val, by omega⟩ :=
    Fin.ext (by show 2816 + (2048 + k.val) = 4864 + k.val; omega)
  show _ = FfnMath.hid (cvRow xs0 xn x7 x8 r) ⟨2048 + k.val, by omega⟩
  unfold FfnMath.hid cvRow FfnMath.cv backRow
  simp only [ec, Ideal.logistic, hr_78, hr_79]
  by_cases hk : k.val < 128
  · simp only [hk, ↓reduceDIte]
  · have ek : 128 + (k.val - 128) = k.val := by omega
    simp only [hk, ↓reduceDIte, ek]

set_option maxHeartbeats 4000000 in
/-- Columns 2304 to 2559 of the hidden block. -/
theorem pieceB_9 (r : Fin 512) (k : Fin 256) :
    (k0_pay217 (kernelRun0_B.sl.r_105 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_107 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_108 c arg2 harg2 arg3 harg3 arg4 harg4 arg5 harg5 arg6 harg6 arg7 harg7 arg8 harg8 arg9 harg9 arg10 harg10 arg13 harg13 arg14 x0 x1 x2 x3 x4 x5 x6 x7 x8 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨2304 + k.val, by omega⟩) := by
  have hr_90 : ∀ (r : Fin 512) (k : Fin 256), kernelRun0_B.sl.r_90 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨2304 + k.val, by omega⟩ := by
    intro r k; unfold kernelRun0_B.sl.r_90 k0_pay177 upRow FfnMath.up; pointwise
  have hr_91 : ∀ (r : Fin 512) (k : Fin 256), kernelRun0_B.sl.r_91 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨5120 + k.val, by omega⟩ := by
    intro r k; unfold kernelRun0_B.sl.r_91 k0_pay178 upRow FfnMath.up; pointwise
  simp only [kernelRun0_B.sl.HS1_74, kernelRun0_B.sl.HS1_76, kernelRun0_B.sl.HS1_78, kernelRun0_B.sl.HS1_80, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.v1175, kernelRun0_B.sl.v1186, kernelRun0_B.sl.v1188, kernelRun0_B.sl.v1210, kernelRun0_B.sl.v1212, kernelRun0_B.sl.v1231, kernelRun0_B.sl.v1242, kernelRun0_B.sl.v1244, kernelRun0_B.sl.v1266, kernelRun0_B.sl.v1268, readCov7, readCov6]
  generalize kernelRun0_B.sl.r_90 c arg2 harg2 arg3 harg3 arg4 harg4 arg5 harg5 arg6 harg6 arg7 harg7 arg8 harg8 arg9 harg9 x0 x1 x2 x3 x4 x5 x6 x7 = ur_90 at hr_90 ⊢
  generalize kernelRun0_B.sl.r_91 c arg2 harg2 arg3 harg3 arg4 harg4 arg5 harg5 arg6 harg6 arg7 harg7 arg8 harg8 arg9 harg9 x0 x1 x2 x3 x4 x5 x6 x7 = ur_91 at hr_91 ⊢
  generalize kernelRun0_B.sl.r_1 c arg2 harg2 arg3 harg3 arg4 harg4 arg5 harg5 arg6 harg6 arg7 harg7 arg8 harg8 x0 x1 x2 x3 x4 x5 x6 = xn at *
  unfold k0_pay217 k0_pay215 k0_pay214 k0_pay213 k0_pay212 k0_pay211 k0_pay210 k0_pay209 k0_pay207 k0_pay206 k0_pay205 k0_pay204 k0_pay203 k0_pay202 k0_pay201 k0_pay200
  pointwise
  have ec : (⟨2816 + (2304 + k.val), by omega⟩ : Fin 5632) = ⟨5120 + k.val, by omega⟩ :=
    Fin.ext (by show 2816 + (2304 + k.val) = 5120 + k.val; omega)
  show _ = FfnMath.hid (cvRow xs0 xn x7 x8 r) ⟨2304 + k.val, by omega⟩
  unfold FfnMath.hid cvRow FfnMath.cv backRow
  simp only [ec, Ideal.logistic, hr_90, hr_91]
  by_cases hk : k.val < 128
  · simp only [hk, ↓reduceDIte]
  · have ek : 128 + (k.val - 128) = k.val := by omega
    simp only [hk, ↓reduceDIte, ek]

set_option maxHeartbeats 4000000 in
/-- Columns 2560 to 2815 of the hidden block. -/
theorem pieceB_10 (r : Fin 512) (k : Fin 256) :
    (k0_pay1 (kernelRun0_B.sl.r_119 c arg2 harg2 arg3 harg3 arg4 harg4 arg5 harg5 arg6 harg6 arg7 harg7 arg8 harg8 arg9 harg9 arg10 harg10 arg13 harg13 arg14 x0 x1 x2 x3 x4 x5 x6 x7 x8 xs0) (kernelRun0_B.sl.r_120 c arg2 harg2 arg3 harg3 arg4 harg4 arg5 harg5 arg6 harg6 arg7 harg7 arg8 harg8 arg9 harg9 arg10 harg10 arg13 harg13 arg14 x0 x1 x2 x3 x4 x5 x6 x7 x8 xs0)) (ix2 r k)
      = hidBlk xs0 (kernelRun0_B.sl.r_1 c arg2 harg2 arg3 harg3 arg4 harg4 arg5 harg5 arg6 harg6 arg7 harg7 arg8 harg8 x0 x1 x2 x3 x4 x5 x6) x7 x8 (ix2 r ⟨2560 + k.val, by omega⟩) := by
  have hr_100 : ∀ (r : Fin 512) (k : Fin 256), kernelRun0_B.sl.r_100 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨2560 + k.val, by omega⟩ := by
    intro r k; unfold kernelRun0_B.sl.r_100 k0_pay198 upRow FfnMath.up; pointwise
  have hr_101 : ∀ (r : Fin 512) (k : Fin 256), kernelRun0_B.sl.r_101 c arg2 harg2 arg3 harg3 arg4 harg4 arg5 harg5 arg6 harg6 arg7 harg7 arg8 harg8 arg9 harg9 x0 x1 x2 x3 x4 x5 x6 x7 (ix2 r k)
      = upRow (kernelRun0_B.sl.r_1 c arg2 harg2 arg3 harg3 arg4 harg4 arg5 harg5 arg6 harg6 arg7 harg7 arg8 harg8 x0 x1 x2 x3 x4 x5 x6) x7 r ⟨5376 + k.val, by omega⟩ := by
    intro r k; unfold kernelRun0_B.sl.r_101 k0_pay199 upRow FfnMath.up; pointwise
  simp only [kernelRun0_B.sl.HS1_82, kernelRun0_B.sl.HS1_84, kernelRun0_B.sl.HS1_86, kernelRun0_B.sl.HS1_88, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.v1294, kernelRun0_B.sl.v1305, kernelRun0_B.sl.v1307, kernelRun0_B.sl.v1329, kernelRun0_B.sl.v1331, kernelRun0_B.sl.v1350, kernelRun0_B.sl.v1361, kernelRun0_B.sl.v1363, kernelRun0_B.sl.v1385, kernelRun0_B.sl.v1387, readCov7, readCov6]
  generalize kernelRun0_B.sl.r_100 c arg2 harg2 arg3 harg3 arg4 harg4 arg5 harg5 arg6 harg6 arg7 harg7 arg8 harg8 arg9 harg9 x0 x1 x2 x3 x4 x5 x6 x7 = ur_100 at hr_100 ⊢
  generalize kernelRun0_B.sl.r_101 c arg2 harg2 arg3 harg3 arg4 harg4 arg5 harg5 arg6 harg6 arg7 harg7 arg8 harg8 arg9 harg9 x0 x1 x2 x3 x4 x5 x6 x7 = ur_101 at hr_101 ⊢
  generalize kernelRun0_B.sl.r_1 c arg2 harg2 arg3 harg3 arg4 harg4 arg5 harg5 arg6 harg6 arg7 harg7 arg8 harg8 x0 x1 x2 x3 x4 x5 x6 = xn at *
  unfold k0_pay239 k0_pay237 k0_pay236 k0_pay235 k0_pay234 k0_pay233 k0_pay232 k0_pay231 k0_pay230 k0_pay229 k0_pay228 k0_pay226 k0_pay225 k0_pay224 k0_pay223 k0_pay222 k0_pay221 k0_pay220 k0_pay219 k0_pay218 k0_pay1
  pointwise
  have ec : (⟨2816 + (2560 + k.val), by omega⟩ : Fin 5632) = ⟨5376 + k.val, by omega⟩ :=
    Fin.ext (by show 2816 + (2560 + k.val) = 5376 + k.val; omega)
  show _ = FfnMath.hid (cvRow xs0 xn x7 x8 r) ⟨2560 + k.val, by omega⟩
  unfold FfnMath.hid cvRow FfnMath.cv backRow
  simp only [ec, Ideal.logistic, hr_100, hr_101]
  by_cases hk : k.val < 128
  · simp only [hk, ↓reduceDIte]
  · have ek : 128 + (k.val - 128) = k.val := by omega
    simp only [hk, ↓reduceDIte, ek]

end Cert.KernelIdeal.Value
-- ==== Proof.HaloB.lean ====
/-
  The rows carried out of a block in case B of the body: the last eight rows of the up projection, group by group.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16) (xs0 : Vec Ideal S8x5632 .f32)

theorem haloB_5376 (r : Fin 8) (k : Fin 256) (hk : 5376 + k.val < 5632) :
    (k0_pay238 (kernelRun0_B.sl.r_101 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨5376 + k.val, hk⟩) := by
  simp only [kernelRun0_B.sl.r_101]
  show _ = upRow _ x7 ⟨504 + r.val, _⟩ ⟨5376 + k.val, hk⟩
  generalize kernelRun0_B.sl.r_1 c arg2 harg2 arg3 harg3 arg4 harg4 arg5 harg5 arg6 harg6 arg7 harg7 arg8 harg8 x0 x1 x2 x3 x4 x5 x6 = xn
  unfold k0_pay238 k0_pay199 upRow FfnMath.up
  pointwise

theorem haloB_2560 (r : Fin 8) (k : Fin 256) (hk : 2560 + k.val < 5632) :
    (k0_pay227 (kernelRun0_B.sl.r_100 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨2560 + k.val, hk⟩) := by
  simp only [kernelRun0_B.sl.r_100]
  show _ = upRow _ x7 ⟨504 + r.val, _⟩ ⟨2560 + k.val, hk⟩
  generalize kernelRun0_B.sl.r_1 c arg2 harg2 arg3 harg3 arg4 harg4 arg5 harg5 arg6 harg6 arg7 harg7 arg8 harg8 x0 x1 x2 x3 x4 x5 x6 = xn
  unfold k0_pay227 k0_pay198 upRow FfnMath.up
  pointwise

theorem haloB_5120 (r : Fin 8) (k : Fin 256) (hk : 5120 + k.val < 5632) :
    (k0_pay216 (kernelRun0_B.sl.r_91 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨5120 + k.val, hk⟩) := by
  simp only [kernelRun0_B.sl.r_91]
  show _ = upRow _ x7 ⟨504 + r.val, _⟩ ⟨5120 + k.val, hk⟩
  generalize kernelRun0_B.sl.r_1 c arg2 harg2 arg3 harg3 arg4 harg4 arg5 harg5 arg6 harg6 arg7 harg7 arg8 harg8 x0 x1 x2 x3 x4 x5 x6 = xn
  unfold k0_pay216 k0_pay178 upRow FfnMath.up
  pointwise

theorem haloB_2304 (r : Fin 8) (k : Fin 256) (hk : 2304 + k.val < 5632) :
    (k0_pay208 (kernelRun0_B.sl.r_90 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨2304 + k.val, hk⟩) := by
  simp only [kernelRun0_B.sl.r_90]
  show _ = upRow _ x7 ⟨504 + r.val, _⟩ ⟨2304 + k.val, hk⟩
  generalize kernelRun0_B.sl.r_1 c arg2 harg2 arg3 harg3 arg4 harg4 arg5 harg5 arg6 harg6 arg7 harg7 arg8 harg8 x0 x1 x2 x3 x4 x5 x6 = xn
  unfold k0_pay208 k0_pay177 upRow FfnMath.up
  pointwise

theorem haloB_4864 (r : Fin 8) (k : Fin 256) (hk : 4864 + k.val < 5632) :
    (k0_pay196 (kernelRun0_B.sl.r_79 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨4864 + k.val, hk⟩) := by
  simp only [kernelRun0_B.sl.r_79]
  show _ = upRow _ x7 ⟨504 + r.val, _⟩ ⟨4864 + k.val, hk⟩
  generalize kernelRun0_B.sl.r_1 c arg2 harg2 arg3 harg3 arg4 harg4 arg5 harg5 arg6 harg6 arg7 harg7 arg8 harg8 x0 x1 x2 x3 x4 x5 x6 = xn
  unfold k0_pay196 k0_pay155 upRow FfnMath.up
  pointwise

theorem haloB_2048 (r : Fin 8) (k : Fin 256) (hk : 2048 + k.val < 5632) :
    (k0_pay188 (kernelRun0_B.sl.r_78 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨2048 + k.val, hk⟩) := by
  simp only [kernelRun0_B.sl.r_78]
  show _ = upRow _ x7 ⟨504 + r.val, _⟩ ⟨2048 + k.val, hk⟩
  generalize kernelRun0_B.sl.r_1 c arg2 harg2 arg3 harg3 arg4 harg4 arg5 harg5 arg6 harg6 arg7 harg7 arg8 harg8 x0 x1 x2 x3 x4 x5 x6 = xn
  unfold k0_pay188 k0_pay154 upRow FfnMath.up
  pointwise

theorem haloB_4608 (r : Fin 8) (k : Fin 256) (hk : 4608 + k.val < 5632) :
    (k0_pay175 (kernelRun0_B.sl.r_67 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨4608 + k.val, hk⟩) := by
  simp only [kernelRun0_B.sl.r_67]
  show _ = upRow _ x7 ⟨504 + r.val, _⟩ ⟨4608 + k.val, hk⟩
  generalize kernelRun0_B.sl.r_1 c arg2 harg2 arg3 harg3 arg4 harg4 arg5 harg5 arg6 harg6 arg7 harg7 arg8 harg8 x0 x1 x2 x3 x4 x5 x6 = xn
  unfold k0_pay175 k0_pay133 upRow FfnMath.up
  pointwise

theorem haloB_1792 (r : Fin 8) (k : Fin 256) (hk : 1792 + k.val < 5632) :
    (k0_pay165 (kernelRun0_B.sl.r_66 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨1792 + k.val, hk⟩) := by
  simp only [kernelRun0_B.sl.r_66]
  show _ = upRow _ x7 ⟨504 + r.val, _⟩ ⟨1792 + k.val, hk⟩
  generalize kernelRun0_B.sl.r_1 c arg2 harg2 arg3 harg3 arg4 harg4 arg5 harg5 arg6 harg6 arg7 harg7 arg8 harg8 x0 x1 x2 x3 x4 x5 x6 = xn
  unfold k0_pay165 k0_pay132 upRow FfnMath.up
  pointwise

theorem haloB_4352 (r : Fin 8) (k : Fin 256) (hk : 4352 + k.val < 5632) :
    (k0_pay151 (kernelRun0_B.sl.r_58 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨4352 + k.val, hk⟩) := by
  simp only [kernelRun0_B.sl.r_58]
  show _ = upRow _ x7 ⟨504 + r.val, _⟩ ⟨4352 + k.val, hk⟩
  generalize kernelRun0_B.sl.r_1 c arg2 harg2 arg3 harg3 arg4 harg4 arg5 harg5 arg6 harg6 arg7 harg7 arg8 harg8 x0 x1 x2 x3 x4 x5 x6 = xn
  unfold k0_pay151 k0_pay114 upRow FfnMath.up
  pointwise

theorem haloB_1536 (r : Fin 8) (k : Fin 256) (hk : 1536 + k.val < 5632) :
    (k0_pay142 (kernelRun0_B.sl.r_57 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨1536 + k.val, hk⟩) := by
  simp only [kernelRun0_B.sl.r_57]
  show _ = upRow _ x7 ⟨504 + r.val, _⟩ ⟨1536 + k.val, hk⟩
  generalize kernelRun0_B.sl.r_1 c arg2 harg2 arg3 harg3 arg4 harg4 arg5 harg5 arg6 harg6 arg7 harg7 arg8 harg8 x0 x1 x2 x3 x4 x5 x6 = xn
  unfold k0_pay142 k0_pay113 upRow FfnMath.up
  pointwise

theorem haloB_4096 (r : Fin 8) (k : Fin 256) (hk : 4096 + k.val < 5632) :
    (k0_pay130 (kernelRun0_B.sl.r_49 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨4096 + k.val, hk⟩) := by
  simp only [kernelRun0_B.sl.r_49]
  show _ = upRow _ x7 ⟨504 + r.val, _⟩ ⟨4096 + k.val, hk⟩
  generalize kernelRun0_B.sl.r_1 c arg2 harg2 arg3 harg3 arg4 harg4 arg5 harg5 arg6 harg6 arg7 harg7 arg8 harg8 x0 x1 x2 x3 x4 x5 x6 = xn
  unfold k0_pay130 k0_pay94 upRow FfnMath.up
  pointwise

theorem haloB_1280 (r : Fin 8) (k : Fin 256) (hk : 1280 + k.val < 5632) :
    (kernelRun0_B.sl.r_62 c arg2 harg2 arg3 harg3 arg4 harg4 arg5 harg5 arg6 harg6 arg7 harg7 arg8 harg8 arg9 harg9 x0 x1 x2 x3 x4 x5 x6 x7) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨1280 + k.val, hk⟩) := by
  simp only [kernelRun0_B.sl.r_48, kernelRun0_B.sl.r_62]
  show _ = upRow _ x7 ⟨504 + r.val, _⟩ ⟨1280 + k.val, hk⟩
  generalize kernelRun0_B.sl.r_1 c arg2 harg2 arg3 harg3 arg4 harg4 arg5 harg5 arg6 harg6 arg7 harg7 arg8 harg8 x0 x1 x2 x3 x4 x5 x6 = xn
  unfold k0_pay122 k0_pay93 upRow FfnMath.up
  pointwise

theorem haloB_3840 (r : Fin 8) (k : Fin 256) (hk : 3840 + k.val < 5632) :
    (k0_pay111 (kernelRun0_B.sl.r_39 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨3840 + k.val, hk⟩) := by
  simp only [kernelRun0_B.sl.r_39]
  show _ = upRow _ x7 ⟨504 + r.val, _⟩ ⟨3840 + k.val, hk⟩
  generalize kernelRun0_B.sl.r_1 c arg2 harg2 arg3 harg3 arg4 harg4 arg5 harg5 arg6 harg6 arg7 harg7 arg8 harg8 x0 x1 x2 x3 x4 x5 x6 = xn
  unfold k0_pay111 k0_pay73 upRow FfnMath.up
  pointwise

theorem haloB_1024 (r : Fin 8) (k : Fin 256) (hk : 1024 + k.val < 5632) :
    (k0_pay103 (kernelRun0_B.sl.r_38 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨1024 + k.val, hk⟩) := by
  simp only [kernelRun0_B.sl.r_38]
  show _ = upRow _ x7 ⟨504 + r.val, _⟩ ⟨1024 + k.val, hk⟩
  generalize kernelRun0_B.sl.r_1 c arg2 harg2 arg3 harg3 arg4 harg4 arg5 harg5 arg6 harg6 arg7 harg7 arg8 harg8 x0 x1 x2 x3 x4 x5 x6 = xn
  unfold k0_pay103 k0_pay72 upRow FfnMath.up
  pointwise

theorem haloB_3584 (r : Fin 8) (k : Fin 256) (hk : 3584 + k.val < 5632) :
    (k0_pay91 (kernelRun0_B.sl.r_27 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨3584 + k.val, hk⟩) := by
  simp only [kernelRun0_B.sl.r_27]
  show _ = upRow _ x7 ⟨504 + r.val, _⟩ ⟨3584 + k.val, hk⟩
  generalize kernelRun0_B.sl.r_1 c arg2 harg2 arg3 harg3 arg4 harg4 arg5 harg5 arg6 harg6 arg7 harg7 arg8 harg8 x0 x1 x2 x3 x4 x5 x6 = xn
  unfold k0_pay91 k0_pay50 upRow FfnMath.up
  pointwise

theorem haloB_768 (r : Fin 8) (k : Fin 256) (hk : 768 + k.val < 5632) :
    (k0_pay83 (kernelRun0_B.sl.r_26 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨768 + k.val, hk⟩) := by
  simp only [kernelRun0_B.sl.r_26]
  show _ = upRow _ x7 ⟨504 + r.val, _⟩ ⟨768 + k.val, hk⟩
  generalize kernelRun0_B.sl.r_1 c arg2 harg2 arg3 harg3 arg4 harg4 arg5 harg5 arg6 harg6 arg7 harg7 arg8 harg8 x0 x1 x2 x3 x4 x5 x6 = xn
  unfold k0_pay83 k0_pay49 upRow FfnMath.up
  pointwise

theorem haloB_3328 (r : Fin 8) (k : Fin 256) (hk : 3328 + k.val < 5632) :
    (k0_pay70 (kernelRun0_B.sl.r_15 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨3328 + k.val, hk⟩) := by
  simp only [kernelRun0_B.sl.r_15]
  show _ = upRow _ x7 ⟨504 + r.val, _⟩ ⟨3328 + k.val, hk⟩
  generalize kernelRun0_B.sl.r_1 c arg2 harg2 arg3 harg3 arg4 harg4 arg5 harg5 arg6 harg6 arg7 harg7 arg8 harg8 x0 x1 x2 x3 x4 x5 x6 = xn
  unfold k0_pay70 k0_pay28 upRow FfnMath.up
  pointwise

theorem haloB_512 (r : Fin 8) (k : Fin 256) (hk : 512 + k.val < 5632) :
    (k0_pay60 (kernelRun0_B.sl.r_14 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨512 + k.val, hk⟩) := by
  simp only [kernelRun0_B.sl.r_14]
  show _ = upRow _ x7 ⟨504 + r.val, _⟩ ⟨512 + k.val, hk⟩
  generalize kernelRun0_B.sl.r_1 c arg2 harg2 arg3 harg3 arg4 harg4 arg5 harg5 arg6 harg6 arg7 harg7 arg8 harg8 x0 x1 x2 x3 x4 x5 x6 = xn
  unfold k0_pay60 k0_pay27 upRow FfnMath.up
  pointwise

theorem haloB_3072 (r : Fin 8) (k : Fin 256) (hk : 3072 + k.val < 5632) :
    (k0_pay46 (kernelRun0_B.sl.r_5 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨3072 + k.val, hk⟩) := by
  simp only [kernelRun0_B.sl.r_5]
  show _ = upRow _ x7 ⟨504 + r.val, _⟩ ⟨3072 + k.val, hk⟩
  generalize kernelRun0_B.sl.r_1 c arg2 harg2 arg3 harg3 arg4 harg4 arg5 harg5 arg6 harg6 arg7 harg7 arg8 harg8 x0 x1 x2 x3 x4 x5 x6 = xn
  unfold k0_pay46 k0_pay9 upRow FfnMath.up
  pointwise

theorem haloB_256 (r : Fin 8) (k : Fin 256) (hk : 256 + k.val < 5632) :
    (k0_pay37 (kernelRun0_B.sl.r_4 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨256 + k.val, hk⟩) := by
  simp only [kernelRun0_B.sl.r_4]
  show _ = upRow _ x7 ⟨504 + r.val, _⟩ ⟨256 + k.val, hk⟩
  generalize kernelRun0_B.sl.r_1 c arg2 harg2 arg3 harg3 arg4 harg4 arg5 harg5 arg6 harg6 arg7 harg7 arg8 harg8 x0 x1 x2 x3 x4 x5 x6 = xn
  unfold k0_pay37 k0_pay8 upRow FfnMath.up
  pointwise

theorem haloB_2816 (r : Fin 8) (k : Fin 256) (hk : 2816 + k.val < 5632) :
    (k0_pay25 (kernelRun0_B.sl.r_3 c arg2 harg2 arg3 harg3 arg4 harg4 arg5 harg5 arg6 harg6 arg7 harg7 arg8 harg8 arg9 harg9 x0 x1 x2 x3 x4 x5 x6 x7)) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨2816 + k.val, hk⟩) := by
  simp only [kernelRun0_B.sl.r_3]
  show _ = upRow _ x7 ⟨504 + r.val, _⟩ ⟨2816 + k.val, hk⟩
  generalize kernelRun0_B.sl.r_1 c arg2 harg2 arg3 harg3 arg4 harg4 arg5 harg5 arg6 harg6 arg7 harg7 arg8 harg8 x0 x1 x2 x3 x4 x5 x6 = xn
  unfold k0_pay25 k0_pay7 upRow FfnMath.up
  pointwise

theorem haloB_0 (r : Fin 8) (k : Fin 256) (hk : 0 + k.val < 5632) :
    (kernelRun0_B.sl.r_10 c arg2 harg2 arg3 harg3 arg4 harg4 arg5 harg5 arg6 harg6 arg7 harg7 arg8 harg8 arg9 harg9 x0 x1 x2 x3 x4 x5 x6 x7) (ix2 r k)
      = haloBlk (kernelRun0_B.sl.r_1 c arg2 harg2 arg3 harg3 arg4 harg4 arg5 harg5 arg6 harg6 arg7 harg7 arg8 harg8 x0 x1 x2 x3 x4 x5 x6) x7 (ix2 r ⟨0 + k.val, hk⟩) := by
  simp only [kernelRun0_B.sl.r_10, kernelRun0_B.sl.r_2]
  show _ = upRow _ x7 ⟨504 + r.val, _⟩ ⟨0 + k.val, hk⟩
  generalize kernelRun0_B.sl.r_1 c arg2 harg2 arg3 harg3 arg4 harg4 arg5 harg5 arg6 harg6 arg7 harg7 arg8 harg8 x0 x1 x2 x3 x4 x5 x6 = xn
  unfold k0_pay17 k0_pay6 upRow FfnMath.up
  pointwise

end Cert.KernelIdeal.Value
-- ==== Proof.BodyB.lean ====
/-
  What the body leaves in case B: the result block and the carried rows, as functions of the blocks it read.
-/
module

public import proofs.«01_k».proof.Proof.HidB0
public import proofs.«01_k».proof.Proof.HidB1
public import proofs.«01_k».proof.Proof.HidB2
public import proofs.«01_k».proof.Proof.HaloB
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (i : grid0.Coords) (arg2 : Memref sig .tc .vmem S1x512x1024 .f32) (harg2 : arg2.IsWhole)
  (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole)
  (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole)
  (arg9 : Memref sig .tc .vmem S1024x5632 .bf16) (harg9 : arg9.IsWhole) (arg10 : Memref sig .tc .vmem S3x5632 .f32) (harg10 : arg10.IsWhole) (arg11 : Memref sig .tc .vmem S2816x1024 .bf16) (harg11 : arg11.IsWhole)
  (arg12 : Memref sig .tc .vmem S1x512x1024 .f32) (harg12 : arg12.IsWhole) (arg13 : Memref sig .tc .vmem S8x5632 .f32) (harg13 : arg13.IsWhole) (arg14 : Memref sig .tc .vmem S16x520x128 .f32) (harg14 : arg14.IsWhole) (arg15 : Memref sig .tc .vmem S512x2816 .bf16) (harg15 : arg15.IsWhole) (hc0 : ¬cond0_0 i)
  (x0 : Vec Ideal S1x512x1024 .f32) (x1 : Vec Ideal S1x512x1024 .bf16) (x2 : Vec Ideal S1x512x1024 .bf16) (x3 : Vec Ideal S1x512x512 .bf16) (x4 : Vec Ideal S512x1024 .bf16)
  (x5 : Vec Ideal S1024x1024 .bf16) (x6 : Vec Ideal S1x1024 .f32) (x7 : Vec Ideal S1024x5632 .bf16) (x8 : Vec Ideal S3x5632 .f32) (x9 : Vec Ideal S2816x1024 .bf16) (xs0 : Vec Ideal S8x5632 .f32)

theorem hidPiecesB : ∀ p ∈ kernelRun0_B.sl.HS2_11 c arg2 harg2 arg3 harg3 arg4 harg4 arg5 harg5 arg6 harg6 arg7 harg7 arg8 harg8 arg9 harg9 arg10 harg10 arg13 harg13 arg14 x0 x1 x2 x3 x4 x5 x6 x7 x8 xs0, ∀ x, p.2 x
    = hidBlk xs0 (kernelRun0_B.sl.r_1 c arg2 harg2 arg3 harg3 arg4 harg4 arg5 harg5 arg6 harg6 arg7 harg7 arg8 harg8 x0 x1 x2 x3 x4 x5 x6) x7 x8 (p.1.emb x) := by
  intro p hp
  simp only [kernelRun0_B.sl.HS2_11, List.mem_cons, List.not_mem_nil, or_false] at hp
  rcases hp with rfl | rfl | rfl | rfl | rfl | rfl | rfl | rfl | rfl | rfl | rfl
  · exact fun x => cols_emb (R := 512) (C := 2816) (W := 256) 2560 inb_S512x2816_S512x256_0_2560 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_10 (r := r) (k := k) ..) x
  · exact fun x => cols_emb (R := 512) (C := 2816) (W := 256) 2304 inb_S512x2816_S512x256_0_2304 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_9 (r := r) (k := k) ..) x
  · exact fun x => cols_emb (R := 512) (C := 2816) (W := 256) 2048 inb_S512x2816_S512x256_0_2048 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_8 (r := r) (k := k) ..) x
  · exact fun x => cols_emb (R := 512) (C := 2816) (W := 256) 1792 inb_S512x2816_S512x256_0_1792 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_7 (r := r) (k := k) ..) x
  · exact fun x => cols_emb (R := 512) (C := 2816) (W := 256) 1536 inb_S512x2816_S512x256_0_1536 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_6 (r := r) (k := k) ..) x
  · exact fun x => cols_emb (R := 512) (C := 2816) (W := 256) 1280 inb_S512x2816_S512x256_0_1280 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_5 (r := r) (k := k) ..) x
  · exact fun x => cols_emb (R := 512) (C := 2816) (W := 256) 1024 inb_S512x2816_S512x256_0_1024 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_4 (r := r) (k := k) ..) x
  · exact fun x => cols_emb (R := 512) (C := 2816) (W := 256) 768 inb_S512x2816_S512x256_0_768 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_3 (r := r) (k := k) ..) x
  · exact fun x => cols_emb (R := 512) (C := 2816) (W := 256) 512 inb_S512x2816_S512x256_0_512 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_2 (r := r) (k := k) ..) x
  · exact fun x => cols_emb (R := 512) (C := 2816) (W := 256) 256 inb_S512x2816_S512x256_0_256 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_1 (r := r) (k := k) ..) x
  · exact fun x => cols_emb (R := 512) (C := 2816) (W := 256) 0 inb_S512x2816_S512x256_0_0 _ (hidBlk xs0 (kernelRun0_B.sl.r_1 c arg2 harg2 arg3 harg3 arg4 harg4 arg5 harg5 arg6 harg6 arg7 harg7 arg8 harg8 x0 x1 x2 x3 x4 x5 x6) x7 x8)
      (fun r k hk => pieceB_0 (r := r) (k := k) ..) x

theorem hidReadB : kernelRun0_B.sl.v1413 c arg2 harg2 arg3 harg3 arg4 harg4 arg5 harg5 arg6 harg6 arg7 harg7 arg8 harg8 arg9 harg9 arg10 harg10 arg13 harg13 arg14 arg15 x0 x1 x2 x3 x4 x5 x6 x7 x8 xs0
    = hidBlk xs0 (kernelRun0_B.sl.r_1 c arg2 harg2 arg3 harg3 arg4 harg4 arg5 harg5 arg6 harg6 arg7 harg7 arg8 harg8 x0 x1 x2 x3 x4 x5 x6) x7 x8 := by
  unfold kernelRun0_B.sl.v1413
  rw [View.readCov_eq_canon']
  funext y
  have ey : (Rect.unit (s := S512x2816) ![0, 0] ![512, 2816] inb_S512x2816_S512x2816_0_0).toLoadRect.idx y = y := by
    funext a
    apply Fin.ext
    match a with
    | ⟨0, _⟩ => show 0 + 1 * (y 0).val = (y 0).val; omega
    | ⟨1, _⟩ => show 0 + 1 * (y 1).val = (y 1).val; omega
  refine (congrArg _ ey).trans ?_
  exact View.canon_apply_of_pieces (S := S512x2816) (Val := Elt Ideal) (e := .bf16) (hidBlk xs0 (kernelRun0_B.sl.r_1 c arg2 harg2 arg3 harg3 arg4 harg4 arg5 harg5 arg6 harg6 arg7 harg7 arg8 harg8 x0 x1 x2 x3 x4 x5 x6) x7 x8) _ (hidPiecesB c arg2 harg2 arg3 harg3 arg4 harg4 arg5 harg5 arg6 harg6 arg7 harg7 arg8 harg8 arg9 harg9 arg10 harg10 arg13 harg13 arg14 x0 x1 x2 x3 x4 x5 x6 x7 x8 xs0) y
    (View.cover_of_tiledL (s := S512x2816) _ S512x256.size (by sl_kernel_rfl) y)

theorem outB_eq : out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
    = outBlk xs0 x0 x1 x2 x3 x4 x5 x6 x7 x8 x9 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  unfold kernelRun0_B
  dsimp only
  refine (View.canon_unit_zero (S := S1x512x1024) (e := .f32) (by funext a; match a with | ⟨0, _⟩ => rfl | ⟨1, _⟩ => rfl | ⟨2, _⟩ => rfl) inb_S1x512x1024_S1x512x1024_0_0_0 _).trans ?_
  funext j
  idx_vars j
  rw [pay2_apply, hidReadB, kernelRun0_B.sl.r_1, pay4_eq, kernelRun0_B.sl.r]
  simp only [pay3_apply, readAt_whole2, readAt_whole3]
  rfl

theorem soutB_eq : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
    = haloBlk (xnBlk x0 x1 x2 x3 x4 x5 x6) x7 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0)]
  unfold kernelRun0_B
  dsimp only
  skip
  funext y
  have hx : (kernelRun0_B.sl.r_1 c arg2 harg2 arg3 harg3 arg4 harg4 arg5 harg5 arg6 harg6 arg7 harg7 arg8 harg8 x0 x1 x2 x3 x4 x5 x6) = xnBlk x0 x1 x2 x3 x4 x5 x6 := by
    rw [kernelRun0_B.sl.r_1, pay4_eq]
    simp only [readAt_whole2, readAt_whole3]
  rw [← hx]
  refine View.canon_apply_of_pieces (S := S8x5632) (Val := Elt Ideal) (e := .f32) (haloBlk (kernelRun0_B.sl.r_1 c arg2 harg2 arg3 harg3 arg4 harg4 arg5 harg5 arg6 harg6 arg7 harg7 arg8 harg8 x0 x1 x2 x3 x4 x5 x6) x7) _ ?_ y (View.cover_of_tiledL (s := S8x5632) _ S8x256.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
  · exact fun x => cols_emb (R := 8) (C := 5632) (W := 256) 5376 inb_S8x5632_S8x256_0_5376 _ (haloBlk (kernelRun0_B.sl.r_1 c arg2 harg2 arg3 harg3 arg4 harg4 arg5 harg5 arg6 harg6 arg7 harg7 arg8 harg8 x0 x1 x2 x3 x4 x5 x6) x7)
      (fun r k hk => haloB_5376 (r := r) (k := k) (hk := hk) ..) x
  · exact fun x => cols_emb (R := 8) (C := 5632) (W := 256) 2560 inb_S8x5632_S8x256_0_2560 _ (haloBlk (kernelRun0_B.sl.r_1 c arg2 harg2 arg3 harg3 arg4 harg4 arg5 harg5 arg6 harg6 arg7 harg7 arg8 harg8 x0 x1 x2 x3 x4 x5 x6) x7)
      (fun r k hk => haloB_2560 (r := r) (k := k) (hk := hk) ..) x
  · exact fun x => cols_emb (R := 8) (C := 5632) (W := 256) 5120 inb_S8x5632_S8x256_0_5120 _ (haloBlk (kernelRun0_B.sl.r_1 c arg2 harg2 arg3 harg3 arg4 harg4 arg5 harg5 arg6 harg6 arg7 harg7 arg8 harg8 x0 x1 x2 x3 x4 x5 x6) x7)
      (fun r k hk => haloB_5120 (r := r) (k := k) (hk := hk) ..) x
  · exact fun x => cols_emb (R := 8) (C := 5632) (W := 256) 2304 inb_S8x5632_S8x256_0_2304 _ (haloBlk (kernelRun0_B.sl.r_1 c arg2 harg2 arg3 harg3 arg4 harg4 arg5 harg5 arg6 harg6 arg7 harg7 arg8 harg8 x0 x1 x2 x3 x4 x5 x6) x7)
      (fun r k hk => haloB_2304 (r := r) (k := k) (hk := hk) ..) x
  · exact fun x => cols_emb (R := 8) (C := 5632) (W := 256) 4864 inb_S8x5632_S8x256_0_4864 _ (haloBlk (kernelRun0_B.sl.r_1 c arg2 harg2 arg3 harg3 arg4 harg4 arg5 harg5 arg6 harg6 arg7 harg7 arg8 harg8 x0 x1 x2 x3 x4 x5 x6) x7)
      (fun r k hk => haloB_4864 (r := r) (k := k) (hk := hk) ..) x
  · exact fun x => cols_emb (R := 8) (C := 5632) (W := 256) 2048 inb_S8x5632_S8x256_0_2048 _ (haloBlk (kernelRun0_B.sl.r_1 c arg2 harg2 arg3 harg3 arg4 harg4 arg5 harg5 arg6 harg6 arg7 harg7 arg8 harg8 x0 x1 x2 x3 x4 x5 x6) x7)
      (fun r k hk => haloB_2048 (r := r) (k := k) (hk := hk) ..) x
  · exact fun x => cols_emb (R := 8) (C := 5632) (W := 256) 4608 inb_S8x5632_S8x256_0_4608 _ (haloBlk (kernelRun0_B.sl.r_1 c arg2 harg2 arg3 harg3 arg4 harg4 arg5 harg5 arg6 harg6 arg7 harg7 arg8 harg8 x0 x1 x2 x3 x4 x5 x6) x7)
      (fun r k hk => haloB_4608 (r := r) (k := k) (hk := hk) ..) x
  · exact fun x => cols_emb (R := 8) (C := 5632) (W := 256) 1792 inb_S8x5632_S8x256_0_1792 _ (haloBlk (kernelRun0_B.sl.r_1 c arg2 harg2 arg3 harg3 arg4 harg4 arg5 harg5 arg6 harg6 arg7 harg7 arg8 harg8 x0 x1 x2 x3 x4 x5 x6) x7)
      (fun r k hk => haloB_1792 (r := r) (k := k) (hk := hk) ..) x
  · exact fun x => cols_emb (R := 8) (C := 5632) (W := 256) 4352 inb_S8x5632_S8x256_0_4352 _ (haloBlk (kernelRun0_B.sl.r_1 c arg2 harg2 arg3 harg3 arg4 harg4 arg5 harg5 arg6 harg6 arg7 harg7 arg8 harg8 x0 x1 x2 x3 x4 x5 x6) x7)
      (fun r k hk => haloB_4352 (r := r) (k := k) (hk := hk) ..) x
  · exact fun x => cols_emb (R := 8) (C := 5632) (W := 256) 1536 inb_S8x5632_S8x256_0_1536 _ (haloBlk (kernelRun0_B.sl.r_1 c arg2 harg2 arg3 harg3 arg4 harg4 arg5 harg5 arg6 harg6 arg7 harg7 arg8 harg8 x0 x1 x2 x3 x4 x5 x6) x7)
      (fun r k hk => haloB_1536 (r := r) (k := k) (hk := hk) ..) x
  · exact fun x => cols_emb (R := 8) (C := 5632) (W := 256) 4096 inb_S8x5632_S8x256_0_4096 _ (haloBlk (kernelRun0_B.sl.r_1 c arg2 harg2 arg3 harg3 arg4 harg4 arg5 harg5 arg6 harg6 arg7 harg7 arg8 harg8 x0 x1 x2 x3 x4 x5 x6) x7)
      (fun r k hk => haloB_4096 (r := r) (k := k) (hk := hk) ..) x
  · exact fun x => cols_emb (R := 8) (C := 5632) (W := 256) 1280 inb_S8x5632_S8x256_0_1280 _ (haloBlk (kernelRun0_B.sl.r_1 c arg2 harg2 arg3 harg3 arg4 harg4 arg5 harg5 arg6 harg6 arg7 harg7 arg8 harg8 x0 x1 x2 x3 x4 x5 x6) x7)
      (fun r k hk => haloB_1280 (r := r) (k := k) (hk := hk) ..) x
  · exact fun x => cols_emb (R := 8) (C := 5632) (W := 256) 3840 inb_S8x5632_S8x256_0_3840 _ (haloBlk (kernelRun0_B.sl.r_1 c arg2 harg2 arg3 harg3 arg4 harg4 arg5 harg5 arg6 harg6 arg7 harg7 arg8 harg8 x0 x1 x2 x3 x4 x5 x6) x7)
      (fun r k hk => haloB_3840 (r := r) (k := k) (hk := hk) ..) x
  · exact fun x => cols_emb (R := 8) (C := 5632) (W := 256) 1024 inb_S8x5632_S8x256_0_1024 _ (haloBlk (kernelRun0_B.sl.r_1 c arg2 harg2 arg3 harg3 arg4 harg4 arg5 harg5 arg6 harg6 arg7 harg7 arg8 harg8 x0 x1 x2 x3 x4 x5 x6) x7)
      (fun r k hk => haloB_1024 (r := r) (k := k) (hk := hk) ..) x
  · exact fun x => cols_emb (R := 8) (C := 5632) (W := 256) 3584 inb_S8x5632_S8x256_0_3584 _ (haloBlk (kernelRun0_B.sl.r_1 c arg2 harg2 arg3 harg3 arg4 harg4 arg5 harg5 arg6 harg6 arg7 harg7 arg8 harg8 x0 x1 x2 x3 x4 x5 x6) x7)
      (fun r k hk => haloB_3584 (r := r) (k := k) (hk := hk) ..) x
  · exact fun x => cols_emb (R := 8) (C := 5632) (W := 256) 768 inb_S8x5632_S8x256_0_768 _ (haloBlk (kernelRun0_B.sl.r_1 c arg2 harg2 arg3 harg3 arg4 harg4 arg5 harg5 arg6 harg6 arg7 harg7 arg8 harg8 x0 x1 x2 x3 x4 x5 x6) x7)
      (fun r k hk => haloB_768 (r := r) (k := k) (hk := hk) ..) x
  · exact fun x => cols_emb (R := 8) (C := 5632) (W := 256) 3328 inb_S8x5632_S8x256_0_3328 _ (haloBlk (kernelRun0_B.sl.r_1 c arg2 harg2 arg3 harg3 arg4 harg4 arg5 harg5 arg6 harg6 arg7 harg7 arg8 harg8 x0 x1 x2 x3 x4 x5 x6) x7)
      (fun r k hk => haloB_3328 (r := r) (k := k) (hk := hk) ..) x
  · exact fun x => cols_emb (R := 8) (C := 5632) (W := 256) 512 inb_S8x5632_S8x256_0_512 _ (haloBlk (kernelRun0_B.sl.r_1 c arg2 harg2 arg3 harg3 arg4 harg4 arg5 harg5 arg6 harg6 arg7 harg7 arg8 harg8 x0 x1 x2 x3 x4 x5 x6) x7)
      (fun r k hk => haloB_512 (r := r) (k := k) (hk := hk) ..) x
  · exact fun x => cols_emb (R := 8) (C := 5632) (W := 256) 3072 inb_S8x5632_S8x256_0_3072 _ (haloBlk (kernelRun0_B.sl.r_1 c arg2 harg2 arg3 harg3 arg4 harg4 arg5 harg5 arg6 harg6 arg7 harg7 arg8 harg8 x0 x1 x2 x3 x4 x5 x6) x7)
      (fun r k hk => haloB_3072 (r := r) (k := k) (hk := hk) ..) x
  · exact fun x => cols_emb (R := 8) (C := 5632) (W := 256) 256 inb_S8x5632_S8x256_0_256 _ (haloBlk (kernelRun0_B.sl.r_1 c arg2 harg2 arg3 harg3 arg4 harg4 arg5 harg5 arg6 harg6 arg7 harg7 arg8 harg8 x0 x1 x2 x3 x4 x5 x6) x7)
      (fun r k hk => haloB_256 (r := r) (k := k) (hk := hk) ..) x
  · exact fun x => cols_emb (R := 8) (C := 5632) (W := 256) 2816 inb_S8x5632_S8x256_0_2816 _ (haloBlk (kernelRun0_B.sl.r_1 c arg2 harg2 arg3 harg3 arg4 harg4 arg5 harg5 arg6 harg6 arg7 harg7 arg8 harg8 x0 x1 x2 x3 x4 x5 x6) x7)
      (fun r k hk => haloB_2816 (r := r) (k := k) (hk := hk) ..) x
  · exact fun x => cols_emb (R := 8) (C := 5632) (W := 256) 0 inb_S8x5632_S8x256_0_0 _ (haloBlk (kernelRun0_B.sl.r_1 c arg2 harg2 arg3 harg3 arg4 harg4 arg5 harg5 arg6 harg6 arg7 harg7 arg8 harg8 x0 x1 x2 x3 x4 x5 x6) x7)
      (fun r k hk => haloB_0 (r := r) (k := k) (hk := hk) ..) x
end Cert.KernelIdeal.Value
-- ==== Proof.Ref.lean ====
/-
  What the plain feed-forward mathematics computes at a token: the formula of FfnMath.
-/
module

public import proofs.«01_k».proof.Proof.Gen.ReferenceIdeal.Run
public import proofs.«01_k».proof.Proof.FfnMath
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The stages of the reference's composed result. -/
def X1 (a0 : FVec Ideal S8x2048x1024 .f32) (a1 a2 : FVec Ideal S8x2048x1024 .bf16) (a3 : FVec Ideal S8x512x2048 .bf16)
  (a4 : FVec Ideal S1x512x1024 .f32) (a5 : FVec Ideal S1x1024x1024 .f32) : FVec Ideal S8x2048x1024 .f32 :=
 addf a0 (Host.dotGeneral dot_S8x2048x1024_S1024x1024_S8x2048x1024_2_0_01_1_n_n none (addf (extf .f32 a1 bitsLt_bf16_f32) (mulf (extf .f32 a2 bitsLt_bf16_f32) (Host.dotGeneral dot_S8x2048x512_S512x1024_S8x2048x1024_2_0_01_1_n_n none (transpose S8x2048x512 [0, 2, 1] (extf .f32 a3 bitsLt_bf16_f32) transposes_S8x512x2048_S8x2048x512_0_2_1) (shapeCast _ a4 shapeCasts_S1x512x1024_S512x1024)))) (shapeCast _ a5 shapeCasts_S1x1024x1024_S1024x1024))

def XN (y : FVec Ideal S8x2048x1024 .f32) (a6 : FVec Ideal S1x1024 .f32) : FVec Ideal S8x2048x1024 .f32 :=
 mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a6 shapeCasts_S1x1024_S1024)))

def UP (y : FVec Ideal S8x2048x1024 .f32) (a7 : FVec Ideal S1x1024x5632 .f32) : FVec Ideal S8x2048x5632 .f32 :=
 Host.dotGeneral dot_S8x2048x1024_S1024x5632_S8x2048x5632_2_0_01_1_n_n none y (shapeCast _ a7 shapeCasts_S1x1024x5632_S1024x5632)

def CV (u : FVec Ideal S8x2048x5632 .f32) (a8 : FVec Ideal S1x3x5632 .f32) : FVec Ideal S8x2048x5632 .f32 :=
 addf (addf (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] (shapeCast _ a8 shapeCasts_S1x3x5632_S3x5632) slices_S3x5632_S1x5632_0_0) shapeCasts_S1x5632_S5632))) (extractStridedSlice S8x2048x5632 ![0, 0, 0] (pad S8x2050x5632 ![0, 2, 0] ![0, 0, 0] ![0, 0, 0] u (sitofp .f32 (constantI S_ 32 0#32)) pads_S8x2048x5632_S8x2050x5632_000_200_000 h_S_) slices_S8x2050x5632_S8x2048x5632_0_0_0)) (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] (shapeCast _ a8 shapeCasts_S1x3x5632_S3x5632) slices_S3x5632_S1x5632_1_0) shapeCasts_S1x5632_S5632))) (extractStridedSlice S8x2048x5632 ![0, 1, 0] (pad S8x2050x5632 ![0, 2, 0] ![0, 0, 0] ![0, 0, 0] u (sitofp .f32 (constantI S_ 32 0#32)) pads_S8x2048x5632_S8x2050x5632_000_200_000 h_S_) slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] (shapeCast _ a8 shapeCasts_S1x3x5632_S3x5632) slices_S3x5632_S1x5632_2_0) shapeCasts_S1x5632_S5632))) (extractStridedSlice S8x2048x5632 ![0, 2, 0] (pad S8x2050x5632 ![0, 2, 0] ![0, 0, 0] ![0, 0, 0] u (sitofp .f32 (constantI S_ 32 0#32)) pads_S8x2048x5632_S8x2050x5632_000_200_000 h_S_) slices_S8x2050x5632_S8x2048x5632_0_2_0))

def HM (v : FVec Ideal S8x2048x5632 .f32) : FVec Ideal S8x2048x2816 .f32 :=
 mulf (mulf (extractStridedSlice S8x2048x2816 ![0, 0, 0] v slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] v slices_S8x2048x5632_S8x2048x2816_0_0_0)))))) (extractStridedSlice S8x2048x2816 ![0, 0, 2816] v slices_S8x2048x5632_S8x2048x2816_0_0_2816)

def OUT (y : FVec Ideal S8x2048x1024 .f32) (h : FVec Ideal S8x2048x2816 .f32) (a9 : FVec Ideal S1x2816x1024 .f32) : FVec Ideal S8x2048x1024 .f32 :=
 addf y (Host.dotGeneral dot_S8x2048x2816_S2816x1024_S8x2048x1024_2_0_01_1_n_n none h (shapeCast _ a9 shapeCasts_S1x2816x1024_S2816x1024))

theorem x1_apply (a0 : FVec Ideal S8x2048x1024 .f32) (a1 a2 : FVec Ideal S8x2048x1024 .bf16) (a3 : FVec Ideal S8x512x2048 .bf16)
    (a4 : FVec Ideal S1x512x1024 .f32) (a5 : FVec Ideal S1x1024x1024 .f32) (b : Fin 8) (t : Fin 2048) (d : Fin 1024) :
    X1 a0 a1 a2 a3 a4 a5 (ix3 b t d) = FfnMath.xRow a0 a1 a2 a3 a4 a5 b t d := by
  unfold X1 FfnMath.xRow FfnMath.x1
  pointwise

theorem xn_apply (y : FVec Ideal S8x2048x1024 .f32) (a6 : FVec Ideal S1x1024 .f32) (b : Fin 8) (t : Fin 2048) (d : Fin 1024) :
    XN y a6 (ix3 b t d) = FfnMath.xn (fun d => y (ix3 b t d)) (fun d => a6 (ix2 0 d)) d := by
  unfold XN FfnMath.xn
  pointwise

theorem up_apply (y : FVec Ideal S8x2048x1024 .f32) (a7 : FVec Ideal S1x1024x5632 .f32) (b : Fin 8) (t : Fin 2048) (n : Fin 5632) :
    UP y a7 (ix3 b t n) = FfnMath.up (fun d => y (ix3 b t d)) (fun k n => a7 (ix3 0 k n)) n := by
  unfold UP FfnMath.up
  pointwise

theorem zero_word : (FloatOps.sitofp FTy.f32 0#32 : Ideal .f32) = (0 : EReal) := by
  show ((((0#32).toInt : ℤ) : ℝ) : EReal) = 0
  simp

theorem cv_apply (u : FVec Ideal S8x2048x5632 .f32) (a8 : FVec Ideal S1x3x5632 .f32) (b : Fin 8) (t : Fin 2048) (n : Fin 5632) :
    CV u a8 (ix3 b t n) = FfnMath.cv (fun j n => a8 (ix3 0 j n)) (FfnMath.back (fun t n => u (ix3 b t n)) 2 t)
      (FfnMath.back (fun t n => u (ix3 b t n)) 1 t) (fun n => u (ix3 b t n)) n := by
  unfold CV FfnMath.cv FfnMath.back
  pointwise
  simp only [zero_word]
  have e2 : (2 ≤ t.val ∧ t.val - 2 < 2048) ↔ 2 ≤ t.val := by omega
  have e1 : (2 ≤ 1 + t.val ∧ 1 + t.val - 2 < 2048) ↔ 1 ≤ t.val := by omega
  have e3 : 1 + t.val - 2 = t.val - 1 := by omega
  simp only [e2, e1]
  simp only [e3]

theorem hm_apply (v : FVec Ideal S8x2048x5632 .f32) (b : Fin 8) (t : Fin 2048) (n : Fin 2816) :
    HM v (ix3 b t n) = FfnMath.hid (fun n => v (ix3 b t n)) n := by
  unfold HM FfnMath.hid
  pointwise

theorem out_apply (y : FVec Ideal S8x2048x1024 .f32) (h : FVec Ideal S8x2048x2816 .f32) (a9 : FVec Ideal S1x2816x1024 .f32)
    (b : Fin 8) (t : Fin 2048) (d : Fin 1024) :
    OUT y h a9 (ix3 b t d) = FfnMath.out (fun d => y (ix3 b t d)) (fun n => h (ix3 b t n)) (fun n d => a9 (ix3 0 n d)) d := by
  unfold OUT FfnMath.out
  pointwise

theorem res_eq (m : (ℓ : Loc nD τ sig) → Buf (Elt Ideal) ℓ) (c : Dev nD) :
  res_out0 m c = OUT (X1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
   (HM (CV (UP (XN (X1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7))) (m ((c.tc : Thread nD τ).loc main_arg8)))) (m ((c.tc : Thread nD τ).loc main_arg9)) := by
  unfold res_out0 res_main_v55 OUT HM CV UP XN X1
  rfl

/-- The plain mathematics' result is the token formula at every index. -/
theorem res_apply (m : (ℓ : Loc nD τ sig) → Buf (Elt Ideal) ℓ) (c : Dev nD) (b : Fin 8) (t : Fin 2048) (d : Fin 1024) :
    (res_out0 m c : FVec Ideal S8x2048x1024 .f32) (ix3 b t d) = FfnMath.token (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b t d := by
  rw [res_eq, out_apply]
  unfold FfnMath.token FfnMath.uRow
  simp only [hm_apply, cv_apply, up_apply, xn_apply, x1_apply]

end Cert.ReferenceIdeal.Value
-- ==== Proof.Equation.lean ====
/-
  The result array of the feed-forward call: the token formula at every index.
-/
module

public import proofs.«01_k».proof.Proof.Reads
public import proofs.«01_k».proof.Proof.BodyA
public import proofs.«01_k».proof.Proof.BodyB
public import proofs.«01_k».proof.Proof.Ref

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The residual row of a block is the token's. -/
theorem x1Row_eq (c : Dev nD) (t : Fin cfg0.N) (r : Fin 512) :
    x1Row (iblk m c 0 t) (iblk m c 1 t) (iblk m c 2 t) (iblk m c 3 t) (iblk m c 4 t) (iblk m c 5 t) r = FfnMath.xRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (seqOf t) (tokOf t r) := by
  unfold x1Row FfnMath.xRow
  simp only [iblk0, iblk1, iblk2, iblk3, iblk4, iblk5]

/-- The up-projected row of a block is the token's. -/
theorem upRow_eq (c : Dev nD) (t : Fin cfg0.N) (r : Fin 512) :
    upRow (xnBlk (iblk m c 0 t) (iblk m c 1 t) (iblk m c 2 t) (iblk m c 3 t) (iblk m c 4 t) (iblk m c 5 t) (iblk m c 6 t)) (iblk m c 7 t) r = FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t) (tokOf t r) := by
  funext n
  unfold upRow FfnMath.uRow xnBlk
  have e : ∀ k : Fin 1024, (ix2 r k : S512x1024.Idx) 0 = r ∧ (ix2 r k : S512x1024.Idx) 1 = k := fun k => ⟨rfl, rfl⟩
  simp only [e, x1Row_eq, iblk6, iblk7]

/-- What a grid point leaves for the next one: the last eight rows of its up projection. -/
theorem carried (c : Dev nD) (t : Fin cfg0.N) :
    (outsAt0 m c t.val t.isLt).2 = haloBlk (xnBlk (iblk m c 0 t) (iblk m c 1 t) (iblk m c 2 t) (iblk m c 3 t) (iblk m c 4 t) (iblk m c 5 t) (iblk m c 6 t)) (iblk m c 7 t) := by
  by_cases h0 : t.val % 4 = 0
  · rw [outsAt0_A m c t h0]
    dsimp only
    rw [soutA_eq]
  · rw [outsAt0_B m c t h0]
    dsimp only
    rw [soutB_eq]

/-- The rows a block looks back at are the tokens before. -/
theorem back_zero (c : Dev nD) (t : Fin cfg0.N) (h0 : t.val % 4 = 0) (d : Nat) (hd : d ≤ 8) (r : Fin 512) :
    backRow (fun _ => (0 : EReal)) (xnBlk (iblk m c 0 t) (iblk m c 1 t) (iblk m c 2 t) (iblk m c 3 t) (iblk m c 4 t) (iblk m c 5 t) (iblk m c 6 t)) (iblk m c 7 t) d hd r
      = FfnMath.back (FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t)) d (tokOf t r) := by
  funext n
  unfold backRow FfnMath.back
  have hT : (tokOf t r).val = r.val := by show 512 * (t.val % 4) + r.val = _; omega
  by_cases h : r.val < d
  · rw [dif_pos h, dif_neg (by omega)]
  · rw [dif_neg h, dif_pos (by omega), upRow_eq]
    refine congrArg (fun x => FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t) x n) (Fin.ext ?_)
    show 512 * (t.val % 4) + (r.val - d) = (tokOf t r).val - d
    omega

theorem back_carried (c : Dev nD) (t s : Fin cfg0.N) (h0 : ¬t.val % 4 = 0) (hs : s.val = t.val - 1) (d : Nat) (hd : d ≤ 8)
    (r : Fin 512) :
    backRow (haloBlk (xnBlk (iblk m c 0 s) (iblk m c 1 s) (iblk m c 2 s) (iblk m c 3 s) (iblk m c 4 s) (iblk m c 5 s) (iblk m c 6 s)) (iblk m c 7 s)) (xnBlk (iblk m c 0 t) (iblk m c 1 t) (iblk m c 2 t) (iblk m c 3 t) (iblk m c 4 t) (iblk m c 5 t) (iblk m c 6 t)) (iblk m c 7 t) d hd r
      = FfnMath.back (FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t)) d (tokOf t r) := by
  funext n
  unfold backRow FfnMath.back
  have hT : (tokOf t r).val = 512 * (t.val % 4) + r.val := rfl
  by_cases h : r.val < d
  · rw [dif_pos h, dif_pos (by omega)]
    have es : seqOf s = seqOf t := Fin.ext (by show s.val / 4 = t.val / 4; omega)
    refine (congrFun (upRow_eq m c s ⟨504 + (8 - d + r.val), by omega⟩) n).trans ?_
    rw [es]
    refine congrArg (fun x => FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t) x n) (Fin.ext ?_)
    show 512 * (s.val % 4) + (504 + (8 - d + r.val)) = (tokOf t r).val - d
    omega
  · rw [dif_neg h, dif_pos (by omega), upRow_eq]
    refine congrArg (fun x => FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t) x n) (Fin.ext ?_)
    show 512 * (t.val % 4) + (r.val - d) = (tokOf t r).val - d
    omega

/-- A result block whose looked-back rows are the tokens before holds the tokens' results. -/
theorem outBlk_eq (c : Dev nD) (t : Fin cfg0.N) (p : FVec Ideal S8x5632 .f32)
    (h : ∀ (d : Nat) (hd : d ≤ 8) (r : Fin 512), backRow p (xnBlk (iblk m c 0 t) (iblk m c 1 t) (iblk m c 2 t) (iblk m c 3 t) (iblk m c 4 t) (iblk m c 5 t) (iblk m c 6 t)) (iblk m c 7 t) d hd r
      = FfnMath.back (FfnMath.uRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (seqOf t)) d (tokOf t r)) (i : S1x512x1024.Idx) :
    outBlk p (iblk m c 0 t) (iblk m c 1 t) (iblk m c 2 t) (iblk m c 3 t) (iblk m c 4 t) (iblk m c 5 t) (iblk m c 6 t) (iblk m c 7 t) (iblk m c 8 t) (iblk m c 9 t) i = FfnMath.token (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (seqOf t) (tokOf t (i 1)) (i 2) := by
  have key : ∀ (r : Fin 512) (d : Fin 1024), FfnMath.out (x1Row (iblk m c 0 t) (iblk m c 1 t) (iblk m c 2 t) (iblk m c 3 t) (iblk m c 4 t) (iblk m c 5 t) r)
      (FfnMath.hid (cvRow p (xnBlk (iblk m c 0 t) (iblk m c 1 t) (iblk m c 2 t) (iblk m c 3 t) (iblk m c 4 t) (iblk m c 5 t) (iblk m c 6 t)) (iblk m c 7 t) (iblk m c 8 t) r))
      (fun n d => (iblk m c 9 t : FVec Ideal S2816x1024 .bf16) (ix2 n d)) d = FfnMath.token (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (seqOf t) (tokOf t r) d := by
    intro r d
    unfold FfnMath.token cvRow
    simp only [x1Row_eq, upRow_eq, h, iblk8, iblk9]
  exact key (i 1) (i 2)

/-- What a grid point writes. -/
theorem written (c : Dev nD) (t : Fin cfg0.N) (i : S1x512x1024.Idx) :
    (outsAt0 m c t.val t.isLt).1 i = FfnMath.token (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (seqOf t) (tokOf t (i 1)) (i 2) := by
  by_cases h0 : t.val % 4 = 0
  · rw [outsAt0_A m c t h0]
    dsimp only
    rw [outA_eq]
    exact outBlk_eq m c t _ (back_zero m c t h0) i
  · rw [outsAt0_B m c t h0]
    dsimp only
    rw [outB_eq]
    have hs : t.val - 1 < cfg0.N := by have := t.isLt; omega
    have e := carried m c ⟨t.val - 1, hs⟩
    dsimp only at e
    rw [e]
    exact outBlk_eq m c t _ (back_carried m c t ⟨t.val - 1, hs⟩ h0 rfl) i

/-- The result array holds the token formula at every index. -/
theorem G10_apply (c : Dev nD) (b : Fin 8) (T : Fin 2048) (d : Fin 1024) :
    (G10 m c : FVec Ideal S8x2048x1024 .f32) (ix3 b T d) = FfnMath.token (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b T d := by
  have hp : pt10Of (ix3 b T d) = 4 * b.val + T.val / 512 := by
    show 4 * (b.val / 1 - 0) + 1 * (T.val / 512 - 0) + 1 * (d.val / 1024 - 0) = _
    omega
  have hN : cfg0.N = 32 := N_0
  have hlt : pt10Of (ix3 b T d) < cfg0.N := by rw [hp, hN]; omega
  show (if h : pt10Of (ix3 b T d) < cfg0.N then _ else _) = _
  rw [dif_pos hlt, ← outsAt0_sweep m c _ hlt]
  refine (written m c ⟨_, hlt⟩ _).trans ?_
  have e1 : seqOf ⟨_, hlt⟩ = b := Fin.ext (by show pt10Of (ix3 b T d) / 4 = b.val; rw [hp]; omega)
  have e2 : tokOf ⟨_, hlt⟩ (loc10Of (ix3 b T d) 1) = T :=
    Fin.ext (by show 512 * (pt10Of (ix3 b T d) % 4) + T.val % 512 = T.val; rw [hp]; omega)
  have e3 : (loc10Of (ix3 b T d) 2 : Fin 1024) = d := Fin.ext (by show d.val % 1024 = d.val; omega)
  rw [e1, e2, e3]

end Cert.KernelIdeal.Value
-- ==== Proof.InMath.lean ====
/-
  The layer's first call, one token at a time: what a token's row becomes at the ideal values, in plain sums.
-/
module

public import proofs.«01_k».proof.Proof.FfnMath
public import Idealize.ShloMosaic.Lib.Pointwise

@[expose] public section

noncomputable section

namespace InMath

open Idealize.ShloMosaic

/-- A row times a matrix. -/
def lin {K N : Nat} (y : Fin K → EReal) (w : Fin K → Fin N → EReal) (n : Fin N) : EReal :=
  ∑ k : Fin K, y k * w k n

/-- The factor that normalises a row, given the word of the row's length. -/
def rr {N : Nat} (len : BitVec 32) (v : Fin N → EReal) : EReal :=
  Ideal.rsqrt (Ideal.div (∑ k : Fin N, v k * v k) (Ideal.ofBits .f32 len) + Ideal.ofBits .f32 0x358637BD#32)

/-- The logistic function. -/
def sig (x : EReal) : EReal := Ideal.div 1 (1 + Ideal.exp (-x))

/-- What the short convolution runs over. -/
def ch (p : Fin 3328 → EReal) (n : Fin 512) : EReal := p ⟨512 + n.val, by omega⟩ * p ⟨1024 + n.val, by omega⟩

/-- The short causal convolution over the token two back, the token one back and the token itself. -/
def cv (w : Fin 3 → Fin 512 → EReal) (u2 u1 u0 : Fin 512 → EReal) (n : Fin 512) : EReal :=
  (w 0 n * u2 n + w 1 n * u1 n) + w 2 n * u0 n

/-- The row `k` tokens back, zero before the first token. -/
def back (u : Fin 2048 → Fin 512 → EReal) (k : Nat) (t : Fin 2048) (n : Fin 512) : EReal :=
  if h : k ≤ t.val then u ⟨t.val - k, by omega⟩ n else 0

/-- The convolved row, gated and projected. -/
def ya (p : Fin 3328 → EReal) (v : Fin 512 → EReal) (wa : Fin 512 → Fin 1024 → EReal) (d : Fin 1024) : EReal :=
  lin (fun n => p ⟨n.val, by omega⟩ * v n) wa d

/-- Head `h`'s 64 columns from column `o` of a projected row on. -/
def head (o : Nat) (ho : o + 512 ≤ 3328) (p : Fin 3328 → EReal) (h : Fin 8) (c : Fin 64) : EReal :=
  p ⟨o + (h.val * 64 + c.val), by omega⟩

/-- A normalised head. -/
def qk (v g : Fin 64 → EReal) (c : Fin 64) : EReal := v c * rr 0x42800000#32 v * g c

/-- The words of the slopes' three terms at each head. -/
def slopeWord : Fin 8 → Fin 3 → BitVec 32 := fun h => ![
  ![0x3F390000#32, 0xBAAC0000#32, 0x366C0000#32], ![0x3EB90000#32, 0xBA2C0000#32, 0x35EC0000#32],
  ![0x3E390000#32, 0xB9AC0000#32, 0x356C0000#32], ![0x3DB90000#32, 0xB92C0000#32, 0x34EC0000#32],
  ![0x3D390000#32, 0xB8AC0000#32, 0x346C0000#32], ![0x3CB90000#32, 0xB82C0000#32, 0x33EC0000#32],
  ![0x3C390000#32, 0xB7AC0000#32, 0x336C0000#32], ![0x3BB90000#32, 0xB72C0000#32, 0x32EC0000#32]] h

/-- A column of the slopes. -/
def slope (s : Fin 3 → BitVec 32) (i : Nat) : EReal :=
  if i = 2 ∨ i = 5 then Ideal.ofBits .f32 (s 2) else if i = 1 ∨ i = 4 then Ideal.ofBits .f32 (s 1)
  else if i = 0 ∨ i = 3 then Ideal.ofBits .f32 (s 0) else 0

/-- A head's row widened to 128 columns by columns `s`, zero from the sixth on. -/
def aug (v : Fin 64 → EReal) (s : Nat → EReal) (c : Fin 128) : EReal :=
  if h : c.val < 64 then v ⟨c.val, h⟩ else if c.val < 70 then s (c.val - 64) else 0

theorem aug_congr (v : Fin 64 → EReal) (s s' : Nat → EReal) (c : Fin 128) (h : ∀ i, i < 6 → s i = s' i) :
    aug v s c = aug v s' c := by
  unfold aug
  split_ifs
  · rfl
  · exact h _ (by omega)
  · rfl

/-- A position's multiple of eight. -/
def posHi (x : EReal) : EReal :=
  Ideal.liftRound Int.floor (Ideal.div x (Ideal.ofBits .f32 0x41000000#32)) * Ideal.ofBits .f32 0x41000000#32

/-- A column of the positions. -/
def posCol (t : Nat) (i : Nat) : EReal :=
  if i < 3 then posHi (((t : ℤ) : ℝ) : EReal) else (((t : ℤ) : ℝ) : EReal) - posHi (((t : ℤ) : ℝ) : EReal)

/-- A widened query. -/
def qaug (p : Fin 3328 → EReal) (g : Fin 64 → EReal) (h : Fin 8) : Fin 128 → EReal :=
  aug (fun c => qk (head 1536 (by decide) p h) g c * Ideal.ofBits .f32 0x3E38AA3B#32) (slope (slopeWord h))

/-- A widened key. -/
def kaug (p : Fin 3328 → EReal) (g : Fin 64 → EReal) (t : Nat) (h : Fin 8) : Fin 128 → EReal :=
  aug (qk (head 2048 (by decide) p h) g) (posCol t)

/-- Head `h`'s 128 columns of a row of 512. -/
def mhead (q : Fin 512 → EReal) (h : Fin 4) (c : Fin 128) : EReal := q ⟨h.val * 128 + c.val, by omega⟩

/-- A memory head's logits. -/
def logit (v g : Fin 128 → EReal) (km : Fin 128 → Fin 256 → EReal) (m : Fin 256) : EReal :=
  Ideal.div (∑ c : Fin 128, v c * rr 0x43000000#32 v * g c * km c m) (Ideal.sqrt (Ideal.ofBits .f32 0x43000000#32))

/-- Their exponentials below the greatest. -/
def expo (l : Fin 256 → EReal) (m : Fin 256) : EReal := Ideal.exp (l m - Finset.univ.fold max (Ideal.ofBits .f32 0xFF800000#32) l)

/-- The weighted mean of the memory values. -/
def mean (e : Fin 256 → EReal) (vm : Fin 256 → Fin 128 → EReal) (c : Fin 128) : EReal :=
  Ideal.div (∑ m : Fin 256, e m * vm m c) (∑ m : Fin 256, e m)

/-- What a memory head reads. -/
def memHead (v g : Fin 128 → EReal) (km : Fin 128 → Fin 256 → EReal) (vm : Fin 256 → Fin 128 → EReal) : Fin 128 → EReal :=
  mean (expo (logit v g km)) vm

/-- The memory heads side by side. -/
def mem (q : Fin 512 → EReal) (g : Fin 128 → EReal) (km : Fin 512 → Fin 256 → EReal) (vm : Fin 256 → Fin 512 → EReal)
    (n : Fin 512) : EReal :=
  memHead (mhead q ⟨n.val / 128, by omega⟩) g (fun c m => km ⟨n.val / 128 * 128 + c.val, by omega⟩ m)
    (fun m c => vm m ⟨n.val / 128 * 128 + c.val, by omega⟩) ⟨n.val % 128, by omega⟩

/-- The gated sum of the two branches. -/
def part (g : Fin 3072 → EReal) (y z : Fin 1024 → EReal) (d : Fin 1024) : EReal :=
  sig (g ⟨d.val, by omega⟩) * y d + sig (g ⟨2048 + d.val, by omega⟩) * z d

/-! ## The whole arrays -/

variable (a0 : (⟨3, ![8, 2048, 1024]⟩ : Shape).Idx → EReal) (a1 : (⟨2, ![1, 1024]⟩ : Shape).Idx → EReal)
  (a2 : (⟨2, ![1024, 3328]⟩ : Shape).Idx → EReal) (a3 : (⟨2, ![1024, 128]⟩ : Shape).Idx → EReal)
  (a4 : (⟨2, ![1024, 512]⟩ : Shape).Idx → EReal) (a5 : (⟨2, ![1024, 3072]⟩ : Shape).Idx → EReal)
  (a6 : (⟨3, ![1, 3, 512]⟩ : Shape).Idx → EReal) (a7 : (⟨3, ![1, 512, 1024]⟩ : Shape).Idx → EReal)
  (a8 a9 : (⟨2, ![1, 64]⟩ : Shape).Idx → EReal) (a10 : (⟨3, ![8, 512, 256]⟩ : Shape).Idx → EReal)
  (a11 : (⟨3, ![8, 256, 512]⟩ : Shape).Idx → EReal) (a12 : (⟨2, ![1, 128]⟩ : Shape).Idx → EReal)
  (a13 : (⟨3, ![1, 512, 1024]⟩ : Shape).Idx → EReal)

/-- The normalised row at token `t` of sequence `b`. -/
def xRow (b : Fin 8) (t : Fin 2048) : Fin 1024 → EReal :=
  FfnMath.xn (fun d => a0 (ix3 b t d)) (fun d => a1 (ix2 0 d))

/-- Its main projection. -/
def pRow (b : Fin 8) (t : Fin 2048) : Fin 3328 → EReal := lin (xRow a0 a1 b t) (fun k n => a2 (ix2 k n))

/-- The convolved row. -/
def cvRow (b : Fin 8) (t : Fin 2048) : Fin 512 → EReal :=
  cv (fun j n => a6 (ix3 0 j n)) (back (fun t => ch (pRow a0 a1 a2 b t)) 2 t) (back (fun t => ch (pRow a0 a1 a2 b t)) 1 t)
    (ch (pRow a0 a1 a2 b t))

/-- What the memory heads read. -/
def memRow (b : Fin 8) (t : Fin 2048) : Fin 512 → EReal :=
  mem (lin (xRow a0 a1 b t) (fun k n => a4 (ix2 k n))) (fun c => a12 (ix2 0 c)) (fun n m => a10 (ix3 b n m))
    (fun m n => a11 (ix3 b m n))

/-- The first result. -/
def partTok (b : Fin 8) (t : Fin 2048) : Fin 1024 → EReal :=
  part (lin (xRow a0 a1 b t) (fun k n => a5 (ix2 k n)))
    (ya (pRow a0 a1 a2 b t) (cvRow a0 a1 a2 a6 b t) (fun n d => a7 (ix3 0 n d)))
    (lin (memRow a0 a1 a4 a10 a11 a12 b t) (fun n d => a13 (ix3 0 n d)))

/-- The second. -/
def g1Tok (b : Fin 8) (t : Fin 2048) (d : Fin 1024) : EReal :=
  sig (lin (xRow a0 a1 b t) (fun k n => a5 (ix2 k n)) ⟨1024 + d.val, by omega⟩)

/-- The third. -/
def qTok (b : Fin 8) (n : Fin 1024) (t : Fin 2048) : EReal :=
  qaug (pRow a0 a1 a2 b t) (fun c => a8 (ix2 0 c)) ⟨n.val / 128, by omega⟩ ⟨n.val % 128, by omega⟩

/-- The fourth. -/
def kTok (b : Fin 8) (t : Fin 2048) (n : Fin 1024) : EReal :=
  kaug (pRow a0 a1 a2 b t) (fun c => a9 (ix2 0 c)) t.val ⟨n.val / 128, by omega⟩ ⟨n.val % 128, by omega⟩

/-- The fifth. -/
def vTok (b : Fin 8) (n : Fin 512) (t : Fin 2048) : EReal := pRow a0 a1 a2 b t ⟨2560 + n.val, by omega⟩

/-- The sixth. -/
def qiTok (b : Fin 8) (n : Fin 256) (t : Fin 2048) : EReal := pRow a0 a1 a2 b t ⟨3072 + n.val, by omega⟩

/-- The seventh. -/
def kwTok (b : Fin 8) (t : Fin 2048) : Fin 128 → EReal := lin (xRow a0 a1 b t) (fun k n => a3 (ix2 k n))

/-- The eighth. -/
def wiTok (b : Fin 8) (i : Fin 8) (t : Fin 2048) : EReal := kwTok a0 a1 a3 b t ⟨32 + i.val, by omega⟩

end InMath
-- ==== Proof.Ref2.lean ====
/-
  What the plain mathematics of the layer's first call computes at a token: the formulas of InMath.
-/
module

public import proofs.«01_k».proof.Proof.Gen.Reference2Ideal.Run
public import proofs.«01_k».proof.Proof.InMath
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo

/-! The stages of the composed results. -/

/-- A stage. -/
def XN (a0 : FVec Ideal S8x2048x1024 .f32) (a1 : FVec Ideal S1x1024 .f32) : FVec Ideal S8x2048x1024 .f32 :=
  mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))

/-- A stage. -/
def PR (v13 : FVec Ideal S8x2048x1024 .f32) (a2 : FVec Ideal S1024x3328 .bf16) : FVec Ideal S8x2048x3328 .f32 :=
  Host.dotGeneral dot_S8x2048x1024_S1024x3328_S8x2048x3328_2_0_01_1_n_n none v13 (extf .f32 a2 bitsLt_bf16_f32)

/-- A stage. -/
def CH (v15 : FVec Ideal S8x2048x3328 .f32) : FVec Ideal S8x2048x512 .f32 :=
  mulf (extractStridedSlice S8x2048x512 ![0, 0, 512] v15 slices_S8x2048x3328_S8x2048x512_0_0_512) (extractStridedSlice S8x2048x512 ![0, 0, 1024] v15 slices_S8x2048x3328_S8x2048x512_0_0_1024)

/-- A stage. -/
def CV (u : FVec Ideal S8x2048x512 .f32) (a6 : FVec Ideal S1x3x512 .f32) : FVec Ideal S8x2048x512 .f32 :=
  addf (addf (mulf (broadcastInDim S8x2048x512 ![0, 1, 2] bcast_S1x1x512_S8x2048x512_0_1_2 (broadcastInDim S1x1x512 ![2] bcast_S512_S1x1x512_2 (shapeCast _ (extractStridedSlice S1x512 ![0, 0] (shapeCast _ a6 shapeCasts_S1x3x512_S3x512) slices_S3x512_S1x512_0_0) shapeCasts_S1x512_S512))) (extractStridedSlice S8x2048x512 ![0, 0, 0] (pad S8x2050x512 ![0, 2, 0] ![0, 0, 0] ![0, 0, 0] u (sitofp .f32 (constantI S_ 32 0#32)) pads_S8x2048x512_S8x2050x512_000_200_000 h_S_) slices_S8x2050x512_S8x2048x512_0_0_0)) (mulf (broadcastInDim S8x2048x512 ![0, 1, 2] bcast_S1x1x512_S8x2048x512_0_1_2 (broadcastInDim S1x1x512 ![2] bcast_S512_S1x1x512_2 (shapeCast _ (extractStridedSlice S1x512 ![1, 0] (shapeCast _ a6 shapeCasts_S1x3x512_S3x512) slices_S3x512_S1x512_1_0) shapeCasts_S1x512_S512))) (extractStridedSlice S8x2048x512 ![0, 1, 0] (pad S8x2050x512 ![0, 2, 0] ![0, 0, 0] ![0, 0, 0] u (sitofp .f32 (constantI S_ 32 0#32)) pads_S8x2048x512_S8x2050x512_000_200_000 h_S_) slices_S8x2050x512_S8x2048x512_0_1_0))) (mulf (broadcastInDim S8x2048x512 ![0, 1, 2] bcast_S1x1x512_S8x2048x512_0_1_2 (broadcastInDim S1x1x512 ![2] bcast_S512_S1x1x512_2 (shapeCast _ (extractStridedSlice S1x512 ![2, 0] (shapeCast _ a6 shapeCasts_S1x3x512_S3x512) slices_S3x512_S1x512_2_0) shapeCasts_S1x512_S512))) (extractStridedSlice S8x2048x512 ![0, 2, 0] (pad S8x2050x512 ![0, 2, 0] ![0, 0, 0] ![0, 0, 0] u (sitofp .f32 (constantI S_ 32 0#32)) pads_S8x2048x512_S8x2050x512_000_200_000 h_S_) slices_S8x2050x512_S8x2048x512_0_2_0))

/-- A stage. -/
def YA (v15 : FVec Ideal S8x2048x3328 .f32) (cv : FVec Ideal S8x2048x512 .f32) (a7 : FVec Ideal S1x512x1024 .f32) : FVec Ideal S8x2048x1024 .f32 :=
  Host.dotGeneral dot_S8x2048x512_S512x1024_S8x2048x1024_2_0_01_1_n_n none (mulf (extractStridedSlice S8x2048x512 ![0, 0, 0] v15 slices_S8x2048x3328_S8x2048x512_0_0_0) cv) (shapeCast _ a7 shapeCasts_S1x512x1024_S512x1024)

/-- A stage. -/
def QH (v15 : FVec Ideal S8x2048x3328 .f32) : FVec Ideal S8x2048x8x64 .f32 :=
  shapeCast _ (extractStridedSlice S8x2048x512 ![0, 0, 1536] v15 slices_S8x2048x3328_S8x2048x512_0_0_1536) shapeCasts_S8x2048x512_S8x2048x8x64

/-- A stage. -/
def KH (v15 : FVec Ideal S8x2048x3328 .f32) : FVec Ideal S8x2048x8x64 .f32 :=
  shapeCast _ (extractStridedSlice S8x2048x512 ![0, 0, 2048] v15 slices_S8x2048x3328_S8x2048x512_0_0_2048) shapeCasts_S8x2048x512_S8x2048x8x64

/-- A stage. -/
def QN (v49 : FVec Ideal S8x2048x8x64 .f32) (a8 : FVec Ideal S1x64 .f32) : FVec Ideal S8x2048x8x64 .f32 :=
  mulf (mulf (mulf v49 (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf v49 v49) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a8 shapeCasts_S1x64_S64)))) (broadcastInDim S8x2048x8x64 ![] bcast_S_S8x2048x8x64 (constant S_ .f32 0x3E38AA3B#32))

/-- A stage. -/
def KN (v66 : FVec Ideal S8x2048x8x64 .f32) (a9 : FVec Ideal S1x64 .f32) : FVec Ideal S8x2048x8x64 .f32 :=
  mulf (mulf v66 (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf v66 v66) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a9 shapeCasts_S1x64_S64)))

/-- A stage. -/
def Z : FVec Ideal S8x2048x8x58 .f32 :=
  broadcastInDim S8x2048x8x58 ![] bcast_S_S8x2048x8x58 (constant S_ .f32 0x00000000#32)

/-- A stage. -/
def SL : FVec Ideal S8x6 .f32 :=
  fun i => FloatOps.ofBits .f32 (lit0 (S8x6.rowMajor i))

/-- A stage. -/
def QC (qn : FVec Ideal S8x2048x8x64 .f32) : FVec Ideal S8x2048x8x128 .f32 :=
  (concatenate S8x2048x8x128 3 [⟨S8x2048x8x64, (qn : FVec Ideal S8x2048x8x64 .f32)⟩, ⟨S8x2048x8x6, ((broadcastInDim S8x2048x8x6 ![2, 3] bcast_S8x6_S8x2048x8x6_2_3 SL) : FVec Ideal S8x2048x8x6 .f32)⟩, ⟨S8x2048x8x58, (Z : FVec Ideal S8x2048x8x58 .f32)⟩] concatenates_S8x2048x8x64_S8x2048x8x6_S8x2048x8x58_S8x2048x8x128_d3 : FVec Ideal S8x2048x8x128 .f32)

/-- A stage. -/
def QA (u : FVec Ideal S8x2048x8x128 .f32) : FVec Ideal S8x1024x2048 .bf16 :=
  truncf .bf16 (transpose S8x1024x2048 [0, 2, 1] (shapeCast _ u shapeCasts_S8x2048x8x128_S8x2048x1024) transposes_S8x2048x1024_S8x1024x2048_0_2_1) bitsLt_bf16_f32

/-- A stage. -/
def PS : FVec Ideal S2048 .f32 :=
  sitofp .f32 (iotaInDim S2048 32 0)

/-- A stage. -/
def PH (v82 : FVec Ideal S2048 .f32) : FVec Ideal S2048 .f32 :=
  mulf (Host.floor (Host.divf v82 (broadcastInDim S2048 ![] bcast_S_S2048 (constant S_ .f32 0x41000000#32)))) (broadcastInDim S2048 ![] bcast_S_S2048 (constant S_ .f32 0x41000000#32))

/-- A stage. -/
def PL (v82 : FVec Ideal S2048 .f32) (v87 : FVec Ideal S2048 .f32) : FVec Ideal S2048 .f32 :=
  subf v82 v87

/-- A stage. -/
def PC (v87 : FVec Ideal S2048 .f32) (v88 : FVec Ideal S2048 .f32) : FVec Ideal S2048x6 .f32 :=
  concatenate S2048x6 1 [⟨S2048x1, ((broadcastInDim S2048x1 ![0] bcast_S2048_S2048x1_0 v87) : FVec Ideal S2048x1 .f32)⟩, ⟨S2048x1, ((broadcastInDim S2048x1 ![0] bcast_S2048_S2048x1_0 v87) : FVec Ideal S2048x1 .f32)⟩, ⟨S2048x1, ((broadcastInDim S2048x1 ![0] bcast_S2048_S2048x1_0 v87) : FVec Ideal S2048x1 .f32)⟩, ⟨S2048x1, ((broadcastInDim S2048x1 ![0] bcast_S2048_S2048x1_0 v88) : FVec Ideal S2048x1 .f32)⟩, ⟨S2048x1, ((broadcastInDim S2048x1 ![0] bcast_S2048_S2048x1_0 v88) : FVec Ideal S2048x1 .f32)⟩, ⟨S2048x1, ((broadcastInDim S2048x1 ![0] bcast_S2048_S2048x1_0 v88) : FVec Ideal S2048x1 .f32)⟩] concatenates_S2048x1_S2048x1_S2048x1_S2048x1_S2048x1_S2048x1_S2048x6_d1

/-- A stage. -/
def KC (kn : FVec Ideal S8x2048x8x64 .f32) (pc : FVec Ideal S2048x6 .f32) : FVec Ideal S8x2048x8x128 .f32 :=
  (concatenate S8x2048x8x128 3 [⟨S8x2048x8x64, (kn : FVec Ideal S8x2048x8x64 .f32)⟩, ⟨S8x2048x8x6, ((broadcastInDim S8x2048x8x6 ![1, 2, 3] bcast_S2048x1x6_S8x2048x8x6_1_2_3 (broadcastInDim S2048x1x6 ![0, 2] bcast_S2048x6_S2048x1x6_0_2 (pc))) : FVec Ideal S8x2048x8x6 .f32)⟩, ⟨S8x2048x8x58, (Z : FVec Ideal S8x2048x8x58 .f32)⟩] concatenates_S8x2048x8x64_S8x2048x8x6_S8x2048x8x58_S8x2048x8x128_d3 : FVec Ideal S8x2048x8x128 .f32)

/-- A stage. -/
def KA (u : FVec Ideal S8x2048x8x128 .f32) : FVec Ideal S8x2048x1024 .bf16 :=
  truncf .bf16 (shapeCast _ u shapeCasts_S8x2048x8x128_S8x2048x1024) bitsLt_bf16_f32

/-- A stage. -/
def MQ (v13 : FVec Ideal S8x2048x1024 .f32) (a4 : FVec Ideal S1024x512 .bf16) : FVec Ideal S8x2048x4x128 .f32 :=
  shapeCast _ (Host.dotGeneral dot_S8x2048x1024_S1024x512_S8x2048x512_2_0_01_1_n_n none v13 (extf .f32 a4 bitsLt_bf16_f32)) shapeCasts_S8x2048x512_S8x2048x4x128

/-- A stage. -/
def ML (v104 : FVec Ideal S8x2048x4x128 .f32) (a12 : FVec Ideal S1x128 .f32) (a10 : FVec Ideal S8x512x256 .bf16) : FVec Ideal S8x4x2048x256 .f32 :=
  Host.divf (Host.dotGeneral dot_S8x2048x4x128_S8x4x128x256_S8x4x2048x256_3_2_1_3_02_01 none (mulf (mulf v104 (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf v104 v104) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 (shapeCast _ a12 shapeCasts_S1x128_S128)))) (shapeCast _ (extf .f32 a10 bitsLt_bf16_f32) shapeCasts_S8x512x256_S8x4x128x256)) (broadcastInDim S8x4x2048x256 ![] bcast_S_S8x4x2048x256 (Host.sqrt (constant S_ .f32 0x43000000#32)))

/-- A stage. -/
def ME (v126 : FVec Ideal S8x4x2048x256 .f32) : FVec Ideal S8x4x2048x256 .f32 :=
  Host.exp (subf v126 (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduce FloatOps.maximumf v126 (constant S_ .f32 0xFF800000#32) reducesTo_S8x4x2048x256_S8x4x2048_d3 h_S_))))

/-- A stage. -/
def MY (v131 : FVec Ideal S8x4x2048x256 .f32) (a11 : FVec Ideal S8x256x512 .bf16) : FVec Ideal S8x2048x512 .f32 :=
  shapeCast _ (transpose S8x2048x4x128 [0, 2, 1, 3] (Host.divf (Host.dotGeneral dot_S8x4x2048x256_S8x256x4x128_S8x4x2048x128_3_1_2_3_01_02 none v131 (shapeCast _ (extf .f32 a11 bitsLt_bf16_f32) shapeCasts_S8x256x512_S8x256x4x128)) (broadcastInDim S8x4x2048x128 ![0, 1, 2, 3] bcast_S8x4x2048x1_S8x4x2048x128_0_1_2_3 (broadcastInDim S8x4x2048x1 ![0, 1, 2] bcast_S8x4x2048_S8x4x2048x1_0_1_2 (Host.reduceAdd v131 (constant S_ .f32 0x00000000#32) reducesTo_S8x4x2048x256_S8x4x2048_d3 h_S_)))) transposes_S8x4x2048x128_S8x2048x4x128_0_2_1_3) shapeCasts_S8x2048x4x128_S8x2048x512

/-- A stage. -/
def YM (my : FVec Ideal S8x2048x512 .f32) (a13 : FVec Ideal S1x512x1024 .f32) : FVec Ideal S8x2048x1024 .f32 :=
  Host.dotGeneral dot_S8x2048x512_S512x1024_S8x2048x1024_2_0_01_1_n_n none my (shapeCast _ a13 shapeCasts_S1x512x1024_S512x1024)

/-- A stage. -/
def GT (v13 : FVec Ideal S8x2048x1024 .f32) (a5 : FVec Ideal S1024x3072 .bf16) : FVec Ideal S8x2048x3x1024 .f32 :=
  shapeCast _ (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (Host.dotGeneral dot_S8x2048x1024_S1024x3072_S8x2048x3072_2_0_01_1_n_n none v13 (extf .f32 a5 bitsLt_bf16_f32)))))) shapeCasts_S8x2048x3072_S8x2048x3x1024

/-- A stage. -/
def PART (v149 : FVec Ideal S8x2048x3x1024 .f32) (ya : FVec Ideal S8x2048x1024 .f32) (ym : FVec Ideal S8x2048x1024 .f32) : FVec Ideal S8x2048x1024 .bf16 :=
  truncf .bf16 (addf (mulf (shapeCast _ (extractStridedSlice S8x2048x1x1024 ![0, 0, 0, 0] v149 slices_S8x2048x3x1024_S8x2048x1x1024_0_0_0_0) shapeCasts_S8x2048x1x1024_S8x2048x1024) ya) (mulf (shapeCast _ (extractStridedSlice S8x2048x1x1024 ![0, 0, 2, 0] v149 slices_S8x2048x3x1024_S8x2048x1x1024_0_0_2_0) shapeCasts_S8x2048x1x1024_S8x2048x1024) ym)) bitsLt_bf16_f32

/-- A stage. -/
def G1 (v149 : FVec Ideal S8x2048x3x1024 .f32) : FVec Ideal S8x2048x1024 .bf16 :=
  truncf .bf16 (shapeCast _ (extractStridedSlice S8x2048x1x1024 ![0, 0, 1, 0] v149 slices_S8x2048x3x1024_S8x2048x1x1024_0_0_1_0) shapeCasts_S8x2048x1x1024_S8x2048x1024) bitsLt_bf16_f32

/-- A stage. -/
def VT (v15 : FVec Ideal S8x2048x3328 .f32) : FVec Ideal S8x512x2048 .bf16 :=
  truncf .bf16 (transpose S8x512x2048 [0, 2, 1] (extractStridedSlice S8x2048x512 ![0, 0, 2560] v15 slices_S8x2048x3328_S8x2048x512_0_0_2560) transposes_S8x2048x512_S8x512x2048_0_2_1) bitsLt_bf16_f32

/-- A stage. -/
def QI (v15 : FVec Ideal S8x2048x3328 .f32) : FVec Ideal S8x256x2048 .bf16 :=
  truncf .bf16 (transpose S8x256x2048 [0, 2, 1] (extractStridedSlice S8x2048x256 ![0, 0, 3072] v15 slices_S8x2048x3328_S8x2048x256_0_0_3072) transposes_S8x2048x256_S8x256x2048_0_2_1) bitsLt_bf16_f32

/-- A stage. -/
def KW (v13 : FVec Ideal S8x2048x1024 .f32) (a3 : FVec Ideal S1024x128 .bf16) : FVec Ideal S8x2048x128 .f32 :=
  Host.dotGeneral dot_S8x2048x1024_S1024x128_S8x2048x128_2_0_01_1_n_n none v13 (extf .f32 a3 bitsLt_bf16_f32)

/-- A stage. -/
def WI (v158 : FVec Ideal S8x2048x128 .f32) : FVec Ideal S8x8x2048 .f32 :=
  transpose S8x8x2048 [0, 2, 1] (extractStridedSlice S8x2048x8 ![0, 0, 32] v158 slices_S8x2048x128_S8x2048x8_0_0_32) transposes_S8x2048x8_S8x8x2048_0_2_1

variable (b : Fin 8) (t : Fin 2048)

theorem xn_apply (a0 : FVec Ideal S8x2048x1024 .f32) (a1 : FVec Ideal S1x1024 .f32) (d : Fin 1024) :
    XN a0 a1 (ix3 b t d) = InMath.xRow a0 a1 b t d := by
  unfold XN InMath.xRow FfnMath.xn
  pointwise

theorem pr_apply (v13 : FVec Ideal S8x2048x1024 .f32) (a2 : FVec Ideal S1024x3328 .bf16) (n : Fin 3328) :
    PR v13 a2 (ix3 b t n) = InMath.lin (fun d => v13 (ix3 b t d)) (fun k n => a2 (ix2 k n)) n := by
  unfold PR InMath.lin
  pointwise

theorem ch_apply (v15 : FVec Ideal S8x2048x3328 .f32) (n : Fin 512) :
    CH v15 (ix3 b t n) = InMath.ch (fun n => v15 (ix3 b t n)) n := by
  unfold CH InMath.ch
  pointwise

theorem zero_word : (FloatOps.sitofp FTy.f32 0#32 : Ideal .f32) = (0 : EReal) := by
  show ((((0#32).toInt : ℤ) : ℝ) : EReal) = 0
  simp

theorem cv_apply (u : FVec Ideal S8x2048x512 .f32) (a6 : FVec Ideal S1x3x512 .f32) (n : Fin 512) :
    CV u a6 (ix3 b t n) = InMath.cv (fun j n => a6 (ix3 0 j n)) (InMath.back (fun t n => u (ix3 b t n)) 2 t)
      (InMath.back (fun t n => u (ix3 b t n)) 1 t) (fun n => u (ix3 b t n)) n := by
  unfold CV InMath.cv InMath.back
  pointwise
  simp only [zero_word]
  have e2 : (2 ≤ t.val ∧ t.val - 2 < 2048) ↔ 2 ≤ t.val := by omega
  have e1 : (2 ≤ 1 + t.val ∧ 1 + t.val - 2 < 2048) ↔ 1 ≤ t.val := by omega
  have e3 : 1 + t.val - 2 = t.val - 1 := by omega
  simp only [e2, e1]
  simp only [e3]

theorem ya_apply (v15 : FVec Ideal S8x2048x3328 .f32) (v : FVec Ideal S8x2048x512 .f32) (a7 : FVec Ideal S1x512x1024 .f32) (d : Fin 1024) :
    YA v15 v a7 (ix3 b t d) = InMath.ya (fun n => v15 (ix3 b t n)) (fun n => v (ix3 b t n)) (fun n d => a7 (ix3 0 n d)) d := by
  unfold YA InMath.ya InMath.lin
  pointwise

theorem qh_apply (v15 : FVec Ideal S8x2048x3328 .f32) (h : Fin 8) (c : Fin 64) :
    QH v15 (ix4 b t h c) = InMath.head 1536 (by decide) (fun n => v15 (ix3 b t n)) h c := by
  unfold QH InMath.head
  pointwise

theorem kh_apply (v15 : FVec Ideal S8x2048x3328 .f32) (h : Fin 8) (c : Fin 64) :
    KH v15 (ix4 b t h c) = InMath.head 2048 (by decide) (fun n => v15 (ix3 b t n)) h c := by
  unfold KH InMath.head
  pointwise

theorem qn_apply (v : FVec Ideal S8x2048x8x64 .f32) (g : FVec Ideal S1x64 .f32) (h : Fin 8) (c : Fin 64) :
    QN v g (ix4 b t h c) = InMath.qk (fun c => v (ix4 b t h c)) (fun c => g (ix2 0 c)) c * Ideal.ofBits .f32 0x3E38AA3B#32 := by
  unfold QN InMath.qk InMath.rr
  pointwise

theorem kn_apply (v : FVec Ideal S8x2048x8x64 .f32) (g : FVec Ideal S1x64 .f32) (h : Fin 8) (c : Fin 64) :
    KN v g (ix4 b t h c) = InMath.qk (fun c => v (ix4 b t h c)) (fun c => g (ix2 0 c)) c := by
  unfold KN InMath.qk InMath.rr
  pointwise

theorem sl_apply (h : Fin 8) (i : Fin 6) : SL (ix2 h i) = InMath.slope (InMath.slopeWord h) i.val := by
  revert h i
  have key : ∀ (h : Fin 8) (i : Fin 6), lit0 (S8x6.rowMajor (ix2 h i)) = if i.val = 2 ∨ i.val = 5 then InMath.slopeWord h 2
      else if i.val = 1 ∨ i.val = 4 then InMath.slopeWord h 1 else InMath.slopeWord h 0 := by
    decide +kernel
  intro h i
  show Ideal.ofBits .f32 (lit0 (S8x6.rowMajor (ix2 h i))) = _
  rw [key h i]
  unfold InMath.slope
  have hi := i.isLt
  split_ifs <;> first | rfl | omega

theorem qc_apply (v : FVec Ideal S8x2048x8x64 .f32) (h : Fin 8) (c : Fin 128) :
    QC v (ix4 b t h c) = InMath.aug (fun c => v (ix4 b t h c)) (InMath.slope (InMath.slopeWord h)) c := by
  have hs := sl_apply h
  unfold QC Z InMath.aug
  generalize SL = s at hs ⊢
  pointwise
  have hc : (c.val < 70) ↔ (c.val - 64 < 6) := by omega
  simp only [hc]
  split_ifs <;> first | rfl | exact hs _

theorem qa_apply (u : FVec Ideal S8x2048x8x128 .f32) (n : Fin 1024) :
    QA u (ix3 b n t) = u (ix4 b t ⟨n.val / 128, by omega⟩ ⟨n.val % 128, by omega⟩) := by
  unfold QA
  pointwise

theorem word_pos : (FloatOps.sitofp FTy.f32 (BitVec.ofNat 32 t.val) : Ideal .f32) = (((t.val : ℤ) : ℝ) : EReal) := by
  show ((((BitVec.ofNat 32 t.val).toInt : ℤ) : ℝ) : EReal) = _
  have h : (BitVec.ofNat 32 t.val).toInt = (t.val : ℤ) := by
    have := t.isLt
    rw [BitVec.toInt_eq_toNat_cond, BitVec.toNat_ofNat]
    omega
  rw [h]

theorem pc_apply (i : Fin 6) : PC (PH PS) (PL PS (PH PS)) (ix2 t i) = InMath.posCol t.val i.val := by
  unfold PC PL PH PS InMath.posCol InMath.posHi
  pointwise
  have hw : (FloatOps.sitofp FTy.f32 (BitVec.ofNat 32 t.val) : Ideal .f32) = (((t.val : ℤ) : ℝ) : EReal) := word_pos t
  simp only [hw]
  fin_cases i <;> simp

theorem kc_apply (v : FVec Ideal S8x2048x8x64 .f32) (pc : FVec Ideal S2048x6 .f32) (h : Fin 8) (c : Fin 128) :
    KC v pc (ix4 b t h c) = InMath.aug (fun c => v (ix4 b t h c)) (fun i => if h : i < 6 then pc (ix2 t ⟨i, h⟩) else 0) c := by
  unfold KC Z InMath.aug
  pointwise
  have hc : (c.val < 70) ↔ (c.val - 64 < 6) := by omega
  simp only [hc]
  split_ifs <;> rfl

theorem ka_apply (u : FVec Ideal S8x2048x8x128 .f32) (n : Fin 1024) :
    KA u (ix3 b t n) = u (ix4 b t ⟨n.val / 128, by omega⟩ ⟨n.val % 128, by omega⟩) := by
  unfold KA
  pointwise

theorem mq_apply (v13 : FVec Ideal S8x2048x1024 .f32) (a4 : FVec Ideal S1024x512 .bf16) (h : Fin 4) (c : Fin 128) :
    MQ v13 a4 (ix4 b t h c) = InMath.mhead (InMath.lin (fun d => v13 (ix3 b t d)) (fun k n => a4 (ix2 k n))) h c := by
  unfold MQ InMath.mhead InMath.lin
  pointwise

theorem ml_apply (v : FVec Ideal S8x2048x4x128 .f32) (a12 : FVec Ideal S1x128 .f32) (a10 : FVec Ideal S8x512x256 .bf16)
    (h : Fin 4) (m : Fin 256) :
    ML v a12 a10 (ix4 b h t m) = InMath.logit (fun c => v (ix4 b t h c)) (fun c => a12 (ix2 0 c))
      (fun c m => a10 (ix3 b ⟨h.val * 128 + c.val, by omega⟩ m)) m := by
  unfold ML InMath.logit InMath.rr
  pointwise

theorem me_apply (l : FVec Ideal S8x4x2048x256 .f32) (h : Fin 4) (m : Fin 256) :
    ME l (ix4 b h t m) = InMath.expo (fun m => l (ix4 b h t m)) m := by
  unfold ME InMath.expo
  pointwise

theorem my_apply (e : FVec Ideal S8x4x2048x256 .f32) (a11 : FVec Ideal S8x256x512 .bf16) (n : Fin 512) :
    MY e a11 (ix3 b t n) = InMath.mean (fun m => e (ix4 b ⟨n.val / 128, by omega⟩ t m))
      (fun m c => a11 (ix3 b m ⟨n.val / 128 * 128 + c.val, by omega⟩)) ⟨n.val % 128, by omega⟩ := by
  unfold MY InMath.mean
  pointwise
  simp only [Nat.div_add_mod']

theorem ym_apply (v : FVec Ideal S8x2048x512 .f32) (a13 : FVec Ideal S1x512x1024 .f32) (d : Fin 1024) :
    YM v a13 (ix3 b t d) = InMath.lin (fun n => v (ix3 b t n)) (fun n d => a13 (ix3 0 n d)) d := by
  unfold YM InMath.lin
  pointwise

theorem gt_apply (v13 : FVec Ideal S8x2048x1024 .f32) (a5 : FVec Ideal S1024x3072 .bf16) (j : Fin 3) (d : Fin 1024) :
    GT v13 a5 (ix4 b t j d) = InMath.sig (InMath.lin (fun d => v13 (ix3 b t d)) (fun k n => a5 (ix2 k n)) ⟨j.val * 1024 + d.val, by omega⟩) := by
  unfold GT InMath.sig InMath.lin
  pointwise

theorem part_apply (g : FVec Ideal S8x2048x3x1024 .f32) (y z : FVec Ideal S8x2048x1024 .f32) (d : Fin 1024) :
    PART g y z (ix3 b t d) = g (ix4 b t 0 d) * y (ix3 b t d) + g (ix4 b t 2 d) * z (ix3 b t d) := by
  unfold PART
  pointwise

theorem g1_apply (g : FVec Ideal S8x2048x3x1024 .f32) (d : Fin 1024) : G1 g (ix3 b t d) = g (ix4 b t 1 d) := by
  unfold G1
  pointwise

theorem vt_apply (v15 : FVec Ideal S8x2048x3328 .f32) (n : Fin 512) : VT v15 (ix3 b n t) = v15 (ix3 b t ⟨2560 + n.val, by omega⟩) := by
  unfold VT
  pointwise

theorem qi_apply (v15 : FVec Ideal S8x2048x3328 .f32) (n : Fin 256) : QI v15 (ix3 b n t) = v15 (ix3 b t ⟨3072 + n.val, by omega⟩) := by
  unfold QI
  pointwise

theorem kw_apply (v13 : FVec Ideal S8x2048x1024 .f32) (a3 : FVec Ideal S1024x128 .bf16) (n : Fin 128) :
    KW v13 a3 (ix3 b t n) = InMath.lin (fun d => v13 (ix3 b t d)) (fun k n => a3 (ix2 k n)) n := by
  unfold KW InMath.lin
  pointwise

theorem wi_apply (v : FVec Ideal S8x2048x128 .f32) (i : Fin 8) : WI v (ix3 b i t) = v (ix3 b t ⟨32 + i.val, by omega⟩) := by
  unfold WI
  pointwise

theorem part_res (a0 : FVec Ideal S8x2048x1024 .f32) (a1 : FVec Ideal S1x1024 .f32) (a2 : FVec Ideal S1024x3328 .bf16) (a4 : FVec Ideal S1024x512 .bf16) (a5 : FVec Ideal S1024x3072 .bf16) (a6 : FVec Ideal S1x3x512 .f32) (a7 : FVec Ideal S1x512x1024 .f32) (a10 : FVec Ideal S8x512x256 .bf16) (a11 : FVec Ideal S8x256x512 .bf16) (a12 : FVec Ideal S1x128 .f32) (a13 : FVec Ideal S1x512x1024 .f32) :
    (PART (GT (XN a0 a1) a5) (YA (PR (XN a0 a1) a2) (CV (CH (PR (XN a0 a1) a2)) a6) a7) (YM (MY (ME (ML (MQ (XN a0 a1) a4) a12 a10)) a11) a13) : FVec Ideal S8x2048x1024 .bf16) = fun i => InMath.partTok a0 a1 a2 a4 a5 a6 a7 a10 a11 a12 a13 (i 0) (i 1) (i 2) := by
  have key : ∀ (b : Fin 8) (p : Fin 2048) (q : Fin 1024),
      (PART (GT (XN a0 a1) a5) (YA (PR (XN a0 a1) a2) (CV (CH (PR (XN a0 a1) a2)) a6) a7) (YM (MY (ME (ML (MQ (XN a0 a1) a4) a12 a10)) a11) a13) : FVec Ideal S8x2048x1024 .bf16) (ix3 b p q) = InMath.partTok a0 a1 a2 a4 a5 a6 a7 a10 a11 a12 a13 b p q := by
    intro b t d
    skip
    unfold InMath.partTok InMath.part InMath.cvRow InMath.memRow InMath.mem InMath.memHead InMath.pRow
    simp only [part_apply, gt_apply, ya_apply, ym_apply, my_apply, me_apply, ml_apply, mq_apply, cv_apply, ch_apply, pr_apply, xn_apply]
    have e0 : ∀ h, (⟨((0 : Fin 3) : Nat) * 1024 + (d : Nat), h⟩ : Fin 3072) = ⟨d, by omega⟩ := fun _ => Fin.ext (by simp)
    have e1 : ∀ h, (⟨((1 : Fin 3) : Nat) * 1024 + (d : Nat), h⟩ : Fin 3072) = ⟨1024 + d, by omega⟩ := fun _ => Fin.ext (by simp)
    have e2 : ∀ h, (⟨((2 : Fin 3) : Nat) * 1024 + (d : Nat), h⟩ : Fin 3072) = ⟨2048 + d, by omega⟩ := fun _ => Fin.ext (by simp)
    simp only [e0, e1, e2]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem g1_res (a0 : FVec Ideal S8x2048x1024 .f32) (a1 : FVec Ideal S1x1024 .f32) (a5 : FVec Ideal S1024x3072 .bf16) :
    (G1 (GT (XN a0 a1) a5) : FVec Ideal S8x2048x1024 .bf16) = fun i => InMath.g1Tok a0 a1 a5 (i 0) (i 1) (i 2) := by
  have key : ∀ (b : Fin 8) (p : Fin 2048) (q : Fin 1024),
      (G1 (GT (XN a0 a1) a5) : FVec Ideal S8x2048x1024 .bf16) (ix3 b p q) = InMath.g1Tok a0 a1 a5 b p q := by
    intro b t d
    skip
    unfold InMath.g1Tok
    simp only [g1_apply, gt_apply, cv_apply, ch_apply, pr_apply, xn_apply]
    have e0 : ∀ h, (⟨((0 : Fin 3) : Nat) * 1024 + (d : Nat), h⟩ : Fin 3072) = ⟨d, by omega⟩ := fun _ => Fin.ext (by simp)
    have e1 : ∀ h, (⟨((1 : Fin 3) : Nat) * 1024 + (d : Nat), h⟩ : Fin 3072) = ⟨1024 + d, by omega⟩ := fun _ => Fin.ext (by simp)
    have e2 : ∀ h, (⟨((2 : Fin 3) : Nat) * 1024 + (d : Nat), h⟩ : Fin 3072) = ⟨2048 + d, by omega⟩ := fun _ => Fin.ext (by simp)
    simp only [e0, e1, e2]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem q_res (a0 : FVec Ideal S8x2048x1024 .f32) (a1 : FVec Ideal S1x1024 .f32) (a2 : FVec Ideal S1024x3328 .bf16) (a8 : FVec Ideal S1x64 .f32) :
    (QA (QC (QN (QH (PR (XN a0 a1) a2)) a8)) : FVec Ideal S8x1024x2048 .bf16) = fun i => InMath.qTok a0 a1 a2 a8 (i 0) (i 1) (i 2) := by
  have key : ∀ (b : Fin 8) (p : Fin 1024) (q : Fin 2048),
      (QA (QC (QN (QH (PR (XN a0 a1) a2)) a8)) : FVec Ideal S8x1024x2048 .bf16) (ix3 b p q) = InMath.qTok a0 a1 a2 a8 b p q := by
    intro b t d
    skip
    unfold InMath.qTok InMath.qaug InMath.pRow
    simp only [qa_apply, qc_apply, qn_apply, qh_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem k_res (a0 : FVec Ideal S8x2048x1024 .f32) (a1 : FVec Ideal S1x1024 .f32) (a2 : FVec Ideal S1024x3328 .bf16) (a9 : FVec Ideal S1x64 .f32) :
    (KA (KC (KN (KH (PR (XN a0 a1) a2)) a9) (PC (PH PS) (PL PS (PH PS)))) : FVec Ideal S8x2048x1024 .bf16) = fun i => InMath.kTok a0 a1 a2 a9 (i 0) (i 1) (i 2) := by
  have key : ∀ (b : Fin 8) (p : Fin 2048) (q : Fin 1024),
      (KA (KC (KN (KH (PR (XN a0 a1) a2)) a9) (PC (PH PS) (PL PS (PH PS)))) : FVec Ideal S8x2048x1024 .bf16) (ix3 b p q) = InMath.kTok a0 a1 a2 a9 b p q := by
    intro b t d
    skip
    unfold InMath.kTok InMath.kaug InMath.pRow
    simp only [ka_apply, kc_apply, kn_apply, kh_apply, cv_apply, ch_apply, pr_apply, xn_apply]
    exact InMath.aug_congr _ _ _ _ (fun i hi => by rw [dif_pos hi, pc_apply])
  funext i
  have e : i = ix3 (i 0) (i 1) (i 2) := by funext a; match a with | ⟨0, _⟩ => rfl | ⟨1, _⟩ => rfl | ⟨2, _⟩ => rfl
  exact (congrArg _ e).trans (key (i 0) (i 1) (i 2))

theorem v_res (a0 : FVec Ideal S8x2048x1024 .f32) (a1 : FVec Ideal S1x1024 .f32) (a2 : FVec Ideal S1024x3328 .bf16) :
    (VT (PR (XN a0 a1) a2) : FVec Ideal S8x512x2048 .bf16) = fun i => InMath.vTok a0 a1 a2 (i 0) (i 1) (i 2) := by
  have key : ∀ (b : Fin 8) (p : Fin 512) (q : Fin 2048),
      (VT (PR (XN a0 a1) a2) : FVec Ideal S8x512x2048 .bf16) (ix3 b p q) = InMath.vTok a0 a1 a2 b p q := by
    intro b t d
    skip
    unfold InMath.vTok InMath.pRow
    simp only [vt_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem qi_res (a0 : FVec Ideal S8x2048x1024 .f32) (a1 : FVec Ideal S1x1024 .f32) (a2 : FVec Ideal S1024x3328 .bf16) :
    (QI (PR (XN a0 a1) a2) : FVec Ideal S8x256x2048 .bf16) = fun i => InMath.qiTok a0 a1 a2 (i 0) (i 1) (i 2) := by
  have key : ∀ (b : Fin 8) (p : Fin 256) (q : Fin 2048),
      (QI (PR (XN a0 a1) a2) : FVec Ideal S8x256x2048 .bf16) (ix3 b p q) = InMath.qiTok a0 a1 a2 b p q := by
    intro b t d
    skip
    unfold InMath.qiTok InMath.pRow
    simp only [qi_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem kw_res (a0 : FVec Ideal S8x2048x1024 .f32) (a1 : FVec Ideal S1x1024 .f32) (a3 : FVec Ideal S1024x128 .bf16) :
    (truncf .bf16 (KW (XN a0 a1) a3) bitsLt_bf16_f32 : FVec Ideal S8x2048x128 .bf16) = fun i => InMath.kwTok a0 a1 a3 (i 0) (i 1) (i 2) := by
  have key : ∀ (b : Fin 8) (p : Fin 2048) (q : Fin 128),
      (truncf .bf16 (KW (XN a0 a1) a3) bitsLt_bf16_f32 : FVec Ideal S8x2048x128 .bf16) (ix3 b p q) = InMath.kwTok a0 a1 a3 b p q := by
    intro b t d
    pointwise
    unfold InMath.kwTok
    simp only [kw_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem wi_res (a0 : FVec Ideal S8x2048x1024 .f32) (a1 : FVec Ideal S1x1024 .f32) (a3 : FVec Ideal S1024x128 .bf16) :
    (WI (KW (XN a0 a1) a3) : FVec Ideal S8x8x2048 .f32) = fun i => InMath.wiTok a0 a1 a3 (i 0) (i 1) (i 2) := by
  have key : ∀ (b : Fin 8) (p : Fin 8) (q : Fin 2048),
      (WI (KW (XN a0 a1) a3) : FVec Ideal S8x8x2048 .f32) (ix3 b p q) = InMath.wiTok a0 a1 a3 b p q := by
    intro b t d
    skip
    unfold InMath.wiTok InMath.kwTok
    simp only [wi_apply, kw_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

/-- What the plain mathematics leaves: the token formulas of its arguments. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = (fun i => InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (i 0) (i 1) (i 2) : FVec Ideal S8x2048x1024 .bf16)
      ∧ r.2.mem ((c.tc : Thread nD τ).loc main_v162) = (fun i => InMath.g1Tok (m ((c.tc : Thread nD τ).loc main_arg0)) (m ((c.tc : Thread nD τ).loc main_arg1)) (m ((c.tc : Thread nD τ).loc main_arg5)) (i 0) (i 1) (i 2) : FVec Ideal S8x2048x1024 .bf16)
      ∧ r.2.mem ((c.tc : Thread nD τ).loc main_v165) = (fun i => InMath.qTok (m ((c.tc : Thread nD τ).loc main_arg0)) (m ((c.tc : Thread nD τ).loc main_arg1)) (m ((c.tc : Thread nD τ).loc main_arg2)) (m ((c.tc : Thread nD τ).loc main_arg8)) (i 0) (i 1) (i 2) : FVec Ideal S8x1024x2048 .bf16)
      ∧ r.2.mem ((c.tc : Thread nD τ).loc main_v167) = (fun i => InMath.kTok (m ((c.tc : Thread nD τ).loc main_arg0)) (m ((c.tc : Thread nD τ).loc main_arg1)) (m ((c.tc : Thread nD τ).loc main_arg2)) (m ((c.tc : Thread nD τ).loc main_arg9)) (i 0) (i 1) (i 2) : FVec Ideal S8x2048x1024 .bf16)
      ∧ r.2.mem ((c.tc : Thread nD τ).loc main_v169) = (fun i => InMath.vTok (m ((c.tc : Thread nD τ).loc main_arg0)) (m ((c.tc : Thread nD τ).loc main_arg1)) (m ((c.tc : Thread nD τ).loc main_arg2)) (i 0) (i 1) (i 2) : FVec Ideal S8x512x2048 .bf16)
      ∧ r.2.mem ((c.tc : Thread nD τ).loc main_v171) = (fun i => InMath.qiTok (m ((c.tc : Thread nD τ).loc main_arg0)) (m ((c.tc : Thread nD τ).loc main_arg1)) (m ((c.tc : Thread nD τ).loc main_arg2)) (i 0) (i 1) (i 2) : FVec Ideal S8x256x2048 .bf16)
      ∧ r.2.mem ((c.tc : Thread nD τ).loc main_v172) = (fun i => InMath.kwTok (m ((c.tc : Thread nD τ).loc main_arg0)) (m ((c.tc : Thread nD τ).loc main_arg1)) (m ((c.tc : Thread nD τ).loc main_arg3)) (i 0) (i 1) (i 2) : FVec Ideal S8x2048x128 .bf16)
      ∧ r.2.mem ((c.tc : Thread nD τ).loc main_v174) = (fun i => InMath.wiTok (m ((c.tc : Thread nD τ).loc main_arg0)) (m ((c.tc : Thread nD τ).loc main_arg1)) (m ((c.tc : Thread nD τ).loc main_arg3)) (i 0) (i 1) (i 2) : FVec Ideal S8x8x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (run (F := Ideal) m ρ)
  obtain ⟨h0, h1, h2, h3, h4, h5, h6, h7, hr⟩ := h c
  exact ⟨h0.trans (part_res _ _ _ _ _ _ _ _ _ _ _ ), h1.trans (g1_res _ _ _ ), h2.trans (q_res _ _ _ _ ), h3.trans (k_res _ _ _ _ ), h4.trans (v_res _ _ _ ), h5.trans (qi_res _ _ _ ), h6.trans (kw_res _ _ _ ), h7.trans (wi_res _ _ _ ), hr⟩

end Cert.Reference2Ideal.Value
-- ==== Proof.Reads2.lean ====
/-
  What each grid point's blocks read in the layer's first call: the arrays, at the block's place.
-/
module

public import proofs.«01_k».proof.Proof.Gen.Kernel2Ideal.Value
public import Idealize.ShloMosaic.Lib.Pipeline.ValueKit
public import Idealize.ShloMosaic.Lib.Pipeline.ValueKit.Point
public import Idealize.ShloMosaic.Lib.Claim
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- Every read window's block index at a grid point. -/
theorem idx : ∀ t : Fin cfg0.N, win0_0.index t = ![t.val / 4, t.val % 4, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 4, 0, 0]
    ∧ win0_11.index t = ![t.val / 4, 0, 0]
    ∧ win0_12.index t = ![0, 0]
    ∧ win0_13.index t = ![0, 0] :=
  (by decide +kernel : ∀ t : Fin grid0.N, _)

theorem coord1 : ∀ t : Fin cfg0.N, ((grid0.coords t) 1).val = t.val % 4 :=
  (by decide +kernel : ∀ t : Fin grid0.N, _)

/-- The sequence and the token that row `r` of point `t`'s block holds. -/
def seqOf (t : Fin cfg0.N) : Fin 8 := ⟨t.val / 4, by have := lt_of_lt_of_eq t.isLt (show cfg0.N = 32 from N_0); omega⟩
def tokOf (t : Fin cfg0.N) (r : Fin 512) : Fin 2048 := ⟨512 * (t.val % 4) + r.val, by omega⟩

/-! The operands that the call's own reshapes, pad and product make. -/

theorem V_v9 (c : Dev nD) : (V m c main_v9 : FVec Ideal S1x1024 .f32) = shapeCast _ (shapeCast S1024 (show FVec Ideal S1x1024 .f32 from m ((c.tc : Thread nD τ).loc main_arg1)) shapeCasts_S1x1024_S1024) shapeCasts_S1024_S1x1024 := by
  unfold_abbrev_sides
  simp only [List.flatten_cons, List.flatten_nil, List.append_nil, List.cons_append, List.nil_append]
  after_results_simp
  rfl

theorem V_v2 (c : Dev nD) : (V m c main_v2 : FVec Ideal S1x128 .f32) = pad S1x128 ![0, 0] ![0, 64] ![0, 0] (shapeCast S1x64 (shapeCast S64 (show FVec Ideal S1x64 .f32 from m ((c.tc : Thread nD τ).loc main_arg9)) shapeCasts_S1x64_S64) shapeCasts_S64_S1x64) (sitofp (F := Ideal) .f32 (constantI S_ 32 0#32)) pads_S1x64_S1x128_000_0640 h_S_ := by
  unfold_abbrev_sides
  simp only [List.flatten_cons, List.flatten_nil, List.append_nil, List.cons_append, List.nil_append]
  after_results_simp
  rfl

theorem V_v7 (c : Dev nD) : (V m c main_v7 : FVec Ideal S64x512 .f32) = broadcastInDim S64x512 ![0, 1] bcast_S64x1_S64x512_0_1 (broadcastInDim S64x1 ![0] bcast_S64_S64x1_0 (mulf (shapeCast S64 (show FVec Ideal S1x64 .f32 from m ((c.tc : Thread nD τ).loc main_arg8)) shapeCasts_S1x64_S64) (broadcastInDim S64 ![] bcast_S_S64 (constant S_ .f32 0x3E38AA3B#32)))) := by
  unfold_abbrev_sides
  simp only [List.flatten_cons, List.flatten_nil, List.append_nil, List.cons_append, List.nil_append]
  after_results_simp
  rfl

theorem V_v10 (c : Dev nD) : (V m c main_v10 : FVec Ideal S3x512 .f32) = shapeCast _ (show FVec Ideal S1x3x512 .f32 from m ((c.tc : Thread nD τ).loc main_arg6)) shapeCasts_S1x3x512_S3x512 := by
  unfold_abbrev_sides
  simp only [List.flatten_cons, List.flatten_nil, List.append_nil, List.cons_append, List.nil_append]
  after_results_simp
  rfl

theorem V_v12 (c : Dev nD) : (V m c main_v12 : FVec Ideal S512x1024 .bf16) = truncf .bf16 (shapeCast S512x1024 (show FVec Ideal S1x512x1024 .f32 from m ((c.tc : Thread nD τ).loc main_arg7)) shapeCasts_S1x512x1024_S512x1024) bitsLt_bf16_f32 := by
  unfold_abbrev_sides
  simp only [List.flatten_cons, List.flatten_nil, List.append_nil, List.cons_append, List.nil_append]
  after_results_simp
  rfl

theorem V_v14 (c : Dev nD) : (V m c main_v14 : FVec Ideal S1x128 .f32) = shapeCast _ (shapeCast S128 (show FVec Ideal S1x128 .f32 from m ((c.tc : Thread nD τ).loc main_arg12)) shapeCasts_S1x128_S128) shapeCasts_S128_S1x128 := by
  unfold_abbrev_sides
  simp only [List.flatten_cons, List.flatten_nil, List.append_nil, List.cons_append, List.nil_append]
  after_results_simp
  rfl

theorem V_v16 (c : Dev nD) : (V m c main_v16 : FVec Ideal S512x1024 .bf16) = truncf .bf16 (shapeCast S512x1024 (show FVec Ideal S1x512x1024 .f32 from m ((c.tc : Thread nD τ).loc main_arg13)) shapeCasts_S1x512x1024_S512x1024) bitsLt_bf16_f32 := by
  unfold_abbrev_sides
  simp only [List.flatten_cons, List.flatten_nil, List.append_nil, List.cons_append, List.nil_append]
  after_results_simp
  rfl

theorem iblk0 (c : Dev nD) (t : Fin cfg0.N) (r : Fin 512) (d : Fin 1024) :
    (iblk m c 0 t : FVec Ideal S1x512x1024 .f32) (ix3 0 r d) = m ((c.tc : Thread nD τ).loc main_arg0) (ix3 (seqOf t) (tokOf t r) d) := by
  unfold seqOf tokOf
  blk_ext! [iblk, V, idx t]

theorem iblk1 (c : Dev nD) (t : Fin cfg0.N) (p : Fin 1) (q : Fin 1024) :
    (iblk m c 1 t : FVec Ideal S1x1024 .f32) (ix2 p q) = m ((c.tc : Thread nD τ).loc main_arg1) (ix2 p q) := by
  have e : (iblk m c 1 t : FVec Ideal S1x1024 .f32) (ix2 p q) = (V m c main_v9 : FVec Ideal S1x1024 .f32) (ix2 p q) := by
    blk_ext [iblk, idx t]
  rw [e, V_v9]
  pointwise

theorem iblk2 (c : Dev nD) (t : Fin cfg0.N) (p : Fin 1024) (q : Fin 3328) :
    (iblk m c 2 t : FVec Ideal S1024x3328 .bf16) (ix2 p q) = m ((c.tc : Thread nD τ).loc main_arg2) (ix2 p q) := by
  blk_ext! [iblk, V, idx t]

theorem iblk3 (c : Dev nD) (t : Fin cfg0.N) (p : Fin 1024) (q : Fin 128) :
    (iblk m c 3 t : FVec Ideal S1024x128 .bf16) (ix2 p q) = m ((c.tc : Thread nD τ).loc main_arg3) (ix2 p q) := by
  blk_ext! [iblk, V, idx t]

theorem iblk4 (c : Dev nD) (t : Fin cfg0.N) (p : Fin 1024) (q : Fin 512) :
    (iblk m c 4 t : FVec Ideal S1024x512 .bf16) (ix2 p q) = m ((c.tc : Thread nD τ).loc main_arg4) (ix2 p q) := by
  blk_ext! [iblk, V, idx t]

theorem iblk5 (c : Dev nD) (t : Fin cfg0.N) (p : Fin 1024) (q : Fin 3072) :
    (iblk m c 5 t : FVec Ideal S1024x3072 .bf16) (ix2 p q) = m ((c.tc : Thread nD τ).loc main_arg5) (ix2 p q) := by
  blk_ext! [iblk, V, idx t]

theorem iblk6 (c : Dev nD) (t : Fin cfg0.N) (p : Fin 3) (q : Fin 512) :
    (iblk m c 6 t : FVec Ideal S3x512 .f32) (ix2 p q) = m ((c.tc : Thread nD τ).loc main_arg6) (ix3 0 p q) := by
  have e : (iblk m c 6 t : FVec Ideal S3x512 .f32) (ix2 p q) = (V m c main_v10 : FVec Ideal S3x512 .f32) (ix2 p q) := by
    blk_ext [iblk, idx t]
  rw [e, V_v10]
  pointwise

theorem iblk7 (c : Dev nD) (t : Fin cfg0.N) (p : Fin 512) (q : Fin 1024) :
    (iblk m c 7 t : FVec Ideal S512x1024 .bf16) (ix2 p q) = m ((c.tc : Thread nD τ).loc main_arg7) (ix3 0 p q) := by
  have e : (iblk m c 7 t : FVec Ideal S512x1024 .bf16) (ix2 p q) = (V m c main_v12 : FVec Ideal S512x1024 .bf16) (ix2 p q) := by
    blk_ext [iblk, idx t]
  rw [e, V_v12]
  pointwise

theorem iblk8 (c : Dev nD) (t : Fin cfg0.N) (q : Fin 64) :
    (iblk m c 8 t : FVec Ideal S1x128 .f32) (ix2 0 ⟨q.val, by omega⟩) = m ((c.tc : Thread nD τ).loc main_arg9) (ix2 0 q) := by
  have e : (iblk m c 8 t : FVec Ideal S1x128 .f32) (ix2 0 ⟨q.val, by omega⟩) = (V m c main_v2 : FVec Ideal S1x128 .f32) (ix2 0 ⟨q.val, by omega⟩) := by
    blk_ext [iblk, idx t]
  rw [e, V_v2]
  pointwise

theorem iblk9 (c : Dev nD) (t : Fin cfg0.N) (p : Fin 64) (q : Fin 512) :
    (iblk m c 9 t : FVec Ideal S64x512 .f32) (ix2 p q) = (show EReal from m ((c.tc : Thread nD τ).loc main_arg8) (ix2 0 p)) * Ideal.ofBits .f32 0x3E38AA3B#32 := by
  have e : (iblk m c 9 t : FVec Ideal S64x512 .f32) (ix2 p q) = (V m c main_v7 : FVec Ideal S64x512 .f32) (ix2 p q) := by
    blk_ext [iblk, idx t]
  rw [e, V_v7]
  pointwise

theorem iblk10 (c : Dev nD) (t : Fin cfg0.N) (p : Fin 512) (q : Fin 256) :
    (iblk m c 10 t : FVec Ideal S1x512x256 .bf16) (ix3 0 p q) = m ((c.tc : Thread nD τ).loc main_arg10) (ix3 (seqOf t) p q) := by
  unfold seqOf
  blk_ext! [iblk, V, idx t]

theorem iblk11 (c : Dev nD) (t : Fin cfg0.N) (p : Fin 256) (q : Fin 512) :
    (iblk m c 11 t : FVec Ideal S1x256x512 .bf16) (ix3 0 p q) = m ((c.tc : Thread nD τ).loc main_arg11) (ix3 (seqOf t) p q) := by
  unfold seqOf
  blk_ext! [iblk, V, idx t]

theorem iblk12 (c : Dev nD) (t : Fin cfg0.N) (p : Fin 1) (q : Fin 128) :
    (iblk m c 12 t : FVec Ideal S1x128 .f32) (ix2 p q) = m ((c.tc : Thread nD τ).loc main_arg12) (ix2 p q) := by
  have e : (iblk m c 12 t : FVec Ideal S1x128 .f32) (ix2 p q) = (V m c main_v14 : FVec Ideal S1x128 .f32) (ix2 p q) := by
    blk_ext [iblk, idx t]
  rw [e, V_v14]
  pointwise

theorem iblk13 (c : Dev nD) (t : Fin cfg0.N) (p : Fin 512) (q : Fin 1024) :
    (iblk m c 13 t : FVec Ideal S512x1024 .bf16) (ix2 p q) = m ((c.tc : Thread nD τ).loc main_arg13) (ix3 0 p q) := by
  have e : (iblk m c 13 t : FVec Ideal S512x1024 .bf16) (ix2 p q) = (V m c main_v16 : FVec Ideal S512x1024 .bf16) (ix2 p q) := by
    blk_ext [iblk, idx t]
  rw [e, V_v16]
  pointwise

end Cert.Kernel2Ideal.Value
-- ==== Proof.InBase.lean ====
/-
  The layer's first call, one block at a time: what its loads read and the rows its projections leave.
-/
module

public import proofs.«01_k».proof.Proof.Gen.Kernel2Ideal.Skeleton
public import proofs.«01_k».proof.Proof.InMath
public import proofs.«01_k».proof.Proof.Shift
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- Row `r` of a projection of the normalised block. -/
def P {N : Nat} (xn : FVec Ideal S512x1024 .bf16) (w : (⟨2, ![1024, N]⟩ : Shape).Idx → EReal) (r : Fin 512) : Fin N → EReal :=
  InMath.lin (fun k => xn (ix2 r k)) (fun k n => w (ix2 k n))

/-- The normalised block. -/
def xnBlk (x0 : FVec Ideal S1x512x1024 .f32) (x1 : FVec Ideal S1x1024 .f32) : FVec Ideal S512x1024 .bf16 := fun i =>
  FfnMath.xn (fun d => x0 (ix3 0 (i 0) d)) (fun d => x1 (ix2 0 d)) (i 1)

theorem pay4_eq (x0 : FVec Ideal S1x512x1024 .f32) (x1 : FVec Ideal S1x1024 .f32) :
    k0_pay4 (F := Ideal) x0 x1 = xnBlk x0 x1 := by
  funext j
  idx_vars j
  show _ = FfnMath.xn _ _ _
  unfold k0_pay4 FfnMath.xn
  pointwise

/-- A load of a whole buffer holding `X` reads the part of `X`. -/
@[pointwise] theorem readAt_unread {Val : EltTy → Type} {κ : Kind} {sp : Space} {s : Shape} {e : EltTy} (m : Memref sig κ sp s e)
    (h : m.IsWhole) (X : s.Idx → Val e) (r : Rect s) :
    View.readAt Val m.view r.toLoadRect (h.unread X) = View.ld X r := by
  rw [View.readAt_eq_ld, h.read_unread]

/-- A load of all of a two-axis buffer. -/
theorem readAt_whole2 {Val : EltTy → Type} {κ : Kind} {sp : Space} {A B : Nat} {e : EltTy}
    (m : Memref sig κ sp (⟨2, ![A, B]⟩ : Shape) e) (h : m.IsWhole) (X : (⟨2, ![A, B]⟩ : Shape).Idx → Val e)
    (inb : ∀ a, (![0, 0] : Fin 2 → Nat) a + (![A, B] : Fin 2 → Nat) a ≤ (⟨2, ![A, B]⟩ : Shape).size a) :
    View.readAt Val m.view (Rect.unit (s := ⟨2, ![A, B]⟩) ![0, 0] ![A, B] inb).toLoadRect (h.unread X) = X := by
  rw [readAt_unread]
  exact View.ld_unit_zero (S := ⟨2, ![A, B]⟩) (by funext a; match a with | ⟨0, _⟩ => rfl | ⟨1, _⟩ => rfl) inb X

/-- A load of all of a three-axis buffer. -/
theorem readAt_whole3 {Val : EltTy → Type} {κ : Kind} {sp : Space} {A B C : Nat} {e : EltTy}
    (m : Memref sig κ sp (⟨3, ![A, B, C]⟩ : Shape) e) (h : m.IsWhole) (X : (⟨3, ![A, B, C]⟩ : Shape).Idx → Val e)
    (inb : ∀ a, (![0, 0, 0] : Fin 3 → Nat) a + (![A, B, C] : Fin 3 → Nat) a ≤ (⟨3, ![A, B, C]⟩ : Shape).size a) :
    View.readAt Val m.view (Rect.unit (s := ⟨3, ![A, B, C]⟩) ![0, 0, 0] ![A, B, C] inb).toLoadRect (h.unread X) = X := by
  rw [readAt_unread]
  exact View.ld_unit_zero (S := ⟨3, ![A, B, C]⟩)
    (by funext a; match a with | ⟨0, _⟩ => rfl | ⟨1, _⟩ => rfl | ⟨2, _⟩ => rfl) inb X

end Cert.Kernel2Ideal.Value
-- ==== Proof.InConst.lean ====
/-
  The constants of the layer's first call as the extended reals their words denote.
-/
module

public import proofs.«01_k».proof.Proof.Gen.Kernel2Ideal.Skeleton
public import Idealize.ShloMosaic.PureOps.IdealRules

@[expose] public section

noncomputable section

namespace InConst

open Idealize.ShloMosaic

theorem word_64 : Ideal.ofBits .f32 0x42800000#32 = ((64 : ℝ) : EReal) := by
  simp [Ideal.ofBits, Ideal.ieee, -EReal.coe_mul]; norm_num

theorem word_64th : Ideal.ofBits .f32 0x3C800000#32 = ((1 / 64 : ℝ) : EReal) := by
  simp [Ideal.ofBits, Ideal.ieee, -EReal.coe_mul]; norm_num

theorem word_8 : Ideal.ofBits .f32 0x41000000#32 = ((8 : ℝ) : EReal) := by
  simp [Ideal.ofBits, Ideal.ieee, -EReal.coe_mul]; norm_num

theorem word_8th : Ideal.ofBits .f32 0x3E000000#32 = ((1 / 8 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

/-- Multiplying by a sixty-fourth is dividing by sixty-four. -/
theorem mul_64th (x : EReal) : x * Ideal.ofBits .f32 0x3C800000#32 = Ideal.div x (Ideal.ofBits .f32 0x42800000#32) := by
  rw [word_64, word_64th, Ideal.div_coe (by norm_num)]

/-- Multiplying by an eighth is dividing by eight. -/
theorem mul_8th (x : EReal) : x * Ideal.ofBits .f32 0x3E000000#32 = Ideal.div x (Ideal.ofBits .f32 0x41000000#32) := by
  rw [word_8, word_8th, Ideal.div_coe (by norm_num)]

/-- The named constant is the reciprocal of the root it was computed from. -/
theorem mul_named (x : EReal) :
    x * Named.named (F := Ideal) Cert.Kernel2Ideal.κ "inv_sqrt_d" (φ := .f32) 0x3DB504F3#32
      = Ideal.div x (Ideal.sqrt (Ideal.ofBits .f32 0x43000000#32)) := by
  have h : Named.named (F := Ideal) Cert.Kernel2Ideal.κ "inv_sqrt_d" (φ := .f32) 0x3DB504F3#32
      = (((Real.sqrt 128)⁻¹ : ℝ) : EReal) := IdealRules.named_const.ideal_named_scalar _ _ _ _ rfl
  rw [h, word_128, Ideal.sqrt_coe, if_neg (by norm_num),
    Ideal.div_coe (show Real.sqrt 128 ≠ 0 from (Real.sqrt_pos.mpr (by norm_num)).ne'), one_div]

end InConst
-- ==== Proof.InQ.lean ====
/-
  The layer's first call: the widened queries of one block.
-/
module

public import proofs.«01_k».proof.Proof.InBase
public import proofs.«01_k».proof.Proof.InConst

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The slopes' columns as they are selected. -/
theorem slope_sel (i : Nat) (hi : i < 8) (w0 w1 w2 : EReal) :
    Scalar.select (IntOp.ori (IntOp.cmpi .eq (BitVec.ofNat 32 i) 2#32) (IntOp.cmpi .eq (BitVec.ofNat 32 i) 5#32)) w2
      (Scalar.select (IntOp.ori (IntOp.cmpi .eq (BitVec.ofNat 32 i) 1#32) (IntOp.cmpi .eq (BitVec.ofNat 32 i) 4#32)) w1
        (Scalar.select (IntOp.ori (IntOp.cmpi .eq (BitVec.ofNat 32 i) 0#32) (IntOp.cmpi .eq (BitVec.ofNat 32 i) 3#32)) w0 0))
      = if i = 2 ∨ i = 5 then w2 else if i = 1 ∨ i = 4 then w1 else if i = 0 ∨ i = 3 then w0 else 0 := by
  interval_cases i <;> rfl

/-- A column of a widened query. -/
theorem qasm (v g : Fin 64 → EReal) (s : Fin 3 → BitVec 32) (n : Fin 128) :
    (if h : n.val < 64 then v ⟨n.val, h⟩ * Ideal.rsqrt ((∑ c : Fin 64, v c * v c) * Ideal.ofBits .f32 0x3C800000#32
        + Ideal.ofBits .f32 0x358637BD#32) * g ⟨n.val, h⟩
      else if h : n.val - 64 < 8 then
        Scalar.select (IntOp.ori (IntOp.cmpi .eq (BitVec.ofNat 32 (n.val - 64)) 2#32) (IntOp.cmpi .eq (BitVec.ofNat 32 (n.val - 64)) 5#32))
          (Ideal.ofBits .f32 (s 2))
          (Scalar.select (IntOp.ori (IntOp.cmpi .eq (BitVec.ofNat 32 (n.val - 64)) 1#32) (IntOp.cmpi .eq (BitVec.ofNat 32 (n.val - 64)) 4#32))
            (Ideal.ofBits .f32 (s 1))
            (Scalar.select (IntOp.ori (IntOp.cmpi .eq (BitVec.ofNat 32 (n.val - 64)) 0#32) (IntOp.cmpi .eq (BitVec.ofNat 32 (n.val - 64)) 3#32))
              (Ideal.ofBits .f32 (s 0)) 0))
      else 0) = InMath.aug (InMath.qk v g) (InMath.slope s) n := by
  unfold InMath.aug InMath.qk InMath.rr
  rw [InConst.mul_64th]
  split_ifs with h1 h2 h3 h3
  · rfl
  · rw [slope_sel _ h2]; rfl
  · rw [slope_sel _ h2, if_neg (by omega), if_neg (by omega), if_neg (by omega)]
  · exact absurd h3 (by omega)
  · rfl

/-- The widened query of head `h` from the block of projected columns. -/
def qBlk (q : FVec Ideal S512x512 .f32) (g : FVec Ideal S64x512 .f32) (h : Fin 8) (n : Fin 128) (r : Fin 512) : EReal :=
  InMath.aug (InMath.qk (fun c => q (ix2 ⟨h.val * 64 + c.val, by omega⟩ r)) (fun c => g (ix2 c r)))
    (InMath.slope (InMath.slopeWord h)) n

theorem pay25_apply (xn : FVec Ideal S512x1024 .bf16) (w : FVec Ideal S1024x512 .bf16) (n r : Fin 512) :
    k0_pay25 (F := Ideal) xn w (ix2 n r) = P xn w r n := by
  unfold k0_pay25 P InMath.lin
  pointwise

theorem pay27_apply (xn : FVec Ideal S512x1024 .bf16) (w : FVec Ideal S1024x512 .bf16) (c : Fin 64) (r : Fin 512) :
    k0_pay27 (F := Ideal) xn w (ix2 c r) = (k0_pay25 (F := Ideal) xn w) (ix2 ⟨(0 : Fin 8).val * 64 + c.val, by have := c.isLt; show 0 * 64 + c.val < 512; omega⟩ r) := by
  unfold k0_pay27
  generalize k0_pay25 (F := Ideal) xn w = q at *
  pointwise

theorem pay30_apply (xn : FVec Ideal S512x1024 .bf16) (w : FVec Ideal S1024x512 .bf16) (g : FVec Ideal S64x512 .f32) (b : Fin 1) (n : Fin 128) (r : Fin 512) :
    k0_pay30 (F := Ideal) (iota .tc S8x512 32 [0] iota_S8x512_d0_w32) k0_pay26 (k0_pay27 xn w) (k0_pay28 xn w) k0_pay29 g (ix3 b n r)
      = qBlk (k0_pay25 (F := Ideal) xn w) g 0 n r := by
  have h := fun c => pay27_apply xn w c r
  unfold k0_pay30 k0_pay26 k0_pay28 k0_pay29
  generalize k0_pay27 (F := Ideal) xn w = u at *
  have hq : qBlk (k0_pay25 (F := Ideal) xn w) g 0 n r
      = InMath.aug (InMath.qk (fun c => u (ix2 c r)) (fun c => g (ix2 c r))) (InMath.slope (InMath.slopeWord 0)) n := by
    unfold qBlk
    simp only [h]
  rw [hq, ← qasm]
  clear hq h
  pointwise
  rfl

theorem pay31_apply (q : FVec Ideal S512x512 .f32) (c : Fin 64) (r : Fin 512) :
    k0_pay31 (F := Ideal) q (ix2 c r) = q (ix2 ⟨(1 : Fin 8).val * 64 + c.val, by have := c.isLt; show 1 * 64 + c.val < 512; omega⟩ r) := by
  unfold k0_pay31
  pointwise

theorem pay34_apply (q : FVec Ideal S512x512 .f32) (g : FVec Ideal S64x512 .f32) (b : Fin 1) (n : Fin 128) (r : Fin 512) :
    k0_pay34 (F := Ideal) (iota .tc S8x512 32 [0] iota_S8x512_d0_w32) k0_pay26 (k0_pay31 q) (k0_pay32 q) k0_pay33 g (ix3 b n r)
      = qBlk q g 1 n r := by
  have h := fun c => pay31_apply q c r
  unfold k0_pay34 k0_pay26 k0_pay32 k0_pay33
  generalize k0_pay31 (F := Ideal) q = u at *
  have hq : qBlk q g 1 n r
      = InMath.aug (InMath.qk (fun c => u (ix2 c r)) (fun c => g (ix2 c r))) (InMath.slope (InMath.slopeWord 1)) n := by
    unfold qBlk
    simp only [h]
  rw [hq, ← qasm]
  clear hq h
  pointwise
  rfl

theorem pay35_apply (q : FVec Ideal S512x512 .f32) (c : Fin 64) (r : Fin 512) :
    k0_pay35 (F := Ideal) q (ix2 c r) = q (ix2 ⟨(2 : Fin 8).val * 64 + c.val, by have := c.isLt; show 2 * 64 + c.val < 512; omega⟩ r) := by
  unfold k0_pay35
  pointwise

theorem pay38_apply (q : FVec Ideal S512x512 .f32) (g : FVec Ideal S64x512 .f32) (b : Fin 1) (n : Fin 128) (r : Fin 512) :
    k0_pay38 (F := Ideal) (iota .tc S8x512 32 [0] iota_S8x512_d0_w32) k0_pay26 (k0_pay35 q) (k0_pay36 q) k0_pay37 g (ix3 b n r)
      = qBlk q g 2 n r := by
  have h := fun c => pay35_apply q c r
  unfold k0_pay38 k0_pay26 k0_pay36 k0_pay37
  generalize k0_pay35 (F := Ideal) q = u at *
  have hq : qBlk q g 2 n r
      = InMath.aug (InMath.qk (fun c => u (ix2 c r)) (fun c => g (ix2 c r))) (InMath.slope (InMath.slopeWord 2)) n := by
    unfold qBlk
    simp only [h]
  rw [hq, ← qasm]
  clear hq h
  pointwise
  rfl

theorem pay39_apply (q : FVec Ideal S512x512 .f32) (c : Fin 64) (r : Fin 512) :
    k0_pay39 (F := Ideal) q (ix2 c r) = q (ix2 ⟨(3 : Fin 8).val * 64 + c.val, by have := c.isLt; show 3 * 64 + c.val < 512; omega⟩ r) := by
  unfold k0_pay39
  pointwise

theorem pay42_apply (q : FVec Ideal S512x512 .f32) (g : FVec Ideal S64x512 .f32) (b : Fin 1) (n : Fin 128) (r : Fin 512) :
    k0_pay42 (F := Ideal) (iota .tc S8x512 32 [0] iota_S8x512_d0_w32) k0_pay26 (k0_pay39 q) (k0_pay40 q) k0_pay41 g (ix3 b n r)
      = qBlk q g 3 n r := by
  have h := fun c => pay39_apply q c r
  unfold k0_pay42 k0_pay26 k0_pay40 k0_pay41
  generalize k0_pay39 (F := Ideal) q = u at *
  have hq : qBlk q g 3 n r
      = InMath.aug (InMath.qk (fun c => u (ix2 c r)) (fun c => g (ix2 c r))) (InMath.slope (InMath.slopeWord 3)) n := by
    unfold qBlk
    simp only [h]
  rw [hq, ← qasm]
  clear hq h
  pointwise
  rfl

theorem pay43_apply (q : FVec Ideal S512x512 .f32) (c : Fin 64) (r : Fin 512) :
    k0_pay43 (F := Ideal) q (ix2 c r) = q (ix2 ⟨(4 : Fin 8).val * 64 + c.val, by have := c.isLt; show 4 * 64 + c.val < 512; omega⟩ r) := by
  unfold k0_pay43
  pointwise

theorem pay46_apply (q : FVec Ideal S512x512 .f32) (g : FVec Ideal S64x512 .f32) (b : Fin 1) (n : Fin 128) (r : Fin 512) :
    k0_pay46 (F := Ideal) (iota .tc S8x512 32 [0] iota_S8x512_d0_w32) k0_pay26 (k0_pay43 q) (k0_pay44 q) k0_pay45 g (ix3 b n r)
      = qBlk q g 4 n r := by
  have h := fun c => pay43_apply q c r
  unfold k0_pay46 k0_pay26 k0_pay44 k0_pay45
  generalize k0_pay43 (F := Ideal) q = u at *
  have hq : qBlk q g 4 n r
      = InMath.aug (InMath.qk (fun c => u (ix2 c r)) (fun c => g (ix2 c r))) (InMath.slope (InMath.slopeWord 4)) n := by
    unfold qBlk
    simp only [h]
  rw [hq, ← qasm]
  clear hq h
  pointwise
  rfl

theorem pay47_apply (q : FVec Ideal S512x512 .f32) (c : Fin 64) (r : Fin 512) :
    k0_pay47 (F := Ideal) q (ix2 c r) = q (ix2 ⟨(5 : Fin 8).val * 64 + c.val, by have := c.isLt; show 5 * 64 + c.val < 512; omega⟩ r) := by
  unfold k0_pay47
  pointwise

theorem pay50_apply (q : FVec Ideal S512x512 .f32) (g : FVec Ideal S64x512 .f32) (b : Fin 1) (n : Fin 128) (r : Fin 512) :
    k0_pay50 (F := Ideal) (iota .tc S8x512 32 [0] iota_S8x512_d0_w32) k0_pay26 (k0_pay47 q) (k0_pay48 q) k0_pay49 g (ix3 b n r)
      = qBlk q g 5 n r := by
  have h := fun c => pay47_apply q c r
  unfold k0_pay50 k0_pay26 k0_pay48 k0_pay49
  generalize k0_pay47 (F := Ideal) q = u at *
  have hq : qBlk q g 5 n r
      = InMath.aug (InMath.qk (fun c => u (ix2 c r)) (fun c => g (ix2 c r))) (InMath.slope (InMath.slopeWord 5)) n := by
    unfold qBlk
    simp only [h]
  rw [hq, ← qasm]
  clear hq h
  pointwise
  rfl

theorem pay51_apply (q : FVec Ideal S512x512 .f32) (c : Fin 64) (r : Fin 512) :
    k0_pay51 (F := Ideal) q (ix2 c r) = q (ix2 ⟨(6 : Fin 8).val * 64 + c.val, by have := c.isLt; show 6 * 64 + c.val < 512; omega⟩ r) := by
  unfold k0_pay51
  pointwise

theorem pay54_apply (q : FVec Ideal S512x512 .f32) (g : FVec Ideal S64x512 .f32) (b : Fin 1) (n : Fin 128) (r : Fin 512) :
    k0_pay54 (F := Ideal) (iota .tc S8x512 32 [0] iota_S8x512_d0_w32) k0_pay26 (k0_pay51 q) (k0_pay52 q) k0_pay53 g (ix3 b n r)
      = qBlk q g 6 n r := by
  have h := fun c => pay51_apply q c r
  unfold k0_pay54 k0_pay26 k0_pay52 k0_pay53
  generalize k0_pay51 (F := Ideal) q = u at *
  have hq : qBlk q g 6 n r
      = InMath.aug (InMath.qk (fun c => u (ix2 c r)) (fun c => g (ix2 c r))) (InMath.slope (InMath.slopeWord 6)) n := by
    unfold qBlk
    simp only [h]
  rw [hq, ← qasm]
  clear hq h
  pointwise
  rfl

theorem pay55_apply (q : FVec Ideal S512x512 .f32) (c : Fin 64) (r : Fin 512) :
    k0_pay55 (F := Ideal) q (ix2 c r) = q (ix2 ⟨(7 : Fin 8).val * 64 + c.val, by have := c.isLt; show 7 * 64 + c.val < 512; omega⟩ r) := by
  unfold k0_pay55
  pointwise

theorem pay58_apply (q : FVec Ideal S512x512 .f32) (g : FVec Ideal S64x512 .f32) (b : Fin 1) (n : Fin 128) (r : Fin 512) :
    k0_pay58 (F := Ideal) (iota .tc S8x512 32 [0] iota_S8x512_d0_w32) k0_pay26 (k0_pay55 q) (k0_pay56 q) k0_pay57 g (ix3 b n r)
      = qBlk q g 7 n r := by
  have h := fun c => pay55_apply q c r
  unfold k0_pay58 k0_pay26 k0_pay56 k0_pay57
  generalize k0_pay55 (F := Ideal) q = u at *
  have hq : qBlk q g 7 n r
      = InMath.aug (InMath.qk (fun c => u (ix2 c r)) (fun c => g (ix2 c r))) (InMath.slope (InMath.slopeWord 7)) n := by
    unfold qBlk
    simp only [h]
  rw [hq, ← qasm]
  clear hq h
  pointwise
  rfl

end Cert.Kernel2Ideal.Value
-- ==== Proof.InK.lean ====
/-
  The layer's first call: the widened keys of one block.
-/
module

public import proofs.«01_k».proof.Proof.InBase
public import proofs.«01_k».proof.Proof.InConst

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The first 64 of 128 lanes as they are selected. -/
theorem slt_64 (n : Nat) (hn : n < 128) {α : Type} (a b : α) :
    Scalar.select (IntOp.cmpi .slt (BitVec.ofNat 32 n) 64#32) a b = if n < 64 then a else b := by
  interval_cases n <;> rfl

/-- A sum over lanes that are zero from the 64th on. -/
theorem sum_64 (f : Fin 128 → EReal) :
    (∑ x : Fin 128, if x.val < 64 then f x else 0) = ∑ c : Fin 64, f ⟨c.val, by omega⟩ := by
  show (∑ x : Fin (64 + 64), if x.val < 64 then f x else 0) = _
  rw [Fin.sum_univ_add]
  have h2 : ∀ c : Fin 64, (if (Fin.natAdd 64 c : Fin (64 + 64)).val < 64 then f (Fin.natAdd 64 c) else 0) = 0 := fun c =>
    if_neg (by simp)
  have h1 : ∀ c : Fin 64, (if (Fin.castAdd 64 c : Fin (64 + 64)).val < 64 then f (Fin.castAdd 64 c) else 0)
      = f ⟨c.val, by omega⟩ := fun c => if_pos (by simp)
  rw [Finset.sum_congr rfl (fun c _ => h1 c), Finset.sum_congr rfl (fun c _ => h2 c), Finset.sum_const_zero, add_zero]

/-- A column of a widened key. -/
theorem kasm (t : Nat) (f g po : Fin 128 → EReal) (v : Fin 64 → EReal) (hf : ∀ c : Fin 64, f ⟨c.val, by omega⟩ = v c)
    (hpo : ∀ n : Fin 128, po n = if n.val < 64 then 0 else if n.val < 70 then InMath.posCol t (n.val - 64) else 0) (n : Fin 128) :
    Scalar.select (IntOp.cmpi .slt (BitVec.ofNat 32 n.val) 64#32)
      (f n * Ideal.rsqrt ((∑ x : Fin 128, Scalar.select (IntOp.cmpi .slt (BitVec.ofNat 32 x.val) 64#32)
        (Scalar.select (IntOp.cmpi .slt (BitVec.ofNat 32 x.val) 64#32) (f x * f x) 0) 0) * Ideal.ofBits .f32 0x3C800000#32
        + Ideal.ofBits .f32 0x358637BD#32) * g n) 0 + po n
      = InMath.aug (InMath.qk v (fun c => g ⟨c.val, by omega⟩)) (InMath.posCol t) n := by
  have hs : (∑ x : Fin 128, Scalar.select (IntOp.cmpi .slt (BitVec.ofNat 32 x.val) 64#32)
        (Scalar.select (IntOp.cmpi .slt (BitVec.ofNat 32 x.val) 64#32) (f x * f x) 0) 0) = ∑ c : Fin 64, v c * v c := by
    have e : ∀ x : Fin 128, Scalar.select (IntOp.cmpi .slt (BitVec.ofNat 32 x.val) 64#32)
        (Scalar.select (IntOp.cmpi .slt (BitVec.ofNat 32 x.val) 64#32) (f x * f x) 0) 0 = if x.val < 64 then f x * f x else 0 := by
      intro x
      rw [slt_64 _ x.isLt, slt_64 _ x.isLt]
      split_ifs <;> rfl
    rw [Finset.sum_congr rfl (fun x _ => e x), sum_64 (fun x => f x * f x)]
    exact Finset.sum_congr rfl (fun c _ => by rw [hf c])
  rw [hs, slt_64 _ n.isLt, hpo n, InConst.mul_64th]
  unfold InMath.aug InMath.qk InMath.rr
  by_cases h : n.val < 64
  · rw [if_pos h, if_pos h, dif_pos h, add_zero, ← hf ⟨n.val, h⟩]
  · rw [if_neg h, if_neg h, dif_neg h, zero_add]

/-- The widened key of head `h` at position `t` from the block of projected columns. -/
def kBlk (q : FVec Ideal S512x512 .f32) (g : FVec Ideal S1x128 .f32) (t : Nat) (h : Fin 8) (r : Fin 512) (n : Fin 128) : EReal :=
  InMath.aug (InMath.qk (fun c => q (ix2 r ⟨h.val * 64 + c.val, by omega⟩)) (fun c => g (ix2 0 ⟨c.val, by omega⟩)))
    (InMath.posCol t) n

theorem pay59_apply (xn : FVec Ideal S512x1024 .bf16) (w : FVec Ideal S1024x512 .bf16) (r n : Fin 512) :
    k0_pay59 (F := Ideal) xn w (ix2 r n) = P xn w r n := by
  unfold k0_pay59 P InMath.lin
  pointwise

theorem word_at (j : Nat) (hj : j < 4) (r : Fin 512) :
    (FloatOps.sitofp FTy.f32 (IntOp.addi (Scalar.muli (BitVec.ofNat 32 j) 512#32) (BitVec.ofNat 32 r.val)) : Ideal .f32)
      = ((((j * 512 + r.val : Nat) : ℤ) : ℝ) : EReal) := by
  show ((((IntOp.addi (Scalar.muli (BitVec.ofNat 32 j) 512#32) (BitVec.ofNat 32 r.val)).toInt : ℤ) : ℝ) : EReal) = _
  have h : (IntOp.addi (Scalar.muli (BitVec.ofNat 32 j) 512#32) (BitVec.ofNat 32 r.val)).toInt = ((j * 512 + r.val : Nat) : ℤ) := by
    have := r.isLt
    show ((BitVec.ofNat 32 j * 512#32) + BitVec.ofNat 32 r.val).toInt = _
    have e : (BitVec.ofNat 32 j * 512#32) + BitVec.ofNat 32 r.val = BitVec.ofNat 32 (j * 512 + r.val) := by
      rw [BitVec.ofNat_add, BitVec.ofNat_mul]
    rw [e, BitVec.toInt_eq_toNat_cond, BitVec.toNat_ofNat]
    omega
  rw [h]

theorem pos_sel (n : Nat) (hn : n < 128) (a b : EReal) :
    Scalar.select (IntOp.andi (IntOp.cmpi .sge (BitVec.ofNat 32 n) 64#32) (IntOp.cmpi .slt (BitVec.ofNat 32 n) 67#32)) a
      (Scalar.select (IntOp.andi (IntOp.cmpi .sge (BitVec.ofNat 32 n) 67#32) (IntOp.cmpi .slt (BitVec.ofNat 32 n) 70#32)) b 0)
      = if n < 64 then 0 else if n < 70 then (if n - 64 < 3 then a else b) else 0 := by
  interval_cases n <;> rfl

theorem pay60_apply (j : Nat) (hj : j < 4) (r : Fin 512) (n : Fin 128) :
    k0_pay60 (F := Ideal) (Scalar.muli (BitVec.ofNat 32 j) 512#32) (ix2 r n)
      = if n.val < 64 then 0 else if n.val < 70 then InMath.posCol (j * 512 + r.val) (n.val - 64) else 0 := by
  have hw := word_at j hj r
  unfold k0_pay60 InMath.posCol InMath.posHi
  rw [← hw, ← InConst.mul_8th]
  clear hw
  generalize Scalar.muli (BitVec.ofNat 32 j) 512#32 = w
  rw [← pos_sel _ n.isLt]
  pointwise

theorem key0 (q : FVec Ideal S512x512 .f32) (w : BitVec 32) (g : FVec Ideal S1x128 .f32) (t : Nat) (b : Fin 1) (r : Fin 512)
    (hpo : ∀ n : Fin 128, (k0_pay60 (F := Ideal) w) (ix2 r n) = if n.val < 64 then 0 else if n.val < 70 then InMath.posCol t (n.val - 64) else 0)
    (n : Fin 128) :
    k0_pay62 (F := Ideal) (k0_pay61 q w g) (ix3 b r n) = kBlk q g t 0 r n := by
  unfold k0_pay62 k0_pay61
  generalize k0_pay60 (F := Ideal) w = po at *
  unfold kBlk
  refine Eq.trans ?_ (kasm t (fun x => q (ix2 r ⟨0 + x.val, by have := x.isLt; omega⟩)) (fun x => g (ix2 0 x))
    (fun x => po (ix2 r x)) _ (fun c => congrArg (fun i => q (ix2 r i)) (Fin.ext (by simp))) hpo n)
  clear hpo
  pointwise

theorem key1 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay63 (F := Ideal) q (iota .tc S512x128 32 [1] iota_S512x128_d1_w32) po g (ix3 b r n) = kBlk q g t 1 r n := by
  unfold k0_pay63
  unfold kBlk
  refine Eq.trans ?_ (kasm t (fun x => q (ix2 r ⟨0 + (x.val + 128 - 64) % 128, by have := x.isLt; omega⟩)) (fun x => g (ix2 0 x))
    (fun x => po (ix2 r x)) _ (fun c => congrArg (fun i => q (ix2 r i)) (Fin.ext (by have := c.isLt; simp; omega))) hpo n)
  clear hpo
  pointwise

theorem key2 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay66 (F := Ideal) po (k0_pay64 q (iota .tc S512x128 32 [1] iota_S512x128_d1_w32)) (k0_pay65 q (iota .tc S512x128 32 [1] iota_S512x128_d1_w32)) g (ix3 b r n) = kBlk q g t 2 r n := by
  unfold k0_pay66 k0_pay65 k0_pay64
  unfold kBlk
  refine Eq.trans ?_ (kasm t (fun x => q (ix2 r ⟨128 + x.val, by have := x.isLt; omega⟩)) (fun x => g (ix2 0 x))
    (fun x => po (ix2 r x)) _ (fun c => congrArg (fun i => q (ix2 r i)) (Fin.ext (by simp))) hpo n)
  clear hpo
  pointwise

theorem key3 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay67 (F := Ideal) q (iota .tc S512x128 32 [1] iota_S512x128_d1_w32) po g (ix3 b r n) = kBlk q g t 3 r n := by
  unfold k0_pay67
  unfold kBlk
  refine Eq.trans ?_ (kasm t (fun x => q (ix2 r ⟨128 + (x.val + 128 - 64) % 128, by have := x.isLt; omega⟩)) (fun x => g (ix2 0 x))
    (fun x => po (ix2 r x)) _ (fun c => congrArg (fun i => q (ix2 r i)) (Fin.ext (by have := c.isLt; simp; omega))) hpo n)
  clear hpo
  pointwise

theorem key4 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay70 (F := Ideal) po (k0_pay68 q) (k0_pay69 (iota .tc S512x128 32 [1] iota_S512x128_d1_w32)) (FloatOps.ofBits .f32 0x00000000#32) g (ix3 b r n) = kBlk q g t 4 r n := by
  unfold k0_pay70 k0_pay69 k0_pay68
  unfold kBlk
  refine Eq.trans ?_ (kasm t (fun x => q (ix2 r ⟨256 + x.val, by have := x.isLt; omega⟩)) (fun x => g (ix2 0 x))
    (fun x => po (ix2 r x)) _ (fun c => congrArg (fun i => q (ix2 r i)) (Fin.ext (by simp))) hpo n)
  clear hpo
  pointwise

theorem key5 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay72 (F := Ideal) (k0_pay71 q (iota .tc S512x128 32 [1] iota_S512x128_d1_w32) po g) (ix3 b r n) = kBlk q g t 5 r n := by
  unfold k0_pay72 k0_pay71
  unfold kBlk
  refine Eq.trans ?_ (kasm t (fun x => q (ix2 r ⟨256 + (x.val + 128 - 64) % 128, by have := x.isLt; omega⟩)) (fun x => g (ix2 0 x))
    (fun x => po (ix2 r x)) _ (fun c => congrArg (fun i => q (ix2 r i)) (Fin.ext (by have := c.isLt; simp; omega))) hpo n)
  clear hpo
  pointwise

theorem key6 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay73 (F := Ideal) q (iota .tc S512x128 32 [1] iota_S512x128_d1_w32) po g (ix3 b r n) = kBlk q g t 6 r n := by
  unfold k0_pay73
  unfold kBlk
  refine Eq.trans ?_ (kasm t (fun x => q (ix2 r ⟨384 + x.val, by have := x.isLt; omega⟩)) (fun x => g (ix2 0 x))
    (fun x => po (ix2 r x)) _ (fun c => congrArg (fun i => q (ix2 r i)) (Fin.ext (by simp))) hpo n)
  clear hpo
  pointwise

theorem key7 (q : FVec Ideal S512x512 .f32) (po : FVec Ideal S512x128 .f32) (g : FVec Ideal S1x128 .f32) (t : Nat) (b : Fin 1) (r : Fin 512)
    (hpo : ∀ n : Fin 128, po (ix2 r n) = if n.val < 64 then 0 else if n.val < 70 then InMath.posCol t (n.val - 64) else 0)
    (n : Fin 128) :
    k0_pay77 (F := Ideal) po (k0_pay74 q (iota .tc S512x128 32 [1] iota_S512x128_d1_w32)) (k0_pay75 q (iota .tc S512x128 32 [1] iota_S512x128_d1_w32)) k0_pay76 g (ix3 b r n) = kBlk q g t 7 r n := by
  unfold k0_pay77 k0_pay76 k0_pay75 k0_pay74
  unfold kBlk
  refine Eq.trans ?_ (kasm t (fun x => q (ix2 r ⟨384 + (x.val + 128 - 64) % 128, by have := x.isLt; omega⟩)) (fun x => g (ix2 0 x))
    (fun x => po (ix2 r x)) _ (fun c => congrArg (fun i => q (ix2 r i)) (Fin.ext (by have := c.isLt; simp; omega))) hpo n)
  clear hpo
  pointwise

end Cert.Kernel2Ideal.Value
-- ==== Proof.InM.lean ====
/-
  The layer's first call: the memory heads, the gates and the plain projections of one block.
-/
module

public import proofs.«01_k».proof.Proof.InBase
public import proofs.«01_k».proof.Proof.InConst

@[expose] public section

set_option maxRecDepth 16384

noncomputable section

namespace Cert.Kernel2Ideal.Value

open Cert.Kernel2Ideal Cert.Kernel2Ideal.Gen Idealize.ShloMosaic Idealize.ShloMosaic.TcCoe Idealize.SL.Sem

theorem pay80_apply (xn : FVec Ideal S512x1024 .bf16) (w : FVec Ideal S1024x512 .bf16) (r n : Fin 512) :
    k0_pay80 (F := Ideal) xn w (ix2 r n) = P xn w r n := by
  unfold k0_pay80 P InMath.lin
  pointwise

/-- The logits of memory head `h` at row `r`. -/
def lgBlk (q : FVec Ideal S512x512 .f32) (g : FVec Ideal S1x128 .f32) (K : FVec Ideal S1x128x256 .bf16) (h : Fin 4) (r : Fin 512) :
    Fin 256 → EReal :=
  InMath.logit (InMath.mhead (fun n => q (ix2 r n)) h) (fun c => g (ix2 0 c)) (fun c m => K (ix3 0 c m))

/-- What memory head `h` reads at row `r`. -/
def mBlk (q : FVec Ideal S512x512 .f32) (g : FVec Ideal S1x128 .f32) (K : FVec Ideal S1x128x256 .bf16)
    (V : FVec Ideal S1x256x128 .bf16) (h : Fin 4) (r : Fin 512) : Fin 128 → EReal :=
  InMath.mean (InMath.expo (lgBlk q g K h r)) (fun m c => V (ix3 0 m c))

theorem mem0 (xn : FVec Ideal S512x1024 .bf16) (w : FVec Ideal S1024x512 .bf16) (g : FVec Ideal S1x128 .f32)
    (K : FVec Ideal S1x128x256 .bf16) (V : FVec Ideal S1x256x128 .bf16) (r : Fin 512) (n : Fin 128) :
    k0_pay84 (F := Ideal) (k0_pay81 xn w) (k0_pay82 g) (k0_pay83 xn w) K V (ix2 r n) = mBlk (k0_pay80 xn w) g K V 0 r n := by
  unfold k0_pay84 k0_pay83 k0_pay82 k0_pay81
  generalize k0_pay80 (F := Ideal) xn w = q
  unfold mBlk lgBlk InMath.mean InMath.expo InMath.logit InMath.rr InMath.mhead
  simp only [← InConst.mul_named]
  pointwise

theorem mem1 (q : FVec Ideal S512x512 .f32) (g : FVec Ideal S1x128 .f32)
    (K : FVec Ideal S1x128x256 .bf16) (V : FVec Ideal S1x256x128 .bf16) (r : Fin 512) (n : Fin 128) :
    k0_pay87 (F := Ideal) (k0_pay85 g) (k0_pay86 q) K V (ix2 r n) = mBlk q g K V 1 r n := by
  unfold k0_pay87 k0_pay86 k0_pay85
  unfold mBlk lgBlk InMath.mean InMath.expo InMath.logit InMath.rr InMath.mhead
  simp only [← InConst.mul_named]
  pointwise

theorem mem2 (q : FVec Ideal S512x512 .f32) (g : FVec Ideal S1x128 .f32)
    (K : FVec Ideal S1x128x256 .bf16) (V : FVec Ideal S1x256x128 .bf16) (r : Fin 512) (n : Fin 128) :
    k0_pay89 (F := Ideal) (k0_pay88 q g K) V (ix2 r n) = mBlk q g K V 2 r n := by
  unfold k0_pay89 k0_pay88
  unfold mBlk lgBlk InMath.mean InMath.expo InMath.logit InMath.rr InMath.mhead
  simp only [← InConst.mul_named]
  pointwise

theorem mem3 (q : FVec Ideal S512x512 .f32) (g : FVec Ideal S1x128 .f32)
    (K : FVec Ideal S1x128x256 .bf16) (r : Fin 512) (n : Fin 256) :
    k0_pay90 (F := Ideal) q g K (ix2 r n) = InMath.expo (lgBlk q g K 3 r) n := by
  unfold k0_pay90
  unfold lgBlk InMath.expo InMath.logit InMath.rr InMath.mhead
  simp only [← InConst.mul_named]
  pointwise

theorem pay92_apply (xn : FVec Ideal S512x1024 .bf16) (y : FVec Ideal S512x1024 .f32) (m0 m1 m2 : FVec Ideal S512x128 .f32)
    (e : FVec Ideal S512x256 .f32) (V : FVec Ideal S1x256x128 .bf16) (wm : FVec Ideal S512x1024 .bf16)
    (w0 w2 : FVec Ideal S1024x1024 .bf16) (r : Fin 512) (M : Fin 512 → EReal)
    (h0 : ∀ n : Fin 128, m0 (ix2 r n) = M ⟨n.val, by omega⟩) (h1 : ∀ n : Fin 128, m1 (ix2 r n) = M ⟨128 + n.val, by omega⟩)
    (h2 : ∀ n : Fin 128, m2 (ix2 r n) = M ⟨256 + n.val, by omega⟩)
    (h3 : ∀ n : Fin 128, InMath.mean (fun m => e (ix2 r m)) (fun m c => V (ix3 0 m c)) n = M ⟨384 + n.val, by omega⟩)
    (b : Fin 1) (d : Fin 1024) :
    k0_pay92 (F := Ideal) xn y m0 m1 m2 e V wm w0 w2 (ix3 b r d)
      = InMath.sig (P xn w0 r d) * y (ix2 r d) + InMath.sig (P xn w2 r d) * InMath.lin M (fun n d => wm (ix2 n d)) d := by
  have hM : ∀ x : Fin 512, (if h : x.val < 128 then m0 (ix2 r ⟨x.val, h⟩) else if h1 : x.val - 128 < 128 then m1 (ix2 r ⟨x.val - 128, h1⟩)
      else if h2 : x.val - 128 - 128 < 128 then m2 (ix2 r ⟨x.val - 128 - 128, h2⟩)
      else InMath.mean (fun m => e (ix2 r m)) (fun m c => V (ix3 0 m c)) ⟨x.val - 128 - 128 - 128, by omega⟩) = M x := by
    intro x
    have := x.isLt
    split_ifs with g0 g1 g2
    · exact h0 _
    · rw [h1]; exact congrArg M (Fin.ext (by simp; omega))
    · rw [h2]; exact congrArg M (Fin.ext (by simp; omega))
    · rw [h3]; exact congrArg M (Fin.ext (by simp; omega))
  have hl : InMath.lin M (fun n d => wm (ix2 n d)) d = ∑ x : Fin 512, M x * wm (ix2 x d) := rfl
  rw [hl, ← Finset.sum_congr rfl (fun x _ => congrArg (· * wm (ix2 x d)) (hM x))]
  unfold InMath.mean
  clear hl hM h0 h1 h2 h3
  unfold k0_pay92 P InMath.lin InMath.sig
  pointwise
  rfl

theorem pay91_apply (xn : FVec Ideal S512x1024 .bf16) (w : FVec Ideal S1024x1024 .bf16) (b : Fin 1) (r : Fin 512) (d : Fin 1024) :
    k0_pay91 (F := Ideal) xn w (ix3 b r d) = InMath.sig (P xn w r d) := by
  unfold k0_pay91 P InMath.lin InMath.sig
  pointwise
  rfl

theorem pay78_apply (xn : FVec Ideal S512x1024 .bf16) (w : FVec Ideal S1024x512 .bf16) (b : Fin 1) (n r : Fin 512) :
    k0_pay78 (F := Ideal) xn w (ix3 b n r) = P xn w r n := by
  unfold k0_pay78 P InMath.lin
  pointwise

theorem pay79_apply (xn : FVec Ideal S512x1024 .bf16) (w : FVec Ideal S1024x256 .bf16) (b : Fin 1) (n : Fin 256) (r : Fin 512) :
    k0_pay79 (F := Ideal) xn w (ix3 b n r) = P xn w r n := by
  unfold k0_pay79 P InMath.lin
  pointwise

theorem pay2_apply (xn : FVec Ideal S512x1024 .bf16) (w : FVec Ideal S1024x128 .bf16) (b : Fin 1) (r : Fin 512) (n : Fin 128) :
    k0_pay2 (F := Ideal) xn w (ix3 b r n) = P xn w r n := by
  unfold k0_pay2 k0_pay1 P InMath.lin
  pointwise

theorem pay3_apply (xn : FVec Ideal S512x1024 .bf16) (w : FVec Ideal S1024x128 .bf16) (b : Fin 1) (n : Fin 8) (r : Fin 512) :
    k0_pay3 (F := Ideal) xn w (ix3 b n r) = P xn w r ⟨32 + n.val, by omega⟩ := by
  unfold k0_pay3 k0_pay1 P InMath.lin
  pointwise

end Cert.Kernel2Ideal.Value
-- ==== Proof.InC.lean ====
/-
  The layer's first call: the gated short convolution of one block, and the rows it carries to the next.
-/
module

public import proofs.«01_k».proof.Proof.InBase
public import proofs.«01_k».proof.Proof.InConst

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The row `d` before row `r`: the block's own, or one of the eight rows carried from the block before. -/
def backRow (p : FVec Ideal S8x512 .f32) (u : FVec Ideal S512x512 .f32) (d : Nat) (hd : d ≤ 8) (r : Fin 512) (n : Fin 512) : EReal :=
  if h : r.val < d then p (ix2 ⟨8 - d + r.val, by omega⟩ n) else u (ix2 ⟨r.val - d, by omega⟩ n)

/-- The convolved row. -/
def cvBlk (p : FVec Ideal S8x512 .f32) (u : FVec Ideal S512x512 .f32) (w : FVec Ideal S3x512 .f32) (r : Fin 512) : Fin 512 → EReal :=
  InMath.cv (fun j n => w (ix2 j n)) (backRow p u 2 (by decide) r) (backRow p u 1 (by decide) r) (fun n => u (ix2 r n))

@[pointwise] theorem rowsDown_ix3 (d : Nat) (hd : d ≤ 8) (a : S1x512x128.Idx → Ideal .f32)
    (b : S1x8x128.Idx → Ideal .f32) (i : Fin 1) (r : Fin 512) (k : Fin 128) :
    Shift.rowsDown (n := 512) (L := 128) d hd a b (ix3 i r k)
      = if h : r.val < d then b (ix3 0 ⟨8 - d + r.val, by omega⟩ k) else a (ix3 0 ⟨r.val - d, by omega⟩ k) := rfl

theorem pay6_apply (x0 : FVec Ideal S1x512x1024 .f32) (x1 : FVec Ideal S1x1024 .f32) (wb wc : FVec Ideal S1024x512 .bf16) (r n : Fin 512) :
    k0_pay6 (F := Ideal) x0 x1 wb wc (ix2 r n) = P (xnBlk x0 x1) wb r n * P (xnBlk x0 x1) wc r n := by
  unfold k0_pay6
  rw [pay4_eq]
  generalize xnBlk x0 x1 = xn
  unfold P InMath.lin
  pointwise

theorem pay5_eq : k0_pay5 (F := Ideal) = fun _ => (0 : EReal) := by
  funext j
  idx_vars j
  unfold k0_pay5
  pointwise

theorem pay23_apply (u : FVec Ideal S512x512 .f32) (r : Fin 8) (n : Fin 512) :
    k0_pay23 (F := Ideal) u (ix2 r n) = u (ix2 ⟨504 + r.val, by omega⟩ n) := by
  unfold k0_pay23
  pointwise

theorem conv0 (x0 : FVec Ideal S1x512x1024 .f32) (x1 : FVec Ideal S1x1024 .f32) (wb wc : FVec Ideal S1024x512 .bf16)
    (p : FVec Ideal S8x512 .f32) (w : FVec Ideal S3x512 .f32) (r : Fin 512) (n : Fin 128) :
    k0_pay11 (F := Ideal) (k0_pay6 x0 x1 wb wc) (k0_pay7 w)
      (Shift.rowsDown (n := 512) (L := 128) 1 (by decide) (k0_pay10 (F := Ideal) (k0_pay9 (F := Ideal) x0 x1 wb wc)) (k0_pay8 (F := Ideal) p))
      (Shift.rowsDown (n := 512) (L := 128) 2 (by decide) (k0_pay10 (F := Ideal) (k0_pay9 (F := Ideal) x0 x1 wb wc)) (k0_pay8 (F := Ideal) p)) (ix2 r n)
      = cvBlk p (k0_pay6 x0 x1 wb wc) w r ⟨n.val, by omega⟩ := by
  unfold k0_pay11 k0_pay10 k0_pay9 k0_pay8 k0_pay7
  generalize k0_pay6 (F := Ideal) x0 x1 wb wc = u
  unfold cvBlk InMath.cv backRow
  pointwise

theorem conv1 (u : FVec Ideal S512x512 .f32) (p : FVec Ideal S8x512 .f32) (w : FVec Ideal S3x512 .f32) (r : Fin 512) (n : Fin 128) :
    k0_pay17 (F := Ideal) u (k0_pay7 w)
      (k0_pay14 (Shift.rowsDown (n := 512) (L := 128) 1 (by decide) (k0_pay13 (F := Ideal) u) (k0_pay12 (F := Ideal) p)))
      (k0_pay15 (k0_pay7 w) (Shift.rowsDown (n := 512) (L := 128) 2 (by decide) (k0_pay13 (F := Ideal) u) (k0_pay12 (F := Ideal) p)))
      (k0_pay16 (k0_pay7 w)) (ix2 r n) = cvBlk p u w r ⟨128 + n.val, by omega⟩ := by
  unfold k0_pay17 k0_pay16 k0_pay15 k0_pay14 k0_pay13 k0_pay12 k0_pay7
  unfold cvBlk InMath.cv backRow
  pointwise

theorem conv2 (u : FVec Ideal S512x512 .f32) (p : FVec Ideal S8x512 .f32) (w : FVec Ideal S3x512 .f32) (r : Fin 512) (n : Fin 128) :
    k0_pay20 (F := Ideal) u (k0_pay7 w)
      (Shift.rowsDown (n := 512) (L := 128) 1 (by decide) (k0_pay19 (F := Ideal) u) (k0_pay18 (F := Ideal) p))
      (Shift.rowsDown (n := 512) (L := 128) 2 (by decide) (k0_pay19 (F := Ideal) u) (k0_pay18 (F := Ideal) p)) (ix2 r n)
      = cvBlk p u w r ⟨256 + n.val, by omega⟩ := by
  unfold k0_pay20 k0_pay19 k0_pay18 k0_pay7
  unfold cvBlk InMath.cv backRow
  pointwise

theorem conv3 (u : FVec Ideal S512x512 .f32) (p : FVec Ideal S8x512 .f32) (w : FVec Ideal S3x512 .f32) (r : Fin 512) (n : Fin 128) :
    w (ix2 0 ⟨384 + n.val, by omega⟩) * Shift.rowsDown (n := 512) (L := 128) 2 (by decide) (k0_pay22 (F := Ideal) u) (k0_pay21 (F := Ideal) p) (ix3 0 r n)
      + w (ix2 1 ⟨384 + n.val, by omega⟩) * Shift.rowsDown (n := 512) (L := 128) 1 (by decide) (k0_pay22 (F := Ideal) u) (k0_pay21 (F := Ideal) p) (ix3 0 r n)
      + w (ix2 2 ⟨384 + n.val, by omega⟩) * u (ix2 r ⟨384 + n.val, by omega⟩)
      = cvBlk p u w r ⟨384 + n.val, by omega⟩ := by
  unfold k0_pay22 k0_pay21
  unfold cvBlk InMath.cv backRow
  pointwise

theorem pay24_apply (xn : FVec Ideal S512x1024 .bf16) (u : FVec Ideal S512x512 .f32) (w : FVec Ideal S3x512 .f32)
    (c0 c1 c2 : FVec Ideal S512x128 .f32) (a b : FVec Ideal S1x512x128 .f32) (w0 : FVec Ideal S1024x512 .bf16)
    (wa : FVec Ideal S512x1024 .bf16) (r : Fin 512) (V : Fin 512 → EReal)
    (h0 : ∀ n : Fin 128, c0 (ix2 r n) = V ⟨n.val, by omega⟩) (h1 : ∀ n : Fin 128, c1 (ix2 r n) = V ⟨128 + n.val, by omega⟩)
    (h2 : ∀ n : Fin 128, c2 (ix2 r n) = V ⟨256 + n.val, by omega⟩)
    (h3 : ∀ n : Fin 128, w (ix2 0 ⟨384 + n.val, by omega⟩) * b (ix3 0 r n) + w (ix2 1 ⟨384 + n.val, by omega⟩) * a (ix3 0 r n)
      + w (ix2 2 ⟨384 + n.val, by omega⟩) * u (ix2 r ⟨384 + n.val, by omega⟩) = V ⟨384 + n.val, by omega⟩) (d : Fin 1024) :
    k0_pay24 (F := Ideal) xn u (k0_pay7 w) c0 c1 c2 a b w0 wa (ix2 r d)
      = InMath.lin (fun n => P xn w0 r n * V n) (fun n d => wa (ix2 n d)) d := by
  have hV : ∀ x : Fin 512, (if h : x.val < 128 then c0 (ix2 r ⟨x.val, h⟩) else if h1 : x.val - 128 < 128 then c1 (ix2 r ⟨x.val - 128, h1⟩)
      else if h2 : x.val - 128 - 128 < 128 then c2 (ix2 r ⟨x.val - 128 - 128, h2⟩)
      else w (ix2 0 ⟨384 + (x.val - 128 - 128 - 128), by omega⟩) * b (ix3 0 r ⟨x.val - 128 - 128 - 128, by omega⟩)
        + w (ix2 1 ⟨384 + (x.val - 128 - 128 - 128), by omega⟩) * a (ix3 0 r ⟨x.val - 128 - 128 - 128, by omega⟩)
        + w (ix2 2 ⟨384 + (x.val - 128 - 128 - 128), by omega⟩) * u (ix2 r ⟨384 + (x.val - 128 - 128 - 128), by omega⟩)) = V x := by
    intro x
    have := x.isLt
    split_ifs with g0 g1 g2
    · exact h0 _
    · rw [h1]; exact congrArg V (Fin.ext (by simp; omega))
    · rw [h2]; exact congrArg V (Fin.ext (by simp; omega))
    · rw [h3 ⟨x.val - 128 - 128 - 128, by omega⟩]; exact congrArg V (Fin.ext (by simp; omega))
  have hl : InMath.lin (fun n => P xn w0 r n * V n) (fun n d => wa (ix2 n d)) d = ∑ x : Fin 512, P xn w0 r x * V x * wa (ix2 x d) := rfl
  rw [hl, ← Finset.sum_congr rfl (fun x _ => congrArg (fun v => P xn w0 r x * v * wa (ix2 x d)) (hV x))]
  clear hl hV h0 h1 h2 h3
  unfold k0_pay24 k0_pay7 P InMath.lin
  pointwise

end Cert.Kernel2Ideal.Value
-- ==== Proof.InOut.lean ====
/-
  The layer's first call: the eight result blocks as functions of the blocks it reads.
-/
module

public import proofs.«01_k».proof.Proof.InQ
public import proofs.«01_k».proof.Proof.InK
public import proofs.«01_k».proof.Proof.InM
public import proofs.«01_k».proof.Proof.InC

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- A load of some columns of a two-axis array. -/
theorem ld_cols {α : EltTy → Type} {e : EltTy} {A B W : Nat} (X : (⟨2, ![A, B]⟩ : Shape).Idx → α e) (o : Nat)
    (inb : ∀ a, (![0, o] : Fin 2 → Nat) a + (![A, W] : Fin 2 → Nat) a ≤ (⟨2, ![A, B]⟩ : Shape).size a) (k : Fin A) (n : Fin W)
    (h : o + n.val < B) :
    View.ld X (Rect.unit (s := ⟨2, ![A, B]⟩) ![0, o] ![A, W] inb) (ix2 k n) = X (ix2 k ⟨o + n.val, h⟩) := by
  refine congrArg X ?_
  funext a
  apply Fin.ext
  match a with
  | ⟨0, _⟩ => show 0 + 1 * k.val = k.val; omega
  | ⟨1, _⟩ => show o + 1 * n.val = o + n.val; omega

/-- A load of some rows of a three-axis array. -/
theorem ld_rows3 {α : EltTy → Type} {e : EltTy} {A B W : Nat} (X : (⟨3, ![1, A, B]⟩ : Shape).Idx → α e) (o : Nat)
    (inb : ∀ a, (![0, o, 0] : Fin 3 → Nat) a + (![1, W, B] : Fin 3 → Nat) a ≤ (⟨3, ![1, A, B]⟩ : Shape).size a) (k : Fin W) (n : Fin B)
    (h : o + k.val < A) :
    View.ld X (Rect.unit (s := ⟨3, ![1, A, B]⟩) ![0, o, 0] ![1, W, B] inb) (ix3 0 k n) = X (ix3 0 ⟨o + k.val, h⟩ n) := by
  refine congrArg X ?_
  funext a
  apply Fin.ext
  match a with
  | ⟨0, _⟩ => rfl
  | ⟨1, _⟩ => show o + 1 * k.val = o + k.val; omega
  | ⟨2, _⟩ => show 0 + 1 * n.val = n.val; omega

/-- A load of some columns of a three-axis array. -/
theorem ld_cols3 {α : EltTy → Type} {e : EltTy} {A B W : Nat} (X : (⟨3, ![1, A, B]⟩ : Shape).Idx → α e) (o : Nat)
    (inb : ∀ a, (![0, 0, o] : Fin 3 → Nat) a + (![1, A, W] : Fin 3 → Nat) a ≤ (⟨3, ![1, A, B]⟩ : Shape).size a) (k : Fin A) (n : Fin W)
    (h : o + n.val < B) :
    View.ld X (Rect.unit (s := ⟨3, ![1, A, B]⟩) ![0, 0, o] ![1, A, W] inb) (ix3 0 k n) = X (ix3 0 k ⟨o + n.val, h⟩) := by
  refine congrArg X ?_
  funext a
  apply Fin.ext
  match a with
  | ⟨0, _⟩ => rfl
  | ⟨1, _⟩ => show 0 + 1 * k.val = k.val; omega
  | ⟨2, _⟩ => show o + 1 * n.val = o + n.val; omega

/-- A projection onto some of the columns. -/
theorem P_ld {N W : Nat} (xn : FVec Ideal S512x1024 .bf16) (X : (⟨2, ![1024, N]⟩ : Shape).Idx → Elt Ideal .bf16) (o : Nat)
    (inb : ∀ a, (![0, o] : Fin 2 → Nat) a + (![1024, W] : Fin 2 → Nat) a ≤ (⟨2, ![1024, N]⟩ : Shape).size a) (r : Fin 512) (n : Fin W)
    (h : o + n.val < N) :
    P (N := W) xn (View.ld X (Rect.unit (s := ⟨2, ![1024, N]⟩) ![0, o] ![1024, W] inb)) r n = P xn X r ⟨o + n.val, h⟩ := by
  unfold P InMath.lin
  exact Finset.sum_congr rfl (fun k _ => congrArg (xn (ix2 r k) * ·) (ld_cols (α := Elt Ideal) X o inb k n h))

/-- Stored row groups hold what the whole array holds there. -/
theorem rows3_emb {α : Type} {A B W : Nat} (o : Nat)
    (inb : ∀ a, (![0, o, 0] : Fin 3 → Nat) a + (![1, W, B] : Fin 3 → Nat) a ≤ (⟨3, ![1, A, B]⟩ : Shape).size a)
    (f : (⟨3, ![1, W, B]⟩ : Shape).Idx → α) (G : (⟨3, ![1, A, B]⟩ : Shape).Idx → α)
    (h : ∀ (b : Fin 1) (k : Fin W) (r : Fin B) (hk : o + k.val < A), f (ix3 b k r) = G (ix3 b ⟨o + k.val, hk⟩ r))
    (x : (⟨3, ![1, W, B]⟩ : Shape).Idx) :
    f x = G ((Rect.unit (s := ⟨3, ![1, A, B]⟩) ![0, o, 0] ![1, W, B] inb).emb x) := by
  have hx : (x 1).val < W := (x 1).isLt
  have hb : o + W ≤ A := inb (1 : Fin 3)
  have e1 : f x = f (ix3 (x 0) (x 1) (x 2)) := congrArg f (by funext a; match a with | ⟨0, _⟩ => rfl | ⟨1, _⟩ => rfl | ⟨2, _⟩ => rfl)
  rw [e1, h (x 0) (x 1) (x 2) (by omega)]
  refine congrArg G ?_
  funext a
  apply Fin.ext
  match a with
  | ⟨0, _⟩ => show (x 0).val = 0 + 1 * (x 0).val; omega
  | ⟨1, _⟩ => show o + (x 1).val = o + 1 * (x 1).val; omega
  | ⟨2, _⟩ => show (x 2).val = 0 + 1 * (x 2).val; omega

/-- Stored column groups hold what the whole array holds there. -/
theorem cols3_emb {α : Type} {A B W : Nat} (o : Nat)
    (inb : ∀ a, (![0, 0, o] : Fin 3 → Nat) a + (![1, A, W] : Fin 3 → Nat) a ≤ (⟨3, ![1, A, B]⟩ : Shape).size a)
    (f : (⟨3, ![1, A, W]⟩ : Shape).Idx → α) (G : (⟨3, ![1, A, B]⟩ : Shape).Idx → α)
    (h : ∀ (b : Fin 1) (r : Fin A) (k : Fin W) (hk : o + k.val < B), f (ix3 b r k) = G (ix3 b r ⟨o + k.val, hk⟩))
    (x : (⟨3, ![1, A, W]⟩ : Shape).Idx) :
    f x = G ((Rect.unit (s := ⟨3, ![1, A, B]⟩) ![0, 0, o] ![1, A, W] inb).emb x) := by
  have hx : (x 2).val < W := (x 2).isLt
  have hb : o + W ≤ B := inb (2 : Fin 3)
  have e1 : f x = f (ix3 (x 0) (x 1) (x 2)) := congrArg f (by funext a; match a with | ⟨0, _⟩ => rfl | ⟨1, _⟩ => rfl | ⟨2, _⟩ => rfl)
  rw [e1, h (x 0) (x 1) (x 2) (by omega)]
  refine congrArg G ?_
  funext a
  apply Fin.ext
  match a with
  | ⟨0, _⟩ => show (x 0).val = 0 + 1 * (x 0).val; omega
  | ⟨1, _⟩ => show (x 1).val = 0 + 1 * (x 1).val; omega
  | ⟨2, _⟩ => show o + (x 2).val = o + 1 * (x 2).val; omega

/-- A whole buffer's newest store is what it holds. -/
theorem canon_whole {A B : Nat} (L : List (View.Piece (Elt Ideal) (⟨2, ![A, B]⟩ : Shape) .f32))
    (inb : ∀ a, (![0, 0] : Fin 2 → Nat) a + (![A, B] : Fin 2 → Nat) a ≤ (⟨2, ![A, B]⟩ : Shape).size a)
    (f : (⟨2, ![A, B]⟩ : Shape).Idx → Elt Ideal .f32) :
    View.canon (Val := Elt Ideal) (⟨Rect.unit (s := ⟨2, ![A, B]⟩) ![0, 0] ![A, B] inb, f⟩ :: L) = f := by
  funext y
  refine Eq.trans (congrArg _ ?_) (View.canon_cons_emb (Val := Elt Ideal) (e := .f32) (Rect.unit (s := ⟨2, ![A, B]⟩) ![0, 0] ![A, B] inb) f L y)
  funext a
  apply Fin.ext
  match a with
  | ⟨0, _⟩ => show (y 0).val = 0 + 1 * (y 0).val; omega
  | ⟨1, _⟩ => show (y 1).val = 0 + 1 * (y 1).val; omega

/-- The carried rows right after they were cleared. -/
theorem halo_zero (v : View sig .tc .vmem S8x512 .f32)
    (i1 i2 : ∀ x, (![0, 0] : Fin 2 → Nat) x + (![8, 512] : Fin 2 → Nat) x ≤ S8x512.size x) :
    v.readCov (Val := Elt Ideal) [⟨Rect.unit (s := S8x512) ![0, 0] ![8, 512] i1, k0_pay5 (F := Ideal)⟩]
      (Rect.unit (s := S8x512) ![0, 0] ![8, 512] i2).toLoadRect = fun _ => (0 : EReal) := by
  rw [View.readCov_eq_canon', pay5_eq]
  funext y
  exact (congrFun (canon_whole (A := 8) (B := 512) [] i1 (fun _ => (0 : EReal))) _)

/-- The convolution buffer read one row early. -/
theorem readCov7 {Val : EltTy → Type} [∀ e, Nonempty (Val e)] (v : View sig .tc .vmem S4x520x128 .f32) (s : Nat)
    (a : S1x512x128.Idx → Val .f32) (b : S1x8x128.Idx → Val .f32) (P : List (View.Piece Val S4x520x128 .f32))
    (i1 : ∀ x, (![s, 8, 0] : Fin 3 → Nat) x + (![1, 512, 128] : Fin 3 → Nat) x ≤ S4x520x128.size x)
    (i2 : ∀ x, (![s, 0, 0] : Fin 3 → Nat) x + (![1, 8, 128] : Fin 3 → Nat) x ≤ S4x520x128.size x)
    (i3 : ∀ x, (![s, 7, 0] : Fin 3 → Nat) x + (![1, 512, 128] : Fin 3 → Nat) x ≤ S4x520x128.size x) :
    v.readCov (⟨Rect.unit (s := S4x520x128) ![s, 8, 0] ![1, 512, 128] i1, a⟩
        :: ⟨Rect.unit (s := S4x520x128) ![s, 0, 0] ![1, 8, 128] i2, b⟩ :: P)
      (Rect.unit (s := S4x520x128) ![s, 7, 0] ![1, 512, 128] i3).toLoadRect
      = Shift.rowsDown (n := 512) (L := 128) 1 (by decide) a b :=
  Shift.readCov_rowsDown 7 1 rfl v s a b P i1 i2 i3

/-- The convolution buffer read two rows early. -/
theorem readCov6 {Val : EltTy → Type} [∀ e, Nonempty (Val e)] (v : View sig .tc .vmem S4x520x128 .f32) (s : Nat)
    (a : S1x512x128.Idx → Val .f32) (b : S1x8x128.Idx → Val .f32) (P : List (View.Piece Val S4x520x128 .f32))
    (i1 : ∀ x, (![s, 8, 0] : Fin 3 → Nat) x + (![1, 512, 128] : Fin 3 → Nat) x ≤ S4x520x128.size x)
    (i2 : ∀ x, (![s, 0, 0] : Fin 3 → Nat) x + (![1, 8, 128] : Fin 3 → Nat) x ≤ S4x520x128.size x)
    (i3 : ∀ x, (![s, 6, 0] : Fin 3 → Nat) x + (![1, 512, 128] : Fin 3 → Nat) x ≤ S4x520x128.size x) :
    v.readCov (⟨Rect.unit (s := S4x520x128) ![s, 8, 0] ![1, 512, 128] i1, a⟩
        :: ⟨Rect.unit (s := S4x520x128) ![s, 0, 0] ![1, 8, 128] i2, b⟩ :: P)
      (Rect.unit (s := S4x520x128) ![s, 6, 0] ![1, 512, 128] i3).toLoadRect
      = Shift.rowsDown (n := 512) (L := 128) 2 (by decide) a b :=
  Shift.readCov_rowsDown 6 2 rfl v s a b P i1 i2 i3

variable (p : FVec Ideal S8x512 .f32) (x0 : FVec Ideal S1x512x1024 .f32) (x1 : FVec Ideal S1x1024 .f32) (x2 : FVec Ideal S1024x3328 .bf16)
  (x3 : FVec Ideal S1024x128 .bf16) (x4 : FVec Ideal S1024x512 .bf16) (x5 : FVec Ideal S1024x3072 .bf16) (x6 : FVec Ideal S3x512 .f32)
  (x7 : FVec Ideal S512x1024 .bf16) (x8 : FVec Ideal S1x128 .f32) (x9 : FVec Ideal S64x512 .f32) (x10 : FVec Ideal S1x512x256 .bf16)
  (x11 : FVec Ideal S1x256x512 .bf16) (x12 : FVec Ideal S1x128 .f32) (x13 : FVec Ideal S512x1024 .bf16)

/-- What the convolution of the block runs over. -/
def uBlk : FVec Ideal S512x512 .f32 := fun i => InMath.ch (P (xnBlk x0 x1) x2 (i 0)) (i 1)

/-- Its last eight rows, carried to the next block. -/
def haloBlk : FVec Ideal S8x512 .f32 := fun i =>
  InMath.ch (P (xnBlk x0 x1) x2 ⟨504 + (i 0).val, by have : (i 0).val < 8 := (i 0).isLt; omega⟩) (i 1)

/-- The first result block. -/
def o14 : FVec Ideal S1x512x1024 .bf16 := fun i =>
  InMath.part (P (xnBlk x0 x1) x5 (i 1))
    (InMath.ya (P (xnBlk x0 x1) x2 (i 1)) (cvBlk p (uBlk x0 x1 x2) x6 (i 1)) (fun n d => x7 (ix2 n d)))
    (InMath.lin (InMath.mem (P (xnBlk x0 x1) x4 (i 1)) (fun c => x12 (ix2 0 c)) (fun n m => x10 (ix3 0 n m)) (fun m n => x11 (ix3 0 m n)))
      (fun n d => x13 (ix2 n d))) (i 2)

/-- The second. -/
def o15 : FVec Ideal S1x512x1024 .bf16 := fun i =>
  InMath.sig (P (xnBlk x0 x1) x5 (i 1) ⟨1024 + (i 2).val, by have : (i 2).val < 1024 := (i 2).isLt; omega⟩)

/-- The third. -/
def o16 : FVec Ideal S1x1024x512 .bf16 := fun i =>
  InMath.aug (InMath.qk (InMath.head 1536 (by decide) (P (xnBlk x0 x1) x2 (i 2))
      ⟨(i 1).val / 128, by have : (i 1).val < 1024 := (i 1).isLt; omega⟩) (fun c => x9 (ix2 c (i 2))))
    (InMath.slope (InMath.slopeWord ⟨(i 1).val / 128, by have : (i 1).val < 1024 := (i 1).isLt; omega⟩))
    ⟨(i 1).val % 128, by omega⟩

/-- The fourth, of block `j` of its sequence. -/
def o17 (j : Nat) : FVec Ideal S1x512x1024 .bf16 := fun i =>
  InMath.kaug (P (xnBlk x0 x1) x2 (i 1)) (fun c => x8 (ix2 0 ⟨c.val, by omega⟩)) (j * 512 + (i 1).val)
    ⟨(i 2).val / 128, by have : (i 2).val < 1024 := (i 2).isLt; omega⟩ ⟨(i 2).val % 128, by omega⟩

/-- The fifth. -/
def o18 : FVec Ideal S1x512x512 .bf16 := fun i =>
  P (xnBlk x0 x1) x2 (i 2) ⟨2560 + (i 1).val, by have : (i 1).val < 512 := (i 1).isLt; omega⟩

/-- The sixth. -/
def o19 : FVec Ideal S1x256x512 .bf16 := fun i =>
  P (xnBlk x0 x1) x2 (i 2) ⟨3072 + (i 1).val, by have : (i 1).val < 256 := (i 1).isLt; omega⟩

/-- The seventh. -/
def o20 : FVec Ideal S1x512x128 .bf16 := fun i => P (xnBlk x0 x1) x3 (i 1) (i 2)

/-- The eighth. -/
def o21 : FVec Ideal S1x8x512 .f32 := fun i =>
  P (xnBlk x0 x1) x3 (i 2) ⟨32 + (i 1).val, by have : (i 1).val < 8 := (i 1).isLt; omega⟩

theorem u_eq (i1 : ∀ a, (![0, 512] : Fin 2 → Nat) a + (![1024, 512] : Fin 2 → Nat) a ≤ S1024x3328.size a)
    (i2 : ∀ a, (![0, 1024] : Fin 2 → Nat) a + (![1024, 512] : Fin 2 → Nat) a ≤ S1024x3328.size a) :
    k0_pay6 (F := Ideal) x0 x1 (View.ld (Val := Elt Ideal) (e' := .bf16) x2 (Rect.unit (s := S1024x3328) ![0, 512] ![1024, 512] i1))
      (View.ld (Val := Elt Ideal) (e' := .bf16) x2 (Rect.unit (s := S1024x3328) ![0, 1024] ![1024, 512] i2)) = uBlk x0 x1 x2 := by
  funext j
  idx_vars j
  refine (pay6_apply x0 x1 _ _ _ _).trans ?_
  exact congrArg₂ (· * ·) (P_ld (N := 3328) (W := 512) (xnBlk x0 x1) x2 512 i1 _ _ (by omega))
    (P_ld (N := 3328) (W := 512) (xnBlk x0 x1) x2 1024 i2 _ _ (by omega))

theorem mem_head (q : Fin 512 → EReal) (g : Fin 128 → EReal) (km : Fin 512 → Fin 256 → EReal) (vm : Fin 256 → Fin 512 → EReal)
    (h : Fin 4) (n : Fin 128) : InMath.mem q g km vm ⟨h.val * 128 + n.val, by omega⟩
      = InMath.memHead (InMath.mhead q h) g (fun c m => km ⟨h.val * 128 + c.val, by omega⟩ m) (fun m c => vm m ⟨h.val * 128 + c.val, by omega⟩) n := by
  have e1 : (h.val * 128 + n.val) / 128 = h.val := by omega
  have e2 : (h.val * 128 + n.val) % 128 = n.val := by omega
  unfold InMath.mem
  simp only [e1, e2, Fin.eta]

theorem q_fin (i1 : ∀ a, (![0, 1536] : Fin 2 → Nat) a + (![1024, 512] : Fin 2 → Nat) a ≤ S1024x3328.size a) (h : Fin 8) (b : Fin 1)
    (n : Fin 128) (r : Fin 512) (hn : h.val * 128 + n.val < 1024) :
    qBlk (k0_pay25 (F := Ideal) (k0_pay4 x0 x1) (View.ld (Val := Elt Ideal) (e' := .bf16) x2 (Rect.unit (s := S1024x3328) ![0, 1536] ![1024, 512] i1))) x9 h n r
      = o16 x0 x1 x2 x9 (ix3 b ⟨h.val * 128 + n.val, hn⟩ r) := by
  have e1 : (h.val * 128 + n.val) / 128 = h.val := by omega
  have e2 : (h.val * 128 + n.val) % 128 = n.val := by omega
  have hq : ∀ c : Fin 512, k0_pay25 (F := Ideal) (k0_pay4 x0 x1) (View.ld (Val := Elt Ideal) (e' := .bf16) x2 (Rect.unit (s := S1024x3328) ![0, 1536] ![1024, 512] i1)) (ix2 c r)
      = P (xnBlk x0 x1) x2 r ⟨1536 + c.val, by omega⟩ := fun c => by
    rw [pay25_apply, pay4_eq]
    exact P_ld (N := 3328) (W := 512) (xnBlk x0 x1) x2 1536 i1 r c (by omega)
  unfold qBlk
  simp only [hq]
  show _ = InMath.aug (InMath.qk (InMath.head 1536 _ (P (xnBlk x0 x1) x2 r) ⟨(h.val * 128 + n.val) / 128, _⟩) (fun c => x9 (ix2 c r)))
    (InMath.slope (InMath.slopeWord ⟨(h.val * 128 + n.val) / 128, _⟩)) ⟨(h.val * 128 + n.val) % 128, _⟩
  simp only [e1, e2, Fin.eta]
  rfl

theorem k_fin (i1 : ∀ a, (![0, 2048] : Fin 2 → Nat) a + (![1024, 512] : Fin 2 → Nat) a ≤ S1024x3328.size a) (j : Nat) (h : Fin 8) (b : Fin 1)
    (r : Fin 512) (n : Fin 128) (hn : h.val * 128 + n.val < 1024) :
    kBlk (k0_pay59 (F := Ideal) (k0_pay4 x0 x1) (View.ld (Val := Elt Ideal) (e' := .bf16) x2 (Rect.unit (s := S1024x3328) ![0, 2048] ![1024, 512] i1))) x8
      (j * 512 + r.val) h r n
      = o17 x0 x1 x2 x8 j (ix3 b r ⟨h.val * 128 + n.val, hn⟩) := by
  have e1 : (h.val * 128 + n.val) / 128 = h.val := by omega
  have e2 : (h.val * 128 + n.val) % 128 = n.val := by omega
  have hq : ∀ c : Fin 512, k0_pay59 (F := Ideal) (k0_pay4 x0 x1) (View.ld (Val := Elt Ideal) (e' := .bf16) x2 (Rect.unit (s := S1024x3328) ![0, 2048] ![1024, 512] i1)) (ix2 r c)
      = P (xnBlk x0 x1) x2 r ⟨2048 + c.val, by omega⟩ := fun c => by
    rw [pay59_apply, pay4_eq]
    exact P_ld (N := 3328) (W := 512) (xnBlk x0 x1) x2 2048 i1 r c (by omega)
  unfold kBlk
  simp only [hq]
  show _ = InMath.kaug (P (xnBlk x0 x1) x2 r) (fun c => x8 (ix2 0 ⟨c.val, _⟩)) (j * 512 + r.val) ⟨(h.val * 128 + n.val) / 128, _⟩ ⟨(h.val * 128 + n.val) % 128, _⟩
  simp only [e1, e2, Fin.eta]
  rfl

theorem y_apply (i0 : ∀ a, (![0, 0] : Fin 2 → Nat) a + (![1024, 512] : Fin 2 → Nat) a ≤ S1024x3328.size a) (i1 : ∀ a, (![0, 512] : Fin 2 → Nat) a + (![1024, 512] : Fin 2 → Nat) a ≤ S1024x3328.size a) (i2 : ∀ a, (![0, 1024] : Fin 2 → Nat) a + (![1024, 512] : Fin 2 → Nat) a ≤ S1024x3328.size a) (r : Fin 512) (d : Fin 1024) :
    (k0_pay24 (F := Ideal) (k0_pay4 x0 x1) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay11 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p)) (Shift.rowsDown (n := 512) (L := 128) 2 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p))) (k0_pay17 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay14 (Shift.rowsDown (n := 512) (L := 128) 1 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay15 (k0_pay7 x6) (Shift.rowsDown (n := 512) (L := 128) 2 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay16 (k0_pay7 x6))) (k0_pay20 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p)) (Shift.rowsDown (n := 512) (L := 128) 2 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p))) (Shift.rowsDown (n := 512) (L := 128) 1 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (Shift.rowsDown (n := 512) (L := 128) 2 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (View.ld (Val := Elt Ideal) (e' := .bf16) x2 (Rect.unit (s := S1024x3328) ![0, 0] ![1024, 512] i0)) x7) (ix2 r d)
      = InMath.ya (P (xnBlk x0 x1) x2 r) (cvBlk p (uBlk x0 x1 x2) x6 r) (fun n d => x7 (ix2 n d)) d := by
  have hu := u_eq x0 x1 x2 i1 i2
  have h0 := conv0 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)) p x6 r
  have h1 := conv1 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) p x6 r
  have h2 := conv2 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) p x6 r
  have h3 := conv3 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) p x6 r
  rw [pay24_apply _ _ _ _ _ _ _ _ _ _ r (cvBlk p (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) x6 r) h0 h1 h2 h3, hu, pay4_eq]
  unfold InMath.ya
  have hp : ∀ n : Fin 512, P (N := 512) (xnBlk x0 x1) (View.ld (Val := Elt Ideal) (e' := .bf16) x2 (Rect.unit (s := S1024x3328) ![0, 0] ![1024, 512] i0)) r n = P (xnBlk x0 x1) x2 r ⟨n.val, by omega⟩ := fun n =>
    (P_ld (N := 3328) (W := 512) (xnBlk x0 x1) x2 0 i0 r n (by omega)).trans (congrArg _ (Fin.ext (Nat.zero_add _)))
  exact congrArg (fun f => InMath.lin f (fun n d => x7 (ix2 n d)) d) (funext fun n => congrArg (· * _) (hp n))

theorem m_fin (h : Fin 4) (o : Nat) (ho : o = h.val * 128) (ik : ∀ a, (![0, o, 0] : Fin 3 → Nat) a + (![1, 128, 256] : Fin 3 → Nat) a ≤ S1x512x256.size a) (iv : ∀ a, (![0, 0, o] : Fin 3 → Nat) a + (![1, 256, 128] : Fin 3 → Nat) a ≤ S1x256x512.size a) (r : Fin 512) (n : Fin 128) (hn : o + n.val < 512) :
    mBlk (k0_pay80 (F := Ideal) (k0_pay4 (F := Ideal) x0 x1) x4) x12 (View.ld (Val := Elt Ideal) (e' := .bf16) x10 (Rect.unit (s := S1x512x256) ![0, o, 0] ![1, 128, 256] ik)) (View.ld (Val := Elt Ideal) (e' := .bf16) x11 (Rect.unit (s := S1x256x512) ![0, 0, o] ![1, 256, 128] iv)) h r n
      = InMath.mem (P (xnBlk x0 x1) x4 r) (fun c => x12 (ix2 0 c)) (fun n m => x10 (ix3 0 n m)) (fun m n => x11 (ix3 0 m n)) ⟨o + n.val, hn⟩ := by
  subst ho
  rw [mem_head]
  unfold mBlk lgBlk InMath.memHead
  have hq : ∀ n, (k0_pay80 (F := Ideal) (k0_pay4 (F := Ideal) x0 x1) x4) (ix2 r n) = P (xnBlk x0 x1) x4 r n := fun n => by rw [pay80_apply, pay4_eq]
  have hK : (fun c m => (View.ld (Val := Elt Ideal) (e' := .bf16) x10 (Rect.unit (s := S1x512x256) ![0, (h.val * 128), 0] ![1, 128, 256] ik)) (ix3 0 c m)) = fun (c : Fin 128) (m : Fin 256) => x10 (ix3 0 ⟨h.val * 128 + c.val, by omega⟩ m) := by
    funext c m
    exact ld_rows3 (α := Elt Ideal) (e := .bf16) (A := 512) (B := 256) (W := 128) x10 _ ik c m (by omega)
  have hV : (fun m c => (View.ld (Val := Elt Ideal) (e' := .bf16) x11 (Rect.unit (s := S1x256x512) ![0, 0, (h.val * 128)] ![1, 256, 128] iv)) (ix3 0 m c)) = fun (m : Fin 256) (c : Fin 128) => x11 (ix3 0 m ⟨h.val * 128 + c.val, by omega⟩) := by
    funext m c
    exact ld_cols3 (α := Elt Ideal) (e := .bf16) (A := 256) (B := 512) (W := 128) x11 _ iv m c (by omega)
  rw [funext hq]
  exact congrArg₂ (fun K V => InMath.mean (InMath.expo (InMath.logit _ _ K)) V n) hK hV

theorem out14_apply (i0 : ∀ a, (![0, 0] : Fin 2 → Nat) a + (![1024, 512] : Fin 2 → Nat) a ≤ S1024x3328.size a) (i1 : ∀ a, (![0, 512] : Fin 2 → Nat) a + (![1024, 512] : Fin 2 → Nat) a ≤ S1024x3328.size a) (i2 : ∀ a, (![0, 1024] : Fin 2 → Nat) a + (![1024, 512] : Fin 2 → Nat) a ≤ S1024x3328.size a) (k0 : ∀ a, (![0, 0, 0] : Fin 3 → Nat) a + (![1, 128, 256] : Fin 3 → Nat) a ≤ S1x512x256.size a) (k1 : ∀ a, (![0, 128, 0] : Fin 3 → Nat) a + (![1, 128, 256] : Fin 3 → Nat) a ≤ S1x512x256.size a) (k2 : ∀ a, (![0, 256, 0] : Fin 3 → Nat) a + (![1, 128, 256] : Fin 3 → Nat) a ≤ S1x512x256.size a) (k3 : ∀ a, (![0, 384, 0] : Fin 3 → Nat) a + (![1, 128, 256] : Fin 3 → Nat) a ≤ S1x512x256.size a)
    (v0 : ∀ a, (![0, 0, 0] : Fin 3 → Nat) a + (![1, 256, 128] : Fin 3 → Nat) a ≤ S1x256x512.size a) (v1 : ∀ a, (![0, 0, 128] : Fin 3 → Nat) a + (![1, 256, 128] : Fin 3 → Nat) a ≤ S1x256x512.size a) (v2 : ∀ a, (![0, 0, 256] : Fin 3 → Nat) a + (![1, 256, 128] : Fin 3 → Nat) a ≤ S1x256x512.size a) (v3 : ∀ a, (![0, 0, 384] : Fin 3 → Nat) a + (![1, 256, 128] : Fin 3 → Nat) a ≤ S1x256x512.size a) (w0 : ∀ a, (![0, 0] : Fin 2 → Nat) a + (![1024, 1024] : Fin 2 → Nat) a ≤ S1024x3072.size a) (w2 : ∀ a, (![0, 2048] : Fin 2 → Nat) a + (![1024, 1024] : Fin 2 → Nat) a ≤ S1024x3072.size a) (b : Fin 1) (r : Fin 512) (d : Fin 1024) :
    k0_pay92 (F := Ideal) (k0_pay4 (F := Ideal) x0 x1) (k0_pay24 (F := Ideal) (k0_pay4 x0 x1) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay11 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p)) (Shift.rowsDown (n := 512) (L := 128) 2 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p))) (k0_pay17 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay14 (Shift.rowsDown (n := 512) (L := 128) 1 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay15 (k0_pay7 x6) (Shift.rowsDown (n := 512) (L := 128) 2 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay16 (k0_pay7 x6))) (k0_pay20 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p)) (Shift.rowsDown (n := 512) (L := 128) 2 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p))) (Shift.rowsDown (n := 512) (L := 128) 1 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (Shift.rowsDown (n := 512) (L := 128) 2 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (View.ld (Val := Elt Ideal) (e' := .bf16) x2 (Rect.unit (s := S1024x3328) ![0, 0] ![1024, 512] i0)) x7)
      (k0_pay84 (k0_pay81 (k0_pay4 (F := Ideal) x0 x1) x4) (k0_pay82 x12) (k0_pay83 (k0_pay4 (F := Ideal) x0 x1) x4) (View.ld (Val := Elt Ideal) (e' := .bf16) x10 (Rect.unit (s := S1x512x256) ![0, 0, 0] ![1, 128, 256] k0)) (View.ld (Val := Elt Ideal) (e' := .bf16) x11 (Rect.unit (s := S1x256x512) ![0, 0, 0] ![1, 256, 128] v0)))
      (k0_pay87 (k0_pay85 x12) (k0_pay86 (k0_pay80 (F := Ideal) (k0_pay4 (F := Ideal) x0 x1) x4)) (View.ld (Val := Elt Ideal) (e' := .bf16) x10 (Rect.unit (s := S1x512x256) ![0, 128, 0] ![1, 128, 256] k1)) (View.ld (Val := Elt Ideal) (e' := .bf16) x11 (Rect.unit (s := S1x256x512) ![0, 0, 128] ![1, 256, 128] v1)))
      (k0_pay89 (k0_pay88 (k0_pay80 (F := Ideal) (k0_pay4 (F := Ideal) x0 x1) x4) x12 (View.ld (Val := Elt Ideal) (e' := .bf16) x10 (Rect.unit (s := S1x512x256) ![0, 256, 0] ![1, 128, 256] k2))) (View.ld (Val := Elt Ideal) (e' := .bf16) x11 (Rect.unit (s := S1x256x512) ![0, 0, 256] ![1, 256, 128] v2)))
      (k0_pay90 (k0_pay80 (F := Ideal) (k0_pay4 (F := Ideal) x0 x1) x4) x12 (View.ld (Val := Elt Ideal) (e' := .bf16) x10 (Rect.unit (s := S1x512x256) ![0, 384, 0] ![1, 128, 256] k3))) (View.ld (Val := Elt Ideal) (e' := .bf16) x11 (Rect.unit (s := S1x256x512) ![0, 0, 384] ![1, 256, 128] v3)) x13 (View.ld (Val := Elt Ideal) (e' := .bf16) x5 (Rect.unit (s := S1024x3072) ![0, 0] ![1024, 1024] w0)) (View.ld (Val := Elt Ideal) (e' := .bf16) x5 (Rect.unit (s := S1024x3072) ![0, 2048] ![1024, 1024] w2)) (ix3 b r d)
      = o14 p x0 x1 x2 x4 x5 x6 x7 x10 x11 x12 x13 (ix3 b r d) := by
  have h0 : ∀ n : Fin 128, (k0_pay84 (k0_pay81 (k0_pay4 (F := Ideal) x0 x1) x4) (k0_pay82 x12) (k0_pay83 (k0_pay4 (F := Ideal) x0 x1) x4) (View.ld (Val := Elt Ideal) (e' := .bf16) x10 (Rect.unit (s := S1x512x256) ![0, 0, 0] ![1, 128, 256] k0)) (View.ld (Val := Elt Ideal) (e' := .bf16) x11 (Rect.unit (s := S1x256x512) ![0, 0, 0] ![1, 256, 128] v0))) (ix2 r n) = _ := fun n =>
    (mem0 (k0_pay4 (F := Ideal) x0 x1) x4 x12 _ _ r n).trans (m_fin x0 x1 x4 x10 x11 x12 0 0 rfl k0 v0 r n (by omega))
  have h1 : ∀ n : Fin 128, (k0_pay87 (k0_pay85 x12) (k0_pay86 (k0_pay80 (F := Ideal) (k0_pay4 (F := Ideal) x0 x1) x4)) (View.ld (Val := Elt Ideal) (e' := .bf16) x10 (Rect.unit (s := S1x512x256) ![0, 128, 0] ![1, 128, 256] k1)) (View.ld (Val := Elt Ideal) (e' := .bf16) x11 (Rect.unit (s := S1x256x512) ![0, 0, 128] ![1, 256, 128] v1))) (ix2 r n) = _ := fun n =>
    (mem1 (k0_pay80 (F := Ideal) (k0_pay4 (F := Ideal) x0 x1) x4) x12 _ _ r n).trans (m_fin x0 x1 x4 x10 x11 x12 1 128 rfl k1 v1 r n (by omega))
  have h2 : ∀ n : Fin 128, (k0_pay89 (k0_pay88 (k0_pay80 (F := Ideal) (k0_pay4 (F := Ideal) x0 x1) x4) x12 (View.ld (Val := Elt Ideal) (e' := .bf16) x10 (Rect.unit (s := S1x512x256) ![0, 256, 0] ![1, 128, 256] k2))) (View.ld (Val := Elt Ideal) (e' := .bf16) x11 (Rect.unit (s := S1x256x512) ![0, 0, 256] ![1, 256, 128] v2))) (ix2 r n) = _ := fun n =>
    (mem2 (k0_pay80 (F := Ideal) (k0_pay4 (F := Ideal) x0 x1) x4) x12 _ _ r n).trans (m_fin x0 x1 x4 x10 x11 x12 2 256 rfl k2 v2 r n (by omega))
  have h3 : ∀ n : Fin 128, InMath.mean (fun m => (k0_pay90 (k0_pay80 (F := Ideal) (k0_pay4 (F := Ideal) x0 x1) x4) x12 (View.ld (Val := Elt Ideal) (e' := .bf16) x10 (Rect.unit (s := S1x512x256) ![0, 384, 0] ![1, 128, 256] k3))) (ix2 r m)) (fun m c => (View.ld (Val := Elt Ideal) (e' := .bf16) x11 (Rect.unit (s := S1x256x512) ![0, 0, 384] ![1, 256, 128] v3)) (ix3 0 m c)) n = _ := fun n =>
    (congrArg (fun e => InMath.mean e _ n) (funext fun m => mem3 (k0_pay80 (F := Ideal) (k0_pay4 (F := Ideal) x0 x1) x4) x12 (View.ld (Val := Elt Ideal) (e' := .bf16) x10 (Rect.unit (s := S1x512x256) ![0, 384, 0] ![1, 128, 256] k3)) r m)).trans
      (m_fin x0 x1 x4 x10 x11 x12 3 384 rfl k3 v3 r n (by omega))
  rw [pay92_apply (k0_pay4 (F := Ideal) x0 x1) (k0_pay24 (F := Ideal) (k0_pay4 x0 x1) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay11 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p)) (Shift.rowsDown (n := 512) (L := 128) 2 (by decide) (k0_pay10 (F := Ideal) (k0_pay9 x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay8 (F := Ideal) p))) (k0_pay17 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (k0_pay14 (Shift.rowsDown (n := 512) (L := 128) 1 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay15 (k0_pay7 x6) (Shift.rowsDown (n := 512) (L := 128) 2 (by decide) (k0_pay13 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay12 (F := Ideal) p))) (k0_pay16 (k0_pay7 x6))) (k0_pay20 (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) (k0_pay7 x6) (Shift.rowsDown (n := 512) (L := 128) 1 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p)) (Shift.rowsDown (n := 512) (L := 128) 2 (by decide) (k0_pay19 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay18 (F := Ideal) p))) (Shift.rowsDown (n := 512) (L := 128) 1 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (Shift.rowsDown (n := 512) (L := 128) 2 (by decide) (k0_pay22 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2)))) (k0_pay21 (F := Ideal) p)) (View.ld (Val := Elt Ideal) (e' := .bf16) x2 (Rect.unit (s := S1024x3328) ![0, 0] ![1024, 512] i0)) x7) _ _ _ _ _ _ _ _ r
    (InMath.mem (P (xnBlk x0 x1) x4 r) (fun c => x12 (ix2 0 c)) (fun n m => x10 (ix3 0 n m)) (fun m n => x11 (ix3 0 m n)))
    (fun n => (h0 n).trans (congrArg _ (Fin.ext (Nat.zero_add _)))) h1 h2 h3, y_apply, pay4_eq]
  unfold o14 InMath.part
  have g0 := (P_ld (N := 3072) (W := 1024) (xnBlk x0 x1) x5 0 w0 r d (by omega)).trans
    (congrArg (P (xnBlk x0 x1) x5 r) (show (⟨0 + d.val, by omega⟩ : Fin 3072) = ⟨d.val, by omega⟩ from Fin.ext (Nat.zero_add _)))
  have g2 := P_ld (N := 3072) (W := 1024) (xnBlk x0 x1) x5 2048 w2 r d (by omega)
  exact congrArg₂ (fun a b => InMath.sig a * _ + InMath.sig b * _) g0 g2

theorem out15_apply (w1 : ∀ a, (![0, 1024] : Fin 2 → Nat) a + (![1024, 1024] : Fin 2 → Nat) a ≤ S1024x3072.size a) (b : Fin 1) (r : Fin 512) (d : Fin 1024) :
    k0_pay91 (F := Ideal) (k0_pay4 (F := Ideal) x0 x1) (View.ld (Val := Elt Ideal) (e' := .bf16) x5 (Rect.unit (s := S1024x3072) ![0, 1024] ![1024, 1024] w1)) (ix3 b r d) = o15 x0 x1 x5 (ix3 b r d) := by
  rw [pay91_apply, pay4_eq]
  exact congrArg InMath.sig (P_ld (N := 3072) (W := 1024) (xnBlk x0 x1) x5 1024 w1 r d (by omega))

theorem out18_apply (i1 : ∀ a, (![0, 2560] : Fin 2 → Nat) a + (![1024, 512] : Fin 2 → Nat) a ≤ S1024x3328.size a) (b : Fin 1) (n r : Fin 512) :
    k0_pay78 (F := Ideal) (k0_pay4 (F := Ideal) x0 x1) (View.ld (Val := Elt Ideal) (e' := .bf16) x2 (Rect.unit (s := S1024x3328) ![0, 2560] ![1024, 512] i1)) (ix3 b n r) = o18 x0 x1 x2 (ix3 b n r) := by
  rw [pay78_apply, pay4_eq]
  exact P_ld (N := 3328) (W := 512) (xnBlk x0 x1) x2 2560 i1 r n (by omega)

theorem out19_apply (i1 : ∀ a, (![0, 3072] : Fin 2 → Nat) a + (![1024, 256] : Fin 2 → Nat) a ≤ S1024x3328.size a) (b : Fin 1) (n : Fin 256) (r : Fin 512) :
    k0_pay79 (F := Ideal) (k0_pay4 (F := Ideal) x0 x1) (View.ld (Val := Elt Ideal) (e' := .bf16) x2 (Rect.unit (s := S1024x3328) ![0, 3072] ![1024, 256] i1)) (ix3 b n r) = o19 x0 x1 x2 (ix3 b n r) := by
  rw [pay79_apply, pay4_eq]
  exact P_ld (N := 3328) (W := 256) (xnBlk x0 x1) x2 3072 i1 r n (by omega)

theorem out20_apply (b : Fin 1) (r : Fin 512) (n : Fin 128) :
    k0_pay2 (F := Ideal) (k0_pay4 (F := Ideal) x0 x1) x3 (ix3 b r n) = o20 x0 x1 x3 (ix3 b r n) := by
  rw [pay2_apply, pay4_eq]
  rfl

theorem out21_apply (b : Fin 1) (n : Fin 8) (r : Fin 512) :
    k0_pay3 (F := Ideal) (k0_pay4 (F := Ideal) x0 x1) x3 (ix3 b n r) = o21 x0 x1 x3 (ix3 b n r) := by
  rw [pay3_apply, pay4_eq]
  rfl

theorem halo_eq (i1 : ∀ a, (![0, 512] : Fin 2 → Nat) a + (![1024, 512] : Fin 2 → Nat) a ≤ S1024x3328.size a) (i2 : ∀ a, (![0, 1024] : Fin 2 → Nat) a + (![1024, 512] : Fin 2 → Nat) a ≤ S1024x3328.size a) :
    k0_pay23 (F := Ideal) (k0_pay6 (F := Ideal) x0 x1 (View.ld (Val := Elt Ideal) (e' := .bf16) x2 (Rect.unit (s := S1024x3328) ![0, 512] ![1024, 512] i1)) (View.ld (Val := Elt Ideal) (e' := .bf16) x2 (Rect.unit (s := S1024x3328) ![0, 1024] ![1024, 512] i2))) = haloBlk x0 x1 x2 := by
  funext j
  idx_vars j
  rw [u_eq, pay23_apply]
  rfl

end Cert.Kernel2Ideal.Value
-- ==== Proof.Body2A.lean ====
/-
  The layer's first call: what its body leaves in case A, as functions of the blocks it read.
-/
module

public import proofs.«01_k».proof.Proof.InOut
public import proofs.«01_k».proof.Proof.Gen.Kernel2Ideal.Frame

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x3072 .bf16) (harg7 : arg7.IsWhole) (arg8 : Memref sig .tc .vmem S3x512 .f32) (harg8 : arg8.IsWhole) (arg9 : Memref sig .tc .vmem S512x1024 .bf16) (harg9 : arg9.IsWhole) (arg10 : Memref sig .tc .vmem S1x128 .f32) (harg10 : arg10.IsWhole) (arg11 : Memref sig .tc .vmem S64x512 .f32) (harg11 : arg11.IsWhole) (arg12 : Memref sig .tc .vmem S1x512x256 .bf16) (harg12 : arg12.IsWhole) (arg13 : Memref sig .tc .vmem S1x256x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x1024x512 .bf16) (harg18 : arg18.IsWhole) (arg19 : Memref sig .tc .vmem S1x512x1024 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x128 .bf16) (harg22 : arg22.IsWhole) (arg23 : Memref sig .tc .vmem S1x8x512 .f32) (harg23 : arg23.IsWhole) (arg24 : Memref sig .tc .vmem S8x512 .f32) (harg24 : arg24.IsWhole) (arg25 : Memref sig .tc .vmem S4x520x128 .f32) (harg25 : arg25.IsWhole) (hc0 : cond0_0 i)
    (x0 : Vec Ideal S1x512x1024 .f32) (x1 : Vec Ideal S1x1024 .f32) (x2 : Vec Ideal S1024x3328 .bf16) (x3 : Vec Ideal S1024x128 .bf16) (x4 : Vec Ideal S1024x512 .bf16) (x5 : Vec Ideal S1024x3072 .bf16) (x6 : Vec Ideal S3x512 .f32) (x7 : Vec Ideal S512x1024 .bf16) (x8 : Vec Ideal S1x128 .f32) (x9 : Vec Ideal S64x512 .f32) (x10 : Vec Ideal S1x512x256 .bf16) (x11 : Vec Ideal S1x256x512 .bf16) (x12 : Vec Ideal S1x128 .f32) (x13 : Vec Ideal S512x1024 .bf16)

set_option maxHeartbeats 4000000 in
theorem out14A : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o14 (fun _ => (0 : EReal)) x0 x1 x2 x4 x5 x6 x7 x10 x11 x12 x13 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x512x1024) (e := .bf16) (by funext a; match a with | ⟨0, _⟩ => rfl | ⟨1, _⟩ => rfl | ⟨2, _⟩ => rfl) inb_S1x512x1024_S1x512x1024_0_0_0 _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  simp only [readAt_unread]
  exact out14_apply ..

set_option maxHeartbeats 4000000 in
theorem out15A : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o15 x0 x1 x5 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x512x1024) (e := .bf16) (by funext a; match a with | ⟨0, _⟩ => rfl | ⟨1, _⟩ => rfl | ⟨2, _⟩ => rfl) inb_S1x512x1024_S1x512x1024_0_0_0 _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  simp only [readAt_unread]
  exact out15_apply ..

set_option maxHeartbeats 4000000 in
theorem out18A : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o18 x0 x1 x2 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x512x512) (e := .bf16) (by funext a; match a with | ⟨0, _⟩ => rfl | ⟨1, _⟩ => rfl | ⟨2, _⟩ => rfl) _ _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  simp only [readAt_unread]
  exact out18_apply ..

set_option maxHeartbeats 4000000 in
theorem out19A : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o19 x0 x1 x2 := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x256x512) (e := .bf16) (by funext a; match a with | ⟨0, _⟩ => rfl | ⟨1, _⟩ => rfl | ⟨2, _⟩ => rfl) _ _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  simp only [readAt_unread]
  exact out19_apply ..

set_option maxHeartbeats 4000000 in
theorem out20A : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o20 x0 x1 x3 := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x512x128) (e := .bf16) (by funext a; match a with | ⟨0, _⟩ => rfl | ⟨1, _⟩ => rfl | ⟨2, _⟩ => rfl) _ _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  exact out20_apply ..

set_option maxHeartbeats 4000000 in
theorem out21A : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o21 x0 x1 x3 := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (View.canon_unit_zero (S := S1x8x512) (e := .f32) (by funext a; match a with | ⟨0, _⟩ => rfl | ⟨1, _⟩ => rfl | ⟨2, _⟩ => rfl) _ _).trans ?_
  funext j
  idx_vars j
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp (disch := decide) only [readAt_whole2, readAt_whole3, halo_zero, readCov7, readCov6]
  exact out21_apply ..

set_option maxHeartbeats 4000000 in
theorem soutA : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = haloBlk x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  refine (canon_whole (A := 8) (B := 512) _ _ _).trans ?_
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp only [readAt_whole2, readAt_whole3]
  simp only [readAt_unread]
  exact halo_eq ..

set_option maxHeartbeats 4000000 in
theorem out16A : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o16 x0 x1 x2 x9 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp only [readAt_whole2, readAt_whole3]
  simp only [readAt_unread]
  funext y
  refine View.canon_apply_of_pieces (S := S1x1024x512) (Val := Elt Ideal) (e := .bf16) (o16 x0 x1 x2 x9) _ ?_ y
    (View.cover_of_tiledL (s := S1x1024x512) _ S1x128x512.size (by sl_kernel_rfl) y)
  intro p hp
  simp only [List.mem_cons, List.not_mem_nil, or_false] at hp
  rcases hp with rfl | rfl | rfl | rfl | rfl | rfl | rfl | rfl
  · exact fun x => rows3_emb (A := 1024) (B := 512) (W := 128) 896 inb_S1x1024x512_S1x128x512_0_896_0 _ (o16 x0 x1 x2 x9)
      (fun b n r hk => (pay58_apply ..).trans (q_fin x0 x1 x2 x9 _ 7 b n r hk)) x
  · exact fun x => rows3_emb (A := 1024) (B := 512) (W := 128) 768 inb_S1x1024x512_S1x128x512_0_768_0 _ (o16 x0 x1 x2 x9)
      (fun b n r hk => (pay54_apply ..).trans (q_fin x0 x1 x2 x9 _ 6 b n r hk)) x
  · exact fun x => rows3_emb (A := 1024) (B := 512) (W := 128) 640 inb_S1x1024x512_S1x128x512_0_640_0 _ (o16 x0 x1 x2 x9)
      (fun b n r hk => (pay50_apply ..).trans (q_fin x0 x1 x2 x9 _ 5 b n r hk)) x
  · exact fun x => rows3_emb (A := 1024) (B := 512) (W := 128) 512 inb_S1x1024x512_S1x128x512_0_512_0 _ (o16 x0 x1 x2 x9)
      (fun b n r hk => (pay46_apply ..).trans (q_fin x0 x1 x2 x9 _ 4 b n r hk)) x
  · exact fun x => rows3_emb (A := 1024) (B := 512) (W := 128) 384 inb_S1x1024x512_S1x128x512_0_384_0 _ (o16 x0 x1 x2 x9)
      (fun b n r hk => (pay42_apply ..).trans (q_fin x0 x1 x2 x9 _ 3 b n r hk)) x
  · exact fun x => rows3_emb (A := 1024) (B := 512) (W := 128) 256 inb_S1x1024x512_S1x128x512_0_256_0 _ (o16 x0 x1 x2 x9)
      (fun b n r hk => (pay38_apply ..).trans (q_fin x0 x1 x2 x9 _ 2 b n r hk)) x
  · exact fun x => rows3_emb (A := 1024) (B := 512) (W := 128) 128 inb_S1x1024x512_S1x128x512_0_128_0 _ (o16 x0 x1 x2 x9)
      (fun b n r hk => (pay34_apply ..).trans (q_fin x0 x1 x2 x9 _ 1 b n r hk)) x
  · exact fun x => rows3_emb (A := 1024) (B := 512) (W := 128) 0 inb_S1x1024x512_S1x128x512_0_0_0 _ (o16 x0 x1 x2 x9)
      (fun b n r hk => (pay30_apply ..).trans (q_fin x0 x1 x2 x9 _ 0 b n r hk)) x

set_option maxHeartbeats 4000000 in
theorem out17A : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    = o17 x0 x1 x2 x8 (i 1).val := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  simp only [kernelRun0_A.sl.HS0_1, kernelRun0_A.sl.HS1_2, kernelRun0_A.sl.HS1_4, kernelRun0_A.sl.HS1_6, kernelRun0_A.sl.HS1_8, kernelRun0_A.sl.cst_250, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_6, kernelRun0_A.sl.r_7, kernelRun0_A.sl.r_8, kernelRun0_A.sl.r_9, kernelRun0_A.sl.v108, kernelRun0_A.sl.v110, kernelRun0_A.sl.v139, kernelRun0_A.sl.v25, kernelRun0_A.sl.v36, kernelRun0_A.sl.v38, kernelRun0_A.sl.v471, kernelRun0_A.sl.v476, kernelRun0_A.sl.v60, kernelRun0_A.sl.v62, kernelRun0_A.sl.v84, kernelRun0_A.sl.v86]
  simp only [readAt_whole2, readAt_whole3]
  simp only [readAt_unread]
  funext y
  refine View.canon_apply_of_pieces (S := S1x512x1024) (Val := Elt Ideal) (e := .bf16) (o17 x0 x1 x2 x8 (i 1).val) _ ?_ y
    (View.cover_of_tiledL (s := S1x512x1024) _ S1x512x128.size (by sl_kernel_rfl) y)
  intro p hp
  simp only [List.mem_cons, List.not_mem_nil, or_false] at hp
  rcases hp with rfl | rfl | rfl | rfl | rfl | rfl | rfl | rfl
  · exact fun x => cols3_emb (A := 512) (B := 1024) (W := 128) 896 inb_S1x512x1024_S1x512x128_0_0_896 _ (o17 x0 x1 x2 x8 (i 1).val)
      (fun b r n hk => (key7 _ _ _ _ b r (fun n => pay60_apply (i 1).val (i 1).isLt r n) n).trans (k_fin x0 x1 x2 x8 _ (i 1).val 7 b r n hk)) x
  · exact fun x => cols3_emb (A := 512) (B := 1024) (W := 128) 768 inb_S1x512x1024_S1x512x128_0_0_768 _ (o17 x0 x1 x2 x8 (i 1).val)
      (fun b r n hk => (key6 _ _ _ _ b r (fun n => pay60_apply (i 1).val (i 1).isLt r n) n).trans (k_fin x0 x1 x2 x8 _ (i 1).val 6 b r n hk)) x
  · exact fun x => cols3_emb (A := 512) (B := 1024) (W := 128) 640 inb_S1x512x1024_S1x512x128_0_0_640 _ (o17 x0 x1 x2 x8 (i 1).val)
      (fun b r n hk => (key5 _ _ _ _ b r (fun n => pay60_apply (i 1).val (i 1).isLt r n) n).trans (k_fin x0 x1 x2 x8 _ (i 1).val 5 b r n hk)) x
  · exact fun x => cols3_emb (A := 512) (B := 1024) (W := 128) 512 inb_S1x512x1024_S1x512x128_0_0_512 _ (o17 x0 x1 x2 x8 (i 1).val)
      (fun b r n hk => (key4 _ _ _ _ b r (fun n => pay60_apply (i 1).val (i 1).isLt r n) n).trans (k_fin x0 x1 x2 x8 _ (i 1).val 4 b r n hk)) x
  · exact fun x => cols3_emb (A := 512) (B := 1024) (W := 128) 384 inb_S1x512x1024_S1x512x128_0_0_384 _ (o17 x0 x1 x2 x8 (i 1).val)
      (fun b r n hk => (key3 _ _ _ _ b r (fun n => pay60_apply (i 1).val (i 1).isLt r n) n).trans (k_fin x0 x1 x2 x8 _ (i 1).val 3 b r n hk)) x
  · exact fun x => cols3_emb (A := 512) (B := 1024) (W := 128) 256 inb_S1x512x1024_S1x512x128_0_0_256 _ (o17 x0 x1 x2 x8 (i 1).val)
      (fun b r n hk => (key2 _ _ _ _ b r (fun n => pay60_apply (i 1).val (i 1).isLt r n) n).trans (k_fin x0 x1 x2 x8 _ (i 1).val 2 b r n hk)) x
  · exact fun x => cols3_emb (A := 512) (B := 1024) (W := 128) 128 inb_S1x512x1024_S1x512x128_0_0_128 _ (o17 x0 x1 x2 x8 (i 1).val)
      (fun b r n hk => (key1 _ _ _ _ b r (fun n => pay60_apply (i 1).val (i 1).isLt r n) n).trans (k_fin x0 x1 x2 x8 _ (i 1).val 1 b r n hk)) x
  · exact fun x => cols3_emb (A := 512) (B := 1024) (W := 128) 0 inb_S1x512x1024_S1x512x128_0_0_0 _ (o17 x0 x1 x2 x8 (i 1).val)
      (fun b r n hk => (key0 _ _ _ _ b r (fun n => pay60_apply (i 1).val (i 1).isLt r n) n).trans (k_fin x0 x1 x2 x8 _ (i 1).val 0 b r n hk)) x

end Cert.Kernel2Ideal.Value
-- ==== Proof.Body2B.lean ====
/-
  The layer's first call: what its body leaves in case B, as functions of the blocks it read.
-/
module

public import proofs.«01_k».proof.Proof.InOut
public import proofs.«01_k».proof.Proof.Gen.Kernel2Ideal.Frame

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x3072 .bf16) (harg7 : arg7.IsWhole) (arg8 : Memref sig .tc .vmem S3x512 .f32) (harg8 : arg8.IsWhole) (arg9 : Memref sig .tc .vmem S512x1024 .bf16) (harg9 : arg9.IsWhole) (arg10 : Memref sig .tc .vmem S1x128 .f32) (harg10 : arg10.IsWhole) (arg11 : Memref sig .tc .vmem S64x512 .f32) (harg11 : arg11.IsWhole) (arg12 : Memref sig .tc .vmem S1x512x256 .bf16) (harg12 : arg12.IsWhole) (arg13 : Memref sig .tc .vmem S1x256x512 .bf16) (harg13 : arg13.IsWhole) (arg14 : Memref sig .tc .vmem S1x128 .f32) (harg14 : arg14.IsWhole) (arg15 : Memref sig .tc .vmem S512x1024 .bf16) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x1024x512 .bf16) (harg18 : arg18.IsWhole) (arg19 : Memref sig .tc .vmem S1x512x1024 .bf16) (harg19 : arg19.IsWhole) (arg20 : Memref sig .tc .vmem S1x512x512 .bf16) (harg20 : arg20.IsWhole) (arg21 : Memref sig .tc .vmem S1x256x512 .bf16) (harg21 : arg21.IsWhole) (arg22 : Memref sig .tc .vmem S1x512x128 .bf16) (harg22 : arg22.IsWhole) (arg23 : Memref sig .tc .vmem S1x8x512 .f32) (harg23 : arg23.IsWhole) (arg24 : Memref sig .tc .vmem S8x512 .f32) (harg24 : arg24.IsWhole) (arg25 : Memref sig .tc .vmem S4x520x128 .f32) (harg25 : arg25.IsWhole) (hc0 : ¬cond0_0 i)
    (x0 : Vec Ideal S1x512x1024 .f32) (x1 : Vec Ideal S1x1024 .f32) (x2 : Vec Ideal S1024x3328 .bf16) (x3 : Vec Ideal S1024x128 .bf16) (x4 : Vec Ideal S1024x512 .bf16) (x5 : Vec Ideal S1024x3072 .bf16) (x6 : Vec Ideal S3x512 .f32) (x7 : Vec Ideal S512x1024 .bf16) (x8 : Vec Ideal S1x128 .f32) (x9 : Vec Ideal S64x512 .f32) (x10 : Vec Ideal S1x512x256 .bf16) (x11 : Vec Ideal S1x256x512 .bf16) (x12 : Vec Ideal S1x128 .f32) (x13 : Vec Ideal S512x1024 .bf16) (xs0 : Vec Ideal S8x512 .f32)

set_option maxHeartbeats 4000000 in
theorem out14B : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o14 xs0 x0 x1 x2 x4 x5 x6 x7 x10 x11 x12 x13 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x512x1024) (e := .bf16) (by funext a; match a with | ⟨0, _⟩ => rfl | ⟨1, _⟩ => rfl | ⟨2, _⟩ => rfl) inb_S1x512x1024_S1x512x1024_0_0_0 _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  simp only [readAt_unread]
  exact out14_apply ..

set_option maxHeartbeats 4000000 in
theorem out15B : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o15 x0 x1 x5 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x512x1024) (e := .bf16) (by funext a; match a with | ⟨0, _⟩ => rfl | ⟨1, _⟩ => rfl | ⟨2, _⟩ => rfl) inb_S1x512x1024_S1x512x1024_0_0_0 _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  simp only [readAt_unread]
  exact out15_apply ..

set_option maxHeartbeats 4000000 in
theorem out18B : out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o18 x0 x1 x2 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x512x512) (e := .bf16) (by funext a; match a with | ⟨0, _⟩ => rfl | ⟨1, _⟩ => rfl | ⟨2, _⟩ => rfl) _ _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  simp only [readAt_unread]
  exact out18_apply ..

set_option maxHeartbeats 4000000 in
theorem out19B : out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o19 x0 x1 x2 := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x256x512) (e := .bf16) (by funext a; match a with | ⟨0, _⟩ => rfl | ⟨1, _⟩ => rfl | ⟨2, _⟩ => rfl) _ _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  simp only [readAt_unread]
  exact out19_apply ..

set_option maxHeartbeats 4000000 in
theorem out20B : out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o20 x0 x1 x3 := by
  unfold out0_B_20
  rw [View.read_writes_eq_canon _ _ _ (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x512x128) (e := .bf16) (by funext a; match a with | ⟨0, _⟩ => rfl | ⟨1, _⟩ => rfl | ⟨2, _⟩ => rfl) _ _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  exact out20_apply ..

set_option maxHeartbeats 4000000 in
theorem out21B : out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o21 x0 x1 x3 := by
  unfold out0_B_21
  rw [View.read_writes_eq_canon _ _ _ (cover0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (View.canon_unit_zero (S := S1x8x512) (e := .f32) (by funext a; match a with | ⟨0, _⟩ => rfl | ⟨1, _⟩ => rfl | ⟨2, _⟩ => rfl) _ _).trans ?_
  funext j
  idx_vars j
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp (disch := decide) only [readAt_whole2, readAt_whole3, halo_zero, readCov7, readCov6]
  exact out21_apply ..

set_option maxHeartbeats 4000000 in
theorem soutB : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = haloBlk x0 x1 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  refine (canon_whole (A := 8) (B := 512) _ _ _).trans ?_
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp only [readAt_whole2, readAt_whole3]
  simp only [readAt_unread]
  exact halo_eq ..

set_option maxHeartbeats 4000000 in
theorem out16B : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o16 x0 x1 x2 x9 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp only [readAt_whole2, readAt_whole3]
  simp only [readAt_unread]
  funext y
  refine View.canon_apply_of_pieces (S := S1x1024x512) (Val := Elt Ideal) (e := .bf16) (o16 x0 x1 x2 x9) _ ?_ y
    (View.cover_of_tiledL (s := S1x1024x512) _ S1x128x512.size (by sl_kernel_rfl) y)
  intro p hp
  simp only [List.mem_cons, List.not_mem_nil, or_false] at hp
  rcases hp with rfl | rfl | rfl | rfl | rfl | rfl | rfl | rfl
  · exact fun x => rows3_emb (A := 1024) (B := 512) (W := 128) 896 inb_S1x1024x512_S1x128x512_0_896_0 _ (o16 x0 x1 x2 x9)
      (fun b n r hk => (pay58_apply ..).trans (q_fin x0 x1 x2 x9 _ 7 b n r hk)) x
  · exact fun x => rows3_emb (A := 1024) (B := 512) (W := 128) 768 inb_S1x1024x512_S1x128x512_0_768_0 _ (o16 x0 x1 x2 x9)
      (fun b n r hk => (pay54_apply ..).trans (q_fin x0 x1 x2 x9 _ 6 b n r hk)) x
  · exact fun x => rows3_emb (A := 1024) (B := 512) (W := 128) 640 inb_S1x1024x512_S1x128x512_0_640_0 _ (o16 x0 x1 x2 x9)
      (fun b n r hk => (pay50_apply ..).trans (q_fin x0 x1 x2 x9 _ 5 b n r hk)) x
  · exact fun x => rows3_emb (A := 1024) (B := 512) (W := 128) 512 inb_S1x1024x512_S1x128x512_0_512_0 _ (o16 x0 x1 x2 x9)
      (fun b n r hk => (pay46_apply ..).trans (q_fin x0 x1 x2 x9 _ 4 b n r hk)) x
  · exact fun x => rows3_emb (A := 1024) (B := 512) (W := 128) 384 inb_S1x1024x512_S1x128x512_0_384_0 _ (o16 x0 x1 x2 x9)
      (fun b n r hk => (pay42_apply ..).trans (q_fin x0 x1 x2 x9 _ 3 b n r hk)) x
  · exact fun x => rows3_emb (A := 1024) (B := 512) (W := 128) 256 inb_S1x1024x512_S1x128x512_0_256_0 _ (o16 x0 x1 x2 x9)
      (fun b n r hk => (pay38_apply ..).trans (q_fin x0 x1 x2 x9 _ 2 b n r hk)) x
  · exact fun x => rows3_emb (A := 1024) (B := 512) (W := 128) 128 inb_S1x1024x512_S1x128x512_0_128_0 _ (o16 x0 x1 x2 x9)
      (fun b n r hk => (pay34_apply ..).trans (q_fin x0 x1 x2 x9 _ 1 b n r hk)) x
  · exact fun x => rows3_emb (A := 1024) (B := 512) (W := 128) 0 inb_S1x1024x512_S1x128x512_0_0_0 _ (o16 x0 x1 x2 x9)
      (fun b n r hk => (pay30_apply ..).trans (q_fin x0 x1 x2 x9 _ 0 b n r hk)) x

set_option maxHeartbeats 4000000 in
theorem out17B : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0
    = o17 x0 x1 x2 x8 (i 1).val := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xs0)]
  unfold kernelRun0_B
  dsimp only
  simp only [kernelRun0_B.sl.HS1_2, kernelRun0_B.sl.HS1_4, kernelRun0_B.sl.HS1_6, kernelRun0_B.sl.HS1_8, kernelRun0_B.sl.cst_250, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_6, kernelRun0_B.sl.r_7, kernelRun0_B.sl.r_8, kernelRun0_B.sl.r_9, kernelRun0_B.sl.v108, kernelRun0_B.sl.v110, kernelRun0_B.sl.v139, kernelRun0_B.sl.v36, kernelRun0_B.sl.v38, kernelRun0_B.sl.v471, kernelRun0_B.sl.v476, kernelRun0_B.sl.v60, kernelRun0_B.sl.v62, kernelRun0_B.sl.v84, kernelRun0_B.sl.v86]
  simp only [readAt_whole2, readAt_whole3]
  simp only [readAt_unread]
  funext y
  refine View.canon_apply_of_pieces (S := S1x512x1024) (Val := Elt Ideal) (e := .bf16) (o17 x0 x1 x2 x8 (i 1).val) _ ?_ y
    (View.cover_of_tiledL (s := S1x512x1024) _ S1x512x128.size (by sl_kernel_rfl) y)
  intro p hp
  simp only [List.mem_cons, List.not_mem_nil, or_false] at hp
  rcases hp with rfl | rfl | rfl | rfl | rfl | rfl | rfl | rfl
  · exact fun x => cols3_emb (A := 512) (B := 1024) (W := 128) 896 inb_S1x512x1024_S1x512x128_0_0_896 _ (o17 x0 x1 x2 x8 (i 1).val)
      (fun b r n hk => (key7 _ _ _ _ b r (fun n => pay60_apply (i 1).val (i 1).isLt r n) n).trans (k_fin x0 x1 x2 x8 _ (i 1).val 7 b r n hk)) x
  · exact fun x => cols3_emb (A := 512) (B := 1024) (W := 128) 768 inb_S1x512x1024_S1x512x128_0_0_768 _ (o17 x0 x1 x2 x8 (i 1).val)
      (fun b r n hk => (key6 _ _ _ _ b r (fun n => pay60_apply (i 1).val (i 1).isLt r n) n).trans (k_fin x0 x1 x2 x8 _ (i 1).val 6 b r n hk)) x
  · exact fun x => cols3_emb (A := 512) (B := 1024) (W := 128) 640 inb_S1x512x1024_S1x512x128_0_0_640 _ (o17 x0 x1 x2 x8 (i 1).val)
      (fun b r n hk => (key5 _ _ _ _ b r (fun n => pay60_apply (i 1).val (i 1).isLt r n) n).trans (k_fin x0 x1 x2 x8 _ (i 1).val 5 b r n hk)) x
  · exact fun x => cols3_emb (A := 512) (B := 1024) (W := 128) 512 inb_S1x512x1024_S1x512x128_0_0_512 _ (o17 x0 x1 x2 x8 (i 1).val)
      (fun b r n hk => (key4 _ _ _ _ b r (fun n => pay60_apply (i 1).val (i 1).isLt r n) n).trans (k_fin x0 x1 x2 x8 _ (i 1).val 4 b r n hk)) x
  · exact fun x => cols3_emb (A := 512) (B := 1024) (W := 128) 384 inb_S1x512x1024_S1x512x128_0_0_384 _ (o17 x0 x1 x2 x8 (i 1).val)
      (fun b r n hk => (key3 _ _ _ _ b r (fun n => pay60_apply (i 1).val (i 1).isLt r n) n).trans (k_fin x0 x1 x2 x8 _ (i 1).val 3 b r n hk)) x
  · exact fun x => cols3_emb (A := 512) (B := 1024) (W := 128) 256 inb_S1x512x1024_S1x512x128_0_0_256 _ (o17 x0 x1 x2 x8 (i 1).val)
      (fun b r n hk => (key2 _ _ _ _ b r (fun n => pay60_apply (i 1).val (i 1).isLt r n) n).trans (k_fin x0 x1 x2 x8 _ (i 1).val 2 b r n hk)) x
  · exact fun x => cols3_emb (A := 512) (B := 1024) (W := 128) 128 inb_S1x512x1024_S1x512x128_0_0_128 _ (o17 x0 x1 x2 x8 (i 1).val)
      (fun b r n hk => (key1 _ _ _ _ b r (fun n => pay60_apply (i 1).val (i 1).isLt r n) n).trans (k_fin x0 x1 x2 x8 _ (i 1).val 1 b r n hk)) x
  · exact fun x => cols3_emb (A := 512) (B := 1024) (W := 128) 0 inb_S1x512x1024_S1x512x128_0_0_0 _ (o17 x0 x1 x2 x8 (i 1).val)
      (fun b r n hk => (key0 _ _ _ _ b r (fun n => pay60_apply (i 1).val (i 1).isLt r n) n).trans (k_fin x0 x1 x2 x8 _ (i 1).val 0 b r n hk)) x

end Cert.Kernel2Ideal.Value
-- ==== Proof.Equation2.lean ====
/-
  The eight result arrays of the layer's first call: the token formulas at every index.
-/
module

public import proofs.«01_k».proof.Proof.Reads2
public import proofs.«01_k».proof.Proof.Body2A
public import proofs.«01_k».proof.Proof.Body2B
public import proofs.«01_k».proof.Proof.Ref2

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- The normalised row of a block is the token's. -/
theorem xn_eq (c : Dev nD) (t : Fin cfg0.N) (r : Fin 512) (k : Fin 1024) :
    xnBlk (iblk m c 0 t) (iblk m c 1 t) (ix2 r k) = InMath.xRow (m ((c.tc : Thread nD τ).loc main_arg0)) (m ((c.tc : Thread nD τ).loc main_arg1)) (seqOf t) (tokOf t r) k := by
  have e : (ix2 r k : S512x1024.Idx) 0 = r ∧ (ix2 r k : S512x1024.Idx) 1 = k := ⟨rfl, rfl⟩
  unfold xnBlk InMath.xRow
  simp only [e, iblk0, iblk1]

/-- Its projections. -/
theorem p2_eq (c : Dev nD) (t : Fin cfg0.N) (r : Fin 512) :
    P (xnBlk (iblk m c 0 t) (iblk m c 1 t)) (iblk m c 2 t) r = InMath.pRow (m ((c.tc : Thread nD τ).loc main_arg0)) (m ((c.tc : Thread nD τ).loc main_arg1)) (m ((c.tc : Thread nD τ).loc main_arg2)) (seqOf t) (tokOf t r) := by
  unfold P InMath.pRow
  simp only [xn_eq, iblk2]

theorem p3_eq (c : Dev nD) (t : Fin cfg0.N) (r : Fin 512) :
    P (xnBlk (iblk m c 0 t) (iblk m c 1 t)) (iblk m c 3 t) r = InMath.lin (InMath.xRow (m ((c.tc : Thread nD τ).loc main_arg0)) (m ((c.tc : Thread nD τ).loc main_arg1)) (seqOf t) (tokOf t r)) (fun k n => (m ((c.tc : Thread nD τ).loc main_arg3)) (ix2 k n)) := by
  unfold P
  simp only [xn_eq, iblk3]

theorem p4_eq (c : Dev nD) (t : Fin cfg0.N) (r : Fin 512) :
    P (xnBlk (iblk m c 0 t) (iblk m c 1 t)) (iblk m c 4 t) r = InMath.lin (InMath.xRow (m ((c.tc : Thread nD τ).loc main_arg0)) (m ((c.tc : Thread nD τ).loc main_arg1)) (seqOf t) (tokOf t r)) (fun k n => (m ((c.tc : Thread nD τ).loc main_arg4)) (ix2 k n)) := by
  unfold P
  simp only [xn_eq, iblk4]

theorem p5_eq (c : Dev nD) (t : Fin cfg0.N) (r : Fin 512) :
    P (xnBlk (iblk m c 0 t) (iblk m c 1 t)) (iblk m c 5 t) r = InMath.lin (InMath.xRow (m ((c.tc : Thread nD τ).loc main_arg0)) (m ((c.tc : Thread nD τ).loc main_arg1)) (seqOf t) (tokOf t r)) (fun k n => (m ((c.tc : Thread nD τ).loc main_arg5)) (ix2 k n)) := by
  unfold P
  simp only [xn_eq, iblk5]

/-- What the convolution runs over is the tokens'. -/
theorem u_row (c : Dev nD) (t : Fin cfg0.N) (r n : Fin 512) :
    uBlk (iblk m c 0 t) (iblk m c 1 t) (iblk m c 2 t) (ix2 r n) = InMath.ch (InMath.pRow (m ((c.tc : Thread nD τ).loc main_arg0)) (m ((c.tc : Thread nD τ).loc main_arg1)) (m ((c.tc : Thread nD τ).loc main_arg2)) (seqOf t) (tokOf t r)) n := by
  have e : (ix2 r n : S512x512.Idx) 0 = r ∧ (ix2 r n : S512x512.Idx) 1 = n := ⟨rfl, rfl⟩
  unfold uBlk
  simp only [e, p2_eq]

theorem halo_row (c : Dev nD) (t : Fin cfg0.N) (r : Fin 8) (n : Fin 512) :
    haloBlk (iblk m c 0 t) (iblk m c 1 t) (iblk m c 2 t) (ix2 r n) = InMath.ch (InMath.pRow (m ((c.tc : Thread nD τ).loc main_arg0)) (m ((c.tc : Thread nD τ).loc main_arg1)) (m ((c.tc : Thread nD τ).loc main_arg2)) (seqOf t) (tokOf t ⟨504 + r.val, by omega⟩)) n := by
  have e : (ix2 r n : S8x512.Idx) 0 = r ∧ (ix2 r n : S8x512.Idx) 1 = n := ⟨rfl, rfl⟩
  unfold haloBlk
  simp only [e, p2_eq]

/-- What a grid point leaves for the next one: the last eight rows. -/
theorem carried (c : Dev nD) (t : Fin cfg0.N) :
    (outsAt0 m c t.val t.isLt).2.2.2.2.2.2.2.2 = haloBlk (iblk m c 0 t) (iblk m c 1 t) (iblk m c 2 t) := by
  by_cases h0 : t.val % 4 = 0
  · rw [outsAt0_A m c t h0]
    dsimp only
    rw [soutA]
  · rw [outsAt0_B m c t h0]
    dsimp only
    rw [soutB]

/-- The rows a block looks back at are the tokens before. -/
theorem back_zero (c : Dev nD) (t : Fin cfg0.N) (h0 : t.val % 4 = 0) (d : Nat) (hd : d ≤ 8) (r : Fin 512) :
    backRow (fun _ => (0 : EReal)) (uBlk (iblk m c 0 t) (iblk m c 1 t) (iblk m c 2 t)) d hd r = InMath.back (fun s => InMath.ch (InMath.pRow (m ((c.tc : Thread nD τ).loc main_arg0)) (m ((c.tc : Thread nD τ).loc main_arg1)) (m ((c.tc : Thread nD τ).loc main_arg2)) (seqOf t) s)) d (tokOf t r) := by
  funext n
  unfold backRow InMath.back
  have hT : (tokOf t r).val = r.val := by show 512 * (t.val % 4) + r.val = _; omega
  by_cases h : r.val < d
  · rw [dif_pos h, dif_neg (by omega)]
  · rw [dif_neg h, dif_pos (by omega), u_row]
    refine congrArg (fun x => InMath.ch (InMath.pRow (m ((c.tc : Thread nD τ).loc main_arg0)) (m ((c.tc : Thread nD τ).loc main_arg1)) (m ((c.tc : Thread nD τ).loc main_arg2)) (seqOf t) x) n) (Fin.ext ?_)
    show 512 * (t.val % 4) + (r.val - d) = (tokOf t r).val - d
    omega

theorem back_carried (c : Dev nD) (t s : Fin cfg0.N) (h0 : ¬t.val % 4 = 0) (hs : s.val = t.val - 1) (d : Nat) (hd : d ≤ 8)
    (r : Fin 512) :
    backRow (haloBlk (iblk m c 0 s) (iblk m c 1 s) (iblk m c 2 s)) (uBlk (iblk m c 0 t) (iblk m c 1 t) (iblk m c 2 t)) d hd r = InMath.back (fun s => InMath.ch (InMath.pRow (m ((c.tc : Thread nD τ).loc main_arg0)) (m ((c.tc : Thread nD τ).loc main_arg1)) (m ((c.tc : Thread nD τ).loc main_arg2)) (seqOf t) s)) d (tokOf t r) := by
  funext n
  unfold backRow InMath.back
  have hT : (tokOf t r).val = 512 * (t.val % 4) + r.val := rfl
  by_cases h : r.val < d
  · rw [dif_pos h, dif_pos (by omega)]
    have es : seqOf s = seqOf t := Fin.ext (by show s.val / 4 = t.val / 4; omega)
    refine (halo_row m c s ⟨8 - d + r.val, by omega⟩ n).trans ?_
    rw [es]
    refine congrArg (fun x => InMath.ch (InMath.pRow (m ((c.tc : Thread nD τ).loc main_arg0)) (m ((c.tc : Thread nD τ).loc main_arg1)) (m ((c.tc : Thread nD τ).loc main_arg2)) (seqOf t) x) n) (Fin.ext ?_)
    show 512 * (s.val % 4) + (504 + (8 - d + r.val)) = (tokOf t r).val - d
    omega
  · rw [dif_neg h, dif_pos (by omega), u_row]
    refine congrArg (fun x => InMath.ch (InMath.pRow (m ((c.tc : Thread nD τ).loc main_arg0)) (m ((c.tc : Thread nD τ).loc main_arg1)) (m ((c.tc : Thread nD τ).loc main_arg2)) (seqOf t) x) n) (Fin.ext ?_)
    show 512 * (t.val % 4) + (r.val - d) = (tokOf t r).val - d
    omega

/-! What a grid point writes. -/

theorem w14 (c : Dev nD) (t : Fin cfg0.N) (p : FVec Ideal S8x512 .f32)
    (h : ∀ (d : Nat) (hd : d ≤ 8) (r : Fin 512), backRow p (uBlk (iblk m c 0 t) (iblk m c 1 t) (iblk m c 2 t)) d hd r = InMath.back (fun s => InMath.ch (InMath.pRow (m ((c.tc : Thread nD τ).loc main_arg0)) (m ((c.tc : Thread nD τ).loc main_arg1)) (m ((c.tc : Thread nD τ).loc main_arg2)) (seqOf t) s)) d (tokOf t r)) (i : S1x512x1024.Idx) :
    o14 p (iblk m c 0 t) (iblk m c 1 t) (iblk m c 2 t) (iblk m c 4 t) (iblk m c 5 t) (iblk m c 6 t) (iblk m c 7 t) (iblk m c 10 t) (iblk m c 11 t) (iblk m c 12 t) (iblk m c 13 t) i = InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (seqOf t) (tokOf t (i 1)) (i 2) := by
  have key : ∀ (r : Fin 512) (d : Fin 1024), InMath.part (P (xnBlk (iblk m c 0 t) (iblk m c 1 t)) (iblk m c 5 t) r)
      (InMath.ya (P (xnBlk (iblk m c 0 t) (iblk m c 1 t)) (iblk m c 2 t) r) (cvBlk p (uBlk (iblk m c 0 t) (iblk m c 1 t) (iblk m c 2 t)) (iblk m c 6 t) r) (fun n d => ((iblk m c 7 t) : FVec Ideal S512x1024 .bf16) (ix2 n d)))
      (InMath.lin (InMath.mem (P (xnBlk (iblk m c 0 t) (iblk m c 1 t)) (iblk m c 4 t) r) (fun c' => ((iblk m c 12 t) : FVec Ideal S1x128 .f32) (ix2 0 c')) (fun n m' => ((iblk m c 10 t) : FVec Ideal S1x512x256 .bf16) (ix3 0 n m')) (fun m' n => ((iblk m c 11 t) : FVec Ideal S1x256x512 .bf16) (ix3 0 m' n)))
        (fun n d => ((iblk m c 13 t) : FVec Ideal S512x1024 .bf16) (ix2 n d))) d = InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (seqOf t) (tokOf t r) d := by
    intro r d
    unfold InMath.partTok InMath.memRow InMath.cvRow cvBlk
    simp only [p2_eq, p4_eq, p5_eq, h, u_row, iblk6, iblk7, iblk10, iblk11, iblk12, iblk13]
  exact key (i 1) (i 2)

theorem w15 (c : Dev nD) (t : Fin cfg0.N) (i : S1x512x1024.Idx) :
    o15 (iblk m c 0 t) (iblk m c 1 t) (iblk m c 5 t) i = InMath.g1Tok (m ((c.tc : Thread nD τ).loc main_arg0)) (m ((c.tc : Thread nD τ).loc main_arg1)) (m ((c.tc : Thread nD τ).loc main_arg5)) (seqOf t) (tokOf t (i 1)) (i 2) := by
  unfold o15 InMath.g1Tok
  exact congrArg (fun f : Fin 3072 → EReal => InMath.sig (f _)) (p5_eq m c t (i 1))

theorem w16 (c : Dev nD) (t : Fin cfg0.N) (i : S1x1024x512.Idx) :
    o16 (iblk m c 0 t) (iblk m c 1 t) (iblk m c 2 t) (iblk m c 9 t) i = InMath.qTok (m ((c.tc : Thread nD τ).loc main_arg0)) (m ((c.tc : Thread nD τ).loc main_arg1)) (m ((c.tc : Thread nD τ).loc main_arg2)) (m ((c.tc : Thread nD τ).loc main_arg8)) (seqOf t) (i 1) (tokOf t (i 2)) := by
  have key : ∀ (n : Fin 1024) (r : Fin 512), InMath.aug (InMath.qk (InMath.head 1536 (by decide) (P (xnBlk (iblk m c 0 t) (iblk m c 1 t)) (iblk m c 2 t) r)
      ⟨n.val / 128, by omega⟩) (fun c' => ((iblk m c 9 t) : FVec Ideal S64x512 .f32) (ix2 c' r)))
    (InMath.slope (InMath.slopeWord ⟨n.val / 128, by omega⟩)) ⟨n.val % 128, by omega⟩ = InMath.qTok (m ((c.tc : Thread nD τ).loc main_arg0)) (m ((c.tc : Thread nD τ).loc main_arg1)) (m ((c.tc : Thread nD τ).loc main_arg2)) (m ((c.tc : Thread nD τ).loc main_arg8)) (seqOf t) n (tokOf t r) := by
    intro n r
    unfold InMath.qTok InMath.qaug
    refine congrArg (fun v => InMath.aug v _ _) (funext fun c' => ?_)
    unfold InMath.qk
    simp only [p2_eq, iblk9]
    exact (mul_assoc _ _ _).symm
  exact key (i 1) (i 2)

theorem w17 (c : Dev nD) (t : Fin cfg0.N) (j : Nat) (hj : j = t.val % 4) (i : S1x512x1024.Idx) :
    o17 (iblk m c 0 t) (iblk m c 1 t) (iblk m c 2 t) (iblk m c 8 t) j i = InMath.kTok (m ((c.tc : Thread nD τ).loc main_arg0)) (m ((c.tc : Thread nD τ).loc main_arg1)) (m ((c.tc : Thread nD τ).loc main_arg2)) (m ((c.tc : Thread nD τ).loc main_arg9)) (seqOf t) (tokOf t (i 1)) (i 2) := by
  have key : ∀ (r : Fin 512) (n : Fin 1024), InMath.kaug (P (xnBlk (iblk m c 0 t) (iblk m c 1 t)) (iblk m c 2 t) r) (fun c' => ((iblk m c 8 t) : FVec Ideal S1x128 .f32) (ix2 0 ⟨c'.val, by omega⟩)) (j * 512 + r.val)
    ⟨n.val / 128, by omega⟩ ⟨n.val % 128, by omega⟩ = InMath.kTok (m ((c.tc : Thread nD τ).loc main_arg0)) (m ((c.tc : Thread nD τ).loc main_arg1)) (m ((c.tc : Thread nD τ).loc main_arg2)) (m ((c.tc : Thread nD τ).loc main_arg9)) (seqOf t) (tokOf t r) n := by
    intro r n
    unfold InMath.kTok
    have e : j * 512 + r.val = (tokOf t r).val := by show _ = 512 * (t.val % 4) + r.val; omega
    rw [e]
    simp only [p2_eq, iblk8]
  exact key (i 1) (i 2)

theorem w18 (c : Dev nD) (t : Fin cfg0.N) (i : S1x512x512.Idx) :
    o18 (iblk m c 0 t) (iblk m c 1 t) (iblk m c 2 t) i = InMath.vTok (m ((c.tc : Thread nD τ).loc main_arg0)) (m ((c.tc : Thread nD τ).loc main_arg1)) (m ((c.tc : Thread nD τ).loc main_arg2)) (seqOf t) (i 1) (tokOf t (i 2)) :=
  congrFun (p2_eq m c t (i 2)) _

theorem w19 (c : Dev nD) (t : Fin cfg0.N) (i : S1x256x512.Idx) :
    o19 (iblk m c 0 t) (iblk m c 1 t) (iblk m c 2 t) i = InMath.qiTok (m ((c.tc : Thread nD τ).loc main_arg0)) (m ((c.tc : Thread nD τ).loc main_arg1)) (m ((c.tc : Thread nD τ).loc main_arg2)) (seqOf t) (i 1) (tokOf t (i 2)) :=
  congrFun (p2_eq m c t (i 2)) _

theorem w20 (c : Dev nD) (t : Fin cfg0.N) (i : S1x512x128.Idx) :
    o20 (iblk m c 0 t) (iblk m c 1 t) (iblk m c 3 t) i = InMath.kwTok (m ((c.tc : Thread nD τ).loc main_arg0)) (m ((c.tc : Thread nD τ).loc main_arg1)) (m ((c.tc : Thread nD τ).loc main_arg3)) (seqOf t) (tokOf t (i 1)) (i 2) :=
  congrFun (p3_eq m c t (i 1)) _

theorem w21 (c : Dev nD) (t : Fin cfg0.N) (i : S1x8x512.Idx) :
    o21 (iblk m c 0 t) (iblk m c 1 t) (iblk m c 3 t) i = InMath.wiTok (m ((c.tc : Thread nD τ).loc main_arg0)) (m ((c.tc : Thread nD τ).loc main_arg1)) (m ((c.tc : Thread nD τ).loc main_arg3)) (seqOf t) (i 1) (tokOf t (i 2)) :=
  congrFun (p3_eq m c t (i 2)) _

theorem written14 (c : Dev nD) (t : Fin cfg0.N) (i : S1x512x1024.Idx) :
    (outsAt0 m c t.val t.isLt).1 i = InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (seqOf t) (tokOf t (i 1)) (i 2) := by
  by_cases h0 : t.val % 4 = 0
  · rw [outsAt0_A m c t h0]
    dsimp only
    rw [out14A]
    exact w14 m c t _ (back_zero m c t h0) i
  · rw [outsAt0_B m c t h0]
    dsimp only
    rw [out14B]
    have hs : t.val - 1 < cfg0.N := by have := t.isLt; omega
    have e := carried m c ⟨t.val - 1, hs⟩
    dsimp only at e
    rw [e]
    exact w14 m c t _ (back_carried m c t ⟨t.val - 1, hs⟩ h0 rfl) i

theorem G14_apply (c : Dev nD) (b : Fin 8) (T : Fin 2048) (d : Fin 1024) :
    (G14 m c : FVec Ideal S8x2048x1024 .bf16) (ix3 b T d) = InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) b T d := by
  have hp : pt14Of (ix3 b T d) = 4 * b.val + T.val / 512 := by
    show 4 * (b.val / 1 - 0) + 1 * (T.val / 512 - 0) + 1 * (d.val / 1024 - 0) = _
    omega
  have hN : cfg0.N = 32 := N_0
  have hlt : pt14Of (ix3 b T d) < cfg0.N := by rw [hp, hN]; omega
  show (if h : pt14Of (ix3 b T d) < cfg0.N then _ else _) = _
  rw [dif_pos hlt, ← outsAt0_sweep m c _ hlt]
  refine (written14 m c ⟨_, hlt⟩ _).trans ?_
  have e1 : seqOf ⟨_, hlt⟩ = b := Fin.ext (by show pt14Of (ix3 b T d) / 4 = b.val; rw [hp]; omega)
  have e2 : tokOf ⟨_, hlt⟩ (loc14Of (ix3 b T d) 1) = T :=
    Fin.ext (by show 512 * (pt14Of (ix3 b T d) % 4) + T.val % 512 = T.val; rw [hp]; omega)
  have e3 : (loc14Of (ix3 b T d) 2 : Fin 1024) = d := Fin.ext (by show d.val % 1024 = d.val; omega)
  rw [e1, e2, e3]

theorem written15 (c : Dev nD) (t : Fin cfg0.N) (i : S1x512x1024.Idx) :
    (outsAt0 m c t.val t.isLt).2.1 i = InMath.g1Tok (m ((c.tc : Thread nD τ).loc main_arg0)) (m ((c.tc : Thread nD τ).loc main_arg1)) (m ((c.tc : Thread nD τ).loc main_arg5)) (seqOf t) (tokOf t (i 1)) (i 2) := by
  by_cases h0 : t.val % 4 = 0
  · rw [outsAt0_A m c t h0]
    dsimp only
    rw [out15A]
    exact w15 m c t i
  · rw [outsAt0_B m c t h0]
    dsimp only
    rw [out15B]
    exact w15 m c t i

theorem G15_apply (c : Dev nD) (b : Fin 8) (T : Fin 2048) (d : Fin 1024) :
    (G15 m c : FVec Ideal S8x2048x1024 .bf16) (ix3 b T d) = InMath.g1Tok (m ((c.tc : Thread nD τ).loc main_arg0)) (m ((c.tc : Thread nD τ).loc main_arg1)) (m ((c.tc : Thread nD τ).loc main_arg5)) b T d := by
  have hp : pt15Of (ix3 b T d) = 4 * b.val + T.val / 512 := by
    show 4 * (b.val / 1 - 0) + 1 * (T.val / 512 - 0) + 1 * (d.val / 1024 - 0) = _
    omega
  have hN : cfg0.N = 32 := N_0
  have hlt : pt15Of (ix3 b T d) < cfg0.N := by rw [hp, hN]; omega
  show (if h : pt15Of (ix3 b T d) < cfg0.N then _ else _) = _
  rw [dif_pos hlt, ← outsAt0_sweep m c _ hlt]
  refine (written15 m c ⟨_, hlt⟩ _).trans ?_
  have e1 : seqOf ⟨_, hlt⟩ = b := Fin.ext (by show pt15Of (ix3 b T d) / 4 = b.val; rw [hp]; omega)
  have e2 : tokOf ⟨_, hlt⟩ (loc15Of (ix3 b T d) 1) = T :=
    Fin.ext (by show 512 * (pt15Of (ix3 b T d) % 4) + T.val % 512 = T.val; rw [hp]; omega)
  have e3 : (loc15Of (ix3 b T d) 2 : Fin 1024) = d := Fin.ext (by show d.val % 1024 = d.val; omega)
  rw [e1, e2, e3]

theorem written16 (c : Dev nD) (t : Fin cfg0.N) (i : S1x1024x512.Idx) :
    (outsAt0 m c t.val t.isLt).2.2.1 i = InMath.qTok (m ((c.tc : Thread nD τ).loc main_arg0)) (m ((c.tc : Thread nD τ).loc main_arg1)) (m ((c.tc : Thread nD τ).loc main_arg2)) (m ((c.tc : Thread nD τ).loc main_arg8)) (seqOf t) (i 1) (tokOf t (i 2)) := by
  by_cases h0 : t.val % 4 = 0
  · rw [outsAt0_A m c t h0]
    dsimp only
    rw [out16A]
    exact w16 m c t i
  · rw [outsAt0_B m c t h0]
    dsimp only
    rw [out16B]
    exact w16 m c t i

theorem G16_apply (c : Dev nD) (b : Fin 8) (d : Fin 1024) (T : Fin 2048) :
    (G16 m c : FVec Ideal S8x1024x2048 .bf16) (ix3 b d T) = InMath.qTok (m ((c.tc : Thread nD τ).loc main_arg0)) (m ((c.tc : Thread nD τ).loc main_arg1)) (m ((c.tc : Thread nD τ).loc main_arg2)) (m ((c.tc : Thread nD τ).loc main_arg8)) b d T := by
  have hp : pt16Of (ix3 b d T) = 4 * b.val + T.val / 512 := by
    show 4 * (b.val / 1 - 0) + 4 * (d.val / 1024 - 0) + 1 * (T.val / 512 - 0) = _
    omega
  have hN : cfg0.N = 32 := N_0
  have hlt : pt16Of (ix3 b d T) < cfg0.N := by rw [hp, hN]; omega
  show (if h : pt16Of (ix3 b d T) < cfg0.N then _ else _) = _
  rw [dif_pos hlt, ← outsAt0_sweep m c _ hlt]
  refine (written16 m c ⟨_, hlt⟩ _).trans ?_
  have e1 : seqOf ⟨_, hlt⟩ = b := Fin.ext (by show pt16Of (ix3 b d T) / 4 = b.val; rw [hp]; omega)
  have e2 : tokOf ⟨_, hlt⟩ (loc16Of (ix3 b d T) 2) = T :=
    Fin.ext (by show 512 * (pt16Of (ix3 b d T) % 4) + T.val % 512 = T.val; rw [hp]; omega)
  have e3 : (loc16Of (ix3 b d T) 1 : Fin 1024) = d := Fin.ext (by show d.val % 1024 = d.val; omega)
  rw [e1, e2, e3]

theorem written17 (c : Dev nD) (t : Fin cfg0.N) (i : S1x512x1024.Idx) :
    (outsAt0 m c t.val t.isLt).2.2.2.1 i = InMath.kTok (m ((c.tc : Thread nD τ).loc main_arg0)) (m ((c.tc : Thread nD τ).loc main_arg1)) (m ((c.tc : Thread nD τ).loc main_arg2)) (m ((c.tc : Thread nD τ).loc main_arg9)) (seqOf t) (tokOf t (i 1)) (i 2) := by
  by_cases h0 : t.val % 4 = 0
  · rw [outsAt0_A m c t h0]
    dsimp only
    rw [out17A]
    exact w17 m c t _ (coord1 t) i
  · rw [outsAt0_B m c t h0]
    dsimp only
    rw [out17B]
    exact w17 m c t _ (coord1 t) i

theorem G17_apply (c : Dev nD) (b : Fin 8) (T : Fin 2048) (d : Fin 1024) :
    (G17 m c : FVec Ideal S8x2048x1024 .bf16) (ix3 b T d) = InMath.kTok (m ((c.tc : Thread nD τ).loc main_arg0)) (m ((c.tc : Thread nD τ).loc main_arg1)) (m ((c.tc : Thread nD τ).loc main_arg2)) (m ((c.tc : Thread nD τ).loc main_arg9)) b T d := by
  have hp : pt17Of (ix3 b T d) = 4 * b.val + T.val / 512 := by
    show 4 * (b.val / 1 - 0) + 1 * (T.val / 512 - 0) + 1 * (d.val / 1024 - 0) = _
    omega
  have hN : cfg0.N = 32 := N_0
  have hlt : pt17Of (ix3 b T d) < cfg0.N := by rw [hp, hN]; omega
  show (if h : pt17Of (ix3 b T d) < cfg0.N then _ else _) = _
  rw [dif_pos hlt, ← outsAt0_sweep m c _ hlt]
  refine (written17 m c ⟨_, hlt⟩ _).trans ?_
  have e1 : seqOf ⟨_, hlt⟩ = b := Fin.ext (by show pt17Of (ix3 b T d) / 4 = b.val; rw [hp]; omega)
  have e2 : tokOf ⟨_, hlt⟩ (loc17Of (ix3 b T d) 1) = T :=
    Fin.ext (by show 512 * (pt17Of (ix3 b T d) % 4) + T.val % 512 = T.val; rw [hp]; omega)
  have e3 : (loc17Of (ix3 b T d) 2 : Fin 1024) = d := Fin.ext (by show d.val % 1024 = d.val; omega)
  rw [e1, e2, e3]

theorem written18 (c : Dev nD) (t : Fin cfg0.N) (i : S1x512x512.Idx) :
    (outsAt0 m c t.val t.isLt).2.2.2.2.1 i = InMath.vTok (m ((c.tc : Thread nD τ).loc main_arg0)) (m ((c.tc : Thread nD τ).loc main_arg1)) (m ((c.tc : Thread nD τ).loc main_arg2)) (seqOf t) (i 1) (tokOf t (i 2)) := by
  by_cases h0 : t.val % 4 = 0
  · rw [outsAt0_A m c t h0]
    dsimp only
    rw [out18A]
    exact w18 m c t i
  · rw [outsAt0_B m c t h0]
    dsimp only
    rw [out18B]
    exact w18 m c t i

theorem G18_apply (c : Dev nD) (b : Fin 8) (d : Fin 512) (T : Fin 2048) :
    (G18 m c : FVec Ideal S8x512x2048 .bf16) (ix3 b d T) = InMath.vTok (m ((c.tc : Thread nD τ).loc main_arg0)) (m ((c.tc : Thread nD τ).loc main_arg1)) (m ((c.tc : Thread nD τ).loc main_arg2)) b d T := by
  have hp : pt18Of (ix3 b d T) = 4 * b.val + T.val / 512 := by
    show 4 * (b.val / 1 - 0) + 4 * (d.val / 512 - 0) + 1 * (T.val / 512 - 0) = _
    omega
  have hN : cfg0.N = 32 := N_0
  have hlt : pt18Of (ix3 b d T) < cfg0.N := by rw [hp, hN]; omega
  show (if h : pt18Of (ix3 b d T) < cfg0.N then _ else _) = _
  rw [dif_pos hlt, ← outsAt0_sweep m c _ hlt]
  refine (written18 m c ⟨_, hlt⟩ _).trans ?_
  have e1 : seqOf ⟨_, hlt⟩ = b := Fin.ext (by show pt18Of (ix3 b d T) / 4 = b.val; rw [hp]; omega)
  have e2 : tokOf ⟨_, hlt⟩ (loc18Of (ix3 b d T) 2) = T :=
    Fin.ext (by show 512 * (pt18Of (ix3 b d T) % 4) + T.val % 512 = T.val; rw [hp]; omega)
  have e3 : (loc18Of (ix3 b d T) 1 : Fin 512) = d := Fin.ext (by show d.val % 512 = d.val; omega)
  rw [e1, e2, e3]

theorem written19 (c : Dev nD) (t : Fin cfg0.N) (i : S1x256x512.Idx) :
    (outsAt0 m c t.val t.isLt).2.2.2.2.2.1 i = InMath.qiTok (m ((c.tc : Thread nD τ).loc main_arg0)) (m ((c.tc : Thread nD τ).loc main_arg1)) (m ((c.tc : Thread nD τ).loc main_arg2)) (seqOf t) (i 1) (tokOf t (i 2)) := by
  by_cases h0 : t.val % 4 = 0
  · rw [outsAt0_A m c t h0]
    dsimp only
    rw [out19A]
    exact w19 m c t i
  · rw [outsAt0_B m c t h0]
    dsimp only
    rw [out19B]
    exact w19 m c t i

theorem G19_apply (c : Dev nD) (b : Fin 8) (d : Fin 256) (T : Fin 2048) :
    (G19 m c : FVec Ideal S8x256x2048 .bf16) (ix3 b d T) = InMath.qiTok (m ((c.tc : Thread nD τ).loc main_arg0)) (m ((c.tc : Thread nD τ).loc main_arg1)) (m ((c.tc : Thread nD τ).loc main_arg2)) b d T := by
  have hp : pt19Of (ix3 b d T) = 4 * b.val + T.val / 512 := by
    show 4 * (b.val / 1 - 0) + 4 * (d.val / 256 - 0) + 1 * (T.val / 512 - 0) = _
    omega
  have hN : cfg0.N = 32 := N_0
  have hlt : pt19Of (ix3 b d T) < cfg0.N := by rw [hp, hN]; omega
  show (if h : pt19Of (ix3 b d T) < cfg0.N then _ else _) = _
  rw [dif_pos hlt, ← outsAt0_sweep m c _ hlt]
  refine (written19 m c ⟨_, hlt⟩ _).trans ?_
  have e1 : seqOf ⟨_, hlt⟩ = b := Fin.ext (by show pt19Of (ix3 b d T) / 4 = b.val; rw [hp]; omega)
  have e2 : tokOf ⟨_, hlt⟩ (loc19Of (ix3 b d T) 2) = T :=
    Fin.ext (by show 512 * (pt19Of (ix3 b d T) % 4) + T.val % 512 = T.val; rw [hp]; omega)
  have e3 : (loc19Of (ix3 b d T) 1 : Fin 256) = d := Fin.ext (by show d.val % 256 = d.val; omega)
  rw [e1, e2, e3]

theorem written20 (c : Dev nD) (t : Fin cfg0.N) (i : S1x512x128.Idx) :
    (outsAt0 m c t.val t.isLt).2.2.2.2.2.2.1 i = InMath.kwTok (m ((c.tc : Thread nD τ).loc main_arg0)) (m ((c.tc : Thread nD τ).loc main_arg1)) (m ((c.tc : Thread nD τ).loc main_arg3)) (seqOf t) (tokOf t (i 1)) (i 2) := by
  by_cases h0 : t.val % 4 = 0
  · rw [outsAt0_A m c t h0]
    dsimp only
    rw [out20A]
    exact w20 m c t i
  · rw [outsAt0_B m c t h0]
    dsimp only
    rw [out20B]
    exact w20 m c t i

theorem G20_apply (c : Dev nD) (b : Fin 8) (T : Fin 2048) (d : Fin 128) :
    (G20 m c : FVec Ideal S8x2048x128 .bf16) (ix3 b T d) = InMath.kwTok (m ((c.tc : Thread nD τ).loc main_arg0)) (m ((c.tc : Thread nD τ).loc main_arg1)) (m ((c.tc : Thread nD τ).loc main_arg3)) b T d := by
  have hp : pt20Of (ix3 b T d) = 4 * b.val + T.val / 512 := by
    show 4 * (b.val / 1 - 0) + 1 * (T.val / 512 - 0) + 1 * (d.val / 128 - 0) = _
    omega
  have hN : cfg0.N = 32 := N_0
  have hlt : pt20Of (ix3 b T d) < cfg0.N := by rw [hp, hN]; omega
  show (if h : pt20Of (ix3 b T d) < cfg0.N then _ else _) = _
  rw [dif_pos hlt, ← outsAt0_sweep m c _ hlt]
  refine (written20 m c ⟨_, hlt⟩ _).trans ?_
  have e1 : seqOf ⟨_, hlt⟩ = b := Fin.ext (by show pt20Of (ix3 b T d) / 4 = b.val; rw [hp]; omega)
  have e2 : tokOf ⟨_, hlt⟩ (loc20Of (ix3 b T d) 1) = T :=
    Fin.ext (by show 512 * (pt20Of (ix3 b T d) % 4) + T.val % 512 = T.val; rw [hp]; omega)
  have e3 : (loc20Of (ix3 b T d) 2 : Fin 128) = d := Fin.ext (by show d.val % 128 = d.val; omega)
  rw [e1, e2, e3]

theorem written21 (c : Dev nD) (t : Fin cfg0.N) (i : S1x8x512.Idx) :
    (outsAt0 m c t.val t.isLt).2.2.2.2.2.2.2.1 i = InMath.wiTok (m ((c.tc : Thread nD τ).loc main_arg0)) (m ((c.tc : Thread nD τ).loc main_arg1)) (m ((c.tc : Thread nD τ).loc main_arg3)) (seqOf t) (i 1) (tokOf t (i 2)) := by
  by_cases h0 : t.val % 4 = 0
  · rw [outsAt0_A m c t h0]
    dsimp only
    rw [out21A]
    exact w21 m c t i
  · rw [outsAt0_B m c t h0]
    dsimp only
    rw [out21B]
    exact w21 m c t i

theorem G21_apply (c : Dev nD) (b : Fin 8) (d : Fin 8) (T : Fin 2048) :
    (G21 m c : FVec Ideal S8x8x2048 .f32) (ix3 b d T) = InMath.wiTok (m ((c.tc : Thread nD τ).loc main_arg0)) (m ((c.tc : Thread nD τ).loc main_arg1)) (m ((c.tc : Thread nD τ).loc main_arg3)) b d T := by
  have hp : pt21Of (ix3 b d T) = 4 * b.val + T.val / 512 := by
    show 4 * (b.val / 1 - 0) + 4 * (d.val / 8 - 0) + 1 * (T.val / 512 - 0) = _
    omega
  have hN : cfg0.N = 32 := N_0
  have hlt : pt21Of (ix3 b d T) < cfg0.N := by rw [hp, hN]; omega
  show (if h : pt21Of (ix3 b d T) < cfg0.N then _ else _) = _
  rw [dif_pos hlt, ← outsAt0_sweep m c _ hlt]
  refine (written21 m c ⟨_, hlt⟩ _).trans ?_
  have e1 : seqOf ⟨_, hlt⟩ = b := Fin.ext (by show pt21Of (ix3 b d T) / 4 = b.val; rw [hp]; omega)
  have e2 : tokOf ⟨_, hlt⟩ (loc21Of (ix3 b d T) 2) = T :=
    Fin.ext (by show 512 * (pt21Of (ix3 b d T) % 4) + T.val % 512 = T.val; rw [hp]; omega)
  have e3 : (loc21Of (ix3 b d T) 1 : Fin 8) = d := Fin.ext (by show d.val % 8 = d.val; omega)
  rw [e1, e2, e3]

/-! The result arrays, whole. -/

theorem G14_eq (c : Dev nD) :
    (G14 m c : FVec Ideal S8x2048x1024 .bf16) = fun i => InMath.partTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (i 0) (i 1) (i 2) := by
  funext i
  have e : i = ix3 (i 0) (i 1) (i 2) := by funext a; match a with | ⟨0, _⟩ => rfl | ⟨1, _⟩ => rfl | ⟨2, _⟩ => rfl
  exact (congrArg (G14 m c : FVec Ideal S8x2048x1024 .bf16) e).trans (G14_apply m c (i 0) (i 1) (i 2))

theorem G15_eq (c : Dev nD) :
    (G15 m c : FVec Ideal S8x2048x1024 .bf16) = fun i => InMath.g1Tok (m ((c.tc : Thread nD τ).loc main_arg0)) (m ((c.tc : Thread nD τ).loc main_arg1)) (m ((c.tc : Thread nD τ).loc main_arg5)) (i 0) (i 1) (i 2) := by
  funext i
  have e : i = ix3 (i 0) (i 1) (i 2) := by funext a; match a with | ⟨0, _⟩ => rfl | ⟨1, _⟩ => rfl | ⟨2, _⟩ => rfl
  exact (congrArg (G15 m c : FVec Ideal S8x2048x1024 .bf16) e).trans (G15_apply m c (i 0) (i 1) (i 2))

theorem G16_eq (c : Dev nD) :
    (G16 m c : FVec Ideal S8x1024x2048 .bf16) = fun i => InMath.qTok (m ((c.tc : Thread nD τ).loc main_arg0)) (m ((c.tc : Thread nD τ).loc main_arg1)) (m ((c.tc : Thread nD τ).loc main_arg2)) (m ((c.tc : Thread nD τ).loc main_arg8)) (i 0) (i 1) (i 2) := by
  funext i
  have e : i = ix3 (i 0) (i 1) (i 2) := by funext a; match a with | ⟨0, _⟩ => rfl | ⟨1, _⟩ => rfl | ⟨2, _⟩ => rfl
  exact (congrArg (G16 m c : FVec Ideal S8x1024x2048 .bf16) e).trans (G16_apply m c (i 0) (i 1) (i 2))

theorem G17_eq (c : Dev nD) :
    (G17 m c : FVec Ideal S8x2048x1024 .bf16) = fun i => InMath.kTok (m ((c.tc : Thread nD τ).loc main_arg0)) (m ((c.tc : Thread nD τ).loc main_arg1)) (m ((c.tc : Thread nD τ).loc main_arg2)) (m ((c.tc : Thread nD τ).loc main_arg9)) (i 0) (i 1) (i 2) := by
  funext i
  have e : i = ix3 (i 0) (i 1) (i 2) := by funext a; match a with | ⟨0, _⟩ => rfl | ⟨1, _⟩ => rfl | ⟨2, _⟩ => rfl
  exact (congrArg (G17 m c : FVec Ideal S8x2048x1024 .bf16) e).trans (G17_apply m c (i 0) (i 1) (i 2))

theorem G18_eq (c : Dev nD) :
    (G18 m c : FVec Ideal S8x512x2048 .bf16) = fun i => InMath.vTok (m ((c.tc : Thread nD τ).loc main_arg0)) (m ((c.tc : Thread nD τ).loc main_arg1)) (m ((c.tc : Thread nD τ).loc main_arg2)) (i 0) (i 1) (i 2) := by
  funext i
  have e : i = ix3 (i 0) (i 1) (i 2) := by funext a; match a with | ⟨0, _⟩ => rfl | ⟨1, _⟩ => rfl | ⟨2, _⟩ => rfl
  exact (congrArg (G18 m c : FVec Ideal S8x512x2048 .bf16) e).trans (G18_apply m c (i 0) (i 1) (i 2))

theorem G19_eq (c : Dev nD) :
    (G19 m c : FVec Ideal S8x256x2048 .bf16) = fun i => InMath.qiTok (m ((c.tc : Thread nD τ).loc main_arg0)) (m ((c.tc : Thread nD τ).loc main_arg1)) (m ((c.tc : Thread nD τ).loc main_arg2)) (i 0) (i 1) (i 2) := by
  funext i
  have e : i = ix3 (i 0) (i 1) (i 2) := by funext a; match a with | ⟨0, _⟩ => rfl | ⟨1, _⟩ => rfl | ⟨2, _⟩ => rfl
  exact (congrArg (G19 m c : FVec Ideal S8x256x2048 .bf16) e).trans (G19_apply m c (i 0) (i 1) (i 2))

theorem G20_eq (c : Dev nD) :
    (G20 m c : FVec Ideal S8x2048x128 .bf16) = fun i => InMath.kwTok (m ((c.tc : Thread nD τ).loc main_arg0)) (m ((c.tc : Thread nD τ).loc main_arg1)) (m ((c.tc : Thread nD τ).loc main_arg3)) (i 0) (i 1) (i 2) := by
  funext i
  have e : i = ix3 (i 0) (i 1) (i 2) := by funext a; match a with | ⟨0, _⟩ => rfl | ⟨1, _⟩ => rfl | ⟨2, _⟩ => rfl
  exact (congrArg (G20 m c : FVec Ideal S8x2048x128 .bf16) e).trans (G20_apply m c (i 0) (i 1) (i 2))

theorem G21_eq (c : Dev nD) :
    (G21 m c : FVec Ideal S8x8x2048 .f32) = fun i => InMath.wiTok (m ((c.tc : Thread nD τ).loc main_arg0)) (m ((c.tc : Thread nD τ).loc main_arg1)) (m ((c.tc : Thread nD τ).loc main_arg3)) (i 0) (i 1) (i 2) := by
  funext i
  have e : i = ix3 (i 0) (i 1) (i 2) := by funext a; match a with | ⟨0, _⟩ => rfl | ⟨1, _⟩ => rfl | ⟨2, _⟩ => rfl
  exact (congrArg (G21 m c : FVec Ideal S8x8x2048 .f32) e).trans (G21_apply m c (i 0) (i 1) (i 2))

end Cert.Kernel2Ideal.Value
-- ==== Proof.MemMath.lean ====
/-
  The layer's memory call, one memory row at a time: what a row becomes at the ideal values, in plain sums.
-/
module

public import proofs.«01_k».proof.Proof.InMath

@[expose] public section

noncomputable section

namespace MemMath

open Idealize.ShloMosaic

/-- A row of 512 whose four heads of 128 are each normalised. -/
def heads (k : Fin 512 → EReal) (g : Fin 128 → EReal) (n : Fin 512) : EReal :=
  k n * InMath.rr 0x43000000#32 (InMath.mhead k ⟨n.val / 128, by omega⟩) * g ⟨n.val % 128, by omega⟩

variable (a0 : (⟨3, ![8, 256, 1024]⟩ : Shape).Idx → EReal) (a1 : (⟨2, ![1, 1024]⟩ : Shape).Idx → EReal)
  (a2 : (⟨3, ![1, 1024, 1024]⟩ : Shape).Idx → EReal) (a3 : (⟨2, ![1, 128]⟩ : Shape).Idx → EReal)

/-- The normalised row, times the weights. -/
def row (b : Fin 8) (s : Fin 256) : Fin 1024 → EReal :=
  InMath.lin (FfnMath.xn (fun d => a0 (ix3 b s d)) (fun d => a1 (ix2 0 d))) (fun k n => a2 (ix3 0 k n))

/-- The first result: a memory row's keys. -/
def kTok (b : Fin 8) (n : Fin 512) (s : Fin 256) : EReal :=
  heads (fun n => row a0 a1 a2 b s ⟨n.val, by omega⟩) (fun c => a3 (ix2 0 c)) n

/-- The second: its values. -/
def vTok (b : Fin 8) (s : Fin 256) (n : Fin 512) : EReal := row a0 a1 a2 b s ⟨512 + n.val, by omega⟩

end MemMath
-- ==== Proof.Ref3.lean ====
/-
  What the plain mathematics of the layer's memory call computes at a memory row: the formulas of MemMath.
-/
module

public import proofs.«01_k».proof.Proof.Gen.Reference3Ideal.Run
public import proofs.«01_k».proof.Proof.MemMath
public import Idealize.ShloMosaic.Lib.Pointwise

@[expose] public section

set_option maxRecDepth 16384

noncomputable section

namespace Cert.Reference3Ideal.Value

open Cert.Reference3Ideal Cert.Reference3Ideal.Gen Idealize.ShloMosaic Idealize.ShloMosaic.TcCoe Idealize.SL.Sem Idealize.ShloMosaic.StableHlo

/-! The stages of the composed results. -/

/-- The normalised memory times the weights. -/
def MM (a0 : FVec Ideal S8x256x1024 .f32) (a1 : FVec Ideal S1x1024 .f32) (a2 : FVec Ideal S1x1024x1024 .f32) : FVec Ideal S8x256x1024 .f32 :=
  Host.dotGeneral dot_S8x256x1024_S1024x1024_S8x256x1024_2_0_01_1_n_n none (mulf (mulf a0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf a0 a0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ a1 shapeCasts_S1x1024_S1024)))) (shapeCast _ a2 shapeCasts_S1x1024x1024_S1024x1024)

/-- The keys by heads. -/
def KH (mm : FVec Ideal S8x256x1024 .f32) : FVec Ideal S8x256x4x128 .f32 :=
  shapeCast _ (extractStridedSlice S8x256x512 ![0, 0, 0] mm slices_S8x256x1024_S8x256x512_0_0_0) shapeCasts_S8x256x512_S8x256x4x128

/-- The normalised keys. -/
def KN (kh : FVec Ideal S8x256x4x128 .f32) (a3 : FVec Ideal S1x128 .f32) : FVec Ideal S8x256x4x128 .f32 :=
  mulf (mulf kh (broadcastInDim S8x256x4x128 ![0, 1, 2, 3] bcast_S8x256x4x1_S8x256x4x128_0_1_2_3 (Host.rsqrt (addf (Host.divf (broadcastInDim S8x256x4x1 ![0, 1, 2] bcast_S8x256x4_S8x256x4x1_0_1_2 (Host.reduceAdd (mulf kh kh) (constant S_ .f32 0x00000000#32) reducesTo_S8x256x4x128_S8x256x4_d3 h_S_)) (broadcastInDim S8x256x4x1 ![] bcast_S_S8x256x4x1 (constant S_ .f32 0x43000000#32))) (broadcastInDim S8x256x4x1 ![] bcast_S_S8x256x4x1 (constant S_ .f32 0x358637BD#32)))))) (broadcastInDim S8x256x4x128 ![0, 1, 2, 3] bcast_S1x1x1x128_S8x256x4x128_0_1_2_3 (broadcastInDim S1x1x1x128 ![3] bcast_S128_S1x1x1x128_3 (shapeCast _ a3 shapeCasts_S1x128_S128)))

/-- The keys, transposed. -/
def KT (u : FVec Ideal S8x256x4x128 .f32) : FVec Ideal S8x512x256 .bf16 :=
  truncf .bf16 (transpose S8x512x256 [0, 2, 1] (shapeCast _ u shapeCasts_S8x256x4x128_S8x256x512) transposes_S8x256x512_S8x512x256_0_2_1) bitsLt_bf16_f32

/-- The values. -/
def VT (mm : FVec Ideal S8x256x1024 .f32) : FVec Ideal S8x256x512 .bf16 :=
  truncf .bf16 (extractStridedSlice S8x256x512 ![0, 0, 512] mm slices_S8x256x1024_S8x256x512_0_0_512) bitsLt_bf16_f32

variable (b : Fin 8) (s : Fin 256)

theorem mm_apply (a0 : FVec Ideal S8x256x1024 .f32) (a1 : FVec Ideal S1x1024 .f32) (a2 : FVec Ideal S1x1024x1024 .f32) (n : Fin 1024) :
    MM a0 a1 a2 (ix3 b s n) = MemMath.row a0 a1 a2 b s n := by
  unfold MM MemMath.row InMath.lin FfnMath.xn
  pointwise

theorem kh_apply (mm : FVec Ideal S8x256x1024 .f32) (h : Fin 4) (c : Fin 128) :
    KH mm (ix4 b s h c) = InMath.mhead (fun n => mm (ix3 b s ⟨n.val, by omega⟩)) h c := by
  unfold KH InMath.mhead
  pointwise

theorem kn_apply (v : FVec Ideal S8x256x4x128 .f32) (a3 : FVec Ideal S1x128 .f32) (h : Fin 4) (c : Fin 128) :
    KN v a3 (ix4 b s h c) = v (ix4 b s h c) * InMath.rr 0x43000000#32 (fun c => v (ix4 b s h c)) * a3 (ix2 0 c) := by
  unfold KN InMath.rr
  pointwise

theorem kt_apply (u : FVec Ideal S8x256x4x128 .f32) (n : Fin 512) :
    KT u (ix3 b n s) = u (ix4 b s ⟨n.val / 128, by omega⟩ ⟨n.val % 128, by omega⟩) := by
  unfold KT
  pointwise

theorem vt_apply (mm : FVec Ideal S8x256x1024 .f32) (n : Fin 512) :
    VT mm (ix3 b s n) = mm (ix3 b s ⟨512 + n.val, by omega⟩) := by
  unfold VT
  pointwise

theorem k_res (a0 : FVec Ideal S8x256x1024 .f32) (a1 : FVec Ideal S1x1024 .f32) (a2 : FVec Ideal S1x1024x1024 .f32)
    (a3 : FVec Ideal S1x128 .f32) :
    KT (KN (KH (MM a0 a1 a2)) a3) = fun i => MemMath.kTok a0 a1 a2 a3 (i 0) (i 1) (i 2) := by
  have key : ∀ (b : Fin 8) (n : Fin 512) (s : Fin 256),
      KT (KN (KH (MM a0 a1 a2)) a3) (ix3 b n s) = MemMath.kTok a0 a1 a2 a3 b n s := by
    intro b n s
    unfold MemMath.kTok MemMath.heads
    have hn : ∀ f : Fin 512 → EReal, InMath.mhead f ⟨n.val / 128, by omega⟩ ⟨n.val % 128, by omega⟩ = f n := fun f =>
      congrArg f (Fin.ext (by show n.val / 128 * 128 + n.val % 128 = n.val; omega))
    simp only [kt_apply, kn_apply, kh_apply, mm_apply, hn]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem v_res (a0 : FVec Ideal S8x256x1024 .f32) (a1 : FVec Ideal S1x1024 .f32) (a2 : FVec Ideal S1x1024x1024 .f32) :
    VT (MM a0 a1 a2) = fun i => MemMath.vTok a0 a1 a2 (i 0) (i 1) (i 2) := by
  have key : ∀ (b : Fin 8) (s : Fin 256) (n : Fin 512), VT (MM a0 a1 a2) (ix3 b s n) = MemMath.vTok a0 a1 a2 b s n := by
    intro b s n
    unfold MemMath.vTok
    rw [vt_apply, mm_apply]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem k_stages (m : (ℓ : Loc nD τ sig) → Buf (Elt Ideal) ℓ) (c : Dev nD) :
    res_main_v35 m c = KT (KN (KH (MM (m ((c.tc : Thread nD τ).loc main_arg0)) (m ((c.tc : Thread nD τ).loc main_arg1)) (m ((c.tc : Thread nD τ).loc main_arg2)))) (m ((c.tc : Thread nD τ).loc main_arg3))) := by
  unfold res_main_v35 KT KN KH MM
  rfl

/-- What the plain mathematics leaves: the formulas of its arguments. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = (fun i => MemMath.kTok (m ((c.tc : Thread nD τ).loc main_arg0)) (m ((c.tc : Thread nD τ).loc main_arg1)) (m ((c.tc : Thread nD τ).loc main_arg2)) (m ((c.tc : Thread nD τ).loc main_arg3)) (i 0) (i 1) (i 2) : FVec Ideal S8x512x256 .bf16)
      ∧ r.2.mem ((c.tc : Thread nD τ).loc main_v36) = (fun i => MemMath.vTok (m ((c.tc : Thread nD τ).loc main_arg0)) (m ((c.tc : Thread nD τ).loc main_arg1)) (m ((c.tc : Thread nD τ).loc main_arg2)) (i 0) (i 1) (i 2) : FVec Ideal S8x256x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run (F := Ideal) m ρ)
  obtain ⟨h0, h1, hr⟩ := h c
  exact ⟨h0.trans ((k_stages m c).trans (k_res _ _ _ _)), h1.trans (v_res _ _ _), hr⟩

end Cert.Reference3Ideal.Value
-- ==== Proof.Mem.lean ====
/-
  The layer's memory call, one block at a time: what its body leaves, as functions of the blocks it read.
-/
module

public import proofs.«01_k».proof.Proof.Gen.Kernel3Ideal.Frame
public import proofs.«01_k».proof.Proof.MemMath
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem

/-- Row `s` of the normalised block times weights of 512 columns. -/
def R (x0 : FVec Ideal S1x256x1024 .f32) (x1 : FVec Ideal S1x1024 .f32) (w : FVec Ideal S1024x512 .bf16) (s : Fin 256) : Fin 512 → EReal :=
  InMath.lin (FfnMath.xn (fun d => x0 (ix3 0 s d)) (fun d => x1 (ix2 0 d))) (fun k n => w (ix2 k n))

variable (x0 : FVec Ideal S1x256x1024 .f32) (x1 : FVec Ideal S1x1024 .f32) (w : FVec Ideal S1024x512 .bf16)
  (g : FVec Ideal S1x128 .f32) (s : Fin 256)

theorem pay4_apply (n : Fin 512) : k0_pay4 (F := Ideal) x0 x1 w (ix2 s n) = R x0 x1 w s n := by
  unfold k0_pay4 k0_pay3 R InMath.lin FfnMath.xn
  pointwise

theorem pay5_apply (n : Fin 512) : k0_pay5 (F := Ideal) x0 x1 w (ix2 s n) = R x0 x1 w s n := by
  unfold k0_pay5 k0_pay3 R InMath.lin FfnMath.xn
  pointwise

/-- A head's normalised column. -/
theorem heads_at (k : Fin 512 → EReal) (g : Fin 128 → EReal) (n : Fin 512) (h : Fin 4) (o : Nat) (ho : h.val * 128 = o) (c : Fin 128)
    (e : n.val = o + c.val) :
    MemMath.heads k g n = k ⟨o + c.val, by omega⟩ * InMath.rr 0x43000000#32 (fun c : Fin 128 => k ⟨o + c.val, by omega⟩) * g c := by
  subst ho
  unfold MemMath.heads
  have e0 : n = ⟨h.val * 128 + c.val, by omega⟩ := Fin.ext e
  have e1 : (⟨n.val / 128, by omega⟩ : Fin 4) = h := Fin.ext (by show n.val / 128 = h.val; omega)
  have e2 : (⟨n.val % 128, by omega⟩ : Fin 128) = c := Fin.ext (by show n.val % 128 = c.val; omega)
  rw [e1, e2]
  exact congrArg (fun n => k n * InMath.rr 0x43000000#32 (InMath.mhead k h) * g c) e0

/-- The keys before they are cast and laid out. -/
theorem keys_apply (n : Fin 512) :
    k0_pay8 (F := Ideal) (k0_pay4 x0 x1 w) (k0_pay6 x0 x1 w g) (k0_pay7 x0 x1 w) g g g (ix2 n s)
      = MemMath.heads (R x0 x1 w s) (fun c => g (ix2 0 c)) n := by
  have e : R x0 x1 w s = fun n => k0_pay4 (F := Ideal) x0 x1 w (ix2 s n) := funext fun n => (pay4_apply x0 x1 w s n).symm
  rw [e]
  unfold k0_pay8 k0_pay7 k0_pay6
  generalize k0_pay4 (F := Ideal) x0 x1 w = q
  have hn := n.isLt
  by_cases h0 : n.val < 128
  · rw [heads_at _ _ n 0 0 rfl ⟨n.val, h0⟩ (by show n.val = 0 + n.val; omega)]
    unfold InMath.rr
    pointwise
    rw [dif_pos h0]
  by_cases h1 : n.val - 128 < 128
  · rw [heads_at _ _ n 1 128 rfl ⟨n.val - 128, h1⟩ (by show n.val = 128 + (n.val - 128); omega)]
    unfold InMath.rr
    pointwise
    rw [dif_neg h0, dif_pos h1]
  by_cases h2 : n.val - 128 - 128 < 128
  · rw [heads_at _ _ n 2 256 rfl ⟨n.val - 128 - 128, h2⟩ (by show n.val = 256 + (n.val - 128 - 128); omega)]
    unfold InMath.rr
    pointwise
    rw [dif_neg h0, dif_neg h1, dif_pos h2]
  · rw [heads_at _ _ n 3 384 rfl ⟨n.val - 128 - 128 - 128, by omega⟩ (by show n.val = 384 + (n.val - 128 - 128 - 128); omega)]
    unfold InMath.rr
    pointwise
    rw [dif_neg h0, dif_neg h1, dif_neg h2]

theorem pay1_apply (v : FVec Ideal S512x256 .f32) (b : Fin 1) (n : Fin 512) :
    k0_pay1 (F := Ideal) v (ix3 b n s) = v (ix2 n s) := by
  unfold k0_pay1
  pointwise

theorem pay2_apply (v : FVec Ideal S256x512 .f32) (b : Fin 1) (n : Fin 512) :
    k0_pay2 (F := Ideal) v (ix3 b s n) = v (ix2 s n) := by
  unfold k0_pay2
  pointwise

/-- The two halves of the weights. -/
def lo (x2 : FVec Ideal S1024x1024 .bf16) : FVec Ideal S1024x512 .bf16 := View.ld (Val := Elt Ideal) (e' := .bf16) x2 r0_2
def hi (x2 : FVec Ideal S1024x1024 .bf16) : FVec Ideal S1024x512 .bf16 := View.ld (Val := Elt Ideal) (e' := .bf16) x2 r0_3

theorem lo_apply (x2 : FVec Ideal S1024x1024 .bf16) (k : Fin 1024) (n : Fin 512) : lo x2 (ix2 k n) = x2 (ix2 k ⟨n.val, by omega⟩) := by
  unfold lo
  pointwise

theorem hi_apply (x2 : FVec Ideal S1024x1024 .bf16) (k : Fin 1024) (n : Fin 512) : hi x2 (ix2 k n) = x2 (ix2 k ⟨512 + n.val, by omega⟩) := by
  unfold hi
  pointwise

/-- What the body leaves of the keys. -/
theorem out4_apply (x2 : FVec Ideal S1024x1024 .bf16) (b : Fin 1) (n : Fin 512) :
    out0_4 (F := Ideal) x0 x1 x2 g (ix3 b n s)
      = MemMath.heads (R x0 x1 (lo x2) s) (fun c => g (ix2 0 c)) n := by
  unfold out0_4
  rw [View.canon_unit_zero (S := S1x512x256) (e := .bf16) (by funext a; match a with | ⟨0, _⟩ => rfl | ⟨1, _⟩ => rfl | ⟨2, _⟩ => rfl)]
  rw [View.ld_unit_zero (S := S1x256x1024) (by funext a; match a with | ⟨0, _⟩ => rfl | ⟨1, _⟩ => rfl | ⟨2, _⟩ => rfl),
    View.ld_unit_zero (S := S1x1024) (by funext a; match a with | ⟨0, _⟩ => rfl | ⟨1, _⟩ => rfl),
    View.ld_unit_zero (S := S1x128) (by funext a; match a with | ⟨0, _⟩ => rfl | ⟨1, _⟩ => rfl)]
  rw [pay1_apply]
  exact keys_apply ..

/-- What the body leaves of the values. -/
theorem out5_apply (x2 : FVec Ideal S1024x1024 .bf16) (b : Fin 1) (n : Fin 512) :
    out0_5 (F := Ideal) x0 x1 x2 g (ix3 b s n) = R x0 x1 (hi x2) s n := by
  unfold out0_5
  rw [View.canon_unit_zero (S := S1x256x512) (e := .bf16) (by funext a; match a with | ⟨0, _⟩ => rfl | ⟨1, _⟩ => rfl | ⟨2, _⟩ => rfl)]
  rw [View.ld_unit_zero (S := S1x256x1024) (by funext a; match a with | ⟨0, _⟩ => rfl | ⟨1, _⟩ => rfl | ⟨2, _⟩ => rfl),
    View.ld_unit_zero (S := S1x1024) (by funext a; match a with | ⟨0, _⟩ => rfl | ⟨1, _⟩ => rfl)]
  rw [pay2_apply]
  exact pay5_apply ..

end Cert.Kernel3Ideal.Value
-- ==== Proof.Equation3.lean ====
/-
  The two result arrays of the layer's memory call: the formulas of MemMath at every index.
-/
module

public import proofs.«01_k».proof.Proof.Gen.Kernel3Ideal.Value
public import Idealize.ShloMosaic.Lib.Pipeline.ValueKit
public import Idealize.ShloMosaic.Lib.Pipeline.ValueKit.Point
public import Idealize.ShloMosaic.Lib.Claim
public import proofs.«01_k».proof.Proof.Mem
public import proofs.«01_k».proof.Proof.Ref3

@[expose] public section

set_option maxRecDepth 16384

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

/-- Every window's block index at a grid point. -/
theorem idx : ∀ t : Fin cfg0.N, win0_0.index t = ![t.val, 0, 0]
    ∧ win0_1.index t = ![0, 0]
    ∧ win0_2.index t = ![0, 0]
    ∧ win0_3.index t = ![0, 0]
    ∧ win0_4.index t = ![t.val, 0, 0]
    ∧ win0_5.index t = ![t.val, 0, 0] :=
  (by decide +kernel : ∀ t : Fin grid0.N, _)

/-- The sequence that point `t` holds. -/
def seqOf (t : Fin cfg0.N) : Fin 8 := ⟨t.val, lt_of_lt_of_eq t.isLt (show cfg0.N = 8 from N_0)⟩

/-! The operands that the call's own reshapes and cast make. -/

theorem V_v1 (c : Dev nD) : (V m c main_v1 : FVec Ideal S1x1024 .f32) = shapeCast _ (shapeCast S1024 (show FVec Ideal S1x1024 .f32 from m ((c.tc : Thread nD τ).loc main_arg1)) shapeCasts_S1x1024_S1024) shapeCasts_S1024_S1x1024 := by
  unfold_abbrev_sides
  after_results_simp
  rfl

theorem V_v3 (c : Dev nD) : (V m c main_v3 : FVec Ideal S1024x1024 .bf16) = truncf .bf16 (shapeCast S1024x1024 (show FVec Ideal S1x1024x1024 .f32 from m ((c.tc : Thread nD τ).loc main_arg2)) shapeCasts_S1x1024x1024_S1024x1024) bitsLt_bf16_f32 := by
  unfold_abbrev_sides
  after_results_simp
  rfl

theorem V_v5 (c : Dev nD) : (V m c main_v5 : FVec Ideal S1x128 .f32) = shapeCast _ (shapeCast S128 (show FVec Ideal S1x128 .f32 from m ((c.tc : Thread nD τ).loc main_arg3)) shapeCasts_S1x128_S128) shapeCasts_S128_S1x128 := by
  unfold_abbrev_sides
  after_results_simp
  rfl

theorem iblk0 (c : Dev nD) (t : Fin cfg0.N) (r : Fin 256) (d : Fin 1024) :
    (iblk m c 0 t : FVec Ideal S1x256x1024 .f32) (ix3 0 r d) = m ((c.tc : Thread nD τ).loc main_arg0) (ix3 (seqOf t) r d) := by
  have e : (iblk m c 0 t : FVec Ideal S1x256x1024 .f32) (ix3 0 r d) = V m c main_arg0 (ix3 (seqOf t) r d) := by
    blk_ext [iblk, V, idx t, seqOf]
  rw [e, V_main_arg0]

theorem iblk1 (c : Dev nD) (t : Fin cfg0.N) (d : Fin 1024) :
    (iblk m c 1 t : FVec Ideal S1x1024 .f32) (ix2 0 d) = m ((c.tc : Thread nD τ).loc main_arg1) (ix2 0 d) := by
  have e : (iblk m c 1 t : FVec Ideal S1x1024 .f32) (ix2 0 d) = (V m c main_v1 : FVec Ideal S1x1024 .f32) (ix2 0 d) := by
    blk_ext [iblk, idx t]
  rw [e, V_v1]
  pointwise

theorem iblk2 (c : Dev nD) (t : Fin cfg0.N) (k n : Fin 1024) :
    (iblk m c 2 t : FVec Ideal S1024x1024 .bf16) (ix2 k n) = m ((c.tc : Thread nD τ).loc main_arg2) (ix3 0 k n) := by
  have e : (iblk m c 2 t : FVec Ideal S1024x1024 .bf16) (ix2 k n) = (V m c main_v3 : FVec Ideal S1024x1024 .bf16) (ix2 k n) := by
    blk_ext [iblk, idx t]
  rw [e, V_v3]
  pointwise

theorem iblk3 (c : Dev nD) (t : Fin cfg0.N) (d : Fin 128) :
    (iblk m c 3 t : FVec Ideal S1x128 .f32) (ix2 0 d) = m ((c.tc : Thread nD τ).loc main_arg3) (ix2 0 d) := by
  have e : (iblk m c 3 t : FVec Ideal S1x128 .f32) (ix2 0 d) = (V m c main_v5 : FVec Ideal S1x128 .f32) (ix2 0 d) := by
    blk_ext [iblk, idx t]
  rw [e, V_v5]
  pointwise

/-- What a point leaves of the keys and of the values. -/
theorem w4 (c : Dev nD) (t : Fin cfg0.N) (b : Fin 1) (n : Fin 512) (s : Fin 256) :
    out0_4 (F := Ideal) (iblk m c 0 t) (iblk m c 1 t) (iblk m c 2 t) (iblk m c 3 t) (ix3 b n s)
      = MemMath.kTok (m ((c.tc : Thread nD τ).loc main_arg0)) (m ((c.tc : Thread nD τ).loc main_arg1)) (m ((c.tc : Thread nD τ).loc main_arg2)) (m ((c.tc : Thread nD τ).loc main_arg3)) (seqOf t) n s := by
  refine (out4_apply ..).trans ?_
  unfold R MemMath.kTok MemMath.row
  simp only [lo_apply, iblk0, iblk1, iblk2, iblk3]
  rfl

theorem w5 (c : Dev nD) (t : Fin cfg0.N) (b : Fin 1) (s : Fin 256) (n : Fin 512) :
    out0_5 (F := Ideal) (iblk m c 0 t) (iblk m c 1 t) (iblk m c 2 t) (iblk m c 3 t) (ix3 b s n)
      = MemMath.vTok (m ((c.tc : Thread nD τ).loc main_arg0)) (m ((c.tc : Thread nD τ).loc main_arg1)) (m ((c.tc : Thread nD τ).loc main_arg2)) (seqOf t) s n := by
  refine (out5_apply ..).trans ?_
  unfold R MemMath.vTok MemMath.row
  simp only [hi_apply, iblk0, iblk1, iblk2]
  rfl

/-- The first result array. -/
theorem final4 (c : Dev nD) : (dats m 0 c).arrAt 4 cfg0.N
    = (fun i => MemMath.kTok (m ((c.tc : Thread nD τ).loc main_arg0)) (m ((c.tc : Thread nD τ).loc main_arg1)) (m ((c.tc : Thread nD τ).loc main_arg2)) (m ((c.tc : Thread nD τ).loc main_arg3)) (i 0) (i 1) (i 2) : FVec Ideal S8x512x256 .bf16) := by
  refine (dats m 0 c).arrAt_eq_of_covers 4 _ (by decide +kernel) fun t hf y => ?_
  have e : ((win0_4.blk t).view.emb y : Shape.Idx S8x512x256) = ix3 (seqOf t) (y 1) (y 2) := by
    idx_vars y
    blk_ext [idx t, seqOf]
  have ey : y = ix3 (y 0) (y 1) (y 2) := by
    funext a; match a with | ⟨0, _⟩ => rfl | ⟨1, _⟩ => rfl | ⟨2, _⟩ => rfl
  blk_simp
  rw [after0_4, e]
  exact (congrArg _ ey).trans (w4 m c t (y 0) (y 1) (y 2))

/-- The second. -/
theorem final5 (c : Dev nD) : (dats m 0 c).arrAt 5 cfg0.N
    = (fun i => MemMath.vTok (m ((c.tc : Thread nD τ).loc main_arg0)) (m ((c.tc : Thread nD τ).loc main_arg1)) (m ((c.tc : Thread nD τ).loc main_arg2)) (i 0) (i 1) (i 2) : FVec Ideal S8x256x512 .bf16) := by
  refine (dats m 0 c).arrAt_eq_of_covers 5 _ (by decide +kernel) fun t hf y => ?_
  have e : ((win0_5.blk t).view.emb y : Shape.Idx S8x256x512) = ix3 (seqOf t) (y 1) (y 2) := by
    idx_vars y
    blk_ext [idx t, seqOf]
  have ey : y = ix3 (y 0) (y 1) (y 2) := by
    funext a; match a with | ⟨0, _⟩ => rfl | ⟨1, _⟩ => rfl | ⟨2, _⟩ => rfl
  blk_simp
  rw [after0_5, e]
  exact (congrArg _ ey).trans (w5 m c t (y 0) (y 1) (y 2))

/-- The run, read: both results by their formulas, the arguments unchanged. -/
theorem run_tok (ρ : Dev nD → PrngReg) : θ_run defs (onTc (τ := τ) (main (F := Ideal))) ⟨m, fun _ => 0, ρ⟩ fun r => ∀ c : Dev nD,
      r.2.mem ((c.tc : Thread nD τ).loc main_v6_0) = (fun i => MemMath.kTok (m ((c.tc : Thread nD τ).loc main_arg0)) (m ((c.tc : Thread nD τ).loc main_arg1)) (m ((c.tc : Thread nD τ).loc main_arg2)) (m ((c.tc : Thread nD τ).loc main_arg3)) (i 0) (i 1) (i 2) : FVec Ideal S8x512x256 .bf16)
      ∧ r.2.mem ((c.tc : Thread nD τ).loc main_v6_1) = (fun i => MemMath.vTok (m ((c.tc : Thread nD τ).loc main_arg0)) (m ((c.tc : Thread nD τ).loc main_arg1)) (m ((c.tc : Thread nD τ).loc main_arg2)) (i 0) (i 1) (i 2) : FVec Ideal S8x256x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2⟩) (run_blocks m ρ)

end Cert.Kernel3Ideal.Value
-- ==== Proof.SoftMath.lean ====
/-
  The softmax of finite logits: dividing the exponentials by their sum before the product with the values is dividing
  the product by it; and the memory logits are finite if the memory keys and the query norm are.
-/
module

public import proofs.«01_k».proof.Proof.InMath
public import proofs.«01_k».proof.Proof.InConst

@[expose] public section

set_option maxRecDepth 16384

noncomputable section

namespace InMath

open Idealize.ShloMosaic

/-- A finite value. -/
def Fine (x : EReal) : Prop := ∃ r : ℝ, x = (r : EReal)

theorem Fine.add {x y : EReal} (hx : Fine x) (hy : Fine y) : Fine (x + y) := by
  obtain ⟨r, rfl⟩ := hx; obtain ⟨s, rfl⟩ := hy
  exact ⟨r + s, (EReal.coe_add r s).symm⟩

theorem Fine.mul {x y : EReal} (hx : Fine x) (hy : Fine y) : Fine (x * y) := by
  obtain ⟨r, rfl⟩ := hx; obtain ⟨s, rfl⟩ := hy
  exact ⟨r * s, (EReal.coe_mul r s).symm⟩

theorem sum_coe {N : Nat} (f : Fin N → ℝ) : (∑ k : Fin N, (f k : EReal)) = ((∑ k : Fin N, f k : ℝ) : EReal) :=
  (map_sum (⟨⟨Real.toEReal, EReal.coe_zero⟩, EReal.coe_add⟩ : ℝ →+ EReal) f Finset.univ).symm

theorem Fine.sum {N : Nat} {f : Fin N → EReal} (h : ∀ k, Fine (f k)) : Fine (∑ k : Fin N, f k) := by
  choose r hr using h
  exact ⟨∑ k, r k, by rw [← sum_coe]; exact Finset.sum_congr rfl fun k _ => hr k⟩

theorem word_eps : ∃ e : ℝ, 0 < e ∧ Ideal.ofBits .f32 0x358637BD#32 = (e : EReal) := by
  refine ⟨_, ?_, by simp [Ideal.ofBits, Ideal.ieee, -EReal.coe_mul]; rfl⟩
  positivity

theorem word_bot : Ideal.ofBits .f32 0xFF800000#32 = ⊥ := by
  simp [Ideal.ofBits, Ideal.ieee]

/-- The greatest logit, over −∞. -/
def top (l : Fin 256 → EReal) : EReal := Finset.univ.fold max (Ideal.ofBits .f32 0xFF800000#32) l

/-- A maximum over −∞ is not changed by −∞. -/
theorem max_fold (l : Fin 256 → EReal) : max (Ideal.ofBits .f32 0xFF800000#32) (top l) = top l := by
  generalize top l = x
  rw [word_bot]
  exact max_bot_left x

/-- The factor that normalises a finite row is finite. -/
theorem Fine.rr {N : Nat} {len : BitVec 32} {l : ℝ} (hl : 0 < l) (e : Ideal.ofBits .f32 len = (l : EReal)) {v : Fin N → EReal}
    (h : ∀ k, Fine (v k)) : Fine (rr len v) := by
  choose r hr using h
  obtain ⟨ε, hε, eε⟩ := word_eps
  have hs : (∑ k : Fin N, v k * v k) = ((∑ k : Fin N, r k * r k : ℝ) : EReal) := by
    rw [← sum_coe]; exact Finset.sum_congr rfl fun k _ => by rw [hr, EReal.coe_mul]
  have hp : 0 < (∑ k : Fin N, r k * r k) * (1 / l) + ε := by
    have : 0 ≤ ∑ k : Fin N, r k * r k := Finset.sum_nonneg fun k _ => mul_self_nonneg _
    positivity
  unfold InMath.rr
  rw [hs, e, eε, Ideal.div_coe hl.ne', ← EReal.coe_mul, ← EReal.coe_add]
  exact ⟨(Real.sqrt ((∑ k : Fin N, r k * r k) * (1 / l) + ε))⁻¹, by
    show (if _ then _ else _) = _
    rw [if_neg (not_lt.mpr hp.le), if_neg hp.ne']⟩

theorem mul_self_nonneg' (x : EReal) : 0 ≤ x * x := by
  induction x with
  | bot => simp
  | top => simp
  | coe r => exact_mod_cast mul_self_nonneg r

/-- A normalised row is finite: one with an infinite entry has the factor 0. -/
theorem Fine.normed {N : Nat} {len : BitVec 32} {l : ℝ} (hl : 0 < l) (e : Ideal.ofBits .f32 len = (l : EReal)) (v : Fin N → EReal)
    (c : Fin N) : Fine (v c * InMath.rr len v) := by
  by_cases h : ∀ k, Fine (v k)
  · exact (h c).mul (Fine.rr hl e h)
  · obtain ⟨k, hk⟩ := not_forall.mp h
    have hkk : v k * v k = ⊤ := by
      generalize v k = x at hk
      induction x with
      | bot => simp
      | top => simp
      | coe r => exact absurd ⟨r, rfl⟩ hk
    have hs : (∑ k : Fin N, v k * v k) = ⊤ :=
      top_le_iff.mp (hkk ▸ Finset.single_le_sum (f := fun k => v k * v k) (fun i _ => mul_self_nonneg' (v i)) (Finset.mem_univ k))
    obtain ⟨ε, hε, eε⟩ := word_eps
    have hr : InMath.rr len v = 0 := by
      unfold InMath.rr
      rw [hs, e, eε, Ideal.div_coe hl.ne', EReal.top_mul_coe_of_pos (by positivity), EReal.top_add_coe]
      rfl
    rw [hr, mul_zero]
    exact ⟨0, rfl⟩
/-- The memory logits are finite if the norm and the keys are. -/
theorem Fine.logit {v g : Fin 128 → EReal} {km : Fin 128 → Fin 256 → EReal} (hg : ∀ c, Fine (g c))
    (hk : ∀ c m, Fine (km c m)) (m : Fin 256) : Fine (logit v g km m) := by
  unfold InMath.logit
  rw [InConst.word_128, Ideal.sqrt_coe, if_neg (by norm_num),
    Ideal.div_coe (show Real.sqrt 128 ≠ 0 from (Real.sqrt_pos.mpr (by norm_num)).ne')]
  exact (Fine.sum fun c => ((Fine.normed (by norm_num) InConst.word_128 v c).mul (hg c)).mul (hk c m)).mul ⟨_, rfl⟩

/-- The mean with the weights divided first, as a softmax is written. -/
def smean (e : Fin 256 → EReal) (vm : Fin 256 → Fin 128 → EReal) (c : Fin 128) : EReal :=
  ∑ m : Fin 256, Ideal.div (e m) (∑ m : Fin 256, e m) * vm m c

theorem sum_mul_coe {N : Nat} (f : Fin N → EReal) (r : ℝ) (hr : 0 ≤ r) : (∑ k : Fin N, f k) * (r : EReal) = ∑ k : Fin N, f k * (r : EReal) := by
  induction (Finset.univ : Finset (Fin N)) using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The greatest of finitely many finite values, over −∞, is finite. -/
theorem Fine.max {N : Nat} (h0 : 0 < N) {l : Fin N → EReal} (h : ∀ m, Fine (l m)) : Fine (Finset.univ.fold Max.max (⊥ : EReal) l) := by
  have key : ∀ s : Finset (Fin N), s.fold Max.max (⊥ : EReal) l = ⊥ ∧ s = ∅ ∨ Fine (s.fold Max.max (⊥ : EReal) l) := by
    intro s
    induction s using Finset.induction_on with
    | empty => exact Or.inl ⟨rfl, rfl⟩
    | insert a s ha ih =>
      right
      rw [Finset.fold_insert ha]
      rcases ih with ⟨e, _⟩ | e
      · rw [e, max_bot_right]; exact h a
      · rcases max_choice (l a) (s.fold Max.max (⊥ : EReal) l) with g | g
        · rw [g]; exact h a
        · rw [g]; exact e
  rcases key Finset.univ with ⟨_, e⟩ | e
  · exact absurd (e ▸ Finset.mem_univ (⟨0, h0⟩ : Fin N)) (Finset.notMem_empty _)
  · exact e

/-- At finite logits the two ways of dividing agree. -/
theorem mean_eq (l : Fin 256 → EReal) (h : ∀ m, Fine (l m)) (vm : Fin 256 → Fin 128 → EReal) (c : Fin 128) :
    mean (expo l) vm c = smean (expo l) vm c := by
  choose r hr using h
  have hM : Fine (Finset.univ.fold max (Ideal.ofBits .f32 0xFF800000#32) l) := by
    rw [word_bot]
    exact Fine.max (by norm_num) fun m => ⟨r m, hr m⟩
  obtain ⟨M, hM⟩ := hM
  have he : ∀ m, expo l m = ((Real.exp (r m - M) : ℝ) : EReal) := fun m => by
    unfold expo
    rw [hM, hr, ← EReal.coe_sub, Ideal.exp_coe]
  have hS : (∑ m : Fin 256, expo l m) = ((∑ m : Fin 256, Real.exp (r m - M) : ℝ) : EReal) := by
    rw [← sum_coe]; exact Finset.sum_congr rfl fun m _ => he m
  have hp : 0 < ∑ m : Fin 256, Real.exp (r m - M) :=
    Finset.sum_pos (fun m _ => Real.exp_pos _) ⟨0, Finset.mem_univ _⟩
  unfold mean smean
  rw [hS, Ideal.div_coe hp.ne', sum_mul_coe _ _ (one_div_nonneg.mpr hp.le)]
  refine Finset.sum_congr rfl fun m _ => ?_
  rw [Ideal.div_coe hp.ne', mul_right_comm]

/-- The memory heads side by side, each a softmax of its logits times the values. -/
def smem (q : Fin 512 → EReal) (g : Fin 128 → EReal) (km : Fin 512 → Fin 256 → EReal) (vm : Fin 256 → Fin 512 → EReal)
    (n : Fin 512) : EReal :=
  smean (expo (logit (mhead q ⟨n.val / 128, by omega⟩) g (fun c m => km ⟨n.val / 128 * 128 + c.val, by omega⟩ m)))
    (fun m c => vm m ⟨n.val / 128 * 128 + c.val, by omega⟩) ⟨n.val % 128, by omega⟩

variable (a0 : (⟨3, ![8, 2048, 1024]⟩ : Shape).Idx → EReal) (a1 : (⟨2, ![1, 1024]⟩ : Shape).Idx → EReal)
  (a2 : (⟨2, ![1024, 3328]⟩ : Shape).Idx → EReal) (a4 : (⟨2, ![1024, 512]⟩ : Shape).Idx → EReal)
  (a5 : (⟨2, ![1024, 3072]⟩ : Shape).Idx → EReal)
  (a6 : (⟨3, ![1, 3, 512]⟩ : Shape).Idx → EReal) (a7 : (⟨3, ![1, 512, 1024]⟩ : Shape).Idx → EReal)
  (a10 : (⟨3, ![8, 512, 256]⟩ : Shape).Idx → EReal)
  (a11 : (⟨3, ![8, 256, 512]⟩ : Shape).Idx → EReal) (a12 : (⟨2, ![1, 128]⟩ : Shape).Idx → EReal)
  (a13 : (⟨3, ![1, 512, 1024]⟩ : Shape).Idx → EReal)

/-- What the memory heads read, by the softmax. -/
def smemRow (b : Fin 8) (t : Fin 2048) : Fin 512 → EReal :=
  smem (lin (xRow a0 a1 b t) (fun k n => a4 (ix2 k n))) (fun c => a12 (ix2 0 c)) (fun n m => a10 (ix3 b n m))
    (fun m n => a11 (ix3 b m n))

/-- The first result, by the softmax. -/
def spartTok (b : Fin 8) (t : Fin 2048) : Fin 1024 → EReal :=
  part (lin (xRow a0 a1 b t) (fun k n => a5 (ix2 k n)))
    (ya (pRow a0 a1 a2 b t) (cvRow a0 a1 a2 a6 b t) (fun n d => a7 (ix3 0 n d)))
    (lin (smemRow a0 a1 a4 a10 a11 a12 b t) (fun n d => a13 (ix3 0 n d)))

/-- For finite memory keys and a finite query norm the two first results agree. -/
theorem partTok_eq (h10 : ∀ i, Fine (a10 i))
    (h12 : ∀ i, Fine (a12 i)) (b : Fin 8) (t : Fin 2048) (d : Fin 1024) :
    partTok a0 a1 a2 a4 a5 a6 a7 a10 a11 a12 a13 b t d = spartTok a0 a1 a2 a4 a5 a6 a7 a10 a11 a12 a13 b t d := by
  have e : memRow a0 a1 a4 a10 a11 a12 b t = smemRow a0 a1 a4 a10 a11 a12 b t := by
    funext n
    unfold memRow smemRow mem smem memHead
    exact mean_eq _ (Fine.logit (fun c => h12 (ix2 0 c)) (fun c m => h10 (ix3 b _ m))) _ _
  unfold partTok spartTok
  rw [e]

end InMath
-- ==== Proof.Ref4.lean ====
/-
  What the mathematics of the layer's first call computes at a token with the memory softmax as it is usually written: the
  formulas of InMath and, for the first result, of SoftMath.
-/
module

public import proofs.«01_k».proof.Proof.Gen.Reference4Ideal.Run
public import proofs.«01_k».proof.Proof.SoftMath
public import Idealize.ShloMosaic.Lib.Pointwise

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo

/-! The stages of the composed results. -/

/-- A stage. -/
def XN (a0 : FVec Ideal S8x2048x1024 .f32) (a1 : FVec Ideal S1x1024 .f32) : FVec Ideal S8x2048x1024 .f32 :=
  mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))

/-- A stage. -/
def PR (v13 : FVec Ideal S8x2048x1024 .f32) (a2 : FVec Ideal S1024x3328 .bf16) : FVec Ideal S8x2048x3328 .f32 :=
  Host.dotGeneral dot_S8x2048x1024_S1024x3328_S8x2048x3328_2_0_01_1_n_n none v13 (extf .f32 a2 bitsLt_bf16_f32)

/-- A stage. -/
def CH (v15 : FVec Ideal S8x2048x3328 .f32) : FVec Ideal S8x2048x512 .f32 :=
  mulf (extractStridedSlice S8x2048x512 ![0, 0, 512] v15 slices_S8x2048x3328_S8x2048x512_0_0_512) (extractStridedSlice S8x2048x512 ![0, 0, 1024] v15 slices_S8x2048x3328_S8x2048x512_0_0_1024)

/-- A stage. -/
def CV (u : FVec Ideal S8x2048x512 .f32) (a6 : FVec Ideal S1x3x512 .f32) : FVec Ideal S8x2048x512 .f32 :=
  addf (addf (mulf (broadcastInDim S8x2048x512 ![0, 1, 2] bcast_S1x1x512_S8x2048x512_0_1_2 (broadcastInDim S1x1x512 ![2] bcast_S512_S1x1x512_2 (shapeCast _ (extractStridedSlice S1x512 ![0, 0] (shapeCast _ a6 shapeCasts_S1x3x512_S3x512) slices_S3x512_S1x512_0_0) shapeCasts_S1x512_S512))) (extractStridedSlice S8x2048x512 ![0, 0, 0] (pad S8x2050x512 ![0, 2, 0] ![0, 0, 0] ![0, 0, 0] u (sitofp .f32 (constantI S_ 32 0#32)) pads_S8x2048x512_S8x2050x512_000_200_000 h_S_) slices_S8x2050x512_S8x2048x512_0_0_0)) (mulf (broadcastInDim S8x2048x512 ![0, 1, 2] bcast_S1x1x512_S8x2048x512_0_1_2 (broadcastInDim S1x1x512 ![2] bcast_S512_S1x1x512_2 (shapeCast _ (extractStridedSlice S1x512 ![1, 0] (shapeCast _ a6 shapeCasts_S1x3x512_S3x512) slices_S3x512_S1x512_1_0) shapeCasts_S1x512_S512))) (extractStridedSlice S8x2048x512 ![0, 1, 0] (pad S8x2050x512 ![0, 2, 0] ![0, 0, 0] ![0, 0, 0] u (sitofp .f32 (constantI S_ 32 0#32)) pads_S8x2048x512_S8x2050x512_000_200_000 h_S_) slices_S8x2050x512_S8x2048x512_0_1_0))) (mulf (broadcastInDim S8x2048x512 ![0, 1, 2] bcast_S1x1x512_S8x2048x512_0_1_2 (broadcastInDim S1x1x512 ![2] bcast_S512_S1x1x512_2 (shapeCast _ (extractStridedSlice S1x512 ![2, 0] (shapeCast _ a6 shapeCasts_S1x3x512_S3x512) slices_S3x512_S1x512_2_0) shapeCasts_S1x512_S512))) (extractStridedSlice S8x2048x512 ![0, 2, 0] (pad S8x2050x512 ![0, 2, 0] ![0, 0, 0] ![0, 0, 0] u (sitofp .f32 (constantI S_ 32 0#32)) pads_S8x2048x512_S8x2050x512_000_200_000 h_S_) slices_S8x2050x512_S8x2048x512_0_2_0))

/-- A stage. -/
def YA (v15 : FVec Ideal S8x2048x3328 .f32) (cv : FVec Ideal S8x2048x512 .f32) (a7 : FVec Ideal S1x512x1024 .f32) : FVec Ideal S8x2048x1024 .f32 :=
  Host.dotGeneral dot_S8x2048x512_S512x1024_S8x2048x1024_2_0_01_1_n_n none (mulf (extractStridedSlice S8x2048x512 ![0, 0, 0] v15 slices_S8x2048x3328_S8x2048x512_0_0_0) cv) (shapeCast _ a7 shapeCasts_S1x512x1024_S512x1024)

/-- A stage. -/
def QH (v15 : FVec Ideal S8x2048x3328 .f32) : FVec Ideal S8x2048x8x64 .f32 :=
  shapeCast _ (extractStridedSlice S8x2048x512 ![0, 0, 1536] v15 slices_S8x2048x3328_S8x2048x512_0_0_1536) shapeCasts_S8x2048x512_S8x2048x8x64

/-- A stage. -/
def KH (v15 : FVec Ideal S8x2048x3328 .f32) : FVec Ideal S8x2048x8x64 .f32 :=
  shapeCast _ (extractStridedSlice S8x2048x512 ![0, 0, 2048] v15 slices_S8x2048x3328_S8x2048x512_0_0_2048) shapeCasts_S8x2048x512_S8x2048x8x64

/-- A stage. -/
def QN (v49 : FVec Ideal S8x2048x8x64 .f32) (a8 : FVec Ideal S1x64 .f32) : FVec Ideal S8x2048x8x64 .f32 :=
  mulf (mulf (mulf v49 (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf v49 v49) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a8 shapeCasts_S1x64_S64)))) (broadcastInDim S8x2048x8x64 ![] bcast_S_S8x2048x8x64 (constant S_ .f32 0x3E38AA3B#32))

/-- A stage. -/
def KN (v66 : FVec Ideal S8x2048x8x64 .f32) (a9 : FVec Ideal S1x64 .f32) : FVec Ideal S8x2048x8x64 .f32 :=
  mulf (mulf v66 (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf v66 v66) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ a9 shapeCasts_S1x64_S64)))

/-- A stage. -/
def Z : FVec Ideal S8x2048x8x58 .f32 :=
  broadcastInDim S8x2048x8x58 ![] bcast_S_S8x2048x8x58 (constant S_ .f32 0x00000000#32)

/-- A stage. -/
def SL : FVec Ideal S8x6 .f32 :=
  fun i => FloatOps.ofBits .f32 (lit0 (S8x6.rowMajor i))

/-- A stage. -/
def QC (qn : FVec Ideal S8x2048x8x64 .f32) : FVec Ideal S8x2048x8x128 .f32 :=
  (concatenate S8x2048x8x128 3 [⟨S8x2048x8x64, (qn : FVec Ideal S8x2048x8x64 .f32)⟩, ⟨S8x2048x8x6, ((broadcastInDim S8x2048x8x6 ![2, 3] bcast_S8x6_S8x2048x8x6_2_3 SL) : FVec Ideal S8x2048x8x6 .f32)⟩, ⟨S8x2048x8x58, (Z : FVec Ideal S8x2048x8x58 .f32)⟩] concatenates_S8x2048x8x64_S8x2048x8x6_S8x2048x8x58_S8x2048x8x128_d3 : FVec Ideal S8x2048x8x128 .f32)

/-- A stage. -/
def QA (u : FVec Ideal S8x2048x8x128 .f32) : FVec Ideal S8x1024x2048 .bf16 :=
  truncf .bf16 (transpose S8x1024x2048 [0, 2, 1] (shapeCast _ u shapeCasts_S8x2048x8x128_S8x2048x1024) transposes_S8x2048x1024_S8x1024x2048_0_2_1) bitsLt_bf16_f32

/-- A stage. -/
def PS : FVec Ideal S2048 .f32 :=
  sitofp .f32 (iotaInDim S2048 32 0)

/-- A stage. -/
def PH (v82 : FVec Ideal S2048 .f32) : FVec Ideal S2048 .f32 :=
  mulf (Host.floor (Host.divf v82 (broadcastInDim S2048 ![] bcast_S_S2048 (constant S_ .f32 0x41000000#32)))) (broadcastInDim S2048 ![] bcast_S_S2048 (constant S_ .f32 0x41000000#32))

/-- A stage. -/
def PL (v82 : FVec Ideal S2048 .f32) (v87 : FVec Ideal S2048 .f32) : FVec Ideal S2048 .f32 :=
  subf v82 v87

/-- A stage. -/
def PC (v87 : FVec Ideal S2048 .f32) (v88 : FVec Ideal S2048 .f32) : FVec Ideal S2048x6 .f32 :=
  concatenate S2048x6 1 [⟨S2048x1, ((broadcastInDim S2048x1 ![0] bcast_S2048_S2048x1_0 v87) : FVec Ideal S2048x1 .f32)⟩, ⟨S2048x1, ((broadcastInDim S2048x1 ![0] bcast_S2048_S2048x1_0 v87) : FVec Ideal S2048x1 .f32)⟩, ⟨S2048x1, ((broadcastInDim S2048x1 ![0] bcast_S2048_S2048x1_0 v87) : FVec Ideal S2048x1 .f32)⟩, ⟨S2048x1, ((broadcastInDim S2048x1 ![0] bcast_S2048_S2048x1_0 v88) : FVec Ideal S2048x1 .f32)⟩, ⟨S2048x1, ((broadcastInDim S2048x1 ![0] bcast_S2048_S2048x1_0 v88) : FVec Ideal S2048x1 .f32)⟩, ⟨S2048x1, ((broadcastInDim S2048x1 ![0] bcast_S2048_S2048x1_0 v88) : FVec Ideal S2048x1 .f32)⟩] concatenates_S2048x1_S2048x1_S2048x1_S2048x1_S2048x1_S2048x1_S2048x6_d1

/-- A stage. -/
def KC (kn : FVec Ideal S8x2048x8x64 .f32) (pc : FVec Ideal S2048x6 .f32) : FVec Ideal S8x2048x8x128 .f32 :=
  (concatenate S8x2048x8x128 3 [⟨S8x2048x8x64, (kn : FVec Ideal S8x2048x8x64 .f32)⟩, ⟨S8x2048x8x6, ((broadcastInDim S8x2048x8x6 ![1, 2, 3] bcast_S2048x1x6_S8x2048x8x6_1_2_3 (broadcastInDim S2048x1x6 ![0, 2] bcast_S2048x6_S2048x1x6_0_2 (pc))) : FVec Ideal S8x2048x8x6 .f32)⟩, ⟨S8x2048x8x58, (Z : FVec Ideal S8x2048x8x58 .f32)⟩] concatenates_S8x2048x8x64_S8x2048x8x6_S8x2048x8x58_S8x2048x8x128_d3 : FVec Ideal S8x2048x8x128 .f32)

/-- A stage. -/
def KA (u : FVec Ideal S8x2048x8x128 .f32) : FVec Ideal S8x2048x1024 .bf16 :=
  truncf .bf16 (shapeCast _ u shapeCasts_S8x2048x8x128_S8x2048x1024) bitsLt_bf16_f32

/-- A stage. -/
def MQ (v13 : FVec Ideal S8x2048x1024 .f32) (a4 : FVec Ideal S1024x512 .bf16) : FVec Ideal S8x2048x4x128 .f32 :=
  shapeCast _ (Host.dotGeneral dot_S8x2048x1024_S1024x512_S8x2048x512_2_0_01_1_n_n none v13 (extf .f32 a4 bitsLt_bf16_f32)) shapeCasts_S8x2048x512_S8x2048x4x128

/-- A stage. -/
def ML (v104 : FVec Ideal S8x2048x4x128 .f32) (a12 : FVec Ideal S1x128 .f32) (a10 : FVec Ideal S8x512x256 .bf16) : FVec Ideal S8x4x2048x256 .f32 :=
  Host.divf (Host.dotGeneral dot_S8x2048x4x128_S8x4x128x256_S8x4x2048x256_3_2_1_3_02_01 none (mulf (mulf v104 (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf v104 v104) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 (shapeCast _ a12 shapeCasts_S1x128_S128)))) (shapeCast _ (extf .f32 a10 bitsLt_bf16_f32) shapeCasts_S8x512x256_S8x4x128x256)) (broadcastInDim S8x4x2048x256 ![] bcast_S_S8x4x2048x256 (Host.sqrt (constant S_ .f32 0x43000000#32)))

/-- A stage. -/
def MR (v126 : FVec Ideal S8x4x2048x256 .f32) : FVec Ideal S8x4x2048 .f32 :=
  Host.reduce FloatOps.maximumf v126 (constant S_ .f32 0xFF800000#32) reducesTo_S8x4x2048x256_S8x4x2048_d3 h_S_

/-- A stage. -/
def MX (v126 : FVec Ideal S8x4x2048x256 .f32) : FVec Ideal S8x4x2048 .f32 :=
  maximumf (broadcastInDim S8x4x2048 ![] bcast_S_S8x4x2048 (constant S_ .f32 0xFF800000#32)) (MR v126)

/-- A stage. -/
def ME (v126 : FVec Ideal S8x4x2048x256 .f32) : FVec Ideal S8x4x2048x256 .f32 :=
  Host.exp (subf v126 (broadcastInDim S8x4x2048x256 ![0, 1, 2, 3] bcast_S8x4x2048x1_S8x4x2048x256_0_1_2_3 (broadcastInDim S8x4x2048x1 ![0, 1, 2] bcast_S8x4x2048_S8x4x2048x1_0_1_2 (MX v126))))

/-- A stage. -/
def MY (v131 : FVec Ideal S8x4x2048x256 .f32) (a11 : FVec Ideal S8x256x512 .bf16) : FVec Ideal S8x2048x512 .f32 :=
  shapeCast _ (transpose S8x2048x4x128 [0, 2, 1, 3] (Host.dotGeneral dot_S8x4x2048x256_S8x256x4x128_S8x4x2048x128_3_1_2_3_01_02 none (Host.divf v131 (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd v131 (constant S_ .f32 0x00000000#32) reducesTo_S8x4x2048x256_S8x4x2048_d3 h_S_)))) (shapeCast _ (extf .f32 a11 bitsLt_bf16_f32) shapeCasts_S8x256x512_S8x256x4x128)) transposes_S8x4x2048x128_S8x2048x4x128_0_2_1_3) shapeCasts_S8x2048x4x128_S8x2048x512

/-- A stage. -/
def YM (my : FVec Ideal S8x2048x512 .f32) (a13 : FVec Ideal S1x512x1024 .f32) : FVec Ideal S8x2048x1024 .f32 :=
  Host.dotGeneral dot_S8x2048x512_S512x1024_S8x2048x1024_2_0_01_1_n_n none my (shapeCast _ a13 shapeCasts_S1x512x1024_S512x1024)

/-- A stage. -/
def GT (v13 : FVec Ideal S8x2048x1024 .f32) (a5 : FVec Ideal S1024x3072 .bf16) : FVec Ideal S8x2048x3x1024 .f32 :=
  shapeCast _ (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (Host.dotGeneral dot_S8x2048x1024_S1024x3072_S8x2048x3072_2_0_01_1_n_n none v13 (extf .f32 a5 bitsLt_bf16_f32)))))) shapeCasts_S8x2048x3072_S8x2048x3x1024

/-- A stage. -/
def PART (v149 : FVec Ideal S8x2048x3x1024 .f32) (ya : FVec Ideal S8x2048x1024 .f32) (ym : FVec Ideal S8x2048x1024 .f32) : FVec Ideal S8x2048x1024 .bf16 :=
  truncf .bf16 (addf (mulf (shapeCast _ (extractStridedSlice S8x2048x1x1024 ![0, 0, 0, 0] v149 slices_S8x2048x3x1024_S8x2048x1x1024_0_0_0_0) shapeCasts_S8x2048x1x1024_S8x2048x1024) ya) (mulf (shapeCast _ (extractStridedSlice S8x2048x1x1024 ![0, 0, 2, 0] v149 slices_S8x2048x3x1024_S8x2048x1x1024_0_0_2_0) shapeCasts_S8x2048x1x1024_S8x2048x1024) ym)) bitsLt_bf16_f32

/-- A stage. -/
def G1 (v149 : FVec Ideal S8x2048x3x1024 .f32) : FVec Ideal S8x2048x1024 .bf16 :=
  truncf .bf16 (shapeCast _ (extractStridedSlice S8x2048x1x1024 ![0, 0, 1, 0] v149 slices_S8x2048x3x1024_S8x2048x1x1024_0_0_1_0) shapeCasts_S8x2048x1x1024_S8x2048x1024) bitsLt_bf16_f32

/-- A stage. -/
def VT (v15 : FVec Ideal S8x2048x3328 .f32) : FVec Ideal S8x512x2048 .bf16 :=
  truncf .bf16 (transpose S8x512x2048 [0, 2, 1] (extractStridedSlice S8x2048x512 ![0, 0, 2560] v15 slices_S8x2048x3328_S8x2048x512_0_0_2560) transposes_S8x2048x512_S8x512x2048_0_2_1) bitsLt_bf16_f32

/-- A stage. -/
def QI (v15 : FVec Ideal S8x2048x3328 .f32) : FVec Ideal S8x256x2048 .bf16 :=
  truncf .bf16 (transpose S8x256x2048 [0, 2, 1] (extractStridedSlice S8x2048x256 ![0, 0, 3072] v15 slices_S8x2048x3328_S8x2048x256_0_0_3072) transposes_S8x2048x256_S8x256x2048_0_2_1) bitsLt_bf16_f32

/-- A stage. -/
def KW (v13 : FVec Ideal S8x2048x1024 .f32) (a3 : FVec Ideal S1024x128 .bf16) : FVec Ideal S8x2048x128 .f32 :=
  Host.dotGeneral dot_S8x2048x1024_S1024x128_S8x2048x128_2_0_01_1_n_n none v13 (extf .f32 a3 bitsLt_bf16_f32)

/-- A stage. -/
def WI (v158 : FVec Ideal S8x2048x128 .f32) : FVec Ideal S8x8x2048 .f32 :=
  transpose S8x8x2048 [0, 2, 1] (extractStridedSlice S8x2048x8 ![0, 0, 32] v158 slices_S8x2048x128_S8x2048x8_0_0_32) transposes_S8x2048x8_S8x8x2048_0_2_1

variable (b : Fin 8) (t : Fin 2048)

theorem xn_apply (a0 : FVec Ideal S8x2048x1024 .f32) (a1 : FVec Ideal S1x1024 .f32) (d : Fin 1024) :
    XN a0 a1 (ix3 b t d) = InMath.xRow a0 a1 b t d := by
  unfold XN InMath.xRow FfnMath.xn
  pointwise

theorem pr_apply (v13 : FVec Ideal S8x2048x1024 .f32) (a2 : FVec Ideal S1024x3328 .bf16) (n : Fin 3328) :
    PR v13 a2 (ix3 b t n) = InMath.lin (fun d => v13 (ix3 b t d)) (fun k n => a2 (ix2 k n)) n := by
  unfold PR InMath.lin
  pointwise

theorem ch_apply (v15 : FVec Ideal S8x2048x3328 .f32) (n : Fin 512) :
    CH v15 (ix3 b t n) = InMath.ch (fun n => v15 (ix3 b t n)) n := by
  unfold CH InMath.ch
  pointwise

theorem zero_word : (FloatOps.sitofp FTy.f32 0#32 : Ideal .f32) = (0 : EReal) := by
  show ((((0#32).toInt : ℤ) : ℝ) : EReal) = 0
  simp

theorem cv_apply (u : FVec Ideal S8x2048x512 .f32) (a6 : FVec Ideal S1x3x512 .f32) (n : Fin 512) :
    CV u a6 (ix3 b t n) = InMath.cv (fun j n => a6 (ix3 0 j n)) (InMath.back (fun t n => u (ix3 b t n)) 2 t)
      (InMath.back (fun t n => u (ix3 b t n)) 1 t) (fun n => u (ix3 b t n)) n := by
  unfold CV InMath.cv InMath.back
  pointwise
  simp only [zero_word]
  have e2 : (2 ≤ t.val ∧ t.val - 2 < 2048) ↔ 2 ≤ t.val := by omega
  have e1 : (2 ≤ 1 + t.val ∧ 1 + t.val - 2 < 2048) ↔ 1 ≤ t.val := by omega
  have e3 : 1 + t.val - 2 = t.val - 1 := by omega
  simp only [e2, e1]
  simp only [e3]

theorem ya_apply (v15 : FVec Ideal S8x2048x3328 .f32) (v : FVec Ideal S8x2048x512 .f32) (a7 : FVec Ideal S1x512x1024 .f32) (d : Fin 1024) :
    YA v15 v a7 (ix3 b t d) = InMath.ya (fun n => v15 (ix3 b t n)) (fun n => v (ix3 b t n)) (fun n d => a7 (ix3 0 n d)) d := by
  unfold YA InMath.ya InMath.lin
  pointwise

theorem qh_apply (v15 : FVec Ideal S8x2048x3328 .f32) (h : Fin 8) (c : Fin 64) :
    QH v15 (ix4 b t h c) = InMath.head 1536 (by decide) (fun n => v15 (ix3 b t n)) h c := by
  unfold QH InMath.head
  pointwise

theorem kh_apply (v15 : FVec Ideal S8x2048x3328 .f32) (h : Fin 8) (c : Fin 64) :
    KH v15 (ix4 b t h c) = InMath.head 2048 (by decide) (fun n => v15 (ix3 b t n)) h c := by
  unfold KH InMath.head
  pointwise

theorem qn_apply (v : FVec Ideal S8x2048x8x64 .f32) (g : FVec Ideal S1x64 .f32) (h : Fin 8) (c : Fin 64) :
    QN v g (ix4 b t h c) = InMath.qk (fun c => v (ix4 b t h c)) (fun c => g (ix2 0 c)) c * Ideal.ofBits .f32 0x3E38AA3B#32 := by
  unfold QN InMath.qk InMath.rr
  pointwise

theorem kn_apply (v : FVec Ideal S8x2048x8x64 .f32) (g : FVec Ideal S1x64 .f32) (h : Fin 8) (c : Fin 64) :
    KN v g (ix4 b t h c) = InMath.qk (fun c => v (ix4 b t h c)) (fun c => g (ix2 0 c)) c := by
  unfold KN InMath.qk InMath.rr
  pointwise

theorem sl_apply (h : Fin 8) (i : Fin 6) : SL (ix2 h i) = InMath.slope (InMath.slopeWord h) i.val := by
  revert h i
  have key : ∀ (h : Fin 8) (i : Fin 6), lit0 (S8x6.rowMajor (ix2 h i)) = if i.val = 2 ∨ i.val = 5 then InMath.slopeWord h 2
      else if i.val = 1 ∨ i.val = 4 then InMath.slopeWord h 1 else InMath.slopeWord h 0 := by
    decide +kernel
  intro h i
  show Ideal.ofBits .f32 (lit0 (S8x6.rowMajor (ix2 h i))) = _
  rw [key h i]
  unfold InMath.slope
  have hi := i.isLt
  split_ifs <;> first | rfl | omega

theorem qc_apply (v : FVec Ideal S8x2048x8x64 .f32) (h : Fin 8) (c : Fin 128) :
    QC v (ix4 b t h c) = InMath.aug (fun c => v (ix4 b t h c)) (InMath.slope (InMath.slopeWord h)) c := by
  have hs := sl_apply h
  unfold QC Z InMath.aug
  generalize SL = s at hs ⊢
  pointwise
  have hc : (c.val < 70) ↔ (c.val - 64 < 6) := by omega
  simp only [hc]
  split_ifs <;> first | rfl | exact hs _

theorem qa_apply (u : FVec Ideal S8x2048x8x128 .f32) (n : Fin 1024) :
    QA u (ix3 b n t) = u (ix4 b t ⟨n.val / 128, by omega⟩ ⟨n.val % 128, by omega⟩) := by
  unfold QA
  pointwise

theorem word_pos : (FloatOps.sitofp FTy.f32 (BitVec.ofNat 32 t.val) : Ideal .f32) = (((t.val : ℤ) : ℝ) : EReal) := by
  show ((((BitVec.ofNat 32 t.val).toInt : ℤ) : ℝ) : EReal) = _
  have h : (BitVec.ofNat 32 t.val).toInt = (t.val : ℤ) := by
    have := t.isLt
    rw [BitVec.toInt_eq_toNat_cond, BitVec.toNat_ofNat]
    omega
  rw [h]

theorem pc_apply (i : Fin 6) : PC (PH PS) (PL PS (PH PS)) (ix2 t i) = InMath.posCol t.val i.val := by
  unfold PC PL PH PS InMath.posCol InMath.posHi
  pointwise
  have hw : (FloatOps.sitofp FTy.f32 (BitVec.ofNat 32 t.val) : Ideal .f32) = (((t.val : ℤ) : ℝ) : EReal) := word_pos t
  simp only [hw]
  fin_cases i <;> simp

theorem kc_apply (v : FVec Ideal S8x2048x8x64 .f32) (pc : FVec Ideal S2048x6 .f32) (h : Fin 8) (c : Fin 128) :
    KC v pc (ix4 b t h c) = InMath.aug (fun c => v (ix4 b t h c)) (fun i => if h : i < 6 then pc (ix2 t ⟨i, h⟩) else 0) c := by
  unfold KC Z InMath.aug
  pointwise
  have hc : (c.val < 70) ↔ (c.val - 64 < 6) := by omega
  simp only [hc]
  split_ifs <;> rfl

theorem ka_apply (u : FVec Ideal S8x2048x8x128 .f32) (n : Fin 1024) :
    KA u (ix3 b t n) = u (ix4 b t ⟨n.val / 128, by omega⟩ ⟨n.val % 128, by omega⟩) := by
  unfold KA
  pointwise

theorem mq_apply (v13 : FVec Ideal S8x2048x1024 .f32) (a4 : FVec Ideal S1024x512 .bf16) (h : Fin 4) (c : Fin 128) :
    MQ v13 a4 (ix4 b t h c) = InMath.mhead (InMath.lin (fun d => v13 (ix3 b t d)) (fun k n => a4 (ix2 k n))) h c := by
  unfold MQ InMath.mhead InMath.lin
  pointwise

theorem ml_apply (v : FVec Ideal S8x2048x4x128 .f32) (a12 : FVec Ideal S1x128 .f32) (a10 : FVec Ideal S8x512x256 .bf16)
    (h : Fin 4) (m : Fin 256) :
    ML v a12 a10 (ix4 b h t m) = InMath.logit (fun c => v (ix4 b t h c)) (fun c => a12 (ix2 0 c))
      (fun c m => a10 (ix3 b ⟨h.val * 128 + c.val, by omega⟩ m)) m := by
  unfold ML InMath.logit InMath.rr
  pointwise

theorem mr_apply (l : FVec Ideal S8x4x2048x256 .f32) (h : Fin 4) :
    MR l (ix3 b h t) = InMath.top (fun m : Fin 256 => l (ix4 b h t m)) := by
  unfold MR InMath.top
  pointwise

theorem bc_at (h : S_.BroadcastsInDim S8x4x2048 (![] : Fin 0 → Fin S8x4x2048.rank)) (i : S8x4x2048.Idx) :
    (broadcastInDim S8x4x2048 ![] h (constant (F := Ideal) S_ .f32 0xFF800000#32)) i = (⊥ : EReal) := by
  exact InMath.word_bot

theorem max_at (w x : FVec Ideal S8x4x2048 .f32) (i : S8x4x2048.Idx) (h : w i = (⊥ : EReal)) : maximumf w x i = x i := by
  have e : maximumf w x i = (max (w i : EReal) (x i : EReal) : EReal) := rfl
  rw [e, h]
  exact max_bot_left (α := EReal) (x i)

theorem mx_apply (l : FVec Ideal S8x4x2048x256 .f32) (h : Fin 4) :
    MX l (ix3 b h t) = InMath.top (fun m : Fin 256 => l (ix4 b h t m)) := by
  unfold MX
  exact (max_at _ _ _ (bc_at _ _)).trans (mr_apply b t l h)

theorem me_apply (l : FVec Ideal S8x4x2048x256 .f32) (h : Fin 4) (m : Fin 256) :
    ME l (ix4 b h t m) = InMath.expo (fun m => l (ix4 b h t m)) m := by
  unfold ME InMath.expo
  show _ = Ideal.exp (_ - InMath.top (fun m => l (ix4 b h t m)))
  have e := mx_apply b t l h
  generalize MX l = x at e ⊢
  pointwise
  rw [e]

theorem my_apply (e : FVec Ideal S8x4x2048x256 .f32) (a11 : FVec Ideal S8x256x512 .bf16) (n : Fin 512) :
    MY e a11 (ix3 b t n) = InMath.smean (fun m => e (ix4 b ⟨n.val / 128, by omega⟩ t m))
      (fun m c => a11 (ix3 b m ⟨n.val / 128 * 128 + c.val, by omega⟩)) ⟨n.val % 128, by omega⟩ := by
  unfold MY InMath.smean
  pointwise
  simp only [Nat.div_add_mod']

theorem ym_apply (v : FVec Ideal S8x2048x512 .f32) (a13 : FVec Ideal S1x512x1024 .f32) (d : Fin 1024) :
    YM v a13 (ix3 b t d) = InMath.lin (fun n => v (ix3 b t n)) (fun n d => a13 (ix3 0 n d)) d := by
  unfold YM InMath.lin
  pointwise

theorem gt_apply (v13 : FVec Ideal S8x2048x1024 .f32) (a5 : FVec Ideal S1024x3072 .bf16) (j : Fin 3) (d : Fin 1024) :
    GT v13 a5 (ix4 b t j d) = InMath.sig (InMath.lin (fun d => v13 (ix3 b t d)) (fun k n => a5 (ix2 k n)) ⟨j.val * 1024 + d.val, by omega⟩) := by
  unfold GT InMath.sig InMath.lin
  pointwise

theorem part_apply (g : FVec Ideal S8x2048x3x1024 .f32) (y z : FVec Ideal S8x2048x1024 .f32) (d : Fin 1024) :
    PART g y z (ix3 b t d) = g (ix4 b t 0 d) * y (ix3 b t d) + g (ix4 b t 2 d) * z (ix3 b t d) := by
  unfold PART
  pointwise

theorem g1_apply (g : FVec Ideal S8x2048x3x1024 .f32) (d : Fin 1024) : G1 g (ix3 b t d) = g (ix4 b t 1 d) := by
  unfold G1
  pointwise

theorem vt_apply (v15 : FVec Ideal S8x2048x3328 .f32) (n : Fin 512) : VT v15 (ix3 b n t) = v15 (ix3 b t ⟨2560 + n.val, by omega⟩) := by
  unfold VT
  pointwise

theorem qi_apply (v15 : FVec Ideal S8x2048x3328 .f32) (n : Fin 256) : QI v15 (ix3 b n t) = v15 (ix3 b t ⟨3072 + n.val, by omega⟩) := by
  unfold QI
  pointwise

theorem kw_apply (v13 : FVec Ideal S8x2048x1024 .f32) (a3 : FVec Ideal S1024x128 .bf16) (n : Fin 128) :
    KW v13 a3 (ix3 b t n) = InMath.lin (fun d => v13 (ix3 b t d)) (fun k n => a3 (ix2 k n)) n := by
  unfold KW InMath.lin
  pointwise

theorem wi_apply (v : FVec Ideal S8x2048x128 .f32) (i : Fin 8) : WI v (ix3 b i t) = v (ix3 b t ⟨32 + i.val, by omega⟩) := by
  unfold WI
  pointwise

theorem part_res (a0 : FVec Ideal S8x2048x1024 .f32) (a1 : FVec Ideal S1x1024 .f32) (a2 : FVec Ideal S1024x3328 .bf16) (a4 : FVec Ideal S1024x512 .bf16) (a5 : FVec Ideal S1024x3072 .bf16) (a6 : FVec Ideal S1x3x512 .f32) (a7 : FVec Ideal S1x512x1024 .f32) (a10 : FVec Ideal S8x512x256 .bf16) (a11 : FVec Ideal S8x256x512 .bf16) (a12 : FVec Ideal S1x128 .f32) (a13 : FVec Ideal S1x512x1024 .f32) :
    (PART (GT (XN a0 a1) a5) (YA (PR (XN a0 a1) a2) (CV (CH (PR (XN a0 a1) a2)) a6) a7) (YM (MY (ME (ML (MQ (XN a0 a1) a4) a12 a10)) a11) a13) : FVec Ideal S8x2048x1024 .bf16) = fun i => InMath.spartTok a0 a1 a2 a4 a5 a6 a7 a10 a11 a12 a13 (i 0) (i 1) (i 2) := by
  have key : ∀ (b : Fin 8) (p : Fin 2048) (q : Fin 1024),
      (PART (GT (XN a0 a1) a5) (YA (PR (XN a0 a1) a2) (CV (CH (PR (XN a0 a1) a2)) a6) a7) (YM (MY (ME (ML (MQ (XN a0 a1) a4) a12 a10)) a11) a13) : FVec Ideal S8x2048x1024 .bf16) (ix3 b p q) = InMath.spartTok a0 a1 a2 a4 a5 a6 a7 a10 a11 a12 a13 b p q := by
    intro b t d
    skip
    unfold InMath.spartTok InMath.part InMath.cvRow InMath.smemRow InMath.smem InMath.pRow
    simp only [part_apply, gt_apply, ya_apply, ym_apply, my_apply, me_apply, ml_apply, mq_apply, cv_apply, ch_apply, pr_apply, xn_apply]
    have e0 : ∀ h, (⟨((0 : Fin 3) : Nat) * 1024 + (d : Nat), h⟩ : Fin 3072) = ⟨d, by omega⟩ := fun _ => Fin.ext (by simp)
    have e1 : ∀ h, (⟨((1 : Fin 3) : Nat) * 1024 + (d : Nat), h⟩ : Fin 3072) = ⟨1024 + d, by omega⟩ := fun _ => Fin.ext (by simp)
    have e2 : ∀ h, (⟨((2 : Fin 3) : Nat) * 1024 + (d : Nat), h⟩ : Fin 3072) = ⟨2048 + d, by omega⟩ := fun _ => Fin.ext (by simp)
    simp only [e0, e1, e2]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem g1_res (a0 : FVec Ideal S8x2048x1024 .f32) (a1 : FVec Ideal S1x1024 .f32) (a5 : FVec Ideal S1024x3072 .bf16) :
    (G1 (GT (XN a0 a1) a5) : FVec Ideal S8x2048x1024 .bf16) = fun i => InMath.g1Tok a0 a1 a5 (i 0) (i 1) (i 2) := by
  have key : ∀ (b : Fin 8) (p : Fin 2048) (q : Fin 1024),
      (G1 (GT (XN a0 a1) a5) : FVec Ideal S8x2048x1024 .bf16) (ix3 b p q) = InMath.g1Tok a0 a1 a5 b p q := by
    intro b t d
    skip
    unfold InMath.g1Tok
    simp only [g1_apply, gt_apply, cv_apply, ch_apply, pr_apply, xn_apply]
    have e0 : ∀ h, (⟨((0 : Fin 3) : Nat) * 1024 + (d : Nat), h⟩ : Fin 3072) = ⟨d, by omega⟩ := fun _ => Fin.ext (by simp)
    have e1 : ∀ h, (⟨((1 : Fin 3) : Nat) * 1024 + (d : Nat), h⟩ : Fin 3072) = ⟨1024 + d, by omega⟩ := fun _ => Fin.ext (by simp)
    have e2 : ∀ h, (⟨((2 : Fin 3) : Nat) * 1024 + (d : Nat), h⟩ : Fin 3072) = ⟨2048 + d, by omega⟩ := fun _ => Fin.ext (by simp)
    simp only [e0, e1, e2]
  funext i
  have e : i = ix3 (i 0) (i 1) (i 2) := by funext a; match a with | ⟨0, _⟩ => rfl | ⟨1, _⟩ => rfl | ⟨2, _⟩ => rfl
  exact (congrArg _ e).trans (key (i 0) (i 1) (i 2))

theorem q_res (a0 : FVec Ideal S8x2048x1024 .f32) (a1 : FVec Ideal S1x1024 .f32) (a2 : FVec Ideal S1024x3328 .bf16) (a8 : FVec Ideal S1x64 .f32) :
    (QA (QC (QN (QH (PR (XN a0 a1) a2)) a8)) : FVec Ideal S8x1024x2048 .bf16) = fun i => InMath.qTok a0 a1 a2 a8 (i 0) (i 1) (i 2) := by
  have key : ∀ (b : Fin 8) (p : Fin 1024) (q : Fin 2048),
      (QA (QC (QN (QH (PR (XN a0 a1) a2)) a8)) : FVec Ideal S8x1024x2048 .bf16) (ix3 b p q) = InMath.qTok a0 a1 a2 a8 b p q := by
    intro b t d
    skip
    unfold InMath.qTok InMath.qaug InMath.pRow
    simp only [qa_apply, qc_apply, qn_apply, qh_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem k_res (a0 : FVec Ideal S8x2048x1024 .f32) (a1 : FVec Ideal S1x1024 .f32) (a2 : FVec Ideal S1024x3328 .bf16) (a9 : FVec Ideal S1x64 .f32) :
    (KA (KC (KN (KH (PR (XN a0 a1) a2)) a9) (PC (PH PS) (PL PS (PH PS)))) : FVec Ideal S8x2048x1024 .bf16) = fun i => InMath.kTok a0 a1 a2 a9 (i 0) (i 1) (i 2) := by
  have key : ∀ (b : Fin 8) (p : Fin 2048) (q : Fin 1024),
      (KA (KC (KN (KH (PR (XN a0 a1) a2)) a9) (PC (PH PS) (PL PS (PH PS)))) : FVec Ideal S8x2048x1024 .bf16) (ix3 b p q) = InMath.kTok a0 a1 a2 a9 b p q := by
    intro b t d
    skip
    unfold InMath.kTok InMath.kaug InMath.pRow
    simp only [ka_apply, kc_apply, kn_apply, kh_apply, cv_apply, ch_apply, pr_apply, xn_apply]
    exact InMath.aug_congr _ _ _ _ (fun i hi => by rw [dif_pos hi, pc_apply])
  funext i
  have e : i = ix3 (i 0) (i 1) (i 2) := by funext a; match a with | ⟨0, _⟩ => rfl | ⟨1, _⟩ => rfl | ⟨2, _⟩ => rfl
  exact (congrArg _ e).trans (key (i 0) (i 1) (i 2))

theorem v_res (a0 : FVec Ideal S8x2048x1024 .f32) (a1 : FVec Ideal S1x1024 .f32) (a2 : FVec Ideal S1024x3328 .bf16) :
    (VT (PR (XN a0 a1) a2) : FVec Ideal S8x512x2048 .bf16) = fun i => InMath.vTok a0 a1 a2 (i 0) (i 1) (i 2) := by
  have key : ∀ (b : Fin 8) (p : Fin 512) (q : Fin 2048),
      (VT (PR (XN a0 a1) a2) : FVec Ideal S8x512x2048 .bf16) (ix3 b p q) = InMath.vTok a0 a1 a2 b p q := by
    intro b t d
    skip
    unfold InMath.vTok InMath.pRow
    simp only [vt_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem qi_res (a0 : FVec Ideal S8x2048x1024 .f32) (a1 : FVec Ideal S1x1024 .f32) (a2 : FVec Ideal S1024x3328 .bf16) :
    (QI (PR (XN a0 a1) a2) : FVec Ideal S8x256x2048 .bf16) = fun i => InMath.qiTok a0 a1 a2 (i 0) (i 1) (i 2) := by
  have key : ∀ (b : Fin 8) (p : Fin 256) (q : Fin 2048),
      (QI (PR (XN a0 a1) a2) : FVec Ideal S8x256x2048 .bf16) (ix3 b p q) = InMath.qiTok a0 a1 a2 b p q := by
    intro b t d
    skip
    unfold InMath.qiTok InMath.pRow
    simp only [qi_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem kw_res (a0 : FVec Ideal S8x2048x1024 .f32) (a1 : FVec Ideal S1x1024 .f32) (a3 : FVec Ideal S1024x128 .bf16) :
    (truncf .bf16 (KW (XN a0 a1) a3) bitsLt_bf16_f32 : FVec Ideal S8x2048x128 .bf16) = fun i => InMath.kwTok a0 a1 a3 (i 0) (i 1) (i 2) := by
  have key : ∀ (b : Fin 8) (p : Fin 2048) (q : Fin 128),
      (truncf .bf16 (KW (XN a0 a1) a3) bitsLt_bf16_f32 : FVec Ideal S8x2048x128 .bf16) (ix3 b p q) = InMath.kwTok a0 a1 a3 b p q := by
    intro b t d
    pointwise
    unfold InMath.kwTok
    simp only [kw_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

theorem wi_res (a0 : FVec Ideal S8x2048x1024 .f32) (a1 : FVec Ideal S1x1024 .f32) (a3 : FVec Ideal S1024x128 .bf16) :
    (WI (KW (XN a0 a1) a3) : FVec Ideal S8x8x2048 .f32) = fun i => InMath.wiTok a0 a1 a3 (i 0) (i 1) (i 2) := by
  have key : ∀ (b : Fin 8) (p : Fin 8) (q : Fin 2048),
      (WI (KW (XN a0 a1) a3) : FVec Ideal S8x8x2048 .f32) (ix3 b p q) = InMath.wiTok a0 a1 a3 b p q := by
    intro b t d
    skip
    unfold InMath.wiTok InMath.kwTok
    simp only [wi_apply, kw_apply, cv_apply, ch_apply, pr_apply, xn_apply]
    try rfl
  funext i
  have e : i = ix3 (i 0) (i 1) (i 2) := by funext a; match a with | ⟨0, _⟩ => rfl | ⟨1, _⟩ => rfl | ⟨2, _⟩ => rfl
  exact (congrArg _ e).trans (key (i 0) (i 1) (i 2))

/-- What the plain mathematics leaves: the token formulas of its arguments. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v161) = (fun i => InMath.spartTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (i 0) (i 1) (i 2) : FVec Ideal S8x2048x1024 .bf16)
      ∧ r.2.mem ((c.tc : Thread nD τ).loc main_v164) = (fun i => InMath.g1Tok (m ((c.tc : Thread nD τ).loc main_arg0)) (m ((c.tc : Thread nD τ).loc main_arg1)) (m ((c.tc : Thread nD τ).loc main_arg5)) (i 0) (i 1) (i 2) : FVec Ideal S8x2048x1024 .bf16)
      ∧ r.2.mem ((c.tc : Thread nD τ).loc main_v167) = (fun i => InMath.qTok (m ((c.tc : Thread nD τ).loc main_arg0)) (m ((c.tc : Thread nD τ).loc main_arg1)) (m ((c.tc : Thread nD τ).loc main_arg2)) (m ((c.tc : Thread nD τ).loc main_arg8)) (i 0) (i 1) (i 2) : FVec Ideal S8x1024x2048 .bf16)
      ∧ r.2.mem ((c.tc : Thread nD τ).loc main_v169) = (fun i => InMath.kTok (m ((c.tc : Thread nD τ).loc main_arg0)) (m ((c.tc : Thread nD τ).loc main_arg1)) (m ((c.tc : Thread nD τ).loc main_arg2)) (m ((c.tc : Thread nD τ).loc main_arg9)) (i 0) (i 1) (i 2) : FVec Ideal S8x2048x1024 .bf16)
      ∧ r.2.mem ((c.tc : Thread nD τ).loc main_v171) = (fun i => InMath.vTok (m ((c.tc : Thread nD τ).loc main_arg0)) (m ((c.tc : Thread nD τ).loc main_arg1)) (m ((c.tc : Thread nD τ).loc main_arg2)) (i 0) (i 1) (i 2) : FVec Ideal S8x512x2048 .bf16)
      ∧ r.2.mem ((c.tc : Thread nD τ).loc main_v173) = (fun i => InMath.qiTok (m ((c.tc : Thread nD τ).loc main_arg0)) (m ((c.tc : Thread nD τ).loc main_arg1)) (m ((c.tc : Thread nD τ).loc main_arg2)) (i 0) (i 1) (i 2) : FVec Ideal S8x256x2048 .bf16)
      ∧ r.2.mem ((c.tc : Thread nD τ).loc main_v174) = (fun i => InMath.kwTok (m ((c.tc : Thread nD τ).loc main_arg0)) (m ((c.tc : Thread nD τ).loc main_arg1)) (m ((c.tc : Thread nD τ).loc main_arg3)) (i 0) (i 1) (i 2) : FVec Ideal S8x2048x128 .bf16)
      ∧ r.2.mem ((c.tc : Thread nD τ).loc main_v176) = (fun i => InMath.wiTok (m ((c.tc : Thread nD τ).loc main_arg0)) (m ((c.tc : Thread nD τ).loc main_arg1)) (m ((c.tc : Thread nD τ).loc main_arg3)) (i 0) (i 1) (i 2) : FVec Ideal S8x8x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (run (F := Ideal) m ρ)
  obtain ⟨h0, h1, h2, h3, h4, h5, h6, h7, hr⟩ := h c
  exact ⟨h0.trans (part_res _ _ _ _ _ _ _ _ _ _ _ ), h1.trans (g1_res _ _ _ ), h2.trans (q_res _ _ _ _ ), h3.trans (k_res _ _ _ _ ), h4.trans (v_res _ _ _ ), h5.trans (qi_res _ _ _ ), h6.trans (kw_res _ _ _ ), h7.trans (wi_res _ _ _ ), hr⟩

end Cert.Reference4Ideal.Value
-- ==== Proof.Finite.lean ====
/-
  What the precondition says: the norm of the memory queries and the memory keys are finite.
-/
module

public import proofs.«01_k».proof.Pre_finite
public import proofs.«01_k».proof.Proof.SoftMath
public import Idealize.ShloMosaic.Lib.ReduceAll
public import Idealize.ShloMosaic.Lib.Pointwise

@[expose] public section

set_option maxRecDepth 16384

noncomputable section

namespace Cert.Pre_finite

open Idealize.ShloMosaic Cert.Pre_finite.Facts InMath

theorem word_top : Ideal.ofBits .f32 0x7F800000#32 = ⊤ := by
  simp [Ideal.ofBits, Ideal.ieee]

theorem word_top_bf16 : Ideal.ofBits .bf16 0x7F80#16 = ⊤ := by
  simp [Ideal.ofBits, Ideal.ieee]

/-- A magnitude below infinity is a finite value's. -/
theorem fine_of_lt (x : EReal) (h : max x (-x) < ⊤) : Fine x := by
  have h1 : x ≠ ⊤ := fun e => by simp [e] at h
  have h2 : x ≠ ⊥ := fun e => by simp [e] at h
  exact ⟨x.toReal, (EReal.coe_toReal h1 h2).symm⟩

theorem and_one {x y : IVec S_ 1} {i : S_.Idx} (h : andi x y i = 1#1) : x i = 1#1 ∧ y i = 1#1 := by
  have h' : x i &&& y i = 1#1 := h
  generalize x i = a at h' ⊢
  generalize y i = b at h' ⊢
  revert a b
  decide

/-- One element of `jnp.abs(x) < jnp.inf`. -/
theorem fine_of_cmp {s : Shape} {φ : FTy} (x t : FVec Ideal s φ) (i : s.Idx) (ht : t i = (⊤ : EReal))
    (h : cmpf .olt (Host.absf x) t i = 1#1) : Fine (x i) := by
  have h' : BitVec.ofBool (decide (max (x i : EReal) (-(x i : EReal)) < t i)) = 1#1 := h
  rw [ht] at h'
  refine fine_of_lt _ ?_
  by_contra g
  rw [decide_eq_false g] at h'
  exact absurd h' (by decide)

variable [Facts]

/-- The precondition's two conjuncts, element by element. -/
theorem fine_args (a0 : FVec Ideal S8x2048x1024 .f32) (a1 : FVec Ideal S1x1024 .f32) (a2 : FVec Ideal S1024x3328 .bf16)
    (a3 : FVec Ideal S1024x128 .bf16) (a4 : FVec Ideal S1024x512 .bf16) (a5 : FVec Ideal S1024x3072 .bf16)
    (a6 : FVec Ideal S1x3x512 .f32) (a7 : FVec Ideal S1x512x1024 .f32) (a8 a9 : FVec Ideal S1x64 .f32)
    (a10 : FVec Ideal S8x512x256 .bf16) (a11 : FVec Ideal S8x256x512 .bf16) (a12 : FVec Ideal S1x128 .f32)
    (a13 : FVec Ideal S1x512x1024 .f32) (j : S_.Idx)
    (h : fn (F := Ideal) a0 a1 a2 a3 a4 a5 a6 a7 a8 a9 a10 a11 a12 a13 j = 1#1) :
    (∀ i, Fine (a12 i)) ∧ (∀ i, Fine (a10 i)) := by
  have : Subsingleton S_.Idx := ⟨fun a b => funext fun k => k.elim0⟩
  unfold fn at h
  obtain ⟨g12, g10⟩ := and_one h
  exact ⟨fun i => fine_of_cmp _ _ _ word_top (Host.reduce_andi_all _ _ _ _ j g12 i),
    fun i => fine_of_cmp _ _ _ word_top_bf16 (Host.reduce_andi_all _ _ _ _ j g10 i)⟩

end Cert.Pre_finite
-- ==== Proof.Pieces.lean ====
/-
  The pieces of the combined input weight: each call copies a range of its columns, transposed from the weight that the
  host transposed; the narrow one adds zero columns. Call by call: what a point reads, what it leaves, and what the
  array holds.
-/
module

public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ValueKit.Point
public import Idealize.ShloMosaic.Lib.Claim

@[expose] public section

set_option maxRecDepth 16384

noncomputable section

namespace PieceMath

open Idealize.ShloMosaic

/-- Column `off + n` of the combined weight, in row `k`. -/
def col (w : (⟨3, ![1, 1024, 6952]⟩ : Shape).Idx → EReal) (off : Nat) (k : Fin 1024) {N : Nat} (h : off + N ≤ 6952) (n : Fin N) : EReal :=
  w (ix3 0 k ⟨off + n.val, by omega⟩)

/-- The forty columns of the indexer's keys and weights, and zeros. -/
def narrow (w : (⟨3, ![1, 1024, 6952]⟩ : Shape).Idx → EReal) (k : Fin 1024) (n : Fin 128) : EReal :=
  if h : n.val < 40 then col w 3328 k (N := 40) (by norm_num) ⟨n.val, h⟩ else 0

end PieceMath

namespace Cert.Kernel5Ideal.Value

open Cert.Kernel5Ideal Cert.Kernel5Ideal.Gen Idealize.ShloMosaic Idealize.ShloMosaic.TcCoe Idealize.SL.Sem

variable (m : (ℓ : Loc nD τ sig) → Buf (Elt Ideal) ℓ)

/-- Where a point's blocks begin. -/
theorem idx : ∀ t : Fin cfg0.N, win0_0.index t = ![0, 0 + t.val * 256, 0] ∧ win0_1.index t = ![0, t.val] :=
  (by decide +kernel : ∀ t : Fin grid0.N, _)

theorem pt (t : Fin cfg0.N) : t.val < 13 := lt_of_lt_of_eq t.isLt (show cfg0.N = 13 from N_0)

theorem V_v0 (c : Dev nD) : (V m c main_v0 : FVec Ideal S1x6952x1024 .f32) = transpose S1x6952x1024 [0, 2, 1] (show FVec Ideal S1x1024x6952 .f32 from m ((c.tc : Thread nD τ).loc main_arg0)) transposes_S1x1024x6952_S1x6952x1024_0_2_1 := by
  unfold_abbrev_sides
  after_results_simp

/-- What a point reads. -/
theorem iblk0 (c : Dev nD) (t : Fin cfg0.N) (r : Fin 256) (k : Fin 1024) :
    (iblk m c 0 t : FVec Ideal S1x256x1024 .f32) (ix3 0 r k)
      = m ((c.tc : Thread nD τ).loc main_arg0) (ix3 0 k ⟨0 + (t.val * 256 + r.val), by have := pt t; omega⟩) := by
  have e : (iblk m c 0 t : FVec Ideal S1x256x1024 .f32) (ix3 0 r k)
      = (V m c main_v0 : FVec Ideal S1x6952x1024 .f32) (ix3 0 ⟨0 + (t.val * 256 + r.val), by have := pt t; omega⟩ k) := by
    refine congrArg (V m c main_v0 : FVec Ideal S1x6952x1024 .f32) (funext fun a => Fin.ext ?_)
    match a with
    | ⟨0, _⟩ => rfl
    | ⟨1, _⟩ =>
      show win0_0.index t 1 + 1 * r.val = _
      rw [(idx t).1]
      show 0 + t.val * 256 + 1 * r.val = 0 + (t.val * 256 + r.val)
      omega
    | ⟨2, _⟩ =>
      show win0_0.index t 2 + 1 * k.val = _
      rw [(idx t).1]
      show 0 + 1 * k.val = k.val
      omega
  rw [e, V_v0]
  pointwise

/-- What it leaves. -/
theorem out_apply (x : FVec Ideal S1x256x1024 .f32) (k : Fin 1024) (n : Fin 256) :
    out0_1 (F := Ideal) x (ix2 k n) = x (ix3 0 n k) := by
  unfold out0_1
  rw [View.ld_unit_zero (S := S1x256x1024) (by funext a; match a with | ⟨0, _⟩ => rfl | ⟨1, _⟩ => rfl | ⟨2, _⟩ => rfl)]
  refine (canon1_eq (F := Ideal) x (ix2 k n)).trans ?_
  exact congrArg x (by funext a; match a with | ⟨0, _⟩ => rfl | ⟨1, _⟩ => rfl | ⟨2, _⟩ => rfl)

/-- The array after the run. -/
theorem final1 (c : Dev nD) : (dats m 0 c).arrAt 1 cfg0.N
    = (fun i => PieceMath.col (m ((c.tc : Thread nD τ).loc main_arg0)) 0 (i 0) (N := 3328) (by norm_num) (i 1) : FVec Ideal S1024x3328 .bf16) := by
  refine (dats m 0 c).arrAt_eq_of_covers 1 _ (by decide +kernel) fun t hf y => ?_
  have hy : (y 1).val < 256 := (y 1).isLt
  have e : ((win0_1.blk t).view.emb y : Shape.Idx S1024x3328) = ix2 (y 0) ⟨t.val * 256 + (y 1).val, by have := pt t; omega⟩ := by
    idx_vars y
    blk_ext [idx t]
  have ey : y = ix2 (y 0) (y 1) := by
    funext a; match a with | ⟨0, _⟩ => rfl | ⟨1, _⟩ => rfl
  blk_simp
  rw [after0_1, e]
  exact (congrArg _ ey).trans ((out_apply _ (y 0) (y 1)).trans (iblk0 m c t (y 1) (y 0)))

/-- The run, read. -/
theorem run_tok (ρ : Dev nD → PrngReg) : θ_run defs (onTc (τ := τ) (main (F := Ideal))) ⟨m, fun _ => 0, ρ⟩ fun r => ∀ c : Dev nD,
      r.2.mem ((c.tc : Thread nD τ).loc main_v1) = (fun i => PieceMath.col (m ((c.tc : Thread nD τ).loc main_arg0)) 0 (i 0) (N := 3328) (by norm_num) (i 1) : FVec Ideal S1024x3328 .bf16)
      ∧ r.2.mem ((c.tc : Thread nD τ).loc main_arg0) = m ((c.tc : Thread nD τ).loc main_arg0) :=
  (θ_run defs _ _).mono (fun _ h c => ⟨(h c).1.trans (final1 m c), (h c).2⟩) (run_blocks m ρ)

end Cert.Kernel5Ideal.Value

namespace Cert.Reference5Ideal.Value

open Cert.Reference5Ideal Cert.Reference5Ideal.Gen Idealize.ShloMosaic Idealize.ShloMosaic.TcCoe Idealize.SL.Sem

/-- The columns that the plain mathematics takes. -/
theorem res (w : FVec Ideal S1x1024x6952 .f32) :
    (truncf .bf16 (shapeCast S1024x3328 (extractStridedSlice S1x1024x3328 ![0, 0, 0] w slices_S1x1024x6952_S1x1024x3328_0_0_0) shapeCasts_S1x1024x3328_S1024x3328) bitsLt_bf16_f32 : FVec Ideal S1024x3328 .bf16)
      = fun i => PieceMath.col w 0 (i 0) (N := 3328) (by norm_num) (i 1) := by
  funext i
  have key : ∀ (k : Fin 1024) (n : Fin 3328), (truncf .bf16 (shapeCast S1024x3328 (extractStridedSlice S1x1024x3328 ![0, 0, 0] w slices_S1x1024x6952_S1x1024x3328_0_0_0) shapeCasts_S1x1024x3328_S1024x3328) bitsLt_bf16_f32 : FVec Ideal S1024x3328 .bf16) (ix2 k n)
      = PieceMath.col w 0 k (N := 3328) (by norm_num) n := by
    intro k n
    unfold PieceMath.col
    pointwise
  have e : i = ix2 (i 0) (i 1) := by funext a; match a with | ⟨0, _⟩ => rfl | ⟨1, _⟩ => rfl
  exact (congrArg _ e).trans (key (i 0) (i 1))

/-- The plain mathematics' run, read. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => PieceMath.col (m ((c.tc : Thread nD τ).loc main_arg0)) 0 (i 0) (N := 3328) (by norm_num) (i 1) : FVec Ideal S1024x3328 .bf16)
      ∧ r.2.mem ((c.tc : Thread nD τ).loc main_arg0) = m ((c.tc : Thread nD τ).loc main_arg0) :=
  (θ_run defs _ _).mono (fun _ h c => ⟨(h c).1.trans (res _), (h c).2⟩) (run (F := Ideal) m ρ)

end Cert.Reference5Ideal.Value

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

/-- Where the point's blocks begin. -/
theorem idx : ∀ t : Fin cfg0.N, win0_0.index t = ![0, 3328, 0] ∧ win0_1.index t = ![0, 0] :=
  (by decide +kernel : ∀ t : Fin grid0.N, _)

theorem V_v0 (c : Dev nD) : (V m c main_v0 : FVec Ideal S1x6952x1024 .f32) = transpose S1x6952x1024 [0, 2, 1] (show FVec Ideal S1x1024x6952 .f32 from m ((c.tc : Thread nD τ).loc main_arg0)) transposes_S1x1024x6952_S1x6952x1024_0_2_1 := by
  unfold_abbrev_sides
  after_results_simp

/-- What the point reads. -/
theorem iblk0 (c : Dev nD) (t : Fin cfg0.N) (r : Fin 40) (k : Fin 1024) :
    (iblk m c 0 t : FVec Ideal S1x40x1024 .f32) (ix3 0 r k)
      = m ((c.tc : Thread nD τ).loc main_arg0) (ix3 0 k ⟨3328 + r.val, by omega⟩) := by
  have e : (iblk m c 0 t : FVec Ideal S1x40x1024 .f32) (ix3 0 r k)
      = (V m c main_v0 : FVec Ideal S1x6952x1024 .f32) (ix3 0 ⟨3328 + r.val, by omega⟩ k) := by
    refine congrArg (V m c main_v0 : FVec Ideal S1x6952x1024 .f32) (funext fun a => Fin.ext ?_)
    match a with
    | ⟨0, _⟩ => rfl
    | ⟨1, _⟩ =>
      show win0_0.index t 1 + 1 * r.val = _
      rw [(idx t).1]
      show 3328 + 1 * r.val = 3328 + r.val
      omega
    | ⟨2, _⟩ =>
      show win0_0.index t 2 + 1 * k.val = _
      rw [(idx t).1]
      show 0 + 1 * k.val = k.val
      omega
  rw [e, V_v0]
  pointwise

/-- What it leaves. -/
theorem pay_apply (x : FVec Ideal S1x40x1024 .f32) (k : Fin 1024) (n : Fin 128) :
    k0_pay1 (F := Ideal) x (ix2 k n) = (if h : n.val < 40 then x (ix3 0 ⟨n.val, h⟩ k) else 0 : EReal) := by
  unfold k0_pay1
  pointwise

theorem out_apply (x : FVec Ideal S1x40x1024 .f32) (k : Fin 1024) (n : Fin 128) :
    out0_1 (F := Ideal) x (ix2 k n) = (if h : n.val < 40 then x (ix3 0 ⟨n.val, h⟩ k) else 0 : EReal) := by
  unfold out0_1
  rw [View.canon_unit_zero (S := S1024x128) (e := .bf16) (by funext a; match a with | ⟨0, _⟩ => rfl | ⟨1, _⟩ => rfl)]
  rw [View.ld_unit_zero (S := S1x40x1024) (by funext a; match a with | ⟨0, _⟩ => rfl | ⟨1, _⟩ => rfl | ⟨2, _⟩ => rfl)]
  exact pay_apply x k n

/-- The array after the run. -/
theorem final1 (c : Dev nD) : (dats m 0 c).arrAt 1 cfg0.N
    = (fun i => PieceMath.narrow (m ((c.tc : Thread nD τ).loc main_arg0)) (i 0) (i 1) : FVec Ideal S1024x128 .bf16) := by
  refine (dats m 0 c).arrAt_eq_of_covers 1 _ (by decide +kernel) fun t hf y => ?_
  have e : ((win0_1.blk t).view.emb y : Shape.Idx S1024x128) = ix2 (y 0) (y 1) := by
    idx_vars y
    blk_ext [idx t]
  have ey : y = ix2 (y 0) (y 1) := by
    funext a; match a with | ⟨0, _⟩ => rfl | ⟨1, _⟩ => rfl
  blk_simp
  rw [after0_1, e]
  refine (congrArg _ ey).trans ((out_apply _ (y 0) (y 1)).trans ?_)
  show (if h : (y 1).val < 40 then _ else 0 : EReal) = (if h : (y 1).val < 40 then _ else 0 : EReal)
  split
  · exact iblk0 m c t ⟨(y 1).val, _⟩ (y 0)
  · rfl

/-- The run, read. -/
theorem run_tok (ρ : Dev nD → PrngReg) : θ_run defs (onTc (τ := τ) (main (F := Ideal))) ⟨m, fun _ => 0, ρ⟩ fun r => ∀ c : Dev nD,
      r.2.mem ((c.tc : Thread nD τ).loc main_v1) = (fun i => PieceMath.narrow (m ((c.tc : Thread nD τ).loc main_arg0)) (i 0) (i 1) : FVec Ideal S1024x128 .bf16)
      ∧ r.2.mem ((c.tc : Thread nD τ).loc main_arg0) = m ((c.tc : Thread nD τ).loc main_arg0) :=
  (θ_run defs _ _).mono (fun _ h c => ⟨(h c).1.trans (final1 m c), (h c).2⟩) (run_blocks m ρ)

end Cert.Kernel6Ideal.Value

namespace Cert.Reference6Ideal.Value

open Cert.Reference6Ideal Cert.Reference6Ideal.Gen Idealize.ShloMosaic Idealize.ShloMosaic.TcCoe Idealize.SL.Sem

/-- The columns that the plain mathematics takes, and its zeros. -/
def PD (w : FVec Ideal S1x1024x6952 .f32) : FVec Ideal S1024x128 .bf16 :=
  truncf .bf16 (pad S1024x128 ![0, 0] ![0, 88] ![0, 0] (shapeCast S1024x40 (extractStridedSlice S1x1024x40 ![0, 0, 3328] w slices_S1x1024x6952_S1x1024x40_0_0_3328) shapeCasts_S1x1024x40_S1024x40) (sitofp .f32 (constantI S_ 32 0#32)) pads_S1024x40_S1024x128_000_0880 h_S_) bitsLt_bf16_f32

theorem res (w : FVec Ideal S1x1024x6952 .f32) : PD w = fun i => PieceMath.narrow w (i 0) (i 1) := by
  funext i
  have key : ∀ (k : Fin 1024) (n : Fin 128), PD w (ix2 k n) = PieceMath.narrow w k n := by
    intro k n
    unfold PD PieceMath.narrow PieceMath.col
    pointwise
    have z : (FloatOps.sitofp (F := Ideal) .f32 (0#32) : EReal) = 0 := by
      show (((0#32 : BitVec 32).toInt : ℝ) : EReal) = 0
      simp
    split
    · rfl
    · exact z
  have e : i = ix2 (i 0) (i 1) := by funext a; match a with | ⟨0, _⟩ => rfl | ⟨1, _⟩ => rfl
  exact (congrArg _ e).trans (key (i 0) (i 1))

/-- The plain mathematics' run, read. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun i => PieceMath.narrow (m ((c.tc : Thread nD τ).loc main_arg0)) (i 0) (i 1) : FVec Ideal S1024x128 .bf16)
      ∧ r.2.mem ((c.tc : Thread nD τ).loc main_arg0) = m ((c.tc : Thread nD τ).loc main_arg0) :=
  (θ_run defs _ _).mono (fun _ h c => ⟨(h c).1.trans (res _), (h c).2⟩) (run (F := Ideal) m ρ)

end Cert.Reference6Ideal.Value

namespace Cert.Kernel7Ideal.Value

open Cert.Kernel7Ideal Cert.Kernel7Ideal.Gen Idealize.ShloMosaic Idealize.ShloMosaic.TcCoe Idealize.SL.Sem

variable (m : (ℓ : Loc nD τ sig) → Buf (Elt Ideal) ℓ)

/-- Where a point's blocks begin. -/
theorem idx : ∀ t : Fin cfg0.N, win0_0.index t = ![0, 3368 + t.val * 256, 0] ∧ win0_1.index t = ![0, t.val] :=
  (by decide +kernel : ∀ t : Fin grid0.N, _)

theorem pt (t : Fin cfg0.N) : t.val < 2 := lt_of_lt_of_eq t.isLt (show cfg0.N = 2 from N_0)

theorem V_v0 (c : Dev nD) : (V m c main_v0 : FVec Ideal S1x6952x1024 .f32) = transpose S1x6952x1024 [0, 2, 1] (show FVec Ideal S1x1024x6952 .f32 from m ((c.tc : Thread nD τ).loc main_arg0)) transposes_S1x1024x6952_S1x6952x1024_0_2_1 := by
  unfold_abbrev_sides
  after_results_simp

/-- What a point reads. -/
theorem iblk0 (c : Dev nD) (t : Fin cfg0.N) (r : Fin 256) (k : Fin 1024) :
    (iblk m c 0 t : FVec Ideal S1x256x1024 .f32) (ix3 0 r k)
      = m ((c.tc : Thread nD τ).loc main_arg0) (ix3 0 k ⟨3368 + (t.val * 256 + r.val), by have := pt t; omega⟩) := by
  have e : (iblk m c 0 t : FVec Ideal S1x256x1024 .f32) (ix3 0 r k)
      = (V m c main_v0 : FVec Ideal S1x6952x1024 .f32) (ix3 0 ⟨3368 + (t.val * 256 + r.val), by have := pt t; omega⟩ k) := by
    refine congrArg (V m c main_v0 : FVec Ideal S1x6952x1024 .f32) (funext fun a => Fin.ext ?_)
    match a with
    | ⟨0, _⟩ => rfl
    | ⟨1, _⟩ =>
      show win0_0.index t 1 + 1 * r.val = _
      rw [(idx t).1]
      show 3368 + t.val * 256 + 1 * r.val = 3368 + (t.val * 256 + r.val)
      omega
    | ⟨2, _⟩ =>
      show win0_0.index t 2 + 1 * k.val = _
      rw [(idx t).1]
      show 0 + 1 * k.val = k.val
      omega
  rw [e, V_v0]
  pointwise

/-- What it leaves. -/
theorem out_apply (x : FVec Ideal S1x256x1024 .f32) (k : Fin 1024) (n : Fin 256) :
    out0_1 (F := Ideal) x (ix2 k n) = x (ix3 0 n k) := by
  unfold out0_1
  rw [View.ld_unit_zero (S := S1x256x1024) (by funext a; match a with | ⟨0, _⟩ => rfl | ⟨1, _⟩ => rfl | ⟨2, _⟩ => rfl)]
  refine (canon1_eq (F := Ideal) x (ix2 k n)).trans ?_
  exact congrArg x (by funext a; match a with | ⟨0, _⟩ => rfl | ⟨1, _⟩ => rfl | ⟨2, _⟩ => rfl)

/-- The array after the run. -/
theorem final1 (c : Dev nD) : (dats m 0 c).arrAt 1 cfg0.N
    = (fun i => PieceMath.col (m ((c.tc : Thread nD τ).loc main_arg0)) 3368 (i 0) (N := 512) (by norm_num) (i 1) : FVec Ideal S1024x512 .bf16) := by
  refine (dats m 0 c).arrAt_eq_of_covers 1 _ (by decide +kernel) fun t hf y => ?_
  have hy : (y 1).val < 256 := (y 1).isLt
  have e : ((win0_1.blk t).view.emb y : Shape.Idx S1024x512) = ix2 (y 0) ⟨t.val * 256 + (y 1).val, by have := pt t; omega⟩ := by
    idx_vars y
    blk_ext [idx t]
  have ey : y = ix2 (y 0) (y 1) := by
    funext a; match a with | ⟨0, _⟩ => rfl | ⟨1, _⟩ => rfl
  blk_simp
  rw [after0_1, e]
  exact (congrArg _ ey).trans ((out_apply _ (y 0) (y 1)).trans (iblk0 m c t (y 1) (y 0)))

/-- The run, read. -/
theorem run_tok (ρ : Dev nD → PrngReg) : θ_run defs (onTc (τ := τ) (main (F := Ideal))) ⟨m, fun _ => 0, ρ⟩ fun r => ∀ c : Dev nD,
      r.2.mem ((c.tc : Thread nD τ).loc main_v1) = (fun i => PieceMath.col (m ((c.tc : Thread nD τ).loc main_arg0)) 3368 (i 0) (N := 512) (by norm_num) (i 1) : FVec Ideal S1024x512 .bf16)
      ∧ r.2.mem ((c.tc : Thread nD τ).loc main_arg0) = m ((c.tc : Thread nD τ).loc main_arg0) :=
  (θ_run defs _ _).mono (fun _ h c => ⟨(h c).1.trans (final1 m c), (h c).2⟩) (run_blocks m ρ)

end Cert.Kernel7Ideal.Value

namespace Cert.Reference7Ideal.Value

open Cert.Reference7Ideal Cert.Reference7Ideal.Gen Idealize.ShloMosaic Idealize.ShloMosaic.TcCoe Idealize.SL.Sem

/-- The columns that the plain mathematics takes. -/
theorem res (w : FVec Ideal S1x1024x6952 .f32) :
    (truncf .bf16 (shapeCast S1024x512 (extractStridedSlice S1x1024x512 ![0, 0, 3368] w slices_S1x1024x6952_S1x1024x512_0_0_3368) shapeCasts_S1x1024x512_S1024x512) bitsLt_bf16_f32 : FVec Ideal S1024x512 .bf16)
      = fun i => PieceMath.col w 3368 (i 0) (N := 512) (by norm_num) (i 1) := by
  funext i
  have key : ∀ (k : Fin 1024) (n : Fin 512), (truncf .bf16 (shapeCast S1024x512 (extractStridedSlice S1x1024x512 ![0, 0, 3368] w slices_S1x1024x6952_S1x1024x512_0_0_3368) shapeCasts_S1x1024x512_S1024x512) bitsLt_bf16_f32 : FVec Ideal S1024x512 .bf16) (ix2 k n)
      = PieceMath.col w 3368 k (N := 512) (by norm_num) n := by
    intro k n
    unfold PieceMath.col
    pointwise
  have e : i = ix2 (i 0) (i 1) := by funext a; match a with | ⟨0, _⟩ => rfl | ⟨1, _⟩ => rfl
  exact (congrArg _ e).trans (key (i 0) (i 1))

/-- The plain mathematics' run, read. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => PieceMath.col (m ((c.tc : Thread nD τ).loc main_arg0)) 3368 (i 0) (N := 512) (by norm_num) (i 1) : FVec Ideal S1024x512 .bf16)
      ∧ r.2.mem ((c.tc : Thread nD τ).loc main_arg0) = m ((c.tc : Thread nD τ).loc main_arg0) :=
  (θ_run defs _ _).mono (fun _ h c => ⟨(h c).1.trans (res _), (h c).2⟩) (run (F := Ideal) m ρ)

end Cert.Reference7Ideal.Value

namespace Cert.Kernel8Ideal.Value

open Cert.Kernel8Ideal Cert.Kernel8Ideal.Gen Idealize.ShloMosaic Idealize.ShloMosaic.TcCoe Idealize.SL.Sem

variable (m : (ℓ : Loc nD τ sig) → Buf (Elt Ideal) ℓ)

/-- Where a point's blocks begin. -/
theorem idx : ∀ t : Fin cfg0.N, win0_0.index t = ![0, 3880 + t.val * 256, 0] ∧ win0_1.index t = ![0, t.val] :=
  (by decide +kernel : ∀ t : Fin grid0.N, _)

theorem pt (t : Fin cfg0.N) : t.val < 12 := lt_of_lt_of_eq t.isLt (show cfg0.N = 12 from N_0)

theorem V_v0 (c : Dev nD) : (V m c main_v0 : FVec Ideal S1x6952x1024 .f32) = transpose S1x6952x1024 [0, 2, 1] (show FVec Ideal S1x1024x6952 .f32 from m ((c.tc : Thread nD τ).loc main_arg0)) transposes_S1x1024x6952_S1x6952x1024_0_2_1 := by
  unfold_abbrev_sides
  after_results_simp

/-- What a point reads. -/
theorem iblk0 (c : Dev nD) (t : Fin cfg0.N) (r : Fin 256) (k : Fin 1024) :
    (iblk m c 0 t : FVec Ideal S1x256x1024 .f32) (ix3 0 r k)
      = m ((c.tc : Thread nD τ).loc main_arg0) (ix3 0 k ⟨3880 + (t.val * 256 + r.val), by have := pt t; omega⟩) := by
  have e : (iblk m c 0 t : FVec Ideal S1x256x1024 .f32) (ix3 0 r k)
      = (V m c main_v0 : FVec Ideal S1x6952x1024 .f32) (ix3 0 ⟨3880 + (t.val * 256 + r.val), by have := pt t; omega⟩ k) := by
    refine congrArg (V m c main_v0 : FVec Ideal S1x6952x1024 .f32) (funext fun a => Fin.ext ?_)
    match a with
    | ⟨0, _⟩ => rfl
    | ⟨1, _⟩ =>
      show win0_0.index t 1 + 1 * r.val = _
      rw [(idx t).1]
      show 3880 + t.val * 256 + 1 * r.val = 3880 + (t.val * 256 + r.val)
      omega
    | ⟨2, _⟩ =>
      show win0_0.index t 2 + 1 * k.val = _
      rw [(idx t).1]
      show 0 + 1 * k.val = k.val
      omega
  rw [e, V_v0]
  pointwise

/-- What it leaves. -/
theorem out_apply (x : FVec Ideal S1x256x1024 .f32) (k : Fin 1024) (n : Fin 256) :
    out0_1 (F := Ideal) x (ix2 k n) = x (ix3 0 n k) := by
  unfold out0_1
  rw [View.ld_unit_zero (S := S1x256x1024) (by funext a; match a with | ⟨0, _⟩ => rfl | ⟨1, _⟩ => rfl | ⟨2, _⟩ => rfl)]
  refine (canon1_eq (F := Ideal) x (ix2 k n)).trans ?_
  exact congrArg x (by funext a; match a with | ⟨0, _⟩ => rfl | ⟨1, _⟩ => rfl | ⟨2, _⟩ => rfl)

/-- The array after the run. -/
theorem final1 (c : Dev nD) : (dats m 0 c).arrAt 1 cfg0.N
    = (fun i => PieceMath.col (m ((c.tc : Thread nD τ).loc main_arg0)) 3880 (i 0) (N := 3072) (by norm_num) (i 1) : FVec Ideal S1024x3072 .bf16) := by
  refine (dats m 0 c).arrAt_eq_of_covers 1 _ (by decide +kernel) fun t hf y => ?_
  have hy : (y 1).val < 256 := (y 1).isLt
  have e : ((win0_1.blk t).view.emb y : Shape.Idx S1024x3072) = ix2 (y 0) ⟨t.val * 256 + (y 1).val, by have := pt t; omega⟩ := by
    idx_vars y
    blk_ext [idx t]
  have ey : y = ix2 (y 0) (y 1) := by
    funext a; match a with | ⟨0, _⟩ => rfl | ⟨1, _⟩ => rfl
  blk_simp
  rw [after0_1, e]
  exact (congrArg _ ey).trans ((out_apply _ (y 0) (y 1)).trans (iblk0 m c t (y 1) (y 0)))

/-- The run, read. -/
theorem run_tok (ρ : Dev nD → PrngReg) : θ_run defs (onTc (τ := τ) (main (F := Ideal))) ⟨m, fun _ => 0, ρ⟩ fun r => ∀ c : Dev nD,
      r.2.mem ((c.tc : Thread nD τ).loc main_v1) = (fun i => PieceMath.col (m ((c.tc : Thread nD τ).loc main_arg0)) 3880 (i 0) (N := 3072) (by norm_num) (i 1) : FVec Ideal S1024x3072 .bf16)
      ∧ r.2.mem ((c.tc : Thread nD τ).loc main_arg0) = m ((c.tc : Thread nD τ).loc main_arg0) :=
  (θ_run defs _ _).mono (fun _ h c => ⟨(h c).1.trans (final1 m c), (h c).2⟩) (run_blocks m ρ)

end Cert.Kernel8Ideal.Value

namespace Cert.Reference8Ideal.Value

open Cert.Reference8Ideal Cert.Reference8Ideal.Gen Idealize.ShloMosaic Idealize.ShloMosaic.TcCoe Idealize.SL.Sem

/-- The columns that the plain mathematics takes. -/
theorem res (w : FVec Ideal S1x1024x6952 .f32) :
    (truncf .bf16 (shapeCast S1024x3072 (extractStridedSlice S1x1024x3072 ![0, 0, 3880] w slices_S1x1024x6952_S1x1024x3072_0_0_3880) shapeCasts_S1x1024x3072_S1024x3072) bitsLt_bf16_f32 : FVec Ideal S1024x3072 .bf16)
      = fun i => PieceMath.col w 3880 (i 0) (N := 3072) (by norm_num) (i 1) := by
  funext i
  have key : ∀ (k : Fin 1024) (n : Fin 3072), (truncf .bf16 (shapeCast S1024x3072 (extractStridedSlice S1x1024x3072 ![0, 0, 3880] w slices_S1x1024x6952_S1x1024x3072_0_0_3880) shapeCasts_S1x1024x3072_S1024x3072) bitsLt_bf16_f32 : FVec Ideal S1024x3072 .bf16) (ix2 k n)
      = PieceMath.col w 3880 k (N := 3072) (by norm_num) n := by
    intro k n
    unfold PieceMath.col
    pointwise
  have e : i = ix2 (i 0) (i 1) := by funext a; match a with | ⟨0, _⟩ => rfl | ⟨1, _⟩ => rfl
  exact (congrArg _ e).trans (key (i 0) (i 1))

/-- The plain mathematics' run, read. -/
theorem run_tok (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = (fun i => PieceMath.col (m ((c.tc : Thread nD τ).loc main_arg0)) 3880 (i 0) (N := 3072) (by norm_num) (i 1) : FVec Ideal S1024x3072 .bf16)
      ∧ r.2.mem ((c.tc : Thread nD τ).loc main_arg0) = m ((c.tc : Thread nD τ).loc main_arg0) :=
  (θ_run defs _ _).mono (fun _ h c => ⟨(h c).1.trans (res _), (h c).2⟩) (run (F := Ideal) m ρ)

end Cert.Reference8Ideal.Value
-- ==== Proof.lean ====
/-
  The claims, put together: every frame from its generated run; the feed-forward call against the plain mathematics
  from the token formula that both arrays hold (Proof/Equation.lean, Proof/Ref.lean); the layer's first call likewise,
  result by result (Proof/Equation2.lean, Proof/Ref2.lean); the memory call (Proof/Equation3.lean, Proof/Ref3.lean); and
  the first call again against the softmax divided before its product, where the memory logits are finite (Proof/Ref4.lean,
  Proof/SoftMath.lean, Proof/Finite.lean). The four pieces of the combined weight are in Proof/Pieces.lean.
-/
module

public import proofs.«01_k».proof.Defs
public import proofs.«01_k».proof.Proof.Gen.Kernel.Frame
public import proofs.«01_k».proof.Proof.Gen.Kernel2.Frame
public import proofs.«01_k».proof.Proof.Gen.Kernel2Ideal.Frame
public import proofs.«01_k».proof.Proof.Gen.KernelIdeal.Value
public import proofs.«01_k».proof.Proof.Gen.ReferenceIdeal.Run
public import proofs.«01_k».proof.Proof.Equation
public import proofs.«01_k».proof.Proof.Gen.Kernel2Ideal.Value
public import proofs.«01_k».proof.Proof.Gen.Reference2Ideal.Run
public import proofs.«01_k».proof.Proof.Ref2
public import proofs.«01_k».proof.Proof.Equation2
public import Idealize.ShloMosaic.PureOps.IdealRules
public import proofs.«01_k».proof.Proof.Gen.Kernel3.Frame
public import proofs.«01_k».proof.Proof.Gen.Kernel3Ideal.Value
public import proofs.«01_k».proof.Proof.Gen.Reference3Ideal.Run
public import proofs.«01_k».proof.Proof.Ref3
public import proofs.«01_k».proof.Proof.Equation3
public import proofs.«01_k».proof.Proof.Gen.Reference4Ideal.Run
public import proofs.«01_k».proof.Proof.Ref4
public import proofs.«01_k».proof.Proof.Finite
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Pieces
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both arrays hold the token formula of the same arguments. -/
theorem tie (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v55 m' c = Cert.KernelIdeal.Value.G10 m c := by
  obtain ⟨h0, h1, h2, h3, h4, h5, h6, h7, h8, h9⟩ := h
  have key : ∀ (b : Fin 8) (t : Fin 2048) (d : Fin 1024),
      (Cert.ReferenceIdeal.Value.res_out0 m' c : FVec Ideal Cert.ReferenceIdeal.S8x2048x1024 .f32) (ix3 b t d)
        = (Cert.KernelIdeal.Value.G10 m c : FVec Ideal Cert.KernelIdeal.S8x2048x1024 .f32) (ix3 b t d) := by
    intro b t d
    rw [Cert.ReferenceIdeal.Value.res_apply, Cert.KernelIdeal.Value.G10_apply, h0, h1, h2, h3, h4, h5, h6, h7, h8, h9]
  funext i
  have e : i = ix3 (i 0) (i 1) (i 2) := by funext a; match a with | ⟨0, _⟩ => rfl | ⟨1, _⟩ => rfl | ⟨2, _⟩ => rfl
  rw [e]
  exact key (i 0) (i 1) (i 2)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact tie m m' c (hagree c)

theorem quiescent_Reference2Ideal : quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run_tok m ρ)

theorem preserves_Kernel2_Kernel2Ideal : preserves_Kernel2_Kernel2Ideal :=
  IdealRules.named_const.statement Cert.Kernel2Ideal.κ "inv_sqrt_d" .f32 0x3DB504F3#32 (((Real.sqrt 128)⁻¹ : ℝ) : EReal) rfl

theorem algebraic_Kernel2Ideal_Reference2Ideal : algebraic_Kernel2Ideal_Reference2Ideal := by
  intro m ρ m' ρ' _ hagree
  refine ⟨_, _, _, _, _, _, _, _, Cert.Kernel2Ideal.Value.run (F := Ideal) m ρ, ?_⟩
  refine (θ_run Cert.Reference2Ideal.defs _ _).mono (fun _ h c => ?_) (Cert.Reference2Ideal.Value.run_tok m' ρ')
  obtain ⟨h0, h1, h2, h3, h4, h5, h6, h7, h8, h9, h10, h11, h12, h13⟩ := hagree c
  obtain ⟨e0, e1, e2, e3, e4, e5, e6, e7, rest⟩ := h c
  refine ⟨?_, ?_, ?_, ?_, ?_, ?_, ?_, ?_, rest⟩
  · rw [e0, h0, h1, h2, h4, h5, h6, h7, h10, h11, h12, h13]
    exact (Cert.Kernel2Ideal.Value.G14_eq m c).symm
  · rw [e1, h0, h1, h5]
    exact (Cert.Kernel2Ideal.Value.G15_eq m c).symm
  · rw [e2, h0, h1, h2, h8]
    exact (Cert.Kernel2Ideal.Value.G16_eq m c).symm
  · rw [e3, h0, h1, h2, h9]
    exact (Cert.Kernel2Ideal.Value.G17_eq m c).symm
  · rw [e4, h0, h1, h2]
    exact (Cert.Kernel2Ideal.Value.G18_eq m c).symm
  · rw [e5, h0, h1, h2]
    exact (Cert.Kernel2Ideal.Value.G19_eq m c).symm
  · rw [e6, h0, h1, h3]
    exact (Cert.Kernel2Ideal.Value.G20_eq m c).symm
  · rw [e7, h0, h1, h3]
    exact (Cert.Kernel2Ideal.Value.G21_eq m c).symm

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run_tok m ρ)

theorem algebraic_Kernel3Ideal_Reference3Ideal : algebraic_Kernel3Ideal_Reference3Ideal := by
  intro m ρ m' ρ' _ hagree
  refine ⟨_, _, Cert.Kernel3Ideal.Value.run_tok m ρ, ?_⟩
  refine (θ_run Cert.Reference3Ideal.defs _ _).mono (fun _ h c => ?_) (Cert.Reference3Ideal.Value.run_tok m' ρ')
  obtain ⟨h0, h1, h2, h3⟩ := hagree c
  obtain ⟨e0, e1, rest⟩ := h c
  refine ⟨?_, ?_, rest⟩
  · rw [e0, h0, h1, h2, h3]
  · rw [e1, h0, h1, h2]

theorem finite_facts : Cert.Pre_finite.Facts := by
  constructor <;> decide

theorem quiescent_Reference4Ideal : quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run_tok m ρ)

theorem algebraic_Kernel2Ideal_Reference4Ideal_pre_finite [hPre : Cert.Pre_finite.Facts] : algebraic_Kernel2Ideal_Reference4Ideal_pre_finite (hPre_finite := hPre) := by
  intro m ρ m' ρ' hpre hagree
  refine ⟨_, _, _, _, _, _, _, _, Cert.Kernel2Ideal.Value.run (F := Ideal) m ρ, ?_⟩
  refine (θ_run Cert.Reference4Ideal.defs _ _).mono (fun _ h c => ?_) (Cert.Reference4Ideal.Value.run_tok m' ρ')
  obtain ⟨h0, h1, h2, h3, h4, h5, h6, h7, h8, h9, h10, h11, h12, h13⟩ := hagree c
  obtain ⟨e0, e1, e2, e3, e4, e5, e6, e7, rest⟩ := h c
  refine ⟨?_, ?_, ?_, ?_, ?_, ?_, ?_, ?_, rest⟩
  · rw [e0, h0, h1, h2, h4, h5, h6, h7, h10, h11, h12, h13]
    obtain ⟨f12, f10⟩ := Cert.Pre_finite.fine_args _ _ _ _ _ _ _ _ _ _ _ _ _ _ (fun k => k.elim0) (congrFun (hpre c) (fun k => k.elim0))
    refine ((Cert.Kernel2Ideal.Value.G14_eq m c).trans ?_).symm
    funext i
    exact InMath.partTok_eq _ _ _ _ _ _ _ _ _ _ _ f10 f12 (i 0) (i 1) (i 2)
  · rw [e1, h0, h1, h5]
    exact (Cert.Kernel2Ideal.Value.G15_eq m c).symm
  · rw [e2, h0, h1, h2, h8]
    exact (Cert.Kernel2Ideal.Value.G16_eq m c).symm
  · rw [e3, h0, h1, h2, h9]
    exact (Cert.Kernel2Ideal.Value.G17_eq m c).symm
  · rw [e4, h0, h1, h2]
    exact (Cert.Kernel2Ideal.Value.G18_eq m c).symm
  · rw [e5, h0, h1, h2]
    exact (Cert.Kernel2Ideal.Value.G19_eq m c).symm
  · rw [e6, h0, h1, h3]
    exact (Cert.Kernel2Ideal.Value.G20_eq m c).symm
  · rw [e7, h0, h1, h3]
    exact (Cert.Kernel2Ideal.Value.G21_eq m c).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run_tok m ρ)

theorem algebraic_Kernel5Ideal_Reference5Ideal : algebraic_Kernel5Ideal_Reference5Ideal := by
  intro m ρ m' ρ' _ hagree
  refine ⟨_, Cert.Kernel5Ideal.Value.run_tok m ρ, ?_⟩
  refine (θ_run Cert.Reference5Ideal.defs _ _).mono (fun _ h c => ?_) (Cert.Reference5Ideal.Value.run_tok m' ρ')
  exact ⟨by rw [(h c).1, hagree c], (h c).2⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run_tok m ρ)

theorem algebraic_Kernel6Ideal_Reference6Ideal : algebraic_Kernel6Ideal_Reference6Ideal := by
  intro m ρ m' ρ' _ hagree
  refine ⟨_, Cert.Kernel6Ideal.Value.run_tok m ρ, ?_⟩
  refine (θ_run Cert.Reference6Ideal.defs _ _).mono (fun _ h c => ?_) (Cert.Reference6Ideal.Value.run_tok m' ρ')
  exact ⟨by rw [(h c).1, hagree c], (h c).2⟩

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run_tok m ρ)

theorem algebraic_Kernel7Ideal_Reference7Ideal : algebraic_Kernel7Ideal_Reference7Ideal := by
  intro m ρ m' ρ' _ hagree
  refine ⟨_, Cert.Kernel7Ideal.Value.run_tok m ρ, ?_⟩
  refine (θ_run Cert.Reference7Ideal.defs _ _).mono (fun _ h c => ?_) (Cert.Reference7Ideal.Value.run_tok m' ρ')
  exact ⟨by rw [(h c).1, hagree c], (h c).2⟩

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run_tok m ρ)

theorem algebraic_Kernel8Ideal_Reference8Ideal : algebraic_Kernel8Ideal_Reference8Ideal := by
  intro m ρ m' ρ' _ hagree
  refine ⟨_, Cert.Kernel8Ideal.Value.run_tok m ρ, ?_⟩
  refine (θ_run Cert.Reference8Ideal.defs _ _).mono (fun _ h c => ?_) (Cert.Reference8Ideal.Value.run_tok m' ρ')
  exact ⟨by rw [(h c).1, hagree c], (h c).2⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, finite_facts,
  fun m ρ _ => Cert.Kernel.Gen.frame m ρ, fun m ρ _ => Cert.KernelIdeal.Gen.frame m ρ, quiescent_ReferenceIdeal, fun m ρ _ => Cert.Kernel2.Gen.frame m ρ, fun m ρ _ => Cert.Kernel2Ideal.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal, quiescent_Reference4Ideal, fun m ρ _ => quiescent_Reference4Ideal m ρ trivial,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  (trivial : preserves_Kernel_KernelIdeal), algebraic_KernelIdeal_ReferenceIdeal, preserves_Kernel2_Kernel2Ideal, algebraic_Kernel2Ideal_Reference2Ideal, (trivial : preserves_Kernel3_Kernel3Ideal), algebraic_Kernel3Ideal_Reference3Ideal,
  @algebraic_Kernel2Ideal_Reference4Ideal_pre_finite finite_facts,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal⟩

end Cert.Proof

end
